-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_SharedKernel (m : (ℓ : Loc Cert.SharedKernel.nD Cert.SharedKernel.τ Cert.SharedKernel.sig) → Buf (Elt Bits) ℓ) : Prop :=
  True

def Pre_SharedKernelIdeal (m : (ℓ : Loc Cert.SharedKernelIdeal.nD Cert.SharedKernelIdeal.τ Cert.SharedKernelIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_TextKernel (m : (ℓ : Loc Cert.TextKernel.nD Cert.TextKernel.τ Cert.TextKernel.sig) → Buf (Elt Bits) ℓ) : Prop :=
  True

def Pre_TextKernelIdeal (m : (ℓ : Loc Cert.TextKernelIdeal.nD Cert.TextKernelIdeal.τ Cert.TextKernelIdeal.sig) → Buf (Elt Ideal) ℓ) : Prop :=
  True

def Pre_TextReferenceIdeal (m : (ℓ : Loc Cert.TextReferenceIdeal.nD Cert.TextReferenceIdeal.τ Cert.TextReferenceIdeal.sig) → Buf (Elt Ideal) ℓ) : Prop :=
  True

def Pre_OprojKernel (m : (ℓ : Loc Cert.OprojKernel.nD Cert.OprojKernel.τ Cert.OprojKernel.sig) → Buf (Elt Bits) ℓ) : Prop :=
  True

def Pre_OprojKernelIdeal (m : (ℓ : Loc Cert.OprojKernelIdeal.nD Cert.OprojKernelIdeal.τ Cert.OprojKernelIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_SharedKernel [hSharedKernel : Cert.SharedKernel.Facts] : Prop :=
  ∀ (m : (ℓ : Loc Cert.SharedKernel.nD Cert.SharedKernel.τ Cert.SharedKernel.sig) → Buf (Elt Bits) ℓ) (g : Dev Cert.SharedKernel.nD → PrngReg), Pre_SharedKernel m →
    θ_run (Cert.SharedKernel.defs (F := Bits)) (onTc (τ := Cert.SharedKernel.τ) (Cert.SharedKernel.main (F := Bits))) ⟨m, fun _ => 0, g⟩ (fun r => (∀ c : Dev Cert.SharedKernel.nD,
      r.2.mem ((c.tc : Thread Cert.SharedKernel.nD Cert.SharedKernel.τ).loc Cert.SharedKernel.main_arg0) = m ((c.tc : Thread Cert.SharedKernel.nD Cert.SharedKernel.τ).loc Cert.SharedKernel.main_arg0)
      ∧ r.2.mem ((c.tc : Thread Cert.SharedKernel.nD Cert.SharedKernel.τ).loc Cert.SharedKernel.main_arg1) = m ((c.tc : Thread Cert.SharedKernel.nD Cert.SharedKernel.τ).loc Cert.SharedKernel.main_arg1)
      ∧ r.2.mem ((c.tc : Thread Cert.SharedKernel.nD Cert.SharedKernel.τ).loc Cert.SharedKernel.main_arg2) = m ((c.tc : Thread Cert.SharedKernel.nD Cert.SharedKernel.τ).loc Cert.SharedKernel.main_arg2)
      ∧ r.2.mem ((c.tc : Thread Cert.SharedKernel.nD Cert.SharedKernel.τ).loc Cert.SharedKernel.main_arg3) = m ((c.tc : Thread Cert.SharedKernel.nD Cert.SharedKernel.τ).loc Cert.SharedKernel.main_arg3)
      ∧ r.2.mem ((c.tc : Thread Cert.SharedKernel.nD Cert.SharedKernel.τ).loc Cert.SharedKernel.main_arg4) = m ((c.tc : Thread Cert.SharedKernel.nD Cert.SharedKernel.τ).loc Cert.SharedKernel.main_arg4)
      ∧ r.2.mem ((c.tc : Thread Cert.SharedKernel.nD Cert.SharedKernel.τ).loc Cert.SharedKernel.main_arg5) = m ((c.tc : Thread Cert.SharedKernel.nD Cert.SharedKernel.τ).loc Cert.SharedKernel.main_arg5)
      ∧ r.2.mem ((c.tc : Thread Cert.SharedKernel.nD Cert.SharedKernel.τ).loc Cert.SharedKernel.main_arg6) = m ((c.tc : Thread Cert.SharedKernel.nD Cert.SharedKernel.τ).loc Cert.SharedKernel.main_arg6)
      ∧ r.2.mem ((c.tc : Thread Cert.SharedKernel.nD Cert.SharedKernel.τ).loc Cert.SharedKernel.main_arg7) = m ((c.tc : Thread Cert.SharedKernel.nD Cert.SharedKernel.τ).loc Cert.SharedKernel.main_arg7))
      ∧ r.2.sem = fun _ => 0)

def quiescent_SharedKernelIdeal [hSharedKernelIdeal : Cert.SharedKernelIdeal.Facts] : Prop :=
  ∀ (m : (ℓ : Loc Cert.SharedKernelIdeal.nD Cert.SharedKernelIdeal.τ Cert.SharedKernelIdeal.sig) → Buf (Elt Ideal) ℓ) (g : Dev Cert.SharedKernelIdeal.nD → PrngReg), Pre_SharedKernelIdeal m →
    θ_run (Cert.SharedKernelIdeal.defs (F := Ideal)) (onTc (τ := Cert.SharedKernelIdeal.τ) (Cert.SharedKernelIdeal.main (F := Ideal))) ⟨m, fun _ => 0, g⟩ (fun r => (∀ c : Dev Cert.SharedKernelIdeal.nD,
      r.2.mem ((c.tc : Thread Cert.SharedKernelIdeal.nD Cert.SharedKernelIdeal.τ).loc Cert.SharedKernelIdeal.main_arg0) = m ((c.tc : Thread Cert.SharedKernelIdeal.nD Cert.SharedKernelIdeal.τ).loc Cert.SharedKernelIdeal.main_arg0)
      ∧ r.2.mem ((c.tc : Thread Cert.SharedKernelIdeal.nD Cert.SharedKernelIdeal.τ).loc Cert.SharedKernelIdeal.main_arg1) = m ((c.tc : Thread Cert.SharedKernelIdeal.nD Cert.SharedKernelIdeal.τ).loc Cert.SharedKernelIdeal.main_arg1)
      ∧ r.2.mem ((c.tc : Thread Cert.SharedKernelIdeal.nD Cert.SharedKernelIdeal.τ).loc Cert.SharedKernelIdeal.main_arg2) = m ((c.tc : Thread Cert.SharedKernelIdeal.nD Cert.SharedKernelIdeal.τ).loc Cert.SharedKernelIdeal.main_arg2)
      ∧ r.2.mem ((c.tc : Thread Cert.SharedKernelIdeal.nD Cert.SharedKernelIdeal.τ).loc Cert.SharedKernelIdeal.main_arg3) = m ((c.tc : Thread Cert.SharedKernelIdeal.nD Cert.SharedKernelIdeal.τ).loc Cert.SharedKernelIdeal.main_arg3)
      ∧ r.2.mem ((c.tc : Thread Cert.SharedKernelIdeal.nD Cert.SharedKernelIdeal.τ).loc Cert.SharedKernelIdeal.main_arg4) = m ((c.tc : Thread Cert.SharedKernelIdeal.nD Cert.SharedKernelIdeal.τ).loc Cert.SharedKernelIdeal.main_arg4)
      ∧ r.2.mem ((c.tc : Thread Cert.SharedKernelIdeal.nD Cert.SharedKernelIdeal.τ).loc Cert.SharedKernelIdeal.main_arg5) = m ((c.tc : Thread Cert.SharedKernelIdeal.nD Cert.SharedKernelIdeal.τ).loc Cert.SharedKernelIdeal.main_arg5)
      ∧ r.2.mem ((c.tc : Thread Cert.SharedKernelIdeal.nD Cert.SharedKernelIdeal.τ).loc Cert.SharedKernelIdeal.main_arg6) = m ((c.tc : Thread Cert.SharedKernelIdeal.nD Cert.SharedKernelIdeal.τ).loc Cert.SharedKernelIdeal.main_arg6)
      ∧ r.2.mem ((c.tc : Thread Cert.SharedKernelIdeal.nD Cert.SharedKernelIdeal.τ).loc Cert.SharedKernelIdeal.main_arg7) = m ((c.tc : Thread Cert.SharedKernelIdeal.nD Cert.SharedKernelIdeal.τ).loc Cert.SharedKernelIdeal.main_arg7))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3)
      ∧ r.2.mem ((c.tc : Thread Cert.SharedReferenceIdeal.nD Cert.SharedReferenceIdeal.τ).loc Cert.SharedReferenceIdeal.main_arg4) = m ((c.tc : Thread Cert.SharedReferenceIdeal.nD Cert.SharedReferenceIdeal.τ).loc Cert.SharedReferenceIdeal.main_arg4)
      ∧ r.2.mem ((c.tc : Thread Cert.SharedReferenceIdeal.nD Cert.SharedReferenceIdeal.τ).loc Cert.SharedReferenceIdeal.main_arg5) = m ((c.tc : Thread Cert.SharedReferenceIdeal.nD Cert.SharedReferenceIdeal.τ).loc Cert.SharedReferenceIdeal.main_arg5)
      ∧ r.2.mem ((c.tc : Thread Cert.SharedReferenceIdeal.nD Cert.SharedReferenceIdeal.τ).loc Cert.SharedReferenceIdeal.main_arg6) = m ((c.tc : Thread Cert.SharedReferenceIdeal.nD Cert.SharedReferenceIdeal.τ).loc Cert.SharedReferenceIdeal.main_arg6)
      ∧ r.2.mem ((c.tc : Thread Cert.SharedReferenceIdeal.nD Cert.SharedReferenceIdeal.τ).loc Cert.SharedReferenceIdeal.main_arg7) = m ((c.tc : Thread Cert.SharedReferenceIdeal.nD Cert.SharedReferenceIdeal.τ).loc Cert.SharedReferenceIdeal.main_arg7))
      ∧ r.2.sem = fun _ => 0)

def quiescent_TextKernel [hTextKernel : Cert.TextKernel.Facts] : Prop :=
  ∀ (m : (ℓ : Loc Cert.TextKernel.nD Cert.TextKernel.τ Cert.TextKernel.sig) → Buf (Elt Bits) ℓ) (g : Dev Cert.TextKernel.nD → PrngReg), Pre_TextKernel m →
    θ_run (Cert.TextKernel.defs (F := Bits)) (onTc (τ := Cert.TextKernel.τ) (Cert.TextKernel.main (F := Bits))) ⟨m, fun _ => 0, g⟩ (fun r => (∀ c : Dev Cert.TextKernel.nD,
      r.2.mem ((c.tc : Thread Cert.TextKernel.nD Cert.TextKernel.τ).loc Cert.TextKernel.main_arg0) = m ((c.tc : Thread Cert.TextKernel.nD Cert.TextKernel.τ).loc Cert.TextKernel.main_arg0)
      ∧ r.2.mem ((c.tc : Thread Cert.TextKernel.nD Cert.TextKernel.τ).loc Cert.TextKernel.main_arg1) = m ((c.tc : Thread Cert.TextKernel.nD Cert.TextKernel.τ).loc Cert.TextKernel.main_arg1)
      ∧ r.2.mem ((c.tc : Thread Cert.TextKernel.nD Cert.TextKernel.τ).loc Cert.TextKernel.main_arg2) = m ((c.tc : Thread Cert.TextKernel.nD Cert.TextKernel.τ).loc Cert.TextKernel.main_arg2)
      ∧ r.2.mem ((c.tc : Thread Cert.TextKernel.nD Cert.TextKernel.τ).loc Cert.TextKernel.main_arg3) = m ((c.tc : Thread Cert.TextKernel.nD Cert.TextKernel.τ).loc Cert.TextKernel.main_arg3)
      ∧ r.2.mem ((c.tc : Thread Cert.TextKernel.nD Cert.TextKernel.τ).loc Cert.TextKernel.main_arg4) = m ((c.tc : Thread Cert.TextKernel.nD Cert.TextKernel.τ).loc Cert.TextKernel.main_arg4)
      ∧ r.2.mem ((c.tc : Thread Cert.TextKernel.nD Cert.TextKernel.τ).loc Cert.TextKernel.main_arg5) = m ((c.tc : Thread Cert.TextKernel.nD Cert.TextKernel.τ).loc Cert.TextKernel.main_arg5)
      ∧ r.2.mem ((c.tc : Thread Cert.TextKernel.nD Cert.TextKernel.τ).loc Cert.TextKernel.main_arg6) = m ((c.tc : Thread Cert.TextKernel.nD Cert.TextKernel.τ).loc Cert.TextKernel.main_arg6)
      ∧ r.2.mem ((c.tc : Thread Cert.TextKernel.nD Cert.TextKernel.τ).loc Cert.TextKernel.main_arg7) = m ((c.tc : Thread Cert.TextKernel.nD Cert.TextKernel.τ).loc Cert.TextKernel.main_arg7)
      ∧ r.2.mem ((c.tc : Thread Cert.TextKernel.nD Cert.TextKernel.τ).loc Cert.TextKernel.main_arg8) = m ((c.tc : Thread Cert.TextKernel.nD Cert.TextKernel.τ).loc Cert.TextKernel.main_arg8)
      ∧ r.2.mem ((c.tc : Thread Cert.TextKernel.nD Cert.TextKernel.τ).loc Cert.TextKernel.main_arg9) = m ((c.tc : Thread Cert.TextKernel.nD Cert.TextKernel.τ).loc Cert.TextKernel.main_arg9))
      ∧ r.2.sem = fun _ => 0)

def quiescent_TextKernelIdeal [hTextKernelIdeal : Cert.TextKernelIdeal.Facts] : Prop :=
  ∀ (m : (ℓ : Loc Cert.TextKernelIdeal.nD Cert.TextKernelIdeal.τ Cert.TextKernelIdeal.sig) → Buf (Elt Ideal) ℓ) (g : Dev Cert.TextKernelIdeal.nD → PrngReg), Pre_TextKernelIdeal m →
    θ_run (Cert.TextKernelIdeal.defs (F := Ideal)) (onTc (τ := Cert.TextKernelIdeal.τ) (Cert.TextKernelIdeal.main (F := Ideal))) ⟨m, fun _ => 0, g⟩ (fun r => (∀ c : Dev Cert.TextKernelIdeal.nD,
      r.2.mem ((c.tc : Thread Cert.TextKernelIdeal.nD Cert.TextKernelIdeal.τ).loc Cert.TextKernelIdeal.main_arg0) = m ((c.tc : Thread Cert.TextKernelIdeal.nD Cert.TextKernelIdeal.τ).loc Cert.TextKernelIdeal.main_arg0)
      ∧ r.2.mem ((c.tc : Thread Cert.TextKernelIdeal.nD Cert.TextKernelIdeal.τ).loc Cert.TextKernelIdeal.main_arg1) = m ((c.tc : Thread Cert.TextKernelIdeal.nD Cert.TextKernelIdeal.τ).loc Cert.TextKernelIdeal.main_arg1)
      ∧ r.2.mem ((c.tc : Thread Cert.TextKernelIdeal.nD Cert.TextKernelIdeal.τ).loc Cert.TextKernelIdeal.main_arg2) = m ((c.tc : Thread Cert.TextKernelIdeal.nD Cert.TextKernelIdeal.τ).loc Cert.TextKernelIdeal.main_arg2)
      ∧ r.2.mem ((c.tc : Thread Cert.TextKernelIdeal.nD Cert.TextKernelIdeal.τ).loc Cert.TextKernelIdeal.main_arg3) = m ((c.tc : Thread Cert.TextKernelIdeal.nD Cert.TextKernelIdeal.τ).loc Cert.TextKernelIdeal.main_arg3)
      ∧ r.2.mem ((c.tc : Thread Cert.TextKernelIdeal.nD Cert.TextKernelIdeal.τ).loc Cert.TextKernelIdeal.main_arg4) = m ((c.tc : Thread Cert.TextKernelIdeal.nD Cert.TextKernelIdeal.τ).loc Cert.TextKernelIdeal.main_arg4)
      ∧ r.2.mem ((c.tc : Thread Cert.TextKernelIdeal.nD Cert.TextKernelIdeal.τ).loc Cert.TextKernelIdeal.main_arg5) = m ((c.tc : Thread Cert.TextKernelIdeal.nD Cert.TextKernelIdeal.τ).loc Cert.TextKernelIdeal.main_arg5)
      ∧ r.2.mem ((c.tc : Thread Cert.TextKernelIdeal.nD Cert.TextKernelIdeal.τ).loc Cert.TextKernelIdeal.main_arg6) = m ((c.tc : Thread Cert.TextKernelIdeal.nD Cert.TextKernelIdeal.τ).loc Cert.TextKernelIdeal.main_arg6)
      ∧ r.2.mem ((c.tc : Thread Cert.TextKernelIdeal.nD Cert.TextKernelIdeal.τ).loc Cert.TextKernelIdeal.main_arg7) = m ((c.tc : Thread Cert.TextKernelIdeal.nD Cert.TextKernelIdeal.τ).loc Cert.TextKernelIdeal.main_arg7)
      ∧ r.2.mem ((c.tc : Thread Cert.TextKernelIdeal.nD Cert.TextKernelIdeal.τ).loc Cert.TextKernelIdeal.main_arg8) = m ((c.tc : Thread Cert.TextKernelIdeal.nD Cert.TextKernelIdeal.τ).loc Cert.TextKernelIdeal.main_arg8)
      ∧ r.2.mem ((c.tc : Thread Cert.TextKernelIdeal.nD Cert.TextKernelIdeal.τ).loc Cert.TextKernelIdeal.main_arg9) = m ((c.tc : Thread Cert.TextKernelIdeal.nD Cert.TextKernelIdeal.τ).loc Cert.TextKernelIdeal.main_arg9))
      ∧ r.2.sem = fun _ => 0)

def quiescent_TextReferenceIdeal [hTextReferenceIdeal : Cert.TextReferenceIdeal.Facts] : Prop :=
  ∀ (m : (ℓ : Loc Cert.TextReferenceIdeal.nD Cert.TextReferenceIdeal.τ Cert.TextReferenceIdeal.sig) → Buf (Elt Ideal) ℓ) (g : Dev Cert.TextReferenceIdeal.nD → PrngReg), Pre_TextReferenceIdeal m →
    θ_run (Cert.TextReferenceIdeal.defs (F := Ideal)) (onTc (τ := Cert.TextReferenceIdeal.τ) (Cert.TextReferenceIdeal.main (F := Ideal))) ⟨m, fun _ => 0, g⟩ (fun r => (∀ c : Dev Cert.TextReferenceIdeal.nD,
      r.2.mem ((c.tc : Thread Cert.TextReferenceIdeal.nD Cert.TextReferenceIdeal.τ).loc Cert.TextReferenceIdeal.main_arg0) = m ((c.tc : Thread Cert.TextReferenceIdeal.nD Cert.TextReferenceIdeal.τ).loc Cert.TextReferenceIdeal.main_arg0)
      ∧ r.2.mem ((c.tc : Thread Cert.TextReferenceIdeal.nD Cert.TextReferenceIdeal.τ).loc Cert.TextReferenceIdeal.main_arg1) = m ((c.tc : Thread Cert.TextReferenceIdeal.nD Cert.TextReferenceIdeal.τ).loc Cert.TextReferenceIdeal.main_arg1)
      ∧ r.2.mem ((c.tc : Thread Cert.TextReferenceIdeal.nD Cert.TextReferenceIdeal.τ).loc Cert.TextReferenceIdeal.main_arg2) = m ((c.tc : Thread Cert.TextReferenceIdeal.nD Cert.TextReferenceIdeal.τ).loc Cert.TextReferenceIdeal.main_arg2)
      ∧ r.2.mem ((c.tc : Thread Cert.TextReferenceIdeal.nD Cert.TextReferenceIdeal.τ).loc Cert.TextReferenceIdeal.main_arg3) = m ((c.tc : Thread Cert.TextReferenceIdeal.nD Cert.TextReferenceIdeal.τ).loc Cert.TextReferenceIdeal.main_arg3)
      ∧ r.2.mem ((c.tc : Thread Cert.TextReferenceIdeal.nD Cert.TextReferenceIdeal.τ).loc Cert.TextReferenceIdeal.main_arg4) = m ((c.tc : Thread Cert.TextReferenceIdeal.nD Cert.TextReferenceIdeal.τ).loc Cert.TextReferenceIdeal.main_arg4)
      ∧ r.2.mem ((c.tc : Thread Cert.TextReferenceIdeal.nD Cert.TextReferenceIdeal.τ).loc Cert.TextReferenceIdeal.main_arg5) = m ((c.tc : Thread Cert.TextReferenceIdeal.nD Cert.TextReferenceIdeal.τ).loc Cert.TextReferenceIdeal.main_arg5)
      ∧ r.2.mem ((c.tc : Thread Cert.TextReferenceIdeal.nD Cert.TextReferenceIdeal.τ).loc Cert.TextReferenceIdeal.main_arg6) = m ((c.tc : Thread Cert.TextReferenceIdeal.nD Cert.TextReferenceIdeal.τ).loc Cert.TextReferenceIdeal.main_arg6)
      ∧ r.2.mem ((c.tc : Thread Cert.TextReferenceIdeal.nD Cert.TextReferenceIdeal.τ).loc Cert.TextReferenceIdeal.main_arg7) = m ((c.tc : Thread Cert.TextReferenceIdeal.nD Cert.TextReferenceIdeal.τ).loc Cert.TextReferenceIdeal.main_arg7)
      ∧ r.2.mem ((c.tc : Thread Cert.TextReferenceIdeal.nD Cert.TextReferenceIdeal.τ).loc Cert.TextReferenceIdeal.main_arg8) = m ((c.tc : Thread Cert.TextReferenceIdeal.nD Cert.TextReferenceIdeal.τ).loc Cert.TextReferenceIdeal.main_arg8)
      ∧ r.2.mem ((c.tc : Thread Cert.TextReferenceIdeal.nD Cert.TextReferenceIdeal.τ).loc Cert.TextReferenceIdeal.main_arg9) = m ((c.tc : Thread Cert.TextReferenceIdeal.nD Cert.TextReferenceIdeal.τ).loc Cert.TextReferenceIdeal.main_arg9))
      ∧ r.2.sem = fun _ => 0)

def quiescent_OprojKernel [hOprojKernel : Cert.OprojKernel.Facts] : Prop :=
  ∀ (m : (ℓ : Loc Cert.OprojKernel.nD Cert.OprojKernel.τ Cert.OprojKernel.sig) → Buf (Elt Bits) ℓ) (g : Dev Cert.OprojKernel.nD → PrngReg), Pre_OprojKernel m →
    θ_run (Cert.OprojKernel.defs (F := Bits)) (onTc (τ := Cert.OprojKernel.τ) (Cert.OprojKernel.main (F := Bits))) ⟨m, fun _ => 0, g⟩ (fun r => (∀ c : Dev Cert.OprojKernel.nD,
      r.2.mem ((c.tc : Thread Cert.OprojKernel.nD Cert.OprojKernel.τ).loc Cert.OprojKernel.main_arg0) = m ((c.tc : Thread Cert.OprojKernel.nD Cert.OprojKernel.τ).loc Cert.OprojKernel.main_arg0)
      ∧ r.2.mem ((c.tc : Thread Cert.OprojKernel.nD Cert.OprojKernel.τ).loc Cert.OprojKernel.main_arg1) = m ((c.tc : Thread Cert.OprojKernel.nD Cert.OprojKernel.τ).loc Cert.OprojKernel.main_arg1)
      ∧ r.2.mem ((c.tc : Thread Cert.OprojKernel.nD Cert.OprojKernel.τ).loc Cert.OprojKernel.main_arg2) = m ((c.tc : Thread Cert.OprojKernel.nD Cert.OprojKernel.τ).loc Cert.OprojKernel.main_arg2)
      ∧ r.2.mem ((c.tc : Thread Cert.OprojKernel.nD Cert.OprojKernel.τ).loc Cert.OprojKernel.main_arg3) = m ((c.tc : Thread Cert.OprojKernel.nD Cert.OprojKernel.τ).loc Cert.OprojKernel.main_arg3)
      ∧ r.2.mem ((c.tc : Thread Cert.OprojKernel.nD Cert.OprojKernel.τ).loc Cert.OprojKernel.main_arg4) = m ((c.tc : Thread Cert.OprojKernel.nD Cert.OprojKernel.τ).loc Cert.OprojKernel.main_arg4)
      ∧ r.2.mem ((c.tc : Thread Cert.OprojKernel.nD Cert.OprojKernel.τ).loc Cert.OprojKernel.main_arg5) = m ((c.tc : Thread Cert.OprojKernel.nD Cert.OprojKernel.τ).loc Cert.OprojKernel.main_arg5)
      ∧ r.2.mem ((c.tc : Thread Cert.OprojKernel.nD Cert.OprojKernel.τ).loc Cert.OprojKernel.main_arg6) = m ((c.tc : Thread Cert.OprojKernel.nD Cert.OprojKernel.τ).loc Cert.OprojKernel.main_arg6))
      ∧ r.2.sem = fun _ => 0)

def quiescent_OprojKernelIdeal [hOprojKernelIdeal : Cert.OprojKernelIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
      ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
      ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
      ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_SharedKernel_SharedKernelIdeal : Prop :=
  True

def algebraic_SharedKernelIdeal_SharedReferenceIdeal [hSharedKernelIdeal : Cert.SharedKernelIdeal.Facts] [hSharedReferenceIdeal : Cert.SharedReferenceIdeal.Facts] : Prop :=
  ∀ (m : (ℓ : Loc Cert.SharedKernelIdeal.nD Cert.SharedKernelIdeal.τ Cert.SharedKernelIdeal.sig) → Buf (Elt Ideal) ℓ) (g : Dev Cert.SharedKernelIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedKernelIdeal m →
    (∀ c : Dev Cert.SharedKernelIdeal.nD,
      m' ((c.tc : Thread Cert.SharedReferenceIdeal.nD Cert.SharedReferenceIdeal.τ).loc Cert.SharedReferenceIdeal.main_arg0) = m ((c.tc : Thread Cert.SharedKernelIdeal.nD Cert.SharedKernelIdeal.τ).loc Cert.SharedKernelIdeal.main_arg0)
      ∧ m' ((c.tc : Thread Cert.SharedReferenceIdeal.nD Cert.SharedReferenceIdeal.τ).loc Cert.SharedReferenceIdeal.main_arg1) = m ((c.tc : Thread Cert.SharedKernelIdeal.nD Cert.SharedKernelIdeal.τ).loc Cert.SharedKernelIdeal.main_arg1)
      ∧ m' ((c.tc : Thread Cert.SharedReferenceIdeal.nD Cert.SharedReferenceIdeal.τ).loc Cert.SharedReferenceIdeal.main_arg2) = m ((c.tc : Thread Cert.SharedKernelIdeal.nD Cert.SharedKernelIdeal.τ).loc Cert.SharedKernelIdeal.main_arg2)
      ∧ m' ((c.tc : Thread Cert.SharedReferenceIdeal.nD Cert.SharedReferenceIdeal.τ).loc Cert.SharedReferenceIdeal.main_arg3) = m ((c.tc : Thread Cert.SharedKernelIdeal.nD Cert.SharedKernelIdeal.τ).loc Cert.SharedKernelIdeal.main_arg3)
      ∧ m' ((c.tc : Thread Cert.SharedReferenceIdeal.nD Cert.SharedReferenceIdeal.τ).loc Cert.SharedReferenceIdeal.main_arg4) = m ((c.tc : Thread Cert.SharedKernelIdeal.nD Cert.SharedKernelIdeal.τ).loc Cert.SharedKernelIdeal.main_arg4)
      ∧ m' ((c.tc : Thread Cert.SharedReferenceIdeal.nD Cert.SharedReferenceIdeal.τ).loc Cert.SharedReferenceIdeal.main_arg5) = m ((c.tc : Thread Cert.SharedKernelIdeal.nD Cert.SharedKernelIdeal.τ).loc Cert.SharedKernelIdeal.main_arg5)
      ∧ m' ((c.tc : Thread Cert.SharedReferenceIdeal.nD Cert.SharedReferenceIdeal.τ).loc Cert.SharedReferenceIdeal.main_arg6) = m ((c.tc : Thread Cert.SharedKernelIdeal.nD Cert.SharedKernelIdeal.τ).loc Cert.SharedKernelIdeal.main_arg6)
      ∧ m' ((c.tc : Thread Cert.SharedReferenceIdeal.nD Cert.SharedReferenceIdeal.τ).loc Cert.SharedReferenceIdeal.main_arg7) = m ((c.tc : Thread Cert.SharedKernelIdeal.nD Cert.SharedKernelIdeal.τ).loc Cert.SharedKernelIdeal.main_arg7)) →
    ∃ (v0 : (c : Dev Cert.SharedKernelIdeal.nD) → Buf (Elt Ideal) ((c.tc : Thread Cert.SharedKernelIdeal.nD Cert.SharedKernelIdeal.τ).loc Cert.SharedKernelIdeal.main_v1_0)) (v1 : (c : Dev Cert.SharedKernelIdeal.nD) → Buf (Elt Ideal) ((c.tc : Thread Cert.SharedKernelIdeal.nD Cert.SharedKernelIdeal.τ).loc Cert.SharedKernelIdeal.main_v1_1)) (v2 : (c : Dev Cert.SharedKernelIdeal.nD) → Buf (Elt Ideal) ((c.tc : Thread Cert.SharedKernelIdeal.nD Cert.SharedKernelIdeal.τ).loc Cert.SharedKernelIdeal.main_v1_2)),
      θ_run (Cert.SharedKernelIdeal.defs (F := Ideal)) (onTc (τ := Cert.SharedKernelIdeal.τ) (Cert.SharedKernelIdeal.main (F := Ideal))) ⟨m, fun _ => 0, g⟩ (fun r => ∀ c : Dev Cert.SharedKernelIdeal.nD,
          r.2.mem ((c.tc : Thread Cert.SharedKernelIdeal.nD Cert.SharedKernelIdeal.τ).loc Cert.SharedKernelIdeal.main_v1_0) = v0 c
          ∧ r.2.mem ((c.tc : Thread Cert.SharedKernelIdeal.nD Cert.SharedKernelIdeal.τ).loc Cert.SharedKernelIdeal.main_v1_1) = v1 c
          ∧ r.2.mem ((c.tc : Thread Cert.SharedKernelIdeal.nD Cert.SharedKernelIdeal.τ).loc Cert.SharedKernelIdeal.main_v1_2) = v2 c
          ∧ r.2.mem ((c.tc : Thread Cert.SharedKernelIdeal.nD Cert.SharedKernelIdeal.τ).loc Cert.SharedKernelIdeal.main_arg0) = m ((c.tc : Thread Cert.SharedKernelIdeal.nD Cert.SharedKernelIdeal.τ).loc Cert.SharedKernelIdeal.main_arg0)
          ∧ r.2.mem ((c.tc : Thread Cert.SharedKernelIdeal.nD Cert.SharedKernelIdeal.τ).loc Cert.SharedKernelIdeal.main_arg1) = m ((c.tc : Thread Cert.SharedKernelIdeal.nD Cert.SharedKernelIdeal.τ).loc Cert.SharedKernelIdeal.main_arg1)
          ∧ r.2.mem ((c.tc : Thread Cert.SharedKernelIdeal.nD Cert.SharedKernelIdeal.τ).loc Cert.SharedKernelIdeal.main_arg2) = m ((c.tc : Thread Cert.SharedKernelIdeal.nD Cert.SharedKernelIdeal.τ).loc Cert.SharedKernelIdeal.main_arg2)
          ∧ r.2.mem ((c.tc : Thread Cert.SharedKernelIdeal.nD Cert.SharedKernelIdeal.τ).loc Cert.SharedKernelIdeal.main_arg3) = m ((c.tc : Thread Cert.SharedKernelIdeal.nD Cert.SharedKernelIdeal.τ).loc Cert.SharedKernelIdeal.main_arg3)
          ∧ r.2.mem ((c.tc : Thread Cert.SharedKernelIdeal.nD Cert.SharedKernelIdeal.τ).loc Cert.SharedKernelIdeal.main_arg4) = m ((c.tc : Thread Cert.SharedKernelIdeal.nD Cert.SharedKernelIdeal.τ).loc Cert.SharedKernelIdeal.main_arg4)
          ∧ r.2.mem ((c.tc : Thread Cert.SharedKernelIdeal.nD Cert.SharedKernelIdeal.τ).loc Cert.SharedKernelIdeal.main_arg5) = m ((c.tc : Thread Cert.SharedKernelIdeal.nD Cert.SharedKernelIdeal.τ).loc Cert.SharedKernelIdeal.main_arg5)
          ∧ r.2.mem ((c.tc : Thread Cert.SharedKernelIdeal.nD Cert.SharedKernelIdeal.τ).loc Cert.SharedKernelIdeal.main_arg6) = m ((c.tc : Thread Cert.SharedKernelIdeal.nD Cert.SharedKernelIdeal.τ).loc Cert.SharedKernelIdeal.main_arg6)
          ∧ r.2.mem ((c.tc : Thread Cert.SharedKernelIdeal.nD Cert.SharedKernelIdeal.τ).loc Cert.SharedKernelIdeal.main_arg7) = m ((c.tc : Thread Cert.SharedKernelIdeal.nD Cert.SharedKernelIdeal.τ).loc Cert.SharedKernelIdeal.main_arg7))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v0_0) = v0 c
          ∧ r.2.mem ((c.tc : Thread Cert.SharedReferenceIdeal.nD Cert.SharedReferenceIdeal.τ).loc Cert.SharedReferenceIdeal.main_v0_1) = v1 c
          ∧ r.2.mem ((c.tc : Thread Cert.SharedReferenceIdeal.nD Cert.SharedReferenceIdeal.τ).loc Cert.SharedReferenceIdeal.main_v0_2) = v2 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3)
          ∧ r.2.mem ((c.tc : Thread Cert.SharedReferenceIdeal.nD Cert.SharedReferenceIdeal.τ).loc Cert.SharedReferenceIdeal.main_arg4) = m' ((c.tc : Thread Cert.SharedReferenceIdeal.nD Cert.SharedReferenceIdeal.τ).loc Cert.SharedReferenceIdeal.main_arg4)
          ∧ r.2.mem ((c.tc : Thread Cert.SharedReferenceIdeal.nD Cert.SharedReferenceIdeal.τ).loc Cert.SharedReferenceIdeal.main_arg5) = m' ((c.tc : Thread Cert.SharedReferenceIdeal.nD Cert.SharedReferenceIdeal.τ).loc Cert.SharedReferenceIdeal.main_arg5)
          ∧ r.2.mem ((c.tc : Thread Cert.SharedReferenceIdeal.nD Cert.SharedReferenceIdeal.τ).loc Cert.SharedReferenceIdeal.main_arg6) = m' ((c.tc : Thread Cert.SharedReferenceIdeal.nD Cert.SharedReferenceIdeal.τ).loc Cert.SharedReferenceIdeal.main_arg6)
          ∧ r.2.mem ((c.tc : Thread Cert.SharedReferenceIdeal.nD Cert.SharedReferenceIdeal.τ).loc Cert.SharedReferenceIdeal.main_arg7) = m' ((c.tc : Thread Cert.SharedReferenceIdeal.nD Cert.SharedReferenceIdeal.τ).loc Cert.SharedReferenceIdeal.main_arg7))

def preserves_TextKernel_TextKernelIdeal : Prop :=
  True

def algebraic_TextKernelIdeal_TextReferenceIdeal [hTextKernelIdeal : Cert.TextKernelIdeal.Facts] [hTextReferenceIdeal : Cert.TextReferenceIdeal.Facts] : Prop :=
  ∀ (m : (ℓ : Loc Cert.TextKernelIdeal.nD Cert.TextKernelIdeal.τ Cert.TextKernelIdeal.sig) → Buf (Elt Ideal) ℓ) (g : Dev Cert.TextKernelIdeal.nD → PrngReg)
    (m' : (ℓ : Loc Cert.TextReferenceIdeal.nD Cert.TextReferenceIdeal.τ Cert.TextReferenceIdeal.sig) → Buf (Elt Ideal) ℓ) (g' : Dev Cert.TextReferenceIdeal.nD → PrngReg), Pre_TextKernelIdeal m →
    (∀ c : Dev Cert.TextKernelIdeal.nD,
      m' ((c.tc : Thread Cert.TextReferenceIdeal.nD Cert.TextReferenceIdeal.τ).loc Cert.TextReferenceIdeal.main_arg0) = m ((c.tc : Thread Cert.TextKernelIdeal.nD Cert.TextKernelIdeal.τ).loc Cert.TextKernelIdeal.main_arg0)
      ∧ m' ((c.tc : Thread Cert.TextReferenceIdeal.nD Cert.TextReferenceIdeal.τ).loc Cert.TextReferenceIdeal.main_arg1) = m ((c.tc : Thread Cert.TextKernelIdeal.nD Cert.TextKernelIdeal.τ).loc Cert.TextKernelIdeal.main_arg1)
      ∧ m' ((c.tc : Thread Cert.TextReferenceIdeal.nD Cert.TextReferenceIdeal.τ).loc Cert.TextReferenceIdeal.main_arg2) = m ((c.tc : Thread Cert.TextKernelIdeal.nD Cert.TextKernelIdeal.τ).loc Cert.TextKernelIdeal.main_arg2)
      ∧ m' ((c.tc : Thread Cert.TextReferenceIdeal.nD Cert.TextReferenceIdeal.τ).loc Cert.TextReferenceIdeal.main_arg3) = m ((c.tc : Thread Cert.TextKernelIdeal.nD Cert.TextKernelIdeal.τ).loc Cert.TextKernelIdeal.main_arg3)
      ∧ m' ((c.tc : Thread Cert.TextReferenceIdeal.nD Cert.TextReferenceIdeal.τ).loc Cert.TextReferenceIdeal.main_arg4) = m ((c.tc : Thread Cert.TextKernelIdeal.nD Cert.TextKernelIdeal.τ).loc Cert.TextKernelIdeal.main_arg4)
      ∧ m' ((c.tc : Thread Cert.TextReferenceIdeal.nD Cert.TextReferenceIdeal.τ).loc Cert.TextReferenceIdeal.main_arg5) = m ((c.tc : Thread Cert.TextKernelIdeal.nD Cert.TextKernelIdeal.τ).loc Cert.TextKernelIdeal.main_arg5)
      ∧ m' ((c.tc : Thread Cert.TextReferenceIdeal.nD Cert.TextReferenceIdeal.τ).loc Cert.TextReferenceIdeal.main_arg6) = m ((c.tc : Thread Cert.TextKernelIdeal.nD Cert.TextKernelIdeal.τ).loc Cert.TextKernelIdeal.main_arg6)
      ∧ m' ((c.tc : Thread Cert.TextReferenceIdeal.nD Cert.TextReferenceIdeal.τ).loc Cert.TextReferenceIdeal.main_arg7) = m ((c.tc : Thread Cert.TextKernelIdeal.nD Cert.TextKernelIdeal.τ).loc Cert.TextKernelIdeal.main_arg7)
      ∧ m' ((c.tc : Thread Cert.TextReferenceIdeal.nD Cert.TextReferenceIdeal.τ).loc Cert.TextReferenceIdeal.main_arg8) = m ((c.tc : Thread Cert.TextKernelIdeal.nD Cert.TextKernelIdeal.τ).loc Cert.TextKernelIdeal.main_arg8)
      ∧ m' ((c.tc : Thread Cert.TextReferenceIdeal.nD Cert.TextReferenceIdeal.τ).loc Cert.TextReferenceIdeal.main_arg9) = m ((c.tc : Thread Cert.TextKernelIdeal.nD Cert.TextKernelIdeal.τ).loc Cert.TextKernelIdeal.main_arg9)) →
    ∃ (v0 : (c : Dev Cert.TextKernelIdeal.nD) → Buf (Elt Ideal) ((c.tc : Thread Cert.TextKernelIdeal.nD Cert.TextKernelIdeal.τ).loc Cert.TextKernelIdeal.main_v1_0)) (v1 : (c : Dev Cert.TextKernelIdeal.nD) → Buf (Elt Ideal) ((c.tc : Thread Cert.TextKernelIdeal.nD Cert.TextKernelIdeal.τ).loc Cert.TextKernelIdeal.main_v1_1)) (v2 : (c : Dev Cert.TextKernelIdeal.nD) → Buf (Elt Ideal) ((c.tc : Thread Cert.TextKernelIdeal.nD Cert.TextKernelIdeal.τ).loc Cert.TextKernelIdeal.main_v1_2)),
      θ_run (Cert.TextKernelIdeal.defs (F := Ideal)) (onTc (τ := Cert.TextKernelIdeal.τ) (Cert.TextKernelIdeal.main (F := Ideal))) ⟨m, fun _ => 0, g⟩ (fun r => ∀ c : Dev Cert.TextKernelIdeal.nD,
          r.2.mem ((c.tc : Thread Cert.TextKernelIdeal.nD Cert.TextKernelIdeal.τ).loc Cert.TextKernelIdeal.main_v1_0) = v0 c
          ∧ r.2.mem ((c.tc : Thread Cert.TextKernelIdeal.nD Cert.TextKernelIdeal.τ).loc Cert.TextKernelIdeal.main_v1_1) = v1 c
          ∧ r.2.mem ((c.tc : Thread Cert.TextKernelIdeal.nD Cert.TextKernelIdeal.τ).loc Cert.TextKernelIdeal.main_v1_2) = v2 c
          ∧ r.2.mem ((c.tc : Thread Cert.TextKernelIdeal.nD Cert.TextKernelIdeal.τ).loc Cert.TextKernelIdeal.main_arg0) = m ((c.tc : Thread Cert.TextKernelIdeal.nD Cert.TextKernelIdeal.τ).loc Cert.TextKernelIdeal.main_arg0)
          ∧ r.2.mem ((c.tc : Thread Cert.TextKernelIdeal.nD Cert.TextKernelIdeal.τ).loc Cert.TextKernelIdeal.main_arg1) = m ((c.tc : Thread Cert.TextKernelIdeal.nD Cert.TextKernelIdeal.τ).loc Cert.TextKernelIdeal.main_arg1)
          ∧ r.2.mem ((c.tc : Thread Cert.TextKernelIdeal.nD Cert.TextKernelIdeal.τ).loc Cert.TextKernelIdeal.main_arg2) = m ((c.tc : Thread Cert.TextKernelIdeal.nD Cert.TextKernelIdeal.τ).loc Cert.TextKernelIdeal.main_arg2)
          ∧ r.2.mem ((c.tc : Thread Cert.TextKernelIdeal.nD Cert.TextKernelIdeal.τ).loc Cert.TextKernelIdeal.main_arg3) = m ((c.tc : Thread Cert.TextKernelIdeal.nD Cert.TextKernelIdeal.τ).loc Cert.TextKernelIdeal.main_arg3)
          ∧ r.2.mem ((c.tc : Thread Cert.TextKernelIdeal.nD Cert.TextKernelIdeal.τ).loc Cert.TextKernelIdeal.main_arg4) = m ((c.tc : Thread Cert.TextKernelIdeal.nD Cert.TextKernelIdeal.τ).loc Cert.TextKernelIdeal.main_arg4)
          ∧ r.2.mem ((c.tc : Thread Cert.TextKernelIdeal.nD Cert.TextKernelIdeal.τ).loc Cert.TextKernelIdeal.main_arg5) = m ((c.tc : Thread Cert.TextKernelIdeal.nD Cert.TextKernelIdeal.τ).loc Cert.TextKernelIdeal.main_arg5)
          ∧ r.2.mem ((c.tc : Thread Cert.TextKernelIdeal.nD Cert.TextKernelIdeal.τ).loc Cert.TextKernelIdeal.main_arg6) = m ((c.tc : Thread Cert.TextKernelIdeal.nD Cert.TextKernelIdeal.τ).loc Cert.TextKernelIdeal.main_arg6)
          ∧ r.2.mem ((c.tc : Thread Cert.TextKernelIdeal.nD Cert.TextKernelIdeal.τ).loc Cert.TextKernelIdeal.main_arg7) = m ((c.tc : Thread Cert.TextKernelIdeal.nD Cert.TextKernelIdeal.τ).loc Cert.TextKernelIdeal.main_arg7)
          ∧ r.2.mem ((c.tc : Thread Cert.TextKernelIdeal.nD Cert.TextKernelIdeal.τ).loc Cert.TextKernelIdeal.main_arg8) = m ((c.tc : Thread Cert.TextKernelIdeal.nD Cert.TextKernelIdeal.τ).loc Cert.TextKernelIdeal.main_arg8)
          ∧ r.2.mem ((c.tc : Thread Cert.TextKernelIdeal.nD Cert.TextKernelIdeal.τ).loc Cert.TextKernelIdeal.main_arg9) = m ((c.tc : Thread Cert.TextKernelIdeal.nD Cert.TextKernelIdeal.τ).loc Cert.TextKernelIdeal.main_arg9))
      ∧ θ_run (Cert.TextReferenceIdeal.defs (F := Ideal)) (onTc (τ := Cert.TextReferenceIdeal.τ) (Cert.TextReferenceIdeal.main (F := Ideal))) ⟨m', fun _ => 0, g'⟩ (fun r => ∀ c : Dev Cert.TextReferenceIdeal.nD,
          r.2.mem ((c.tc : Thread Cert.TextReferenceIdeal.nD Cert.TextReferenceIdeal.τ).loc Cert.TextReferenceIdeal.main_v0_0) = v0 c
          ∧ r.2.mem ((c.tc : Thread Cert.TextReferenceIdeal.nD Cert.TextReferenceIdeal.τ).loc Cert.TextReferenceIdeal.main_v0_1) = v1 c
          ∧ r.2.mem ((c.tc : Thread Cert.TextReferenceIdeal.nD Cert.TextReferenceIdeal.τ).loc Cert.TextReferenceIdeal.main_v0_2) = v2 c
          ∧ r.2.mem ((c.tc : Thread Cert.TextReferenceIdeal.nD Cert.TextReferenceIdeal.τ).loc Cert.TextReferenceIdeal.main_arg0) = m' ((c.tc : Thread Cert.TextReferenceIdeal.nD Cert.TextReferenceIdeal.τ).loc Cert.TextReferenceIdeal.main_arg0)
          ∧ r.2.mem ((c.tc : Thread Cert.TextReferenceIdeal.nD Cert.TextReferenceIdeal.τ).loc Cert.TextReferenceIdeal.main_arg1) = m' ((c.tc : Thread Cert.TextReferenceIdeal.nD Cert.TextReferenceIdeal.τ).loc Cert.TextReferenceIdeal.main_arg1)
          ∧ r.2.mem ((c.tc : Thread Cert.TextReferenceIdeal.nD Cert.TextReferenceIdeal.τ).loc Cert.TextReferenceIdeal.main_arg2) = m' ((c.tc : Thread Cert.TextReferenceIdeal.nD Cert.TextReferenceIdeal.τ).loc Cert.TextReferenceIdeal.main_arg2)
          ∧ r.2.mem ((c.tc : Thread Cert.TextReferenceIdeal.nD Cert.TextReferenceIdeal.τ).loc Cert.TextReferenceIdeal.main_arg3) = m' ((c.tc : Thread Cert.TextReferenceIdeal.nD Cert.TextReferenceIdeal.τ).loc Cert.TextReferenceIdeal.main_arg3)
          ∧ r.2.mem ((c.tc : Thread Cert.TextReferenceIdeal.nD Cert.TextReferenceIdeal.τ).loc Cert.TextReferenceIdeal.main_arg4) = m' ((c.tc : Thread Cert.TextReferenceIdeal.nD Cert.TextReferenceIdeal.τ).loc Cert.TextReferenceIdeal.main_arg4)
          ∧ r.2.mem ((c.tc : Thread Cert.TextReferenceIdeal.nD Cert.TextReferenceIdeal.τ).loc Cert.TextReferenceIdeal.main_arg5) = m' ((c.tc : Thread Cert.TextReferenceIdeal.nD Cert.TextReferenceIdeal.τ).loc Cert.TextReferenceIdeal.main_arg5)
          ∧ r.2.mem ((c.tc : Thread Cert.TextReferenceIdeal.nD Cert.TextReferenceIdeal.τ).loc Cert.TextReferenceIdeal.main_arg6) = m' ((c.tc : Thread Cert.TextReferenceIdeal.nD Cert.TextReferenceIdeal.τ).loc Cert.TextReferenceIdeal.main_arg6)
          ∧ r.2.mem ((c.tc : Thread Cert.TextReferenceIdeal.nD Cert.TextReferenceIdeal.τ).loc Cert.TextReferenceIdeal.main_arg7) = m' ((c.tc : Thread Cert.TextReferenceIdeal.nD Cert.TextReferenceIdeal.τ).loc Cert.TextReferenceIdeal.main_arg7)
          ∧ r.2.mem ((c.tc : Thread Cert.TextReferenceIdeal.nD Cert.TextReferenceIdeal.τ).loc Cert.TextReferenceIdeal.main_arg8) = m' ((c.tc : Thread Cert.TextReferenceIdeal.nD Cert.TextReferenceIdeal.τ).loc Cert.TextReferenceIdeal.main_arg8)
          ∧ r.2.mem ((c.tc : Thread Cert.TextReferenceIdeal.nD Cert.TextReferenceIdeal.τ).loc Cert.TextReferenceIdeal.main_arg9) = m' ((c.tc : Thread Cert.TextReferenceIdeal.nD Cert.TextReferenceIdeal.τ).loc Cert.TextReferenceIdeal.main_arg9))

def preserves_OprojKernel_OprojKernelIdeal : Prop :=
  True

def algebraic_OprojKernelIdeal_OprojReferenceIdeal [hOprojKernelIdeal : Cert.OprojKernelIdeal.Facts] [hOprojReferenceIdeal : Cert.OprojReferenceIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojKernelIdeal m →
    (∀ c : Dev Cert.OprojKernelIdeal.nD,
      m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)
      ∧ m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)
      ∧ m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)
      ∧ m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)
      ∧ m' ((c.tc : Thread Cert.OprojReferenceIdeal.nD Cert.OprojReferenceIdeal.τ).loc Cert.OprojReferenceIdeal.main_arg4) = m ((c.tc : Thread Cert.OprojKernelIdeal.nD Cert.OprojKernelIdeal.τ).loc Cert.OprojKernelIdeal.main_arg4)
      ∧ m' ((c.tc : Thread Cert.OprojReferenceIdeal.nD Cert.OprojReferenceIdeal.τ).loc Cert.OprojReferenceIdeal.main_arg5) = m ((c.tc : Thread Cert.OprojKernelIdeal.nD Cert.OprojKernelIdeal.τ).loc Cert.OprojKernelIdeal.main_arg5)
      ∧ m' ((c.tc : Thread Cert.OprojReferenceIdeal.nD Cert.OprojReferenceIdeal.τ).loc Cert.OprojReferenceIdeal.main_arg6) = m ((c.tc : Thread Cert.OprojKernelIdeal.nD Cert.OprojKernelIdeal.τ).loc Cert.OprojKernelIdeal.main_arg6)) →
    ∃ (v0 : (c : Dev Cert.OprojKernelIdeal.nD) → Buf (Elt Ideal) ((c.tc : Thread Cert.OprojKernelIdeal.nD Cert.OprojKernelIdeal.τ).loc Cert.OprojKernelIdeal.main_v0_0)) (v1 : (c : Dev Cert.OprojKernelIdeal.nD) → Buf (Elt Ideal) ((c.tc : Thread Cert.OprojKernelIdeal.nD Cert.OprojKernelIdeal.τ).loc Cert.OprojKernelIdeal.main_v0_1)) (v2 : (c : Dev Cert.OprojKernelIdeal.nD) → Buf (Elt Ideal) ((c.tc : Thread Cert.OprojKernelIdeal.nD Cert.OprojKernelIdeal.τ).loc Cert.OprojKernelIdeal.main_v0_2)),
      θ_run (Cert.OprojKernelIdeal.defs (F := Ideal)) (onTc (τ := Cert.OprojKernelIdeal.τ) (Cert.OprojKernelIdeal.main (F := Ideal))) ⟨m, fun _ => 0, g⟩ (fun r => ∀ c : Dev Cert.OprojKernelIdeal.nD,
          r.2.mem ((c.tc : Thread Cert.OprojKernelIdeal.nD Cert.OprojKernelIdeal.τ).loc Cert.OprojKernelIdeal.main_v0_0) = v0 c
          ∧ r.2.mem ((c.tc : Thread Cert.OprojKernelIdeal.nD Cert.OprojKernelIdeal.τ).loc Cert.OprojKernelIdeal.main_v0_1) = v1 c
          ∧ r.2.mem ((c.tc : Thread Cert.OprojKernelIdeal.nD Cert.OprojKernelIdeal.τ).loc Cert.OprojKernelIdeal.main_v0_2) = v2 c
          ∧ r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
          ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
          ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
          ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
          ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
          ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
          ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v0_0) = v0 c
          ∧ r.2.mem ((c.tc : Thread Cert.OprojReferenceIdeal.nD Cert.OprojReferenceIdeal.τ).loc Cert.OprojReferenceIdeal.main_v0_1) = v1 c
          ∧ r.2.mem ((c.tc : Thread Cert.OprojReferenceIdeal.nD Cert.OprojReferenceIdeal.τ).loc Cert.OprojReferenceIdeal.main_v0_2) = v2 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5)
          ∧ r.2.mem ((c.tc : Thread Cert.OprojReferenceIdeal.nD Cert.OprojReferenceIdeal.τ).loc Cert.OprojReferenceIdeal.main_arg6) = m' ((c.tc : Thread Cert.OprojReferenceIdeal.nD Cert.OprojReferenceIdeal.τ).loc Cert.OprojReferenceIdeal.main_arg6))

def Claim : Prop :=
  ∃ (hKernel : Cert.Kernel.Facts) (hKernelIdeal : Cert.KernelIdeal.Facts) (hReferenceIdeal : Cert.ReferenceIdeal.Facts) (hSharedKernel : Cert.SharedKernel.Facts) (hSharedKernelIdeal : Cert.SharedKernelIdeal.Facts) (hSharedReferenceIdeal : Cert.SharedReferenceIdeal.Facts) (hTextKernel : Cert.TextKernel.Facts) (hTextKernelIdeal : Cert.TextKernelIdeal.Facts) (hTextReferenceIdeal : Cert.TextReferenceIdeal.Facts) (hOprojKernel : Cert.OprojKernel.Facts) (hOprojKernelIdeal : Cert.OprojKernelIdeal.Facts) (hOprojReferenceIdeal : Cert.OprojReferenceIdeal.Facts) (hPre_experts_exist : Cert.Pre_experts_exist.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal) (hPre_experts_exist := hPre_experts_exist)
    ∧ quiescent_SharedKernel (hSharedKernel := hSharedKernel)
    ∧ quiescent_SharedKernelIdeal (hSharedKernelIdeal := hSharedKernelIdeal)
    ∧ quiescent_SharedReferenceIdeal (hSharedReferenceIdeal := hSharedReferenceIdeal)
    ∧ quiescent_TextKernel (hTextKernel := hTextKernel)
    ∧ quiescent_TextKernelIdeal (hTextKernelIdeal := hTextKernelIdeal)
    ∧ quiescent_TextReferenceIdeal (hTextReferenceIdeal := hTextReferenceIdeal)
    ∧ quiescent_OprojKernel (hOprojKernel := hOprojKernel)
    ∧ quiescent_OprojKernelIdeal (hOprojKernelIdeal := hOprojKernelIdeal)
    ∧ quiescent_OprojReferenceIdeal (hOprojReferenceIdeal := hOprojReferenceIdeal)
    ∧ preserves_Kernel_KernelIdeal
    ∧ algebraic_KernelIdeal_ReferenceIdeal (hKernelIdeal := hKernelIdeal) (hReferenceIdeal := hReferenceIdeal) (hPre_experts_exist := hPre_experts_exist)
    ∧ preserves_SharedKernel_SharedKernelIdeal
    ∧ algebraic_SharedKernelIdeal_SharedReferenceIdeal (hSharedKernelIdeal := hSharedKernelIdeal) (hSharedReferenceIdeal := hSharedReferenceIdeal)
    ∧ preserves_TextKernel_TextKernelIdeal
    ∧ algebraic_TextKernelIdeal_TextReferenceIdeal (hTextKernelIdeal := hTextKernelIdeal) (hTextReferenceIdeal := hTextReferenceIdeal)
    ∧ preserves_OprojKernel_OprojKernelIdeal
    ∧ algebraic_OprojKernelIdeal_OprojReferenceIdeal (hOprojKernelIdeal := hOprojKernelIdeal) (hOprojReferenceIdeal := hOprojReferenceIdeal)
-- ==== Pre_experts_exist.lean ====
abbrev S8192x2560 : Shape := ⟨2, ![8192, 2560]⟩
abbrev S8192x128 : Shape := ⟨2, ![8192, 128]⟩
abbrev S4x2560x6912 : Shape := ⟨3, ![4, 2560, 6912]⟩
abbrev S4x1x6912 : Shape := ⟨3, ![4, 1, 6912]⟩
abbrev S4x6912x2560 : Shape := ⟨3, ![4, 6912, 2560]⟩
abbrev S4x1x2560 : Shape := ⟨3, ![4, 1, 2560]⟩
abbrev S8 : Shape := ⟨1, ![8]⟩
abbrev S12x8x2560 : Shape := ⟨3, ![12, 8, 2560]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S8192x2560 .fp8e4m3) (main_arg1 : FVec F S8192x128 .f32) (main_arg2 : FVec F S4x2560x6912 .fp8e4m3) (main_arg3 : FVec F S4x1x6912 .f32) (main_arg4 : FVec F S4x2560x6912 .fp8e4m3) (main_arg5 : FVec F S4x1x6912 .f32) (main_arg6 : FVec F S4x6912x2560 .fp8e4m3) (main_arg7 : FVec F S4x1x2560 .f32) (main_arg8 : IVec S8 32) (main_arg9 : FVec F S8192x2560 .f32) (main_arg10 : FVec F S12x8x2560 .f32) (main_arg11 : FVec F S8192x2560 .f32) : IVec S8 1 :=
  let main_c : IVec S_ 32 := constantI S_ 32 0#32
  let main_v0 : IVec S8 32 := broadcastInDim S8 ![] bcast_S_S8 main_c
  let main_v1 : IVec S8 1 := cmpi .sge main_arg8 main_v0
  let main_c_0 : IVec S_ 32 := constantI S_ 32 3#32
  let main_v2 : IVec S8 32 := broadcastInDim S8 ![] bcast_S_S8 main_c_0
  let main_v3 : IVec S8 1 := cmpi .sle main_arg8 main_v2
  let main_v4 : IVec S8 1 := andi main_v1 main_v3
  main_v4
-- ==== Kernel.lean ====
abbrev S8192x2560 : Shape := ⟨2, ![8192, 2560]⟩
abbrev S8192x128 : Shape := ⟨2, ![8192, 128]⟩
abbrev S4x2560x6912 : Shape := ⟨3, ![4, 2560, 6912]⟩
abbrev S4x1x6912 : Shape := ⟨3, ![4, 1, 6912]⟩
abbrev S4x6912x2560 : Shape := ⟨3, ![4, 6912, 2560]⟩
abbrev S4x1x2560 : Shape := ⟨3, ![4, 1, 2560]⟩
abbrev S8 : Shape := ⟨1, ![8]⟩
abbrev S12x8x2560 : Shape := ⟨3, ![12, 8, 2560]⟩
abbrev S8192x6912 : Shape := ⟨2, ![8192, 6912]⟩
abbrev S512x2560 : Shape := ⟨2, ![512, 2560]⟩
abbrev S512x128 : Shape := ⟨2, ![512, 128]⟩
abbrev S1x2560x768 : Shape := ⟨3, ![1, 2560, 768]⟩
abbrev S1 : Shape := ⟨1, ![1]⟩
abbrev S1x1x768 : Shape := ⟨3, ![1, 1, 768]⟩
abbrev S1x6912x512 : Shape := ⟨3, ![1, 6912, 512]⟩
abbrev S1x1x512 : Shape := ⟨3, ![1, 1, 512]⟩
abbrev S512x512 : Shape := ⟨2, ![512, 512]⟩
abbrev S12x8x512 : Shape := ⟨3, ![12, 8, 512]⟩
abbrev S512x6912 : Shape := ⟨2, ![512, 6912]⟩
abbrev S256x2560 : Shape := ⟨2, ![256, 2560]⟩
abbrev S1x2560x256 : Shape := ⟨3, ![1, 2560, 256]⟩
abbrev S2560x256 : Shape := ⟨2, ![2560, 256]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S32x6912 : Shape := ⟨2, ![32, 6912]⟩
abbrev S6912x512 : Shape := ⟨2, ![6912, 512]⟩
abbrev S512x1 : Shape := ⟨2, ![512, 1]⟩
abbrev S1x512 : Shape := ⟨2, ![1, 512]⟩

abbrev nBuf : Space → Nat
  | .hbm => 14
  | .vmem => 30
  | .smem => 1
  | _ => 0

abbrev bufTy : (tb : Table) → Fin (tcTables nBuf tb) → BufTy
  | .hbm, ⟨0, _⟩ => ⟨S8192x2560, .fp8e4m3⟩
  | .hbm, ⟨1, _⟩ => ⟨S8192x128, .f32⟩
  | .hbm, ⟨2, _⟩ => ⟨S4x2560x6912, .fp8e4m3⟩
  | .hbm, ⟨3, _⟩ => ⟨S4x1x6912, .f32⟩
  | .hbm, ⟨4, _⟩ => ⟨S4x2560x6912, .fp8e4m3⟩
  | .hbm, ⟨5, _⟩ => ⟨S4x1x6912, .f32⟩
  | .hbm, ⟨6, _⟩ => ⟨S4x6912x2560, .fp8e4m3⟩
  | .hbm, ⟨7, _⟩ => ⟨S4x1x2560, .f32⟩
  | .hbm, ⟨8, _⟩ => ⟨S8192x2560, .f32⟩
  | .hbm, ⟨9, _⟩ => ⟨S12x8x2560, .f32⟩
  | .hbm, ⟨10, _⟩ => ⟨S8192x2560, .f32⟩
  | .hbm, ⟨11, _⟩ => ⟨S8192x2560, .bf16⟩
  | .hbm, ⟨12, _⟩ => ⟨S8192x6912, .fp8e4m3⟩
  | .hbm, ⟨13, _⟩ => ⟨S8192x128, .f32⟩
  | .local _ .vmem, ⟨0, _⟩ => ⟨S512x2560, .fp8e4m3⟩
  | .local _ .vmem, ⟨1, _⟩ => ⟨S512x2560, .fp8e4m3⟩
  | .local _ .vmem, ⟨2, _⟩ => ⟨S512x128, .f32⟩
  | .local _ .vmem, ⟨3, _⟩ => ⟨S512x128, .f32⟩
  | .local _ .vmem, ⟨4, _⟩ => ⟨S1x2560x768, .fp8e4m3⟩
  | .local _ .vmem, ⟨5, _⟩ => ⟨S1x2560x768, .fp8e4m3⟩
  | .local _ .vmem, ⟨6, _⟩ => ⟨S1x1x768, .f32⟩
  | .local _ .vmem, ⟨7, _⟩ => ⟨S1x1x768, .f32⟩
  | .local _ .vmem, ⟨8, _⟩ => ⟨S1x2560x768, .fp8e4m3⟩
  | .local _ .vmem, ⟨9, _⟩ => ⟨S1x2560x768, .fp8e4m3⟩
  | .local _ .vmem, ⟨10, _⟩ => ⟨S1x1x768, .f32⟩
  | .local _ .vmem, ⟨11, _⟩ => ⟨S1x1x768, .f32⟩
  | .local _ .vmem, ⟨12, _⟩ => ⟨S1x6912x512, .fp8e4m3⟩
  | .local _ .vmem, ⟨13, _⟩ => ⟨S1x6912x512, .fp8e4m3⟩
  | .local _ .vmem, ⟨14, _⟩ => ⟨S1x1x512, .f32⟩
  | .local _ .vmem, ⟨15, _⟩ => ⟨S1x1x512, .f32⟩
  | .local _ .vmem, ⟨16, _⟩ => ⟨S512x512, .f32⟩
  | .local _ .vmem, ⟨17, _⟩ => ⟨S512x512, .f32⟩
  | .local _ .vmem, ⟨18, _⟩ => ⟨S12x8x512, .f32⟩
  | .local _ .vmem, ⟨19, _⟩ => ⟨S12x8x512, .f32⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x6912, .fp8e4m3⟩
  | .local _ .vmem, ⟨25, _⟩ => ⟨S512x6912, .fp8e4m3⟩
  | .local _ .vmem, ⟨26, _⟩ => ⟨S512x128, .f32⟩
  | .local _ .vmem, ⟨27, _⟩ => ⟨S512x128, .f32⟩
  | .local _ .vmem, ⟨28, _⟩ => ⟨S512x6912, .f32⟩
  | .local _ .vmem, ⟨29, _⟩ => ⟨S512x128, .f32⟩
  | .local _ .smem, ⟨0, _⟩ => ⟨S8, .i32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 14], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v17 : Index := Scalar.indexCast v16
  ![v17.toNat]
def k0_cond2 (i : grid0.Coords) : BitVec 1 :=
  let arg1 : BitVec 32 := BitVec.ofNat 32 (i 1).val
  let c9_i32 : BitVec 32 := 9#32
  let v20 : BitVec 1 := Scalar.cmpi .slt arg1 c9_i32
  let v21 : BitVec 32 := Scalar.extui v20
  let c0_i32_6 : BitVec 32 := 0#32
  let v22 : BitVec 1 := Scalar.cmpi .ne v21 c0_i32_6
  v22

def k0_mult1 (i : grid0.Coords) : BitVec 32 :=
  let arg1 : BitVec 32 := BitVec.ofNat 32 (i 1).val
  let c768_i32 : BitVec 32 := 768#32
  let v54 : BitVec 32 := Scalar.muli arg1 c768_i32
  let c0_i32_31 : BitVec 32 := 0#32
  let v55 : BitVec 32 := Scalar.addi v54 c0_i32_31
  v55
def k0_off2 (i : grid0.Coords) (c0_i32_31 : BitVec 32) : Fin 2 → Nat :=
  let c0_32 : Index := 0#32
  let arg1 : BitVec 32 := BitVec.ofNat 32 (i 1).val
  let c768_i32 : BitVec 32 := 768#32
  let v54 : BitVec 32 := Scalar.muli arg1 c768_i32
  let v55 : BitVec 32 := Scalar.addi v54 c0_i32_31
  let v56 : BitVec 32 := v55
  let v57 : Index := Scalar.indexCast v56
  ![0, v57.toNat]
def k0_mult2 (i : grid0.Coords) : BitVec 32 :=
  let arg1 : BitVec 32 := BitVec.ofNat 32 (i 1).val
  let c768_i32_58 : BitVec 32 := 768#32
  let v95 : BitVec 32 := Scalar.muli arg1 c768_i32_58
  let c0_i32_59 : BitVec 32 := 0#32
  let v96 : BitVec 32 := Scalar.addi v95 c0_i32_59
  v96
def k0_off3 (i : grid0.Coords) (c0_i32_59 : BitVec 32) : Fin 2 → Nat :=
  let c256_60 : Index := 256#32
  let arg1 : BitVec 32 := BitVec.ofNat 32 (i 1).val
  let c768_i32_58 : BitVec 32 := 768#32
  let v95 : BitVec 32 := Scalar.muli arg1 c768_i32_58
  let v96 : BitVec 32 := Scalar.addi v95 c0_i32_59
  let v97 : BitVec 32 := v96
  let v98 : Index := Scalar.indexCast v97
  ![256, v98.toNat]
def k0_mult3 (i : grid0.Coords) : BitVec 32 :=
  let arg1 : BitVec 32 := BitVec.ofNat 32 (i 1).val
  let c768_i32_87 : BitVec 32 := 768#32
  let v136 : BitVec 32 := Scalar.muli arg1 c768_i32_87
  let c256_i32 : BitVec 32 := 256#32
  let v137 : BitVec 32 := Scalar.addi v136 c256_i32
  v137
def k0_mult4 (i : grid0.Coords) : BitVec 32 :=
  let arg1 : BitVec 32 := BitVec.ofNat 32 (i 1).val
  let c768_i32_115 : BitVec 32 := 768#32
  let v177 : BitVec 32 := Scalar.muli arg1 c768_i32_115
  let c256_i32_116 : BitVec 32 := 256#32
  let v178 : BitVec 32 := Scalar.addi v177 c256_i32_116
  v178
def k0_mult5 (i : grid0.Coords) : BitVec 32 :=
  let arg1 : BitVec 32 := BitVec.ofNat 32 (i 1).val
  let c768_i32_143 : BitVec 32 := 768#32
  let v218 : BitVec 32 := Scalar.muli arg1 c768_i32_143
  let c512_i32 : BitVec 32 := 512#32
  let v219 : BitVec 32 := Scalar.addi v218 c512_i32
  v219
def k0_mult6 (i : grid0.Coords) : BitVec 32 :=
  let arg1 : BitVec 32 := BitVec.ofNat 32 (i 1).val
  let c768_i32_171 : BitVec 32 := 768#32
  let v259 : BitVec 32 := Scalar.muli arg1 c768_i32_171
  let c512_i32_172 : BitVec 32 := 512#32
  let v260 : BitVec 32 := Scalar.addi v259 c512_i32_172
  v260
def k0_cond3 (i : grid0.Coords) : BitVec 1 :=
  let arg1 : BitVec 32 := BitVec.ofNat 32 (i 1).val
  let c9_i32_7 : BitVec 32 := 9#32
  let v23 : BitVec 1 := Scalar.cmpi .eq arg1 c9_i32_7
  let v24 : BitVec 32 := Scalar.extui v23
  let c0_i32_8 : BitVec 32 := 0#32
  let v25 : BitVec 1 := Scalar.cmpi .ne v24 c0_i32_8
  v25

@[reducible] def k0_t1_loop : Scf.Loop 32 :=
  let c0_i32_11 : BitVec 32 := 0#32
  let c16_i32 : BitVec 32 := 16#32
  let v29 : BitVec 32 := Scalar.addi c0_i32_11 c16_i32
  let c1_i32_12 : BitVec 32 := 1#32
  ⟨c0_i32_11, v29, c1_i32_12⟩
def k0_mult7 (k0_t1 : Fin k0_t1_loop.trips) : BitVec 32 :=
  let c0_i32_11 : BitVec 32 := 0#32
  let c1_i32_12 : BitVec 32 := 1#32
  let arg19 : BitVec 32 := Scf.iv c0_i32_11 c1_i32_12 k0_t1
  let c32_i32 : BitVec 32 := 32#32
  let v30 : BitVec 32 := Scalar.muli arg19 c32_i32
  v30
def k0_off4 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let c32_i32 : BitVec 32 := 32#32
  let v30 : BitVec 32 := Scalar.muli arg19 c32_i32
  let v31 : BitVec 32 := v30
  let v32 : Index := Scalar.indexCast v31
  let c0 : Index := 0#32
  ![v32.toNat, 0]
def k0_off5 (k0_t1 : Fin k0_t1_loop.trips) : Fin 2 → Nat :=
  let c0_i32_11 : BitVec 32 := 0#32
  let c1_i32_12 : BitVec 32 := 1#32
  let arg19 : BitVec 32 := Scf.iv c0_i32_11 c1_i32_12 k0_t1
  let c32_i32 : BitVec 32 := 32#32
  let v30 : BitVec 32 := Scalar.muli arg19 c32_i32
  let v31 : BitVec 32 := v30
  let v46 : Index := Scalar.indexCast v31
  let c0_18 : Index := 0#32
  ![v46.toNat, 0]
def k0_cond4 (i : grid0.Coords) : BitVec 1 :=
  let arg1 : BitVec 32 := BitVec.ofNat 32 (i 1).val
  let c9_i32_9 : BitVec 32 := 9#32
  let v26 : BitVec 1 := Scalar.cmpi .sge arg1 c9_i32_9
  let v27 : BitVec 32 := Scalar.extui v26
  let c0_i32_10 : BitVec 32 := 0#32
  let v28 : BitVec 1 := Scalar.cmpi .ne v27 c0_i32_10
  v28

def k0_off6 (i : grid0.Coords) : Fin 3 → Nat :=
  let c5 : Index := 5#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v44 : Index := Scalar.indexCast v16
  let c0_22 : Index := 0#32
  ![5, v44.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_4 : BitVec 32 := 0#32
  let c0_i32_5 : BitVec 32 := 0#32
  ![v18.toNat, c0_i32_4.toNat, v19.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_4 : BitVec 32 := 0#32
  let c0_i32_5 : BitVec 32 := 0#32
  ![v18.toNat, c0_i32_4.toNat, v19.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_4 : BitVec 32 := 0#32
  let c0_i32_5 : BitVec 32 := 0#32
  ![v18.toNat, c0_i32_4.toNat, v19.toNat]

def cc0_transform_5 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_4 : BitVec 32 := 0#32
  let c0_i32_5 : BitVec 32 := 0#32
  ![v18.toNat, c0_i32_4.toNat, v19.toNat]

def cc0_transform_6 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c9_i32 : BitVec 32 := 9#32
  let v19 : BitVec 32 := Scalar.subi arg1 c9_i32
  let c0_i32_4 : BitVec 32 := 0#32
  let v20 : BitVec 32 := Scalar.maxsi v19 c0_i32_4
  let c0_i32_5 : BitVec 32 := 0#32
  let c0_i32_6 : BitVec 32 := 0#32
  ![v18.toNat, c0_i32_5.toNat, v20.toNat]

def cc0_transform_7 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c9_i32 : BitVec 32 := 9#32
  let v19 : BitVec 32 := Scalar.subi arg1 c9_i32
  let c0_i32_4 : BitVec 32 := 0#32
  let v20 : BitVec 32 := Scalar.maxsi v19 c0_i32_4
  let c0_i32_5 : BitVec 32 := 0#32
  let c0_i32_6 : BitVec 32 := 0#32
  ![v18.toNat, c0_i32_5.toNat, v20.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![arg0.toNat, v1.toNat]

def cc0_transform_9 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![arg0.toNat, v1.toNat]

def cc0_transform_11 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![arg0.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2560x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2560x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6912x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S12x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x6912 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8192x2560 : Shape := ⟨2, ![8192, 2560]⟩
abbrev S8192x128 : Shape := ⟨2, ![8192, 128]⟩
abbrev S4x2560x6912 : Shape := ⟨3, ![4, 2560, 6912]⟩
abbrev S4x1x6912 : Shape := ⟨3, ![4, 1, 6912]⟩
abbrev S4x6912x2560 : Shape := ⟨3, ![4, 6912, 2560]⟩
abbrev S4x1x2560 : Shape := ⟨3, ![4, 1, 2560]⟩
abbrev S8 : Shape := ⟨1, ![8]⟩
abbrev S12x8x2560 : Shape := ⟨3, ![12, 8, 2560]⟩
abbrev S8192x6912 : Shape := ⟨2, ![8192, 6912]⟩
abbrev S1 : Shape := ⟨1, ![1]⟩
abbrev S1024x2560 : Shape := ⟨2, ![1024, 2560]⟩
abbrev S1024x1 : Shape := ⟨2, ![1024, 1]⟩
abbrev S1x2560x6912 : Shape := ⟨3, ![1, 2560, 6912]⟩
abbrev S2560x6912 : Shape := ⟨2, ![2560, 6912]⟩
abbrev S1x1x6912 : Shape := ⟨3, ![1, 1, 6912]⟩
abbrev S1x6912 : Shape := ⟨2, ![1, 6912]⟩
abbrev S1024x6912 : Shape := ⟨2, ![1024, 6912]⟩
abbrev S1024 : Shape := ⟨1, ![1024]⟩
abbrev S1x6912x2560 : Shape := ⟨3, ![1, 6912, 2560]⟩
abbrev S6912x2560 : Shape := ⟨2, ![6912, 2560]⟩
abbrev S1x1x2560 : Shape := ⟨3, ![1, 1, 2560]⟩
abbrev S1x2560 : Shape := ⟨2, ![1, 2560]⟩
abbrev S1024x128 : Shape := ⟨2, ![1024, 128]⟩

abbrev nBuf : Space → Nat
  | .hbm => 15
  | .vmem => 14
  | .smem => 1
  | _ => 0

abbrev bufTy : (tb : Table) → Fin (tcTables nBuf tb) → BufTy
  | .hbm, ⟨0, _⟩ => ⟨S8192x2560, .fp8e4m3⟩
  | .hbm, ⟨1, _⟩ => ⟨S8192x128, .f32⟩
  | .hbm, ⟨2, _⟩ => ⟨S4x2560x6912, .fp8e4m3⟩
  | .hbm, ⟨3, _⟩ => ⟨S4x1x6912, .f32⟩
  | .hbm, ⟨4, _⟩ => ⟨S4x2560x6912, .fp8e4m3⟩
  | .hbm, ⟨5, _⟩ => ⟨S4x1x6912, .f32⟩
  | .hbm, ⟨6, _⟩ => ⟨S4x6912x2560, .fp8e4m3⟩
  | .hbm, ⟨7, _⟩ => ⟨S4x1x2560, .f32⟩
  | .hbm, ⟨8, _⟩ => ⟨S8, .i32⟩
  | .hbm, ⟨9, _⟩ => ⟨S8192x2560, .f32⟩
  | .hbm, ⟨10, _⟩ => ⟨S12x8x2560, .f32⟩
  | .hbm, ⟨11, _⟩ => ⟨S8192x2560, .f32⟩
  | .hbm, ⟨12, _⟩ => ⟨S8192x2560, .bf16⟩
  | .hbm, ⟨13, _⟩ => ⟨S8192x6912, .fp8e4m3⟩
  | .hbm, ⟨14, _⟩ => ⟨S8192x128, .f32⟩
  | .local _ .vmem, ⟨0, _⟩ => ⟨S8192x2560, .fp8e4m3⟩
  | .local _ .vmem, ⟨1, _⟩ => ⟨S8192x128, .f32⟩
  | .local _ .vmem, ⟨2, _⟩ => ⟨S4x2560x6912, .fp8e4m3⟩
  | .local _ .vmem, ⟨3, _⟩ => ⟨S4x1x6912, .f32⟩
  | .local _ .vmem, ⟨4, _⟩ => ⟨S4x2560x6912, .fp8e4m3⟩
  | .local _ .vmem, ⟨5, _⟩ => ⟨S4x1x6912, .f32⟩
  | .local _ .vmem, ⟨6, _⟩ => ⟨S4x6912x2560, .fp8e4m3⟩
  | .local _ .vmem, ⟨7, _⟩ => ⟨S4x1x2560, .f32⟩
  | .local _ .vmem, ⟨8, _⟩ => ⟨S8192x2560, .f32⟩
  | .local _ .vmem, ⟨9, _⟩ => ⟨S12x8x2560, .f32⟩
  | .local _ .vmem, ⟨10, _⟩ => ⟨S8192x2560, .f32⟩
  | .local _ .vmem, ⟨11, _⟩ => ⟨S8192x2560, .bf16⟩
  | .local _ .vmem, ⟨12, _⟩ => ⟨S8192x6912, .fp8e4m3⟩
  | .local _ .vmem, ⟨13, _⟩ => ⟨S8192x128, .f32⟩
  | .local _ .smem, ⟨0, _⟩ => ⟨S8, .i32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c1024_i32 : BitVec 32 := 1024#32
  let v1 : BitVec 32 := Scalar.muli arg15 c1024_i32
  v1
def k0_off1 (k0_t1 : Fin k0_t1_loop.trips) : Fin 1 → Nat :=
  let c0_i32 : BitVec 32 := 0#32
  let c1_i32 : BitVec 32 := 1#32
  let arg15 : BitVec 32 := Scf.iv c0_i32 c1_i32 k0_t1
  let v3 : Index := Scalar.indexCast arg15
  ![v3.toNat]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1024_i32 : BitVec 32 := 1024#32
  let v1 : BitVec 32 := Scalar.muli arg15 c1024_i32
  let v2 : BitVec 32 := v1
  let v5 : Index := Scalar.indexCast v2
  let c0 : Index := 0#32
  ![v5.toNat, 0]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1024_i32 : BitVec 32 := 1024#32
  let v1 : BitVec 32 := Scalar.muli arg15 c1024_i32
  let v2 : BitVec 32 := v1
  let v7 : Index := Scalar.indexCast v2
  let c0_1 : Index := 0#32
  ![v7.toNat, 0]
def k0_off4 (v4 : BitVec 32) : Fin 3 → Nat :=
  let v9 : Index := Scalar.indexCast v4
  let c0_2 : Index := 0#32
  let c0_3 : Index := 0#32
  ![v9.toNat, 0, 0]

def k0_off5 (v4 : BitVec 32) : Fin 3 → Nat :=
  let v12 : Index := Scalar.indexCast v4
  let c0_4 : Index := 0#32
  let c0_5 : Index := 0#32
  ![v12.toNat, 0, 0]
def k0_off6 (v4 : BitVec 32) : Fin 3 → Nat :=
  let v50 : Index := Scalar.indexCast v4
  let c0_17 : Index := 0#32
  let c0_18 : Index := 0#32
  ![v50.toNat, 0, 0]
def k0_off7 (v4 : BitVec 32) : Fin 3 → Nat :=
  let v53 : Index := Scalar.indexCast v4
  let c0_19 : Index := 0#32
  let c0_20 : Index := 0#32
  ![v53.toNat, 0, 0]

def k0_chk1 (v4 : BitVec 32) : Prop :=
  (∀ a, (k0_off4 v4) a + S1x2560x6912.size a ≤ S4x2560x6912.size a) ∧
  (∀ a, (k0_off5 v4) a + S1x1x6912.size a ≤ S4x1x6912.size a) ∧
  (∀ a, (k0_off6 v4) a + S1x6912x2560.size a ≤ S4x6912x2560.size a) ∧
  (∀ a, (k0_off7 v4) a + S1x1x2560.size a ≤ S4x1x2560.size a)
theorem k0_off4_inb : ∀ (v4 : BitVec 32) (k0_hw1 : k0_chk1 v4), ∀ a, (k0_off4 v4) a + S1x2560x6912.size a ≤ S4x2560x6912.size a := fun v4 k0_hw1 => k0_hw1.1
theorem k0_off5_inb : ∀ (v4 : BitVec 32) (k0_hw1 : k0_chk1 v4), ∀ a, (k0_off5 v4) a + S1x1x6912.size a ≤ S4x1x6912.size a := fun v4 k0_hw1 => k0_hw1.2.1
theorem k0_off6_inb : ∀ (v4 : BitVec 32) (k0_hw1 : k0_chk1 v4), ∀ a, (k0_off6 v4) a + S1x6912x2560.size a ≤ S4x6912x2560.size a := fun v4 k0_hw1 => k0_hw1.2.2.1
theorem k0_off7_inb : ∀ (v4 : BitVec 32) (k0_hw1 : k0_chk1 v4), ∀ a, (k0_off7 v4) a + S1x1x2560.size a ≤ S4x1x2560.size a := fun v4 k0_hw1 => k0_hw1.2.2.2

def k0_off8 (k0_t1 : Fin k0_t1_loop.trips) : Fin 3 → Nat :=
  let c5 : Index := 5#32
  let c0_i32 : BitVec 32 := 0#32
  let c1_i32 : BitVec 32 := 1#32
  let arg15 : BitVec 32 := Scf.iv c0_i32 c1_i32 k0_t1
  let v61 : Index := Scalar.indexCast arg15
  let c0_22 : Index := 0#32
  ![5, v61.toNat, 0]
def k0_off9 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1024_i32 : BitVec 32 := 1024#32
  let v1 : BitVec 32 := Scalar.muli arg15 c1024_i32
  let v2 : BitVec 32 := v1
  let v64 : Index := Scalar.indexCast v2
  let c0_23 : Index := 0#32
  ![v64.toNat, 0]
def k0_off10 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1024_i32 : BitVec 32 := 1024#32
  let v1 : BitVec 32 := Scalar.muli arg15 c1024_i32
  let v2 : BitVec 32 := v1
  let v68 : Index := Scalar.indexCast v2
  let c0_24 : Index := 0#32
  ![v68.toNat, 0]
def k0_off11 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1024_i32 : BitVec 32 := 1024#32
  let v1 : BitVec 32 := Scalar.muli arg15 c1024_i32
  let v2 : BitVec 32 := v1
  let v70 : Index := Scalar.indexCast v2
  let c0_25 : Index := 0#32
  ![v70.toNat, 0]
abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2560x6912 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2560x6912 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x6912x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x8x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8192x6912 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SharedKernel.lean ====
abbrev S8192x2560 : Shape := ⟨2, ![8192, 2560]⟩
abbrev S8192x128 : Shape := ⟨2, ![8192, 128]⟩
abbrev S1x2560x3584 : Shape := ⟨3, ![1, 2560, 3584]⟩
abbrev S1x1x3584 : Shape := ⟨3, ![1, 1, 3584]⟩
abbrev S1x3584x2560 : Shape := ⟨3, ![1, 3584, 2560]⟩
abbrev S1x1x2560 : Shape := ⟨3, ![1, 1, 2560]⟩
abbrev S_ : Shape := ⟨0, ![]⟩
abbrev S8 : Shape := ⟨1, ![8]⟩
abbrev S8192x3584 : Shape := ⟨2, ![8192, 3584]⟩
abbrev S512x2560 : Shape := ⟨2, ![512, 2560]⟩
abbrev S512x128 : Shape := ⟨2, ![512, 128]⟩
abbrev S1x2560x512 : Shape := ⟨3, ![1, 2560, 512]⟩
abbrev S1 : Shape := ⟨1, ![1]⟩
abbrev S1x1x512 : Shape := ⟨3, ![1, 1, 512]⟩
abbrev S1x3584x512 : Shape := ⟨3, ![1, 3584, 512]⟩
abbrev S512x512 : Shape := ⟨2, ![512, 512]⟩
abbrev S512x3584 : Shape := ⟨2, ![512, 3584]⟩
abbrev S256x2560 : Shape := ⟨2, ![256, 2560]⟩
abbrev S1x2560x256 : Shape := ⟨3, ![1, 2560, 256]⟩
abbrev S2560x256 : Shape := ⟨2, ![2560, 256]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S32x3584 : Shape := ⟨2, ![32, 3584]⟩
abbrev S3584x512 : Shape := ⟨2, ![3584, 512]⟩
abbrev S512x1 : Shape := ⟨2, ![512, 1]⟩
abbrev S1x512 : Shape := ⟨2, ![1, 512]⟩

abbrev nBuf : Space → Nat
  | .hbm => 12
  | .vmem => 24
  | .smem => 1
  | _ => 0

abbrev bufTy : (tb : Table) → Fin (tcTables nBuf tb) → BufTy
  | .hbm, ⟨0, _⟩ => ⟨S8192x2560, .fp8e4m3⟩
  | .hbm, ⟨1, _⟩ => ⟨S8192x128, .f32⟩
  | .hbm, ⟨2, _⟩ => ⟨S1x2560x3584, .fp8e4m3⟩
  | .hbm, ⟨3, _⟩ => ⟨S1x1x3584, .f32⟩
  | .hbm, ⟨4, _⟩ => ⟨S1x2560x3584, .fp8e4m3⟩
  | .hbm, ⟨5, _⟩ => ⟨S1x1x3584, .f32⟩
  | .hbm, ⟨6, _⟩ => ⟨S1x3584x2560, .fp8e4m3⟩
  | .hbm, ⟨7, _⟩ => ⟨S1x1x2560, .f32⟩
  | .hbm, ⟨8, _⟩ => ⟨S_, .i32⟩
  | .hbm, ⟨9, _⟩ => ⟨S8192x2560, .f32⟩
  | .hbm, ⟨10, _⟩ => ⟨S8192x3584, .fp8e4m3⟩
  | .hbm, ⟨11, _⟩ => ⟨S8192x128, .f32⟩
  | .local _ .vmem, ⟨0, _⟩ => ⟨S512x2560, .fp8e4m3⟩
  | .local _ .vmem, ⟨1, _⟩ => ⟨S512x2560, .fp8e4m3⟩
  | .local _ .vmem, ⟨2, _⟩ => ⟨S512x128, .f32⟩
  | .local _ .vmem, ⟨3, _⟩ => ⟨S512x128, .f32⟩
  | .local _ .vmem, ⟨4, _⟩ => ⟨S1x2560x512, .fp8e4m3⟩
  | .local _ .vmem, ⟨5, _⟩ => ⟨S1x2560x512, .fp8e4m3⟩
  | .local _ .vmem, ⟨6, _⟩ => ⟨S1x1x512, .f32⟩
  | .local _ .vmem, ⟨7, _⟩ => ⟨S1x1x512, .f32⟩
  | .local _ .vmem, ⟨8, _⟩ => ⟨S1x2560x512, .fp8e4m3⟩
  | .local _ .vmem, ⟨9, _⟩ => ⟨S1x2560x512, .fp8e4m3⟩
  | .local _ .vmem, ⟨10, _⟩ => ⟨S1x1x512, .f32⟩
  | .local _ .vmem, ⟨11, _⟩ => ⟨S1x1x512, .f32⟩
  | .local _ .vmem, ⟨12, _⟩ => ⟨S1x3584x512, .fp8e4m3⟩
  | .local _ .vmem, ⟨13, _⟩ => ⟨S1x3584x512, .fp8e4m3⟩
  | .local _ .vmem, ⟨14, _⟩ => ⟨S1x1x512, .f32⟩
  | .local _ .vmem, ⟨15, _⟩ => ⟨S1x1x512, .f32⟩
  | .local _ .vmem, ⟨16, _⟩ => ⟨S512x512, .f32⟩
  | .local _ .vmem, ⟨17, _⟩ => ⟨S512x512, .f32⟩
  | .local _ .vmem, ⟨18, _⟩ => ⟨S512x3584, .fp8e4m3⟩
  | .local _ .vmem, ⟨19, _⟩ => ⟨S512x3584, .fp8e4m3⟩
  | .local _ .vmem, ⟨20, _⟩ => ⟨S512x128, .f32⟩
  | .local _ .vmem, ⟨21, _⟩ => ⟨S512x128, .f32⟩
  | .local _ .vmem, ⟨22, _⟩ => ⟨S512x3584, .f32⟩
  | .local _ .vmem, ⟨23, _⟩ => ⟨S512x128, .f32⟩
  | .local _ .smem, ⟨0, _⟩ => ⟨S8, .i32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 12], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v17 : Index := Scalar.indexCast v16
  ![v17.toNat]
def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v37 : BitVec 32 := Scalar.muli arg1 c512_i32
  let c0_i32_26 : BitVec 32 := 0#32
  let v38 : BitVec 32 := Scalar.addi v37 c0_i32_26
  v38
def k0_off2 (i : grid0.Coords) (c0_i32_26 : BitVec 32) : Fin 2 → Nat :=
  let c0_27 : Index := 0#32
  let arg1 : BitVec 32 := BitVec.ofNat 32 (i 1).val
  let c512_i32 : BitVec 32 := 512#32
  let v37 : BitVec 32 := Scalar.muli arg1 c512_i32
  let v38 : BitVec 32 := Scalar.addi v37 c0_i32_26
  let v39 : BitVec 32 := v38
  let v40 : Index := Scalar.indexCast v39
  ![0, v40.toNat]
def k0_mult2 (i : grid0.Coords) : BitVec 32 :=
  let arg1 : BitVec 32 := BitVec.ofNat 32 (i 1).val
  let c512_i32_53 : BitVec 32 := 512#32
  let v78 : BitVec 32 := Scalar.muli arg1 c512_i32_53
  let c0_i32_54 : BitVec 32 := 0#32
  let v79 : BitVec 32 := Scalar.addi v78 c0_i32_54
  v79
def k0_off3 (i : grid0.Coords) (c0_i32_54 : BitVec 32) : Fin 2 → Nat :=
  let c256_55 : Index := 256#32
  let arg1 : BitVec 32 := BitVec.ofNat 32 (i 1).val
  let c512_i32_53 : BitVec 32 := 512#32
  let v78 : BitVec 32 := Scalar.muli arg1 c512_i32_53
  let v79 : BitVec 32 := Scalar.addi v78 c0_i32_54
  let v80 : BitVec 32 := v79
  let v81 : Index := Scalar.indexCast v80
  ![256, v81.toNat]
def k0_mult3 (i : grid0.Coords) : BitVec 32 :=
  let arg1 : BitVec 32 := BitVec.ofNat 32 (i 1).val
  let c512_i32_82 : BitVec 32 := 512#32
  let v119 : BitVec 32 := Scalar.muli arg1 c512_i32_82
  let c256_i32 : BitVec 32 := 256#32
  let v120 : BitVec 32 := Scalar.addi v119 c256_i32
  v120
def k0_mult4 (i : grid0.Coords) : BitVec 32 :=
  let arg1 : BitVec 32 := BitVec.ofNat 32 (i 1).val
  let c512_i32_110 : BitVec 32 := 512#32
  let v160 : BitVec 32 := Scalar.muli arg1 c512_i32_110
  let c256_i32_111 : BitVec 32 := 256#32
  let v161 : BitVec 32 := Scalar.addi v160 c256_i32_111
  v161
def k0_cond3 (i : grid0.Coords) : BitVec 1 :=
  let arg1 : BitVec 32 := BitVec.ofNat 32 (i 1).val
  let c7_i32_2 : BitVec 32 := 7#32
  let v6 : BitVec 1 := Scalar.cmpi .eq arg1 c7_i32_2
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_6 : BitVec 32 := 0#32
  let c16_i32 : BitVec 32 := 16#32
  let v12 : BitVec 32 := Scalar.addi c0_i32_6 c16_i32
  let c1_i32 : BitVec 32 := 1#32
  ⟨c0_i32_6, v12, c1_i32⟩
def k0_mult5 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c32_i32 : BitVec 32 := 32#32
  let v13 : BitVec 32 := Scalar.muli arg16 c32_i32
  v13
def k0_off4 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c32_i32 : BitVec 32 := 32#32
  let v13 : BitVec 32 := Scalar.muli arg16 c32_i32
  let v14 : BitVec 32 := v13
  let v15 : Index := Scalar.indexCast v14
  let c0 : Index := 0#32
  ![v15.toNat, 0]
def k0_off5 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c32_i32 : BitVec 32 := 32#32
  let v13 : BitVec 32 := Scalar.muli arg16 c32_i32
  let v14 : BitVec 32 := v13
  let v29 : Index := Scalar.indexCast v14
  let c0_12 : Index := 0#32
  ![v29.toNat, 0]
def k0_cond4 (i : grid0.Coords) : BitVec 1 :=
  let arg1 : BitVec 32 := BitVec.ofNat 32 (i 1).val
  let c7_i32_4 : BitVec 32 := 7#32
  let v9 : BitVec 1 := Scalar.cmpi .sge arg1 c7_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c6_i32 : BitVec 32 := 6#32
  let v19 : BitVec 32 := Scalar.minsi arg1 c6_i32
  let c0_i32_4 : BitVec 32 := 0#32
  let c0_i32_5 : BitVec 32 := 0#32
  ![v18.toNat, c0_i32_4.toNat, v19.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c6_i32 : BitVec 32 := 6#32
  let v19 : BitVec 32 := Scalar.minsi arg1 c6_i32
  let c0_i32_4 : BitVec 32 := 0#32
  let c0_i32_5 : BitVec 32 := 0#32
  ![v18.toNat, c0_i32_4.toNat, v19.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c6_i32 : BitVec 32 := 6#32
  let v19 : BitVec 32 := Scalar.minsi arg1 c6_i32
  let c0_i32_4 : BitVec 32 := 0#32
  let c0_i32_5 : BitVec 32 := 0#32
  ![v18.toNat, c0_i32_4.toNat, v19.toNat]

def cc0_transform_5 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c6_i32 : BitVec 32 := 6#32
  let v19 : BitVec 32 := Scalar.minsi arg1 c6_i32
  let c0_i32_4 : BitVec 32 := 0#32
  let c0_i32_5 : BitVec 32 := 0#32
  ![v18.toNat, c0_i32_4.toNat, v19.toNat]

def cc0_transform_6 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c7_i32 : BitVec 32 := 7#32
  let v19 : BitVec 32 := Scalar.subi arg1 c7_i32
  let c0_i32_4 : BitVec 32 := 0#32
  let v20 : BitVec 32 := Scalar.maxsi v19 c0_i32_4
  let c0_i32_5 : BitVec 32 := 0#32
  let c0_i32_6 : BitVec 32 := 0#32
  ![v18.toNat, c0_i32_5.toNat, v20.toNat]

def cc0_transform_7 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S8) ![v17.toNat] S1.size (k0_off1_inb i)) numel1_S1
  let c7_i32 : BitVec 32 := 7#32
  let v19 : BitVec 32 := Scalar.subi arg1 c7_i32
  let c0_i32_4 : BitVec 32 := 0#32
  let v20 : BitVec 32 := Scalar.maxsi v19 c0_i32_4
  let c0_i32_5 : BitVec 32 := 0#32
  let c0_i32_6 : BitVec 32 := 0#32
  ![v18.toNat, c0_i32_5.toNat, v20.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  ![arg0.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2560x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2560x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3584x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x3584 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== SharedReferenceIdeal.lean ====
abbrev S8192x2560 : Shape := ⟨2, ![8192, 2560]⟩
abbrev S8192x128 : Shape := ⟨2, ![8192, 128]⟩
abbrev S1x2560x3584 : Shape := ⟨3, ![1, 2560, 3584]⟩
abbrev S1x1x3584 : Shape := ⟨3, ![1, 1, 3584]⟩
abbrev S1x3584x2560 : Shape := ⟨3, ![1, 3584, 2560]⟩
abbrev S1x1x2560 : Shape := ⟨3, ![1, 1, 2560]⟩
abbrev S8192x3584 : Shape := ⟨2, ![8192, 3584]⟩
abbrev S8192x1 : Shape := ⟨2, ![8192, 1]⟩
abbrev S2560x3584 : Shape := ⟨2, ![2560, 3584]⟩
abbrev S1x3584 : Shape := ⟨2, ![1, 3584]⟩
abbrev S8192 : Shape := ⟨1, ![8192]⟩
abbrev S3584x2560 : Shape := ⟨2, ![3584, 2560]⟩
abbrev S1x2560 : Shape := ⟨2, ![1, 2560]⟩

abbrev nBuf : Space → Nat
  | .hbm => 11
  | .vmem => 11
  | .smem => 0
  | _ => 0

abbrev bufTy : (tb : Table) → Fin (tcTables nBuf tb) → BufTy
  | .hbm, ⟨0, _⟩ => ⟨S8192x2560, .fp8e4m3⟩
  | .hbm, ⟨1, _⟩ => ⟨S8192x128, .f32⟩
  | .hbm, ⟨2, _⟩ => ⟨S1x2560x3584, .fp8e4m3⟩
  | .hbm, ⟨3, _⟩ => ⟨S1x1x3584, .f32⟩
  | .hbm, ⟨4, _⟩ => ⟨S1x2560x3584, .fp8e4m3⟩
  | .hbm, ⟨5, _⟩ => ⟨S1x1x3584, .f32⟩
  | .hbm, ⟨6, _⟩ => ⟨S1x3584x2560, .fp8e4m3⟩
  | .hbm, ⟨7, _⟩ => ⟨S1x1x2560, .f32⟩
  | .hbm, ⟨8, _⟩ => ⟨S8192x2560, .f32⟩
  | .hbm, ⟨9, _⟩ => ⟨S8192x3584, .fp8e4m3⟩
  | .hbm, ⟨10, _⟩ => ⟨S8192x128, .f32⟩
  | .local _ .vmem, ⟨0, _⟩ => ⟨S8192x2560, .fp8e4m3⟩
  | .local _ .vmem, ⟨1, _⟩ => ⟨S8192x128, .f32⟩
  | .local _ .vmem, ⟨2, _⟩ => ⟨S1x2560x3584, .fp8e4m3⟩
  | .local _ .vmem, ⟨3, _⟩ => ⟨S1x1x3584, .f32⟩
  | .local _ .vmem, ⟨4, _⟩ => ⟨S1x2560x3584, .fp8e4m3⟩
  | .local _ .vmem, ⟨5, _⟩ => ⟨S1x1x3584, .f32⟩
  | .local _ .vmem, ⟨6, _⟩ => ⟨S1x3584x2560, .fp8e4m3⟩
  | .local _ .vmem, ⟨7, _⟩ => ⟨S1x1x2560, .f32⟩
  | .local _ .vmem, ⟨8, _⟩ => ⟨S8192x2560, .f32⟩
  | .local _ .vmem, ⟨9, _⟩ => ⟨S8192x3584, .fp8e4m3⟩
  | .local _ .vmem, ⟨10, _⟩ => ⟨S8192x128, .f32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3584x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== TextKernel.lean ====
abbrev S2048x2560 : Shape := ⟨2, ![2048, 2560]⟩
abbrev S2048x128 : Shape := ⟨2, ![2048, 128]⟩
abbrev S1x2560x6912 : Shape := ⟨3, ![1, 2560, 6912]⟩
abbrev S1x1x6912 : Shape := ⟨3, ![1, 1, 6912]⟩
abbrev S1x6912x2560 : Shape := ⟨3, ![1, 6912, 2560]⟩
abbrev S1x1x2560 : Shape := ⟨3, ![1, 1, 2560]⟩
abbrev S12x8x2560 : Shape := ⟨3, ![12, 8, 2560]⟩
abbrev S_ : Shape := ⟨0, ![]⟩
abbrev S8 : Shape := ⟨1, ![8]⟩
abbrev S2048x6912 : Shape := ⟨2, ![2048, 6912]⟩
abbrev S256x2560 : Shape := ⟨2, ![256, 2560]⟩
abbrev S256x128 : Shape := ⟨2, ![256, 128]⟩
abbrev S1x2560x768 : Shape := ⟨3, ![1, 2560, 768]⟩
abbrev S1 : Shape := ⟨1, ![1]⟩
abbrev S1x1x768 : Shape := ⟨3, ![1, 1, 768]⟩
abbrev S1x6912x512 : Shape := ⟨3, ![1, 6912, 512]⟩
abbrev S1x1x512 : Shape := ⟨3, ![1, 1, 512]⟩
abbrev S256x512 : Shape := ⟨2, ![256, 512]⟩
abbrev S12x8x512 : Shape := ⟨3, ![12, 8, 512]⟩
abbrev S256x6912 : Shape := ⟨2, ![256, 6912]⟩
abbrev S1x2560x256 : Shape := ⟨3, ![1, 2560, 256]⟩
abbrev S2560x256 : Shape := ⟨2, ![2560, 256]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S32x128 : Shape := ⟨2, ![32, 128]⟩
abbrev S32 : Shape := ⟨1, ![32]⟩
abbrev S32x1 : Shape := ⟨2, ![32, 1]⟩
abbrev S32x6912 : Shape := ⟨2, ![32, 6912]⟩
abbrev S6912x512 : Shape := ⟨2, ![6912, 512]⟩
abbrev S1x512 : Shape := ⟨2, ![1, 512]⟩

abbrev nBuf : Space → Nat
  | .hbm => 14
  | .vmem => 28
  | .smem => 1
  | _ => 0

abbrev bufTy : (tb : Table) → Fin (tcTables nBuf tb) → BufTy
  | .hbm, ⟨0, _⟩ => ⟨S2048x2560, .fp8e4m3⟩
  | .hbm, ⟨1, _⟩ => ⟨S2048x128, .f32⟩
  | .hbm, ⟨2, _⟩ => ⟨S1x2560x6912, .fp8e4m3⟩
  | .hbm, ⟨3, _⟩ => ⟨S1x1x6912, .f32⟩
  | .hbm, ⟨4, _⟩ => ⟨S1x2560x6912, .fp8e4m3⟩
  | .hbm, ⟨5, _⟩ => ⟨S1x1x6912, .f32⟩
  | .hbm, ⟨6, _⟩ => ⟨S1x6912x2560, .fp8e4m3⟩
  | .hbm, ⟨7, _⟩ => ⟨S1x1x2560, .f32⟩
  | .hbm, ⟨8, _⟩ => ⟨S2048x2560, .f32⟩
  | .hbm, ⟨9, _⟩ => ⟨S12x8x2560, .f32⟩
  | .hbm, ⟨10, _⟩ => ⟨S_, .i32⟩
  | .hbm, ⟨11, _⟩ => ⟨S2048x2560, .bf16⟩
  | .hbm, ⟨12, _⟩ => ⟨S2048x6912, .fp8e4m3⟩
  | .hbm, ⟨13, _⟩ => ⟨S2048x128, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S256x128, .f32⟩
  | .local _ .vmem, ⟨3, _⟩ => ⟨S256x128, .f32⟩
  | .local _ .vmem, ⟨4, _⟩ => ⟨S1x2560x768, .fp8e4m3⟩
  | .local _ .vmem, ⟨5, _⟩ => ⟨S1x2560x768, .fp8e4m3⟩
  | .local _ .vmem, ⟨6, _⟩ => ⟨S1x1x768, .f32⟩
  | .local _ .vmem, ⟨7, _⟩ => ⟨S1x1x768, .f32⟩
  | .local _ .vmem, ⟨8, _⟩ => ⟨S1x2560x768, .fp8e4m3⟩
  | .local _ .vmem, ⟨9, _⟩ => ⟨S1x2560x768, .fp8e4m3⟩
  | .local _ .vmem, ⟨10, _⟩ => ⟨S1x1x768, .f32⟩
  | .local _ .vmem, ⟨11, _⟩ => ⟨S1x1x768, .f32⟩
  | .local _ .vmem, ⟨12, _⟩ => ⟨S1x6912x512, .fp8e4m3⟩
  | .local _ .vmem, ⟨13, _⟩ => ⟨S1x6912x512, .fp8e4m3⟩
  | .local _ .vmem, ⟨14, _⟩ => ⟨S1x1x512, .f32⟩
  | .local _ .vmem, ⟨15, _⟩ => ⟨S1x1x512, .f32⟩
  | .local _ .vmem, ⟨16, _⟩ => ⟨S256x512, .f32⟩
  | .local _ .vmem, ⟨17, _⟩ => ⟨S256x512, .f32⟩
  | .local _ .vmem, ⟨18, _⟩ => ⟨S12x8x512, .f32⟩
  | .local _ .vmem, ⟨19, _⟩ => ⟨S12x8x512, .f32⟩
  | .local _ .vmem, ⟨20, _⟩ => ⟨S256x512, .bf16⟩
  | .local _ .vmem, ⟨21, _⟩ => ⟨S256x512, .bf16⟩
  | .local _ .vmem, ⟨22, _⟩ => ⟨S256x6912, .fp8e4m3⟩
  | .local _ .vmem, ⟨23, _⟩ => ⟨S256x6912, .fp8e4m3⟩
  | .local _ .vmem, ⟨24, _⟩ => ⟨S256x128, .f32⟩
  | .local _ .vmem, ⟨25, _⟩ => ⟨S256x128, .f32⟩
  | .local _ .vmem, ⟨26, _⟩ => ⟨S256x6912, .f32⟩
  | .local _ .vmem, ⟨27, _⟩ => ⟨S256x128, .f32⟩
  | .local _ .smem, ⟨0, _⟩ => ⟨S8, .i32⟩
  | _, _ => ⟨S2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 14], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v17 : Index := Scalar.indexCast v16
  ![v17.toNat]
def k0_cond2 (i : grid0.Coords) : BitVec 1 :=
  let arg1 : BitVec 32 := BitVec.ofNat 32 (i 1).val
  let c9_i32 : BitVec 32 := 9#32
  let v20 : BitVec 1 := Scalar.cmpi .slt arg1 c9_i32
  let v21 : BitVec 32 := Scalar.extui v20
  let c0_i32_7 : BitVec 32 := 0#32
  let v22 : BitVec 1 := Scalar.cmpi .ne v21 c0_i32_7
  v22

def k0_mult1 (i : grid0.Coords) : BitVec 32 :=
  let arg1 : BitVec 32 := BitVec.ofNat 32 (i 1).val
  let c768_i32 : BitVec 32 := 768#32
  let v54 : BitVec 32 := Scalar.muli arg1 c768_i32
  let c0_i32_32 : BitVec 32 := 0#32
  let v55 : BitVec 32 := Scalar.addi v54 c0_i32_32
  v55
def k0_off2 (i : grid0.Coords) (c0_i32_32 : BitVec 32) : Fin 2 → Nat :=
  let c0_33 : Index := 0#32
  let arg1 : BitVec 32 := BitVec.ofNat 32 (i 1).val
  let c768_i32 : BitVec 32 := 768#32
  let v54 : BitVec 32 := Scalar.muli arg1 c768_i32
  let v55 : BitVec 32 := Scalar.addi v54 c0_i32_32
  let v56 : BitVec 32 := v55
  let v57 : Index := Scalar.indexCast v56
  ![0, v57.toNat]
def k0_mult2 (i : grid0.Coords) : BitVec 32 :=
  let arg1 : BitVec 32 := BitVec.ofNat 32 (i 1).val
  let c768_i32_59 : BitVec 32 := 768#32
  let v95 : BitVec 32 := Scalar.muli arg1 c768_i32_59
  let c256_i32 : BitVec 32 := 256#32
  let v96 : BitVec 32 := Scalar.addi v95 c256_i32
  v96
def k0_mult3 (i : grid0.Coords) : BitVec 32 :=
  let arg1 : BitVec 32 := BitVec.ofNat 32 (i 1).val
  let c768_i32_86 : BitVec 32 := 768#32
  let v136 : BitVec 32 := Scalar.muli arg1 c768_i32_86
  let c512_i32 : BitVec 32 := 512#32
  let v137 : BitVec 32 := Scalar.addi v136 c512_i32
  v137
def k0_cond3 (i : grid0.Coords) : BitVec 1 :=
  let arg1 : BitVec 32 := BitVec.ofNat 32 (i 1).val
  let c9_i32_8 : BitVec 32 := 9#32
  let v23 : BitVec 1 := Scalar.cmpi .eq arg1 c9_i32_8
  let v24 : BitVec 32 := Scalar.extui v23
  let c0_i32_9 : BitVec 32 := 0#32
  let v25 : BitVec 1 := Scalar.cmpi .ne v24 c0_i32_9
  v25

@[reducible] def k0_t1_loop : Scf.Loop 32 :=
  let c0_i32_12 : BitVec 32 := 0#32
  let c8_i32 : BitVec 32 := 8#32
  let v29 : BitVec 32 := Scalar.addi c0_i32_12 c8_i32
  let c1_i32_13 : BitVec 32 := 1#32
  ⟨c0_i32_12, v29, c1_i32_13⟩
def k0_mult4 (k0_t1 : Fin k0_t1_loop.trips) : BitVec 32 :=
  let c0_i32_12 : BitVec 32 := 0#32
  let c1_i32_13 : BitVec 32 := 1#32
  let arg18 : BitVec 32 := Scf.iv c0_i32_12 c1_i32_13 k0_t1
  let c32_i32 : BitVec 32 := 32#32
  let v30 : BitVec 32 := Scalar.muli arg18 c32_i32
  v30
def k0_off3 (k0_t1 : Fin k0_t1_loop.trips) : Fin 2 → Nat :=
  let c0_i32_12 : BitVec 32 := 0#32
  let c1_i32_13 : BitVec 32 := 1#32
  let arg18 : BitVec 32 := Scf.iv c0_i32_12 c1_i32_13 k0_t1
  let c32_i32 : BitVec 32 := 32#32
  let v30 : BitVec 32 := Scalar.muli arg18 c32_i32
  let v31 : BitVec 32 := v30
  let v32 : Index := Scalar.indexCast v31
  let c0 : Index := 0#32
  ![v32.toNat, 0]
def k0_off4 (k0_t1 : Fin k0_t1_loop.trips) : Fin 2 → Nat :=
  let c0_i32_12 : BitVec 32 := 0#32
  let c1_i32_13 : BitVec 32 := 1#32
  let arg18 : BitVec 32 := Scf.iv c0_i32_12 c1_i32_13 k0_t1
  let c32_i32 : BitVec 32 := 32#32
  let v30 : BitVec 32 := Scalar.muli arg18 c32_i32
  let v31 : BitVec 32 := v30
  let v46 : Index := Scalar.indexCast v31
  let c0_19 : Index := 0#32
  ![v46.toNat, 0]
def k0_cond4 (i : grid0.Coords) : BitVec 1 :=
  let arg1 : BitVec 32 := BitVec.ofNat 32 (i 1).val
  let c9_i32_10 : BitVec 32 := 9#32
  let v26 : BitVec 1 := Scalar.cmpi .sge arg1 c9_i32_10
  let v27 : BitVec 32 := Scalar.extui v26
  let c0_i32_11 : BitVec 32 := 0#32
  let v28 : BitVec 1 := Scalar.cmpi .ne v27 c0_i32_11
  v28

def k0_off5 (i : grid0.Coords) : Fin 3 → Nat :=
  let c11 : Index := 11#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let v42 : Index := Scalar.indexCast v16
  let c0_21 : Index := 0#32
  ![11, v42.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_5 : BitVec 32 := 0#32
  let c0_i32_6 : BitVec 32 := 0#32
  ![v18.toNat, c0_i32_5.toNat, v19.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_5 : BitVec 32 := 0#32
  let c0_i32_6 : BitVec 32 := 0#32
  ![v18.toNat, c0_i32_5.toNat, v19.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_5 : BitVec 32 := 0#32
  let c0_i32_6 : BitVec 32 := 0#32
  ![v18.toNat, c0_i32_5.toNat, v19.toNat]

def cc0_transform_5 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 0 (Rect.unit (s := S8) ![v17.toNat] S1.size (k0_off1_inb i)) numel1_S1
  let c8_i32 : BitVec 32 := 8#32
  let v19 : BitVec 32 := Scalar.minsi arg1 c8_i32
  let c0_i32_5 : BitVec 32 := 0#32
  let c0_i32_6 : BitVec 32 := 0#32
  ![v18.toNat, c0_i32_5.toNat, v19.toNat]

def cc0_transform_6 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 0 (Rect.unit (s := S8) ![v17.toNat] S1.size (k0_off1_inb i)) numel1_S1
  let c9_i32 : BitVec 32 := 9#32
  let v19 : BitVec 32 := Scalar.subi arg1 c9_i32
  let c0_i32_5 : BitVec 32 := 0#32
  let v20 : BitVec 32 := Scalar.maxsi v19 c0_i32_5
  let c0_i32_6 : BitVec 32 := 0#32
  let c0_i32_7 : BitVec 32 := 0#32
  ![v18.toNat, c0_i32_6.toNat, v20.toNat]

def cc0_transform_7 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : Index := Scalar.indexCast v16
  let v18 : BitVec 32 := pf.at 0 (Rect.unit (s := S8) ![v17.toNat] S1.size (k0_off1_inb i)) numel1_S1
  let c9_i32 : BitVec 32 := 9#32
  let v19 : BitVec 32 := Scalar.subi arg1 c9_i32
  let c0_i32_5 : BitVec 32 := 0#32
  let v20 : BitVec 32 := Scalar.maxsi v19 c0_i32_5
  let c0_i32_6 : BitVec 32 := 0#32
  let c0_i32_7 : BitVec 32 := 0#32
  ![v18.toNat, c0_i32_6.toNat, v20.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![arg0.toNat, v1.toNat]

def cc0_transform_9 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  ![arg0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2560x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2560x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6912x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S12x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x6912 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== TextReferenceIdeal.lean ====
abbrev S2048x2560 : Shape := ⟨2, ![2048, 2560]⟩
abbrev S2048x128 : Shape := ⟨2, ![2048, 128]⟩
abbrev S1x2560x6912 : Shape := ⟨3, ![1, 2560, 6912]⟩
abbrev S1x1x6912 : Shape := ⟨3, ![1, 1, 6912]⟩
abbrev S1x6912x2560 : Shape := ⟨3, ![1, 6912, 2560]⟩
abbrev S1x1x2560 : Shape := ⟨3, ![1, 1, 2560]⟩
abbrev S12x8x2560 : Shape := ⟨3, ![12, 8, 2560]⟩
abbrev S2048x6912 : Shape := ⟨2, ![2048, 6912]⟩
abbrev S2048x1 : Shape := ⟨2, ![2048, 1]⟩
abbrev S2560x6912 : Shape := ⟨2, ![2560, 6912]⟩
abbrev S1x6912 : Shape := ⟨2, ![1, 6912]⟩
abbrev S2048 : Shape := ⟨1, ![2048]⟩
abbrev S6912x2560 : Shape := ⟨2, ![6912, 2560]⟩
abbrev S1x2560 : Shape := ⟨2, ![1, 2560]⟩
abbrev S8x256x2560 : Shape := ⟨3, ![8, 256, 2560]⟩
abbrev S1x8x2560 : Shape := ⟨3, ![1, 8, 2560]⟩
abbrev S8x2560 : Shape := ⟨2, ![8, 2560]⟩
abbrev S8x1x2560 : Shape := ⟨3, ![8, 1, 2560]⟩

abbrev nBuf : Space → Nat
  | .hbm => 13
  | .vmem => 13
  | .smem => 0
  | _ => 0

abbrev bufTy : (tb : Table) → Fin (tcTables nBuf tb) → BufTy
  | .hbm, ⟨0, _⟩ => ⟨S2048x2560, .fp8e4m3⟩
  | .hbm, ⟨1, _⟩ => ⟨S2048x128, .f32⟩
  | .hbm, ⟨2, _⟩ => ⟨S1x2560x6912, .fp8e4m3⟩
  | .hbm, ⟨3, _⟩ => ⟨S1x1x6912, .f32⟩
  | .hbm, ⟨4, _⟩ => ⟨S1x2560x6912, .fp8e4m3⟩
  | .hbm, ⟨5, _⟩ => ⟨S1x1x6912, .f32⟩
  | .hbm, ⟨6, _⟩ => ⟨S1x6912x2560, .fp8e4m3⟩
  | .hbm, ⟨7, _⟩ => ⟨S1x1x2560, .f32⟩
  | .hbm, ⟨8, _⟩ => ⟨S2048x2560, .f32⟩
  | .hbm, ⟨9, _⟩ => ⟨S12x8x2560, .f32⟩
  | .hbm, ⟨10, _⟩ => ⟨S2048x2560, .bf16⟩
  | .hbm, ⟨11, _⟩ => ⟨S2048x6912, .fp8e4m3⟩
  | .hbm, ⟨12, _⟩ => ⟨S2048x128, .f32⟩
  | .local _ .vmem, ⟨0, _⟩ => ⟨S2048x2560, .fp8e4m3⟩
  | .local _ .vmem, ⟨1, _⟩ => ⟨S2048x128, .f32⟩
  | .local _ .vmem, ⟨2, _⟩ => ⟨S1x2560x6912, .fp8e4m3⟩
  | .local _ .vmem, ⟨3, _⟩ => ⟨S1x1x6912, .f32⟩
  | .local _ .vmem, ⟨4, _⟩ => ⟨S1x2560x6912, .fp8e4m3⟩
  | .local _ .vmem, ⟨5, _⟩ => ⟨S1x1x6912, .f32⟩
  | .local _ .vmem, ⟨6, _⟩ => ⟨S1x6912x2560, .fp8e4m3⟩
  | .local _ .vmem, ⟨7, _⟩ => ⟨S1x1x2560, .f32⟩
  | .local _ .vmem, ⟨8, _⟩ => ⟨S2048x2560, .f32⟩
  | .local _ .vmem, ⟨9, _⟩ => ⟨S12x8x2560, .f32⟩
  | .local _ .vmem, ⟨10, _⟩ => ⟨S2048x2560, .bf16⟩
  | .local _ .vmem, ⟨11, _⟩ => ⟨S2048x6912, .fp8e4m3⟩
  | .local _ .vmem, ⟨12, _⟩ => ⟨S2048x128, .f32⟩
  | _, _ => ⟨S2048x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2048x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6912x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x8x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x6912 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== OprojKernel.lean ====
abbrev S8192x2560 : Shape := ⟨2, ![8192, 2560]⟩
abbrev S8192x128 : Shape := ⟨2, ![8192, 128]⟩
abbrev S12x8x2560 : Shape := ⟨3, ![12, 8, 2560]⟩
abbrev S2560x2560 : Shape := ⟨2, ![2560, 2560]⟩
abbrev S1x2560 : Shape := ⟨2, ![1, 2560]⟩
abbrev S256x2560 : Shape := ⟨2, ![256, 2560]⟩
abbrev S256x128 : Shape := ⟨2, ![256, 128]⟩
abbrev S1x1x2560 : Shape := ⟨3, ![1, 1, 2560]⟩
abbrev S32x2560 : Shape := ⟨2, ![32, 2560]⟩
abbrev S32x1 : Shape := ⟨2, ![32, 1]⟩
abbrev S32 : Shape := ⟨1, ![32]⟩
abbrev S32x128 : Shape := ⟨2, ![32, 128]⟩

abbrev nBuf : Space → Nat
  | .hbm => 10
  | .vmem => 16
  | .smem => 0
  | _ => 0

abbrev bufTy : (tb : Table) → Fin (tcTables nBuf tb) → BufTy
  | .hbm, ⟨0, _⟩ => ⟨S8192x2560, .fp8e4m3⟩
  | .hbm, ⟨1, _⟩ => ⟨S8192x128, .f32⟩
  | .hbm, ⟨2, _⟩ => ⟨S8192x2560, .bf16⟩
  | .hbm, ⟨3, _⟩ => ⟨S12x8x2560, .f32⟩
  | .hbm, ⟨4, _⟩ => ⟨S2560x2560, .fp8e4m3⟩
  | .hbm, ⟨5, _⟩ => ⟨S1x2560, .f32⟩
  | .hbm, ⟨6, _⟩ => ⟨S1x2560, .f32⟩
  | .hbm, ⟨7, _⟩ => ⟨S8192x2560, .f32⟩
  | .hbm, ⟨8, _⟩ => ⟨S8192x2560, .fp8e4m3⟩
  | .hbm, ⟨9, _⟩ => ⟨S8192x128, .f32⟩
  | .local _ .vmem, ⟨0, _⟩ => ⟨S256x2560, .fp8e4m3⟩
  | .local _ .vmem, ⟨1, _⟩ => ⟨S256x2560, .fp8e4m3⟩
  | .local _ .vmem, ⟨2, _⟩ => ⟨S256x128, .f32⟩
  | .local _ .vmem, ⟨3, _⟩ => ⟨S256x128, .f32⟩
  | .local _ .vmem, ⟨4, _⟩ => ⟨S256x2560, .bf16⟩
  | .local _ .vmem, ⟨5, _⟩ => ⟨S256x2560, .bf16⟩
  | .local _ .vmem, ⟨6, _⟩ => ⟨S12x8x2560, .f32⟩
  | .local _ .vmem, ⟨7, _⟩ => ⟨S2560x2560, .fp8e4m3⟩
  | .local _ .vmem, ⟨8, _⟩ => ⟨S1x2560, .f32⟩
  | .local _ .vmem, ⟨9, _⟩ => ⟨S1x2560, .f32⟩
  | .local _ .vmem, ⟨10, _⟩ => ⟨S256x2560, .f32⟩
  | .local _ .vmem, ⟨11, _⟩ => ⟨S256x2560, .f32⟩
  | .local _ .vmem, ⟨12, _⟩ => ⟨S256x2560, .fp8e4m3⟩
  | .local _ .vmem, ⟨13, _⟩ => ⟨S256x2560, .fp8e4m3⟩
  | .local _ .vmem, ⟨14, _⟩ => ⟨S256x128, .f32⟩
  | .local _ .vmem, ⟨15, _⟩ => ⟨S256x128, .f32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c2 : Index := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : Index := Scalar.indexCast v16
  let c0 : Index := 0#32
  ![2, v17.toNat, 0]
def k0_off2 (i : grid0.Coords) : Fin 3 → Nat :=
  let c3 : Index := 3#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v20 : Index := Scalar.indexCast v16
  let c0_4 : Index := 0#32
  ![3, v20.toNat, 0]
def k0_off3 (i : grid0.Coords) : Fin 3 → Nat :=
  let c4 : Index := 4#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v23 : Index := Scalar.indexCast v16
  let c0_5 : Index := 0#32
  ![4, v23.toNat, 0]
@[reducible] def k0_t1_loop : Scf.Loop 32 :=
  let c0_i32_12 : BitVec 32 := 0#32
  let c8_i32 : BitVec 32 := 8#32
  let v30 : BitVec 32 := Scalar.addi c0_i32_12 c8_i32
  let c1_i32_13 : BitVec 32 := 1#32
  ⟨c0_i32_12, v30, c1_i32_13⟩
def k0_mult1 (k0_t1 : Fin k0_t1_loop.trips) : BitVec 32 :=
  let c0_i32_12 : BitVec 32 := 0#32
  let c1_i32_13 : BitVec 32 := 1#32
  let arg11 : BitVec 32 := Scf.iv c0_i32_12 c1_i32_13 k0_t1
  let c32_i32 : BitVec 32 := 32#32
  let v31 : BitVec 32 := Scalar.muli arg11 c32_i32
  v31
def k0_off4 (k0_t1 : Fin k0_t1_loop.trips) : Fin 2 → Nat :=
  let c0_i32_12 : BitVec 32 := 0#32
  let c1_i32_13 : BitVec 32 := 1#32
  let arg11 : BitVec 32 := Scf.iv c0_i32_12 c1_i32_13 k0_t1
  let c32_i32 : BitVec 32 := 32#32
  let v31 : BitVec 32 := Scalar.muli arg11 c32_i32
  let v32 : BitVec 32 := v31
  let v33 : Index := Scalar.indexCast v32
  let c0_15 : Index := 0#32
  ![v33.toNat, 0]
def k0_off5 (k0_t1 : Fin k0_t1_loop.trips) : Fin 2 → Nat :=
  let c0_i32_12 : BitVec 32 := 0#32
  let c1_i32_13 : BitVec 32 := 1#32
  let arg11 : BitVec 32 := Scf.iv c0_i32_12 c1_i32_13 k0_t1
  let c32_i32 : BitVec 32 := 32#32
  let v31 : BitVec 32 := Scalar.muli arg11 c32_i32
  let v32 : BitVec 32 := v31
  let v39 : Index := Scalar.indexCast v32
  let c0_17 : Index := 0#32
  ![v39.toNat, 0]
def k0_off6 (k0_t1 : Fin k0_t1_loop.trips) : Fin 2 → Nat :=
  let c0_i32_12 : BitVec 32 := 0#32
  let c1_i32_13 : BitVec 32 := 1#32
  let arg11 : BitVec 32 := Scf.iv c0_i32_12 c1_i32_13 k0_t1
  let c32_i32 : BitVec 32 := 32#32
  let v31 : BitVec 32 := Scalar.muli arg11 c32_i32
  let v32 : BitVec 32 := v31
  let v96 : Index := Scalar.indexCast v32
  let c0_36 : Index := 0#32
  ![v96.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x8x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojReferenceIdeal.lean ====
abbrev S8192x2560 : Shape := ⟨2, ![8192, 2560]⟩
abbrev S8192x128 : Shape := ⟨2, ![8192, 128]⟩
abbrev S12x8x2560 : Shape := ⟨3, ![12, 8, 2560]⟩
abbrev S2560x2560 : Shape := ⟨2, ![2560, 2560]⟩
abbrev S1x2560 : Shape := ⟨2, ![1, 2560]⟩
abbrev S8192x1 : Shape := ⟨2, ![8192, 1]⟩
abbrev S1x8x2560 : Shape := ⟨3, ![1, 8, 2560]⟩
abbrev S8x2560 : Shape := ⟨2, ![8, 2560]⟩
abbrev S8x1x2560 : Shape := ⟨3, ![8, 1, 2560]⟩
abbrev S8x1024x2560 : Shape := ⟨3, ![8, 1024, 2560]⟩
abbrev S8192 : Shape := ⟨1, ![8192]⟩

abbrev nBuf : Space → Nat
  | .hbm => 10
  | .vmem => 10
  | .smem => 0
  | _ => 0

abbrev bufTy : (tb : Table) → Fin (tcTables nBuf tb) → BufTy
  | .hbm, ⟨0, _⟩ => ⟨S8192x2560, .fp8e4m3⟩
  | .hbm, ⟨1, _⟩ => ⟨S8192x128, .f32⟩
  | .hbm, ⟨2, _⟩ => ⟨S8192x2560, .bf16⟩
  | .hbm, ⟨3, _⟩ => ⟨S12x8x2560, .f32⟩
  | .hbm, ⟨4, _⟩ => ⟨S2560x2560, .fp8e4m3⟩
  | .hbm, ⟨5, _⟩ => ⟨S1x2560, .f32⟩
  | .hbm, ⟨6, _⟩ => ⟨S1x2560, .f32⟩
  | .hbm, ⟨7, _⟩ => ⟨S8192x2560, .f32⟩
  | .hbm, ⟨8, _⟩ => ⟨S8192x2560, .fp8e4m3⟩
  | .hbm, ⟨9, _⟩ => ⟨S8192x128, .f32⟩
  | .local _ .vmem, ⟨0, _⟩ => ⟨S8192x2560, .fp8e4m3⟩
  | .local _ .vmem, ⟨1, _⟩ => ⟨S8192x128, .f32⟩
  | .local _ .vmem, ⟨2, _⟩ => ⟨S8192x2560, .bf16⟩
  | .local _ .vmem, ⟨3, _⟩ => ⟨S12x8x2560, .f32⟩
  | .local _ .vmem, ⟨4, _⟩ => ⟨S2560x2560, .fp8e4m3⟩
  | .local _ .vmem, ⟨5, _⟩ => ⟨S1x2560, .f32⟩
  | .local _ .vmem, ⟨6, _⟩ => ⟨S1x2560, .f32⟩
  | .local _ .vmem, ⟨7, _⟩ => ⟨S8192x2560, .f32⟩
  | .local _ .vmem, ⟨8, _⟩ => ⟨S8192x2560, .fp8e4m3⟩
  | .local _ .vmem, ⟨9, _⟩ => ⟨S8192x128, .f32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x8x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x2560 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kit.lean ====
/-
  What the proof of the expert feed-forward kernel shares: the kernel's `@main` up to its one region, the table of experts read off
  the launch memory, each input window's block at a grid point, the staging and scratch memrefs the body is called on, and the
  schedule of the output windows.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window `w`'s staging buffer holds its block at every point, fetched there or not, for any proof data over the launch
    arrays whose body leaves the block in place; one lemma for each of the eleven input windows. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`). -/
abbrev ms0_0 (hO : Ok m) (t : Fin (cfgM m hO).N) : Memref sig .tc .vmem S512x2560 .fp8e4m3 := spec0_0.stage ((cfgM m hO).slots t 0)
abbrev ms0_1 (hO : Ok m) (t : Fin (cfgM m hO).N) : Memref sig .tc .vmem S512x128 .f32 := spec0_1.stage ((cfgM m hO).slots t 1)
abbrev ms0_2 (hO : Ok m) (t : Fin (cfgM m hO).N) : Memref sig .tc .vmem S1x2560x768 .fp8e4m3 := spec0_2.stage ((cfgM m hO).slots t 2)
abbrev ms0_3 (hO : Ok m) (t : Fin (cfgM m hO).N) : Memref sig .tc .vmem S1x1x768 .f32 := spec0_3.stage ((cfgM m hO).slots t 3)
abbrev ms0_4 (hO : Ok m) (t : Fin (cfgM m hO).N) : Memref sig .tc .vmem S1x2560x768 .fp8e4m3 := spec0_4.stage ((cfgM m hO).slots t 4)
abbrev ms0_5 (hO : Ok m) (t : Fin (cfgM m hO).N) : Memref sig .tc .vmem S1x1x768 .f32 := spec0_5.stage ((cfgM m hO).slots t 5)
abbrev ms0_6 (hO : Ok m) (t : Fin (cfgM m hO).N) : Memref sig .tc .vmem S1x6912x512 .fp8e4m3 := spec0_6.stage ((cfgM m hO).slots t 6)
abbrev ms0_7 (hO : Ok m) (t : Fin (cfgM m hO).N) : Memref sig .tc .vmem S1x1x512 .f32 := spec0_7.stage ((cfgM m hO).slots t 7)
abbrev ms0_8 (hO : Ok m) (t : Fin (cfgM m hO).N) : Memref sig .tc .vmem S512x512 .f32 := spec0_8.stage ((cfgM m hO).slots t 8)
abbrev ms0_9 (hO : Ok m) (t : Fin (cfgM m hO).N) : Memref sig .tc .vmem S12x8x512 .f32 := spec0_9.stage ((cfgM m hO).slots t 9)
abbrev ms0_10 (hO : Ok m) (t : Fin (cfgM m hO).N) : Memref sig .tc .vmem S512x512 .f32 := spec0_10.stage ((cfgM m hO).slots t 10)
abbrev ms0_11 (hO : Ok m) (t : Fin (cfgM m hO).N) : Memref sig .tc .vmem S512x512 .bf16 := spec0_11.stage ((cfgM m hO).slots t 11)
abbrev ms0_12 (hO : Ok m) (t : Fin (cfgM m hO).N) : Memref sig .tc .vmem S512x6912 .fp8e4m3 := spec0_12.stage ((cfgM m hO).slots t 12)
abbrev ms0_13 (hO : Ok m) (t : Fin (cfgM m hO).N) : Memref sig .tc .vmem S512x128 .f32 := spec0_13.stage ((cfgM m hO).slots t 13)
/-- The scratch operands: whole scoped buffers of the kernel's own, passed beside the windows. -/
abbrev scM0_0 : Memref sig .tc .vmem S512x6912 .f32 := Memref.whole cc0_scratch0
abbrev scM0_1 : Memref sig .tc .vmem S512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The schedule of the outputs and the body at a point -/

/-- Window 12 (result 1 (%0#1)) is written back at the points ≡ 13 (mod 14), at any contents of the tables (its index map reads none). -/
theorem flush0_12 (a : (pcfg0 (F := F)).Adm) : ∀ t : Fin (cfg0 a).N, ((cfg0 a).win 12).flush t = true ↔ t.val % 14 = 13 :=
  (fun t => Pipeline.Window.flushOf_reads cc0_transform_12 reads0_12 hreads0_12 0 (by decide) (by decide) (Pipeline.Window.sep_of_coord cc0_transform_12 0 0 (fun _ => rfl) (by decide)) (P := 14) (m := 13) (by decide) rfl t : ∀ t : Fin grid0.N, Pipeline.Window.flushOf grid0 true cc0_transform_12 t = true ↔ t.val % 14 = 13)
/-- Window 13 (result 2 (%0#2)) is written back at the points ≡ 13 (mod 14), at any contents of the tables (its index map reads none). -/
theorem flush0_13 (a : (pcfg0 (F := F)).Adm) : ∀ t : Fin (cfg0 a).N, ((cfg0 a).win 13).flush t = true ↔ t.val % 14 = 13 :=
  (fun t => Pipeline.Window.flushOf_reads cc0_transform_13 reads0_13 hreads0_13 0 (by decide) (by decide) (Pipeline.Window.sep_of_coord cc0_transform_13 0 0 (fun _ => rfl) (by decide)) (P := 14) (m := 13) (by decide) rfl t : ∀ t : Fin grid0.N, Pipeline.Window.flushOf grid0 true cc0_transform_13 t = true ↔ t.val % 14 = 13)

/-- Window 11 (the output tile) is written back at the points of the second half of a row block's fourteen (the down projection). -/
theorem flush0_11 (a : (pcfg0 (F := F)).Adm) : ∀ t : Fin (cfg0 a).N, ((cfg0 a).win 11).flush t = true ↔ 9 ≤ t.val % 14 :=
  (by decide +kernel : ∀ t : Fin grid0.N, Pipeline.Window.flushOf grid0 true cc0_transform_11 t = true ↔ 9 ≤ t.val % 14)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (Memref.whole cc0_scratch0) (Memref.isWhole_whole _) (Memref.whole cc0_scratch1) (Memref.isWhole_whole _)

end Cert.KernelIdeal.Ffn

end
-- ==== Proof.Tile.lean ====
/-
  What one visit of the kernel's body computes, as functions of the blocks it reads: the 256 x 256 tiles of silu(gate) * up, the
  running maximum of their absolute values, the rows' scales and codes, and how a list of writes into the scratch is read back.
-/
module

public import proofs.«01_k».proof.Proof.Kit
public import Idealize.ShloMosaic.Lib.WritesUnit
public import Idealize.ShloMosaic.Lib.ValueIdxCoords
public import Idealize.ShloMosaic.Lib.Pipeline.RowLoads

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The first half: tiles of the hidden rows -/

theorem inb_rows (m : Fin 2) : ∀ a : Fin 2, (![256 * m.val, 0] : Fin 2 → Nat) a + S256x2560.size a ≤ S512x2560.size a := by
  revert m; decide
theorem inb_scale (m : Fin 2) : ∀ a : Fin 2, (![256 * m.val, 0] : Fin 2 → Nat) a + S256x1.size a ≤ S512x128.size a := by
  revert m; decide
theorem inb_cols (n : Fin 3) : ∀ a : Fin 3, (![0, 0, 256 * n.val] : Fin 3 → Nat) a + S1x2560x256.size a ≤ S1x2560x768.size a := by
  revert n; decide
theorem inb_colScale (n : Fin 3) : ∀ a : Fin 3, (![0, 0, 256 * n.val] : Fin 3 → Nat) a + S1x1x256.size a ≤ S1x1x768.size a := by
  revert n; decide
theorem inb_amax (m : Fin 2) : ∀ a : Fin 2, (![256 * m.val, 0] : Fin 2 → Nat) a + S256x128.size a ≤ S512x128.size a := by
  revert m; decide

variable (x : Vec F S512x2560 .fp8e4m3) (xs : Vec F S512x128 .f32) (w1 : Vec F S1x2560x768 .fp8e4m3) (s1 : Vec F S1x1x768 .f32)
  (w3 : Vec F S1x2560x768 .fp8e4m3) (s3 : Vec F S1x1x768 .f32)

/-- The tile of silu(gate) * up at the `m`-th 256 rows of the block and the `n`-th 256 columns of the up-projection's slab. -/
def tile (n : Fin 3) (m : Fin 2) : FVec F S256x256 .f32 :=
  k0_pay7 (View.ld x (Rect.unit (s := S512x2560) ![256 * m.val, 0] S256x2560.size (inb_rows m)))
    (View.ld w1 (Rect.unit (s := S1x2560x768) ![0, 0, 256 * n.val] S1x2560x256.size (inb_cols n)))
    (View.ld xs (Rect.unit (s := S512x128) ![256 * m.val, 0] S256x1.size (inb_scale m)))
    (View.ld s1 (Rect.unit (s := S1x1x768) ![0, 0, 256 * n.val] S1x1x256.size (inb_colScale n)))
    (View.ld x (Rect.unit (s := S512x2560) ![256 * m.val, 0] S256x2560.size (inb_rows m)))
    (View.ld w3 (Rect.unit (s := S1x2560x768) ![0, 0, 256 * n.val] S1x2560x256.size (inb_cols n)))
    (View.ld xs (Rect.unit (s := S512x128) ![256 * m.val, 0] S256x1.size (inb_scale m)))
    (View.ld s3 (Rect.unit (s := S1x1x768) ![0, 0, 256 * n.val] S1x1x256.size (inb_colScale n)))

/-- The running maximum of 256 rows after one more tile `h`: lane `l` takes in |h| at columns `l` and `128 + l`. -/
def amaxTile (h : FVec F S256x256 .f32) (v : Vec F S256x128 .f32) : Vec F S256x128 .f32 := k0_pay2 (absf h) v

/-- The running maximum of the `m`-th 256 rows after a visit's three tiles, from `dA` before it. -/
def amaxRows (dA : Vec F S512x128 .f32) (m : Fin 2) : Vec F S256x128 .f32 :=
  amaxTile (tile x xs w1 s1 w3 s3 2 m) (amaxTile (tile x xs w1 s1 w3 s3 1 m) (amaxTile (tile x xs w1 s1 w3 s3 0 m)
    (View.ld dA (Rect.unit (s := S512x128) ![256 * m.val, 0] S256x128.size (inb_amax m)))))

/-- The running maximum after a visit, from `dA` before it. -/
def amaxUp (dA : Vec F S512x128 .f32) : Vec F S512x128 .f32 := fun y =>
  if h : (y 0).val < 256 then amaxRows x xs w1 s1 w3 s3 dA 0 (ix2 (n0 := 256) (n1 := 128) ⟨(y 0).val, h⟩ (y 1))
  else amaxRows x xs w1 s1 w3 s3 dA 1 (ix2 (n0 := 256) (n1 := 128) ⟨(y 0).val - 256, by have : (y 0).val < 512 := (y 0).isLt; omega⟩ (y 1))

/-- The hidden scratch after visit `s` of a row block: the slab of 768 columns from column `768 * s` made of the six tiles `T`, the
    rest as `d` had it. -/
def paste (s : Nat) (T : Fin 3 → Fin 2 → FVec F S256x256 .f32) (d : Vec F S512x6912 .f32) : Vec F S512x6912 .f32 := fun y =>
  if h : 768 * s ≤ (y 1).val ∧ (y 1).val < 768 * s + 768 then
    T ⟨((y 1).val - 768 * s) / 256, by omega⟩ ⟨(y 0).val / 256, by have : (y 0).val < 512 := (y 0).isLt; omega⟩
      (ix2 (n0 := 256) (n1 := 256) ⟨(y 0).val % 256, by omega⟩ ⟨((y 1).val - 768 * s) % 256, by omega⟩)
  else d y

/-! ## The body's spellings of a tile

The body spells the six tiles and the six updates of the running maximum each in its own names; all are `k0_pay7` and `amaxTile`. -/

section Spellings

variable (a : Vec F S256x2560 .fp8e4m3) (b : Vec F S1x2560x256 .fp8e4m3) (c : Vec F S256x1 .f32) (d : Vec F S1x1x256 .f32)
  (e : Vec F S256x2560 .fp8e4m3) (f : Vec F S1x2560x256 .fp8e4m3) (g : Vec F S256x1 .f32) (h : Vec F S1x1x256 .f32) (t : FVec F S256x256 .f32)
  (v : Vec F S256x128 .f32)

theorem pay8_eq : k0_pay8 a b c d e f g h = k0_pay7 a b c d e f g h := shapeCast_self _ _
theorem pay11_eq : k0_pay11 a b c d e f g h = k0_pay7 a b c d e f g h := rfl
theorem pay12_eq : k0_pay12 t = t := shapeCast_self _ _
theorem pay17_eq : k0_pay17 (k0_pay14 a b c d) (k0_pay15 e f) (k0_pay16 g) h = k0_pay7 a b c d e f g h := rfl
theorem pay18_eq : k0_pay18 (k0_pay14 a b c d) (k0_pay15 e f) (k0_pay16 g) h = k0_pay7 a b c d e f g h := shapeCast_self _ _
theorem pay21_eq : k0_pay21 (k0_pay20 a b c d) e f g h = k0_pay7 a b c d e f g h := rfl
theorem pay22_eq : k0_pay22 (k0_pay20 a b c d) e f g h = k0_pay7 a b c d e f g h := shapeCast_self _ _
theorem pay25_eq : k0_pay25 (k0_pay24 a b) c d e f g h = k0_pay7 a b c d e f g h := rfl
theorem pay26_eq : k0_pay26 (k0_pay24 a b) c d e f g h = k0_pay7 a b c d e f g h := shapeCast_self _ _
theorem pay28_eq : k0_pay28 a b c d e f g h = k0_pay7 a b c d e f g h := rfl
theorem pay29_eq : k0_pay29 a b c d e f g h = k0_pay7 a b c d e f g h := shapeCast_self _ _
theorem pay10_eq : k0_pay10 (k0_pay9 a b c d e f g h) v = amaxTile (k0_pay7 a b c d e f g h) v := rfl
theorem pay13_eq : k0_pay13 t v = amaxTile t v := rfl
theorem pay19_eq : k0_pay19 (k0_pay14 a b c d) (k0_pay15 e f) (k0_pay16 g) h v = amaxTile (k0_pay7 a b c d e f g h) v := rfl
theorem pay23_eq : k0_pay23 (k0_pay20 a b c d) e f g h v = amaxTile (k0_pay7 a b c d e f g h) v := rfl
theorem pay27_eq : k0_pay27 (k0_pay24 a b) c d e f g h v = amaxTile (k0_pay7 a b c d e f g h) v := rfl
theorem pay2_eq : k0_pay2 (k0_pay30 a b c d e f g h) v = amaxTile (k0_pay7 a b c d e f g h) v := rfl

end Spellings

/-! ## Reading back a list of writes -/

section Reads

variable {sig' : RefSig} {κ : Kind} {sp : Space}

/-- What a store over a whole buffer leaves. -/
theorem read_whole {S : Shape} {e : EltTy} {Val : EltTy → Type} (v : View sig' κ sp S e) (f : v.ty.Contents Val) {off : Fin S.rank → Nat}
    (hz : off = fun _ => 0) (inb : ∀ a, off a + S.size a ≤ S.size a) (w : S.Idx → Val e) (L : List (View.Piece Val S e)) :
    v.read Val (v.writes Val f (⟨Rect.unit off S.size inb, w⟩ :: L)) = w := by
  subst hz
  funext y
  exact View.read_writes_cons_unit_of_mem v f inb w L y y rfl fun a => (Nat.zero_add _).symm

/-- A load through rectangles at equal offsets. -/
theorem ld_unit_congr {S : Shape} {e : EltTy} {Val : EltTy → Type} (X : S.Idx → Val e) {off off' size : Fin S.rank → Nat} (h : off = off')
    (inb : ∀ a, off a + size a ≤ S.size a) (inb' : ∀ a, off' a + size a ≤ S.size a) :
    View.ld X (Rect.unit off size inb) = View.ld X (Rect.unit off' size inb') := by
  subst h; rfl

/-- What a load through a rectangle reads right after a store through the same rectangle: the stored value. -/
theorem readCov_hit {S : Shape} {e : EltTy} {Val : EltTy → Type} [∀ e, Nonempty (Val e)] (v : View sig' κ sp S e) (r : Rect S)
    (w : r.shape.Idx → Val e) (L : List (View.Piece Val S e)) : v.readCov (⟨r, w⟩ :: L) r.toLoadRect = w := by
  funext j
  exact View.read_writes_cons_emb v v.junk r w L j

/-- One 256 x 256 tile of a list of writes into the hidden scratch, read at a place: the tile there if it holds the place. -/
theorem read_cons_tile (v : View sig' κ sp S512x6912 .f32) (f : v.ty.Contents (Elt F)) {off : Fin 2 → Nat} {a b : Nat} (hoff : off = ![a, b])
    (inb : ∀ k, off k + S256x256.size k ≤ S512x6912.size k) (w : S256x256.Idx → Elt F .f32) (L : List (View.Piece (Elt F) S512x6912 .f32))
    (y : S512x6912.Idx) :
    v.read (Elt F) (v.writes (Elt F) f (⟨Rect.unit (s := S512x6912) off S256x256.size inb, w⟩ :: L)) y
      = if h : (a ≤ (y 0).val ∧ (y 0).val < a + 256) ∧ (b ≤ (y 1).val ∧ (y 1).val < b + 256) then
          w (ix2 (n0 := 256) (n1 := 256) ⟨(y 0).val - a, by omega⟩ ⟨(y 1).val - b, by omega⟩)
        else v.read (Elt F) (v.writes (Elt F) f L) y := by
  split
  · next h =>
    refine View.read_writes_cons_unit_of_mem v f inb w L y
      (ix2 (n0 := 256) (n1 := 256) ⟨(y 0).val - a, by omega⟩ ⟨(y 1).val - b, by omega⟩) hoff (Fin.forall_fin_two.mpr ⟨?_, ?_⟩)
    · show (y 0).val = a + ((y 0).val - a); omega
    · show (y 1).val = b + ((y 1).val - b); omega
  · next h =>
    by_cases h0 : a ≤ (y 0).val ∧ (y 0).val < a + 256
    · refine View.read_writes_cons_unit_of_not_mem v f inb w L y hoff 1 ?_
      show (y 1).val < b ∨ b + 256 ≤ (y 1).val
      omega
    · refine View.read_writes_cons_unit_of_not_mem v f inb w L y hoff 0 ?_
      show (y 0).val < a ∨ a + 256 ≤ (y 0).val
      omega

/-- The six tiles of visit `s` written into the hidden scratch, read back. -/
theorem read_six (v : View sig' κ sp S512x6912 .f32) (f : v.ty.Contents (Elt F)) (s : Nat) (T : Fin 3 → Fin 2 → FVec F S256x256 .f32)
    {o00 o01 o10 o11 o20 o21 : Fin 2 → Nat}
    (h00 : o00 = ![0, 768 * s + 256 * 0]) (h01 : o01 = ![256, 768 * s + 256 * 0]) (h10 : o10 = ![0, 768 * s + 256 * 1])
    (h11 : o11 = ![256, 768 * s + 256 * 1]) (h20 : o20 = ![0, 768 * s + 256 * 2]) (h21 : o21 = ![256, 768 * s + 256 * 2])
    (i00 : ∀ k, o00 k + S256x256.size k ≤ S512x6912.size k) (i01 : ∀ k, o01 k + S256x256.size k ≤ S512x6912.size k)
    (i10 : ∀ k, o10 k + S256x256.size k ≤ S512x6912.size k) (i11 : ∀ k, o11 k + S256x256.size k ≤ S512x6912.size k)
    (i20 : ∀ k, o20 k + S256x256.size k ≤ S512x6912.size k) (i21 : ∀ k, o21 k + S256x256.size k ≤ S512x6912.size k)
    {w00 w01 w10 w11 w20 w21 : S256x256.Idx → Elt F .f32} (e00 : w00 = T 0 0) (e01 : w01 = T 0 1) (e10 : w10 = T 1 0) (e11 : w11 = T 1 1)
    (e20 : w20 = T 2 0) (e21 : w21 = T 2 1) :
    v.read (Elt F) (v.writes (Elt F) f [⟨Rect.unit (s := S512x6912) o21 S256x256.size i21, w21⟩,
      ⟨Rect.unit (s := S512x6912) o20 S256x256.size i20, w20⟩, ⟨Rect.unit (s := S512x6912) o11 S256x256.size i11, w11⟩,
      ⟨Rect.unit (s := S512x6912) o10 S256x256.size i10, w10⟩, ⟨Rect.unit (s := S512x6912) o01 S256x256.size i01, w01⟩,
      ⟨Rect.unit (s := S512x6912) o00 S256x256.size i00, w00⟩]) = paste s T (v.read (Elt F) f) := by
  subst e00 e01 e10 e11 e20 e21
  funext y
  have hy0 : (y 0).val < 512 := (y 0).isLt
  have key : ∀ (n : Fin 3) (m : Fin 2) (a b : Nat) (ha : a < 256) (hb : b < 256) (h : 768 * s ≤ (y 1).val ∧ (y 1).val < 768 * s + 768),
      (y 0).val = 256 * m.val + a → (y 1).val = 768 * s + 256 * n.val + b →
      T n m (ix2 (n0 := 256) (n1 := 256) ⟨a, ha⟩ ⟨b, hb⟩) = paste s T (v.read (Elt F) f) y := by
    intro n m a b ha hb h e0 e1
    unfold paste
    rw [dif_pos h]
    have q0 : (y 0).val / 256 = m.val := by omega
    have q1 : (y 0).val % 256 = a := by omega
    have q2 : ((y 1).val - 768 * s) / 256 = n.val := by omega
    have q3 : ((y 1).val - 768 * s) % 256 = b := by omega
    simp only [q0, q1, q2, q3]
  rw [read_cons_tile v f h21]
  split
  · next h =>
    exact key 2 1 ((y 0).val - 256) ((y 1).val - (768 * s + 256 * 2)) (by omega) (by omega) (by omega)
      (show (y 0).val = 256 * 1 + ((y 0).val - 256) by omega) (show (y 1).val = 768 * s + 256 * 2 + ((y 1).val - (768 * s + 256 * 2)) by omega)
  rw [read_cons_tile v f h20]
  split
  · next h =>
    exact key 2 0 ((y 0).val - 0) ((y 1).val - (768 * s + 256 * 2)) (by omega) (by omega) (by omega)
      (show (y 0).val = 256 * 0 + ((y 0).val - 0) by omega) (show (y 1).val = 768 * s + 256 * 2 + ((y 1).val - (768 * s + 256 * 2)) by omega)
  rw [read_cons_tile v f h11]
  split
  · next h =>
    exact key 1 1 ((y 0).val - 256) ((y 1).val - (768 * s + 256 * 1)) (by omega) (by omega) (by omega)
      (show (y 0).val = 256 * 1 + ((y 0).val - 256) by omega) (show (y 1).val = 768 * s + 256 * 1 + ((y 1).val - (768 * s + 256 * 1)) by omega)
  rw [read_cons_tile v f h10]
  split
  · next h =>
    exact key 1 0 ((y 0).val - 0) ((y 1).val - (768 * s + 256 * 1)) (by omega) (by omega) (by omega)
      (show (y 0).val = 256 * 0 + ((y 0).val - 0) by omega) (show (y 1).val = 768 * s + 256 * 1 + ((y 1).val - (768 * s + 256 * 1)) by omega)
  rw [read_cons_tile v f h01]
  split
  · next h =>
    exact key 0 1 ((y 0).val - 256) ((y 1).val - (768 * s + 256 * 0)) (by omega) (by omega) (by omega)
      (show (y 0).val = 256 * 1 + ((y 0).val - 256) by omega) (show (y 1).val = 768 * s + 256 * 0 + ((y 1).val - (768 * s + 256 * 0)) by omega)
  rw [read_cons_tile v f h00]
  split
  · next h =>
    exact key 0 0 ((y 0).val - 0) ((y 1).val - (768 * s + 256 * 0)) (by omega) (by omega) (by omega)
      (show (y 0).val = 256 * 0 + ((y 0).val - 0) by omega) (show (y 1).val = 768 * s + 256 * 0 + ((y 1).val - (768 * s + 256 * 0)) by omega)
  have : ¬(768 * s ≤ (y 1).val ∧ (y 1).val < 768 * s + 768) := by omega
  unfold paste
  rw [dif_neg this]
  rfl

/-- A load of 256 rows of the running maximum right after a store of the same rows reads the stored value. -/
theorem readCov_amax_hit (v : View sig' κ sp S512x128 .f32) (o : Nat)
    (i0 i1 : ∀ k, (![o, 0] : Fin 2 → Nat) k + S256x128.size k ≤ S512x128.size k) (w : S256x128.Idx → Elt F .f32)
    (L : List (View.Piece (Elt F) S512x128 .f32)) :
    v.readCov (⟨Rect.unit (s := S512x128) ![o, 0] (no_index S256x128.size) i0, w⟩ :: L) (Rect.unit (s := S512x128) ![o, 0] (no_index S256x128.size) i1).toLoadRect = w :=
  readCov_hit v (Rect.unit (s := S512x128) ![o, 0] (no_index S256x128.size) i0) w L

/-- A load of the first 256 rows after a store of the others reads what was there before it; -/
theorem readCov_amax_miss0 (v : View sig' κ sp S512x128 .f32)
    (i0 : ∀ k, (![256, 0] : Fin 2 → Nat) k + S256x128.size k ≤ S512x128.size k) (i1 : ∀ k, (![0, 0] : Fin 2 → Nat) k + S256x128.size k ≤ S512x128.size k)
    (w : S256x128.Idx → Elt F .f32) (L : List (View.Piece (Elt F) S512x128 .f32)) :
    v.readCov (⟨Rect.unit (s := S512x128) ![256, 0] (no_index S256x128.size) i0, w⟩ :: L) (Rect.unit (s := S512x128) ![0, 0] (no_index S256x128.size) i1).toLoadRect
      = v.readCov L (Rect.unit (s := S512x128) ![0, 0] (no_index S256x128.size) i1).toLoadRect :=
  View.readCov_cons_of_rows_disjoint v 256 0 (by decide) w L i0 i1

/-- and the other way round. -/
theorem readCov_amax_miss1 (v : View sig' κ sp S512x128 .f32)
    (i0 : ∀ k, (![0, 0] : Fin 2 → Nat) k + S256x128.size k ≤ S512x128.size k) (i1 : ∀ k, (![256, 0] : Fin 2 → Nat) k + S256x128.size k ≤ S512x128.size k)
    (w : S256x128.Idx → Elt F .f32) (L : List (View.Piece (Elt F) S512x128 .f32)) :
    v.readCov (⟨Rect.unit (s := S512x128) ![0, 0] (no_index S256x128.size) i0, w⟩ :: L) (Rect.unit (s := S512x128) ![256, 0] (no_index S256x128.size) i1).toLoadRect
      = v.readCov L (Rect.unit (s := S512x128) ![256, 0] (no_index S256x128.size) i1).toLoadRect :=
  View.readCov_cons_of_rows_disjoint v 0 256 (by decide) w L i0 i1

/-- A load of 256 rows right after a store of the whole running maximum reads those rows of the stored value. -/
theorem readCov_amax_whole (v : View sig' κ sp S512x128 .f32) (o : Nat)
    (i0 : ∀ k, (![0, 0] : Fin 2 → Nat) k + S512x128.size k ≤ S512x128.size k) (i1 : ∀ k, (![o, 0] : Fin 2 → Nat) k + S256x128.size k ≤ S512x128.size k)
    (w : S512x128.Idx → Elt F .f32) (L : List (View.Piece (Elt F) S512x128 .f32)) :
    v.readCov (⟨Rect.unit (s := S512x128) ![0, 0] (no_index S512x128.size) i0, w⟩ :: L) (Rect.unit (s := S512x128) ![o, 0] (no_index S256x128.size) i1).toLoadRect
      = View.ld w (Rect.unit (s := S512x128) ![o, 0] (no_index S256x128.size) i1) :=
  congrArg (fun g => View.ld g (Rect.unit (s := S512x128) ![o, 0] (no_index S256x128.size) i1))
    (read_whole v v.junk (by funext a; fin_cases a <;> rfl) i0 w L)

/-- The two newest writes into the running maximum, rows 256 and on and rows 0 and on, cover it: what they leave. -/
theorem read_amax (v : View sig' κ sp S512x128 .f32) (f : v.ty.Contents (Elt F))
    (i0 : ∀ k, (![0, 0] : Fin 2 → Nat) k + S256x128.size k ≤ S512x128.size k) (i1 : ∀ k, (![256, 0] : Fin 2 → Nat) k + S256x128.size k ≤ S512x128.size k)
    (w0 w1 : S256x128.Idx → Elt F .f32) (L : List (View.Piece (Elt F) S512x128 .f32)) :
    v.read (Elt F) (v.writes (Elt F) f (⟨Rect.unit (s := S512x128) ![256, 0] S256x128.size i1, w1⟩
      :: ⟨Rect.unit (s := S512x128) ![0, 0] S256x128.size i0, w0⟩ :: L)) = fun y =>
        if h : (y 0).val < 256 then w0 (ix2 (n0 := 256) (n1 := 128) ⟨(y 0).val, h⟩ (y 1))
        else w1 (ix2 (n0 := 256) (n1 := 128) ⟨(y 0).val - 256, by have : (y 0).val < 512 := (y 0).isLt; omega⟩ (y 1)) := by
  funext y
  have hy0 : (y 0).val < 512 := (y 0).isLt
  split
  · next h =>
    refine (View.read_writes_cons_unit_of_not_mem v f i1 w1 _ y rfl 0 (Or.inl h)).trans ?_
    exact View.read_writes_cons_unit_of_mem v f i0 w0 L y (ix2 (n0 := 256) (n1 := 128) ⟨(y 0).val, h⟩ (y 1)) rfl
      (Fin.forall_fin_two.mpr ⟨(Nat.zero_add _).symm, (Nat.zero_add _).symm⟩)
  · next h =>
    exact View.read_writes_cons_unit_of_mem v f i1 w1 _ y
      (ix2 (n0 := 256) (n1 := 128) ⟨(y 0).val - 256, by omega⟩ (y 1)) rfl
      (Fin.forall_fin_two.mpr ⟨show (y 0).val = 256 + ((y 0).val - 256) by omega, (Nat.zero_add _).symm⟩)

end Reads

/-! ## The turn: the rows' scales and codes -/

theorem inb_turn (k : Fin 16) : ∀ a : Fin 2, (![32 * k.val, 0] : Fin 2 → Nat) a + S32x128.size a ≤ S512x128.size a := by
  revert k; decide
theorem inb_turnH (k : Fin 16) : ∀ a : Fin 2, (![32 * k.val, 0] : Fin 2 → Nat) a + S32x6912.size a ≤ S512x6912.size a := by
  revert k; decide

/-- The rows' scales, repeated over the 128 lanes, from the running maximum `dA`. -/
def scaleTurn (dA : Vec F S512x128 .f32) : Vec F S512x128 .f32 := fun y =>
  k0_pay4 (View.ld dA (Rect.unit (s := S512x128) ![32 * ((y 0).val / 32), 0] S32x128.size
      (inb_turn ⟨(y 0).val / 32, by have : (y 0).val < 512 := (y 0).isLt; omega⟩)))
    (ix2 (n0 := 32) (n1 := 128) ⟨(y 0).val % 32, by omega⟩ (y 1))

/-- The rows' codes from the running maximum `dA` and the hidden rows `dH`. -/
def codeTurn (dA : Vec F S512x128 .f32) (dH : Vec F S512x6912 .f32) : Vec F S512x6912 .fp8e4m3 := fun y =>
  k0_pay5 (View.ld dA (Rect.unit (s := S512x128) ![32 * ((y 0).val / 32), 0] S32x128.size
      (inb_turn ⟨(y 0).val / 32, by have : (y 0).val < 512 := (y 0).isLt; omega⟩)))
    (View.ld dH (Rect.unit (s := S512x6912) ![32 * ((y 0).val / 32), 0] S32x6912.size
      (inb_turnH ⟨(y 0).val / 32, by have : (y 0).val < 512 := (y 0).isLt; omega⟩)))
    (ix2 (n0 := 32) (n1 := 6912) ⟨(y 0).val % 32, by omega⟩ (y 1))

/-! ## The second half: the output tile -/

/-- The output tile of a visit of the second half at grid coordinates `i`: residual + gate * (shared + codes · weights, scaled). -/
def outTile (i : grid0.Coords) (h4 : k0_cond4 i = 1#1) (codes : Vec F S512x6912 .fp8e4m3) (scales : Vec F S512x128 .f32)
    (w2 : Vec F S1x6912x512 .fp8e4m3) (s2 : Vec F S1x1x512 .f32) (ires : Vec F S512x512 .f32) (mod : Vec F S12x8x512 .f32)
    (shared : Vec F S512x512 .f32) : Vec F S512x512 .bf16 :=
  k0_pay6 codes w2 (View.ld scales (Rect.unit (s := S512x128) ![0, 0] S512x1.size inb_S512x128_S512x1_0_0)) s2 shared
    (View.ld mod (Rect.unit (s := S12x8x512) (k0_off6 i) S1x1x512.size (k0_off6_inb i h4))) ires

end Cert.KernelIdeal.Ffn

end
-- ==== Proof.BodyFirst.lean ====
/- One run of the body at the first up-visit of a row block: it first sets the running maximum to zero, then does as the other
   up-visits do. -/
module

public import proofs.«01_k».proof.Proof.Tile

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S12x8x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S512x6912 .fp8e4m3) (harg15 : arg15.IsWhole) (arg16 : Memref sig .tc .vmem S512x128 .f32) (harg16 : arg16.IsWhole) (arg17 : Memref sig .tc .vmem S512x6912 .f32) (harg17 : arg17.IsWhole) (arg18 : Memref sig .tc .vmem S512x128 .f32) (harg18 : arg18.IsWhole)

set_option maxHeartbeats 2000000 in
/-- The first visit of a row block. -/
theorem runFirst (h1 : (Scalar.cmpi .ne (Scalar.extui (Scalar.cmpi .eq (BitVec.ofNat 32 (i 1).val) 0#32) : BitVec 32) 0#32 = 1#1)) (h2 : k0_cond2 i = 1#1) (h3 : ¬(k0_cond3 i = 1#1)) (h4 : ¬(k0_cond4 i = 1#1))
    (x0 : Vec F S512x2560 .fp8e4m3) (x1 : Vec F S512x128 .f32) (x2 : Vec F S1x2560x768 .fp8e4m3) (x3 : Vec F S1x1x768 .f32) (x4 : Vec F S1x2560x768 .fp8e4m3) (x5 : Vec F S1x1x768 .f32) (dH : Vec F S512x6912 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg17 fullShare dH ∗ (∃ d, owns (c : Thread nD τ) arg18 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg17 fullShare (paste (i 1).val (tile x0 x1 x2 x3 x4 x5) dH) ∗ owns (c : Thread nD τ) arg18 fullShare (amaxUp x0 x1 x2 x3 x4 x5 (k0_pay1 (F := F)))) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%e1, %g1, -, G1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg17.eq_unread hg0
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [G0]
  · iexists _; isplitr; swap; · iexact G0
    ipureintro
    sl_unfold_words
    simp only [View.readAt_eq_ld, Memref.IsWhole.read_unread, pay8_eq, pay11_eq, pay12_eq, pay17_eq, pay18_eq, pay21_eq, pay22_eq, pay25_eq, pay26_eq, pay28_eq, pay29_eq]
    refine (read_six arg17.view _ (i 1).val (tile x0 x1 x2 x3 x4 x5) (k0_off2_eq i 0) (k0_off3_eq i 0) (k0_off2_eq i 1) (k0_off3_eq i 1)
      (k0_off2_eq i 2) (k0_off3_eq i 2) _ _ _ _ _ _ rfl rfl rfl rfl rfl rfl).trans ?_
    rw [harg17.read_unread]
  iexists _; isplitr; swap; · iexact G1
  ipureintro
  sl_unfold_words
  simp only [readCov_amax_hit, readCov_amax_miss0, readCov_amax_miss1, readCov_amax_whole]
  refine (read_amax arg18.view _ _ _ _ _ _).trans ?_
  simp only [View.readAt_eq_ld, Memref.IsWhole.read_unread, pay8_eq, pay11_eq, pay12_eq, pay17_eq, pay18_eq, pay21_eq, pay22_eq, pay25_eq, pay26_eq, pay28_eq, pay29_eq,
    pay10_eq, pay13_eq, pay19_eq, pay23_eq, pay27_eq, pay2_eq]
  rfl

end Cert.KernelIdeal.Ffn

end
-- ==== Proof.BodyUp.lean ====
/- One run of the body at an up-visit that is not the first: it writes three tiles of hidden values for each half of the rows and
   carries the running maximum of absolute values, lane by lane. -/
module

public import proofs.«01_k».proof.Proof.Tile

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S12x8x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S512x6912 .fp8e4m3) (harg15 : arg15.IsWhole) (arg16 : Memref sig .tc .vmem S512x128 .f32) (harg16 : arg16.IsWhole) (arg17 : Memref sig .tc .vmem S512x6912 .f32) (harg17 : arg17.IsWhole) (arg18 : Memref sig .tc .vmem S512x128 .f32) (harg18 : arg18.IsWhole)

set_option maxHeartbeats 2000000 in
/-- A visit of the first half after the first. -/
theorem runUp (h1 : ¬(Scalar.cmpi .ne (Scalar.extui (Scalar.cmpi .eq (BitVec.ofNat 32 (i 1).val) 0#32) : BitVec 32) 0#32 = 1#1)) (h2 : k0_cond2 i = 1#1) (h3 : ¬(k0_cond3 i = 1#1)) (h4 : ¬(k0_cond4 i = 1#1))
    (x0 : Vec F S512x2560 .fp8e4m3) (x1 : Vec F S512x128 .f32) (x2 : Vec F S1x2560x768 .fp8e4m3) (x3 : Vec F S1x1x768 .f32) (x4 : Vec F S1x2560x768 .fp8e4m3) (x5 : Vec F S1x1x768 .f32) (dH : Vec F S512x6912 .f32) (dA : Vec F S512x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg17 fullShare dH ∗ owns (c : Thread nD τ) arg18 fullShare dA
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg17 fullShare (paste (i 1).val (tile x0 x1 x2 x3 x4 x5) dH) ∗ owns (c : Thread nD τ) arg18 fullShare (amaxUp x0 x1 x2 x3 x4 x5 dA)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg17.eq_unread hg0; obtain rfl := harg18.eq_unread hg1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [G0]
  · iexists _; isplitr; swap; · iexact G0
    ipureintro
    sl_unfold_words
    simp only [View.readAt_eq_ld, Memref.IsWhole.read_unread, pay8_eq, pay11_eq, pay12_eq, pay17_eq, pay18_eq, pay21_eq, pay22_eq, pay25_eq, pay26_eq, pay28_eq, pay29_eq]
    refine (read_six arg17.view _ (i 1).val (tile x0 x1 x2 x3 x4 x5) (k0_off2_eq i 0) (k0_off3_eq i 0) (k0_off2_eq i 1) (k0_off3_eq i 1)
      (k0_off2_eq i 2) (k0_off3_eq i 2) _ _ _ _ _ _ rfl rfl rfl rfl rfl rfl).trans ?_
    rw [harg17.read_unread]
  iexists _; isplitr; swap; · iexact G1
  ipureintro
  sl_unfold_words
  simp only [readCov_amax_hit, readCov_amax_miss0, readCov_amax_miss1, readCov_amax_whole]
  refine (read_amax arg18.view _ _ _ _ _ _).trans ?_
  simp only [View.readAt_eq_ld, Memref.IsWhole.read_unread, pay8_eq, pay11_eq, pay12_eq, pay17_eq, pay18_eq, pay21_eq, pay22_eq, pay25_eq, pay26_eq, pay28_eq, pay29_eq,
    pay10_eq, pay13_eq, pay19_eq, pay23_eq, pay27_eq, pay2_eq]
  rfl

end Cert.KernelIdeal.Ffn

end
-- ==== Proof.BodyQuant.lean ====
/- One run of the body at the turn from up to down: sixteen trips of a loop, 32 rows each, turn the hidden rows and their largest
   absolute values into scales and codes, and the first output tile follows from them. -/
module

public import proofs.«01_k».proof.Proof.Tile

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S12x8x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S512x6912 .fp8e4m3) (harg15 : arg15.IsWhole) (arg16 : Memref sig .tc .vmem S512x128 .f32) (harg16 : arg16.IsWhole) (arg17 : Memref sig .tc .vmem S512x6912 .f32) (harg17 : arg17.IsWhole) (arg18 : Memref sig .tc .vmem S512x128 .f32) (harg18 : arg18.IsWhole)

/-- What one trip of the turn's loop stores: the codes and the scales of 32 rows. -/
theorem trip_pieces (h3 : k0_cond3 i = 1#1) (X17 : arg17.view.ty.Contents (Elt F)) (X18 : arg18.view.ty.Contents (Elt F)) (k : Fin k0_t1_loop.trips) :
    tripL_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 X17 X18 k
      = ([⟨Rect.unit (s := S512x6912) (k0_off5 k) S32x6912.size (k0_off5_inb i k h3),
          k0_pay5 (arg18.view.readAt (Elt F) (Rect.unit (s := S512x128) (k0_off4 k) S32x128.size (k0_off4_inb i k h3)).toLoadRect X18)
            (arg17.view.readAt (Elt F) (Rect.unit (s := S512x6912) (k0_off5 k) S32x6912.size (k0_off5_inb i k h3)).toLoadRect X17)⟩],
        [⟨Rect.unit (s := S512x128) (k0_off4 k) S32x128.size (k0_off4_inb i k h3),
          k0_pay4 (arg18.view.readAt (Elt F) (Rect.unit (s := S512x128) (k0_off4 k) S32x128.size (k0_off4_inb i k h3)).toLoadRect X18)⟩]) := by
  unfold tripL_k0_t1 trip_k0_t1
  rfl

/-- The codes of the rows of the trips before `n`. -/
theorem codes_before (h3 : k0_cond3 i = 1#1) (dH : Vec F S512x6912 .f32) (dA : Vec F S512x128 .f32) (g : arg15.view.ty.Contents (Elt F)) :
    ∀ n, n ≤ k0_t1_loop.trips → ∀ y : S512x6912.Idx, (y 0).val < 32 * n →
      arg15.view.read (Elt F) (arg15.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 (harg17.unread dH) (harg18.unread dA) n).1) y = codeTurn dA dH y
  | 0, _, y, hy => absurd hy (by omega)
  | n + 1, hn, y, hy => by
    rw [show (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 (harg17.unread dH) (harg18.unread dA) (n + 1)) = _ from pb_k0_t1_succ _ _ _ _ _ _ _ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off5_eq ⟨n, hn⟩) 0 (Or.inl h)).trans ?_
      exact codes_before h3 dH dA g n (by omega) y h
    · have q : (y 0).val / 32 = n := by omega
      refine (View.read_writes_cons_unit_of_mem _ _ _ _ _ y (ix2 (n0 := 32) (n1 := 6912) ⟨(y 0).val % 32, by omega⟩ (y 1)) (k0_off5_eq ⟨n, hn⟩)
        (Fin.forall_fin_two.mpr ⟨show (y 0).val = 32 * n + (y 0).val % 32 by omega, (Nat.zero_add _).symm⟩)).trans ?_
      unfold codeTurn
      simp only [View.readAt_eq_ld, Memref.IsWhole.read_unread]
      exact congrFun (congrArg₂ k0_pay5 (ld_unit_congr dA ((k0_off4_eq ⟨n, hn⟩).trans (by rw [q])) _ _)
        (ld_unit_congr dH ((k0_off5_eq ⟨n, hn⟩).trans (by rw [q])) _ _)) _

/-- The scales of the rows of the trips before `n`. -/
theorem scales_before (h3 : k0_cond3 i = 1#1) (dH : Vec F S512x6912 .f32) (dA : Vec F S512x128 .f32) (g : arg16.view.ty.Contents (Elt F)) :
    ∀ n, n ≤ k0_t1_loop.trips → ∀ y : S512x128.Idx, (y 0).val < 32 * n →
      arg16.view.read (Elt F) (arg16.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 (harg17.unread dH) (harg18.unread dA) n).2) y = scaleTurn dA y
  | 0, _, y, hy => absurd hy (by omega)
  | n + 1, hn, y, hy => by
    rw [show (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 (harg17.unread dH) (harg18.unread dA) (n + 1)) = _ from pb_k0_t1_succ _ _ _ _ _ _ _ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off4_eq ⟨n, hn⟩) 0 (Or.inl h)).trans ?_
      exact scales_before h3 dH dA g n (by omega) y h
    · have q : (y 0).val / 32 = n := by omega
      refine (View.read_writes_cons_unit_of_mem _ _ _ _ _ y (ix2 (n0 := 32) (n1 := 128) ⟨(y 0).val % 32, by omega⟩ (y 1)) (k0_off4_eq ⟨n, hn⟩)
        (Fin.forall_fin_two.mpr ⟨show (y 0).val = 32 * n + (y 0).val % 32 by omega, (Nat.zero_add _).symm⟩)).trans ?_
      unfold scaleTurn
      simp only [View.readAt_eq_ld, Memref.IsWhole.read_unread]
      exact congrFun (congrArg k0_pay4 (ld_unit_congr dA ((k0_off4_eq ⟨n, hn⟩).trans (by rw [q])) _ _)) _

/-- All the rows' codes after the loop. -/
theorem codes_after (h3 : k0_cond3 i = 1#1) (dH : Vec F S512x6912 .f32) (dA : Vec F S512x128 .f32) (g : arg15.view.ty.Contents (Elt F)) :
    arg15.view.read (Elt F) (arg15.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 (harg17.unread dH) (harg18.unread dA) k0_t1_loop.trips).1) = codeTurn dA dH :=
  funext fun y => codes_before c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 dH dA g _ le_rfl y (Nat.lt_of_lt_of_le (y 0).isLt (by decide))

/-- All the rows' scales after the loop. -/
theorem scales_after (h3 : k0_cond3 i = 1#1) (dH : Vec F S512x6912 .f32) (dA : Vec F S512x128 .f32) (g : arg16.view.ty.Contents (Elt F)) :
    arg16.view.read (Elt F) (arg16.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 (harg17.unread dH) (harg18.unread dA) k0_t1_loop.trips).2) = scaleTurn dA :=
  funext fun y => scales_before c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 dH dA g _ le_rfl y (Nat.lt_of_lt_of_le (y 0).isLt (by decide))

set_option maxHeartbeats 2000000 in
/-- The visit at the turn of a row block. -/
theorem runQuant (h1 : ¬(Scalar.cmpi .ne (Scalar.extui (Scalar.cmpi .eq (BitVec.ofNat 32 (i 1).val) 0#32) : BitVec 32) 0#32 = 1#1)) (h2 : ¬(k0_cond2 i = 1#1)) (h3 : k0_cond3 i = 1#1) (h4 : k0_cond4 i = 1#1)
    (x6 : Vec F S1x6912x512 .fp8e4m3) (x7 : Vec F S1x1x512 .f32) (x8 : Vec F S512x512 .f32) (x9 : Vec F S12x8x512 .f32) (x10 : Vec F S512x512 .f32) (dH : Vec F S512x6912 .f32) (dA : Vec F S512x128 .f32) (E : Set ℕ) (K : PUnit → sProp 𝕄) :
    iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg17 fullShare dH ∗ owns (c : Thread nD τ) arg18 fullShare dA ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg17 fullShare dH ∗ owns (c : Thread nD τ) arg18 fullShare dA ∗ owns (c : Thread nD τ) arg14 fullShare (outTile i h4 (codeTurn dA dH) (scaleTurn dA) x6 x7 x8 x9 x10) ∗ owns (c : Thread nD τ) arg15 fullShare (codeTurn dA dH) ∗ owns (c : Thread nD τ) arg16 fullShare (scaleTurn dA)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e0, %g0, -, G0⟩, ⟨%e1, %g1, -, G1⟩, ⟨%e2, %g2, -, G2⟩, Hk⟩
  obtain rfl := harg9.eq_unread hf0; obtain rfl := harg10.eq_unread hf1; obtain rfl := harg11.eq_unread hf2; obtain rfl := harg12.eq_unread hf3; obtain rfl := harg13.eq_unread hf4; obtain rfl := harg17.eq_unread hf5; obtain rfl := harg18.eq_unread hf6
  sl_exec
  sl_step
  iapply Hk
  isplitl [H0]
  · iexists _; isplitr; · ipureintro; exact harg9.read_unread _
    iexact H0
  isplitl [H1]
  · iexists _; isplitr; · ipureintro; exact harg10.read_unread _
    iexact H1
  isplitl [H2]
  · iexists _; isplitr; · ipureintro; exact harg11.read_unread _
    iexact H2
  isplitl [H3]
  · iexists _; isplitr; · ipureintro; exact harg12.read_unread _
    iexact H3
  isplitl [H4]
  · iexists _; isplitr; · ipureintro; exact harg13.read_unread _
    iexact H4
  isplitl [H5]
  · iexists _; isplitr; · ipureintro; exact harg17.read_unread _
    iexact H5
  isplitl [H6]
  · iexists _; isplitr; · ipureintro; exact harg18.read_unread _
    iexact H6
  isplitl [G0]
  · iexists _; isplitr; swap; · iexact G0
    ipureintro
    sl_unfold_words
    refine (read_whole arg14.view _ (by funext a; fin_cases a <;> rfl) _ _ _).trans ?_
    simp only [View.readAt_eq_ld, Memref.IsWhole.read_unread]
    erw [codes_after, scales_after]
    unfold outTile
    rw [View.ld_unit_zero (by funext a; fin_cases a <;> rfl), View.ld_unit_zero (by funext a; fin_cases a <;> rfl), View.ld_unit_zero (by funext a; fin_cases a <;> rfl),
      View.ld_unit_zero (by funext a; fin_cases a <;> rfl), View.ld_unit_zero (by funext a; fin_cases a <;> rfl)]
    rfl
  isplitl [G1]
  · iexists _; isplitr; swap; · iexact G1
    ipureintro
    exact codes_after _ _ _ _ _ _ _ _ _ _ _ _ _ _ _ _ _ _ _ _ _ _ _ _ _ _ _ _ _ _ _ _ _ _ _ _ _ _
  iexists _; isplitr; swap; · iexact G2
  ipureintro
  exact scales_after _ _ _ _ _ _ _ _ _ _ _ _ _ _ _ _ _ _ _ _ _ _ _ _ _ _ _ _ _ _ _ _ _ _ _ _ _ _

end Cert.KernelIdeal.Ffn

end
-- ==== Proof.BodyDown.lean ====
/- One run of the body at a later down-visit: one output tile from the codes and scales already made. -/
module

public import proofs.«01_k».proof.Proof.Tile

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S12x8x512 .f32) (harg12 : arg12.IsWhole) (arg13 : Memref sig .tc .vmem S512x512 .f32) (harg13 : arg13.IsWhole) (arg14 : Memref sig .tc .vmem S512x512 .bf16) (harg14 : arg14.IsWhole) (arg15 : Memref sig .tc .vmem S512x6912 .fp8e4m3) (harg15 : arg15.IsWhole) (arg16 : Memref sig .tc .vmem S512x128 .f32) (harg16 : arg16.IsWhole) (arg17 : Memref sig .tc .vmem S512x6912 .f32) (harg17 : arg17.IsWhole) (arg18 : Memref sig .tc .vmem S512x128 .f32) (harg18 : arg18.IsWhole)

set_option maxHeartbeats 2000000 in
/-- A visit of the second half after the turn. -/
theorem runDown (h1 : ¬(Scalar.cmpi .ne (Scalar.extui (Scalar.cmpi .eq (BitVec.ofNat 32 (i 1).val) 0#32) : BitVec 32) 0#32 = 1#1)) (h2 : ¬(k0_cond2 i = 1#1)) (h3 : ¬(k0_cond3 i = 1#1)) (h4 : k0_cond4 i = 1#1)
    (x6 : Vec F S1x6912x512 .fp8e4m3) (x7 : Vec F S1x1x512 .f32) (x8 : Vec F S512x512 .f32) (x9 : Vec F S12x8x512 .f32) (x10 : Vec F S512x512 .f32) (x12 : Vec F S512x6912 .fp8e4m3) (x13 : Vec F S512x128 .f32) (E : Set ℕ) (K : PUnit → sProp 𝕄) :
    iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg15 fullShare x12 ∗ owns (c : Thread nD τ) arg16 fullShare x13 ∗ (∃ d, owns (c : Thread nD τ) arg14 fullShare d)
        ∗ (iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg15 fullShare x12 ∗ owns (c : Thread nD τ) arg16 fullShare x13 ∗ owns (c : Thread nD τ) arg14 fullShare (outTile i h4 x12 x13 x6 x7 x8 x9 x10)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%e0, %g0, -, G0⟩, Hk⟩
  obtain rfl := harg9.eq_unread hf0; obtain rfl := harg10.eq_unread hf1; obtain rfl := harg11.eq_unread hf2; obtain rfl := harg12.eq_unread hf3; obtain rfl := harg13.eq_unread hf4; obtain rfl := harg15.eq_unread hf5; obtain rfl := harg16.eq_unread hf6
  sl_exec
  sl_step
  iapply Hk
  isplitl [H0]
  · iexists _; isplitr; · ipureintro; exact harg9.read_unread _
    iexact H0
  isplitl [H1]
  · iexists _; isplitr; · ipureintro; exact harg10.read_unread _
    iexact H1
  isplitl [H2]
  · iexists _; isplitr; · ipureintro; exact harg11.read_unread _
    iexact H2
  isplitl [H3]
  · iexists _; isplitr; · ipureintro; exact harg12.read_unread _
    iexact H3
  isplitl [H4]
  · iexists _; isplitr; · ipureintro; exact harg13.read_unread _
    iexact H4
  isplitl [H5]
  · iexists _; isplitr; · ipureintro; exact harg15.read_unread _
    iexact H5
  isplitl [H6]
  · iexists _; isplitr; · ipureintro; exact harg16.read_unread _
    iexact H6
  iexists _; isplitr; swap; · iexact G0
  ipureintro
  refine (read_whole arg14.view _ (by funext a; fin_cases a <;> rfl) _ _ _).trans ?_
  simp only [View.readAt_eq_ld, Memref.IsWhole.read_unread]
  unfold outTile
  rw [View.ld_unit_zero (by funext a; fin_cases a <;> rfl), View.ld_unit_zero (by funext a; fin_cases a <;> rfl), View.ld_unit_zero (by funext a; fin_cases a <;> rfl),
    View.ld_unit_zero (by funext a; fin_cases a <;> rfl), View.ld_unit_zero (by funext a; fin_cases a <;> rfl)]

end Cert.KernelIdeal.Ffn

end
-- ==== Proof.State.lean ====
/-
  The state of the kernel between grid points, and what the pipeline's windows hold: point `14 * r + s` is visit `s` of row block `r`;
  visits 0 to 8 fill the hidden rows slab by slab and keep the running row maximum, visit 9 quantises the rows, visits 9 to 13 write the
  five column blocks of the output.
-/
module

public import proofs.«01_k».proof.Proof.BodyFirst
public import proofs.«01_k».proof.Proof.BodyUp
public import proofs.«01_k».proof.Proof.BodyQuant
public import proofs.«01_k».proof.Proof.BodyDown
public import Idealize.ShloMosaic.Lib.Pipeline.TableIdle

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok m) (c : Dev nD)

/-! ## The schedule -/

/-- Visit `s` of row block `r`, as a grid point. -/
def pt (r s : ℕ) : Fin grid0.N := ⟨(14 * r + s) % 224, by rw [N_0]; exact Nat.mod_lt _ (by decide)⟩

theorem pt_self (t : Fin grid0.N) : pt (t.val / 14) (t.val % 14) = t := by
  have : t.val < 224 := N_0 ▸ t.isLt
  apply Fin.ext; unfold pt; dsimp only
  omega

/-- The second grid coordinate is the visit. -/
theorem coords1 (t : Fin grid0.N) : ((grid0.coords t) 1).val = t.val % 14 := by revert t; decide +kernel

/-- The running maximum is reset at visit 0, -/
theorem first_iff (t : Fin grid0.N) :
    (Scalar.cmpi .ne (Scalar.extui (Scalar.cmpi .eq (BitVec.ofNat 32 ((grid0.coords t) 1).val) 0#32) : BitVec 32) 0#32 = 1#1) ↔ t.val % 14 = 0 := by
  revert t; decide +kernel
/-- the hidden rows are filled at visits 0 to 8, -/
theorem cond2_iff (t : Fin grid0.N) : k0_cond2 (grid0.coords t) = 1#1 ↔ t.val % 14 < 9 := by revert t; decide +kernel
/-- the rows are quantised at visit 9, -/
theorem cond3_iff (t : Fin grid0.N) : k0_cond3 (grid0.coords t) = 1#1 ↔ t.val % 14 = 9 := by revert t; decide +kernel
/-- and an output block is written at visits 9 to 13. -/
theorem cond4_iff (t : Fin grid0.N) : k0_cond4 (grid0.coords t) = 1#1 ↔ 9 ≤ t.val % 14 := by revert t; decide +kernel

theorem idle11 (t : Fin (cfgM m hO).N) : (cfgM m hO).idle 11 ((cfgM m hO).grid.coords t) = decide (t.val % 14 < 9) :=
  (by decide +kernel : ∀ t : Fin grid0.N, (!(k0_cond4 (grid0.coords t) == 1#1)) = decide (t.val % 14 < 9)) t
theorem idle12 (t : Fin (cfgM m hO).N) : (cfgM m hO).idle 12 ((cfgM m hO).grid.coords t) = decide (t.val % 14 ≠ 9) :=
  (by decide +kernel : ∀ t : Fin grid0.N, (!(k0_cond3 (grid0.coords t) == 1#1)) = decide (t.val % 14 ≠ 9)) t
theorem idle13 (t : Fin (cfgM m hO).N) : (cfgM m hO).idle 13 ((cfgM m hO).grid.coords t) = decide (t.val % 14 ≠ 9) :=
  (by decide +kernel : ∀ t : Fin grid0.N, (!(k0_cond3 (grid0.coords t) == 1#1)) = decide (t.val % 14 ≠ 9)) t

/-! ## The closed forms -/

/-- The six tiles point `t` computes. -/
def tiles (t : Fin grid0.N) : Fin 3 → Fin 2 → FVec F S256x256 .f32 :=
  tile (iblk m hO c 0 t) (iblk m hO c 1 t) (iblk m hO c 2 t) (iblk m hO c 3 t) (iblk m hO c 4 t) (iblk m hO c 5 t)

/-- The hidden rows of row block `r`: silu(gate) * up, 512 rows of 6912 columns. -/
def hid (r : ℕ) : Vec F S512x6912 .f32 := fun y =>
  tiles m hO c (pt r ((y 1).val / 768)) ⟨(y 1).val % 768 / 256, by omega⟩ ⟨(y 0).val / 256, by have : (y 0).val < 512 := (y 0).isLt; omega⟩
    (ix2 (n0 := 256) (n1 := 256) ⟨(y 0).val % 256, by omega⟩ ⟨(y 1).val % 768 % 256, by omega⟩)

/-- The running maximum of row block `r` before visit `s`. -/
def am (r : ℕ) : ℕ → Vec F S512x128 .f32
  | 0 => k0_pay1
  | s + 1 => amaxUp (iblk m hO c 0 (pt r s)) (iblk m hO c 1 (pt r s)) (iblk m hO c 2 (pt r s)) (iblk m hO c 3 (pt r s)) (iblk m hO c 4 (pt r s))
      (iblk m hO c 5 (pt r s)) (am r s)

/-- The codes of row block `r`'s hidden rows. -/
def codes (r : ℕ) : Vec F S512x6912 .fp8e4m3 := codeTurn (am m hO c r 9) (hid m hO c r)

/-- The scales of row block `r`'s hidden rows. -/
def scales (r : ℕ) : Vec F S512x128 .f32 := scaleTurn (am m hO c r 9)

/-- The output block written at point `t`. -/
def outBlock (t : Fin grid0.N) (h4 : k0_cond4 (grid0.coords t) = 1#1) : Vec F S512x512 .bf16 :=
  outTile (grid0.coords t) h4 (codes m hO c (t.val / 14)) (scales m hO c (t.val / 14)) (iblk m hO c 6 t) (iblk m hO c 7 t) (iblk m hO c 8 t)
    (iblk m hO c 9 t) (iblk m hO c 10 t)

/-- Before point `n` the first columns of the hidden scratch are row block `n / 14`'s, as far as its visits have come, and the other
    scratch is its running maximum. -/
def Inv (n : ℕ) (dH : Vec F S512x6912 .f32) (dA : Vec F S512x128 .f32) : Prop :=
  (∀ y : S512x6912.Idx, (y 1).val < 768 * min (n % 14) 9 → dH y = hid m hO c (n / 14) y) ∧
    (1 ≤ n % 14 → dA = am m hO c (n / 14) (min (n % 14) 9))

theorem inv_hid {n : ℕ} {dH : Vec F S512x6912 .f32} {dA : Vec F S512x128 .f32} (h : Inv m hO c n dH dA) (hn : 9 ≤ n % 14) :
    dH = hid m hO c (n / 14) := by
  funext y
  refine h.1 y ?_
  have : (y 1).val < 6912 := (y 1).isLt
  omega

theorem inv_am {n : ℕ} {dH : Vec F S512x6912 .f32} {dA : Vec F S512x128 .f32} (h : Inv m hO c n dH dA) (hn : 9 ≤ n % 14) :
    dA = am m hO c (n / 14) 9 := by
  have := h.2 (by omega)
  rwa [show min (n % 14) 9 = 9 from by omega] at this

/-- Nothing need be known at a row block's start. -/
theorem inv_start {n : ℕ} (dH : Vec F S512x6912 .f32) (dA : Vec F S512x128 .f32) (hn : n % 14 = 0) : Inv m hO c n dH dA :=
  ⟨fun y hy => by rw [hn] at hy; simp at hy, fun h => by omega⟩

/-- A visit after the ninth leaves the scratch alone. -/
theorem inv_late {n : ℕ} {dH : Vec F S512x6912 .f32} {dA : Vec F S512x128 .f32} (h : Inv m hO c n dH dA) (hn : 9 ≤ n % 14) :
    Inv m hO c (n + 1) dH dA := by
  rcases Nat.lt_or_ge (n % 14) 13 with h13 | h13
  · have e : (n + 1) / 14 = n / 14 := by omega
    constructor
    · intro y hy
      rw [e]; exact congrFun (inv_hid m hO c h hn) y
    · intro _
      rw [e, show min ((n + 1) % 14) 9 = 9 from by omega]
      exact inv_am m hO c h hn
  · exact inv_start m hO c dH dA (by omega)

/-- A visit among the first nine pastes its slab, and updates the running maximum. -/
theorem inv_early (t : Fin grid0.N) (ht : t.val % 14 < 9) {dH : Vec F S512x6912 .f32} {dA : Vec F S512x128 .f32}
    (h : ∀ y : S512x6912.Idx, (y 1).val < 768 * (t.val % 14) → dH y = hid m hO c (t.val / 14) y)
    (hA : dA = am m hO c (t.val / 14) (t.val % 14)) :
    Inv m hO c (t.val + 1) (paste ((grid0.coords t) 1).val (tiles m hO c t) dH)
      (amaxUp (iblk m hO c 0 t) (iblk m hO c 1 t) (iblk m hO c 2 t) (iblk m hO c 3 t) (iblk m hO c 4 t) (iblk m hO c 5 t) dA) := by
  have e : (t.val + 1) / 14 = t.val / 14 := by omega
  have em : (t.val + 1) % 14 = t.val % 14 + 1 := by omega
  constructor
  · intro y hy
    rw [e]
    rw [em] at hy
    rw [coords1]
    unfold paste
    split
    · next hin =>
      unfold hid
      have hq : (y 1).val / 768 = t.val % 14 := by omega
      have hm : (y 1).val % 768 = (y 1).val - 768 * (t.val % 14) := by omega
      simp only [hq, hm, pt_self]
    · next hout => exact h y (by omega)
  · intro _
    rw [e, em, show min (t.val % 14 + 1) 9 = t.val % 14 + 1 from by omega]
    subst hA
    conv_rhs => unfold am
    rw [pt_self]

end Cert.KernelIdeal.Ffn

end
-- ==== Proof.Points.lean ====
/-
  The kernel's body at every grid point, from what the windows' buffers and the scratch hold before it to what they hold after it.
-/
module

public import proofs.«01_k».proof.Proof.State

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pipeline's proof data -/

/-- What the body holds between points: the two scratch buffers, as `Inv` says of them, the generator register, and the table. -/
def PhiS (hO : Ok m) (c : Dev nD) (n : ℕ) (_ : n ≤ grid0.N) : sProp 𝕄 :=
  iprop((∃ dH dA, owns (c : Thread nD τ) scM0_0 fullShare dH ∗ owns (c : Thread nD τ) scM0_1 fullShare dA ∗ ⌜Inv m hO c n dH dA⌝)
    ∗ (∃ r, prngReg c r) ∗ Pipeline.ΦT pre0 (tbl m) c)

/-- The proof data of the pipeline on core `c`: each input's buffer holds its block throughout; the output block, the codes and the
    scales are the closed forms of State.lean. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, h⟩ => if h4 : k0_cond4 (grid0.coords t) = 1#1 then outBlock m hO c t h4 else Pipeline.Dat.unnamed (cfg := (cfgM m hO)) ⟨11, h⟩ t
    | ⟨12, _⟩ => codes m hO c (t.val / 14)
    | ⟨13, _⟩ => scales m hO c (t.val / 14)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) : (dats m hO 0 c).Φ t.castSucc = PhiS m hO c t.val (Nat.le_of_lt t.isLt) := by
  dsimp only [dats]; exact Pipeline.Dat.Φ_castSucc (PhiS m hO c) t
theorem PhiS_succ (hO : Ok m) (c : Dev nD) (t : Fin (cfgM m hO).N) : (dats m hO 0 c).Φ t.succ = PhiS m hO c (t.val + 1) t.isLt := by
  dsimp only [dats]; rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) (h4 : k0_cond4 (grid0.coords t) = 1#1) :
    (dats m hO 0 c).after 11 t = outBlock m hO c t h4 := (by dsimp only [dats]; try rfl : _ = dite _ _ _).trans (dif_pos h4)
theorem after0_12 (hO : Ok m) (c : Dev nD) (t : Fin (cfgM m hO).N) : (dats m hO 0 c).after 12 t = codes m hO c (t.val / 14) := by dsimp only [dats]; try rfl
theorem after0_13 (hO : Ok m) (c : Dev nD) (t : Fin (cfgM m hO).N) : (dats m hO 0 c).after 13 t = scales m hO c (t.val / 14) := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-- Window 12's buffer holds nothing of the row block's until its visit 9 is done, -/
theorem fresh12 (hO : Ok m) (n : ℕ) (hn : n ≤ (cfgM m hO).N) : (cfgM m hO).fresh 12 n = decide (n % 14 ≤ 9) :=
  (cfgM m hO).fresh_tab 12 (fun n => decide (n % 14 ≤ 9)) (by decide) (fun t => by
    rw [idle12 m hO t]
    have hf := flush0_12 (adm m hO) t
    cases h : ((cfgM m hO).win 12).flush t
    · have : ¬ t.val % 14 = 13 := fun e => by rw [hf.mpr e] at h; exact Bool.noConfusion h
      rw [Bool.false_or, ← Bool.decide_and]
      exact decide_eq_decide.mpr (by omega)
    · have : t.val % 14 = 13 := hf.mp h
      rw [Bool.true_or]
      exact decide_eq_true (by omega)) n hn

/-- and then the row block's codes. -/
theorem before0_12 (hO : Ok m) (c : Dev nD) (t : Fin (cfgM m hO).N) (ht : 9 < t.val % 14) (d) :
    (dats m hO 0 c).before 12 t d = codes m hO c (t.val / 14) := by
  rw [(dats m hO 0 c).before_out_traj 12 rfl (fun _ _ => rfl) (fun t ht0 _ hfr => ?_) t.val t rfl d, fresh12 m hO _ (Nat.le_of_lt t.isLt),
    if_neg (by rw [decide_eq_true_eq]; omega), after0_12]
  · dsimp only; rw [show (t.val - 1) / 14 = t.val / 14 from by omega]
  · rw [fresh12 m hO _ (Nat.le_of_lt t.isLt), decide_eq_false_iff_not] at hfr
    rw [after0_12, after0_12]; dsimp only; rw [show (t.val - 1) / 14 = t.val / 14 from by omega]

/-- Window 13's buffer holds nothing of the row block's until its visit 9 is done, -/
theorem fresh13 (hO : Ok m) (n : ℕ) (hn : n ≤ (cfgM m hO).N) : (cfgM m hO).fresh 13 n = decide (n % 14 ≤ 9) :=
  (cfgM m hO).fresh_tab 13 (fun n => decide (n % 14 ≤ 9)) (by decide) (fun t => by
    rw [idle13 m hO t]
    have hf := flush0_13 (adm m hO) t
    cases h : ((cfgM m hO).win 13).flush t
    · have : ¬ t.val % 14 = 13 := fun e => by rw [hf.mpr e] at h; exact Bool.noConfusion h
      rw [Bool.false_or, ← Bool.decide_and]
      exact decide_eq_decide.mpr (by omega)
    · have : t.val % 14 = 13 := hf.mp h
      rw [Bool.true_or]
      exact decide_eq_true (by omega)) n hn

/-- and then the row block's scales. -/
theorem before0_13 (hO : Ok m) (c : Dev nD) (t : Fin (cfgM m hO).N) (ht : 9 < t.val % 14) (d) :
    (dats m hO 0 c).before 13 t d = scales m hO c (t.val / 14) := by
  rw [(dats m hO 0 c).before_out_traj 13 rfl (fun _ _ => rfl) (fun t ht0 _ hfr => ?_) t.val t rfl d, fresh13 m hO _ (Nat.le_of_lt t.isLt),
    if_neg (by rw [decide_eq_true_eq]; omega), after0_13]
  · dsimp only; rw [show (t.val - 1) / 14 = t.val / 14 from by omega]
  · rw [fresh13 m hO _ (Nat.le_of_lt t.isLt), decide_eq_false_iff_not] at hfr
    rw [after0_13, after0_13]; dsimp only; rw [show (t.val - 1) / 14 = t.val / 14 from by omega]

/-! ## The body obligation, at a generic point -/

/-- How a point leaves window `w`'s buffer: a point that writes nothing into it, and does not write it back, leaves what it found. -/
def left (hO : Ok m) (c : Dev nD) (w : Fin (cfgM m hO).W) (t : Fin (cfgM m hO).N) : sProp 𝕄 :=
  match (cfgM m hO).idle w ((cfgM m hO).grid.coords t) with
  | true =>
    match ((cfgM m hO).win w).flush t with
    | false => iprop(∃ d, owns (c : Thread nD τ) (((cfgM m hO).win w).stage ((cfgM m hO).slots t w)) fullShare ((dats m hO 0 c).before w t d))
    | true => owns (c : Thread nD τ) (((cfgM m hO).win w).stage ((cfgM m hO).slots t w)) fullShare ((dats m hO 0 c).after w t)
  | false => owns (c : Thread nD τ) (((cfgM m hO).win w).stage ((cfgM m hO).slots t w)) fullShare ((dats m hO 0 c).after w t)

theorem left_idle (hO : Ok m) (c : Dev nD) (w : Fin (cfgM m hO).W) (t : Fin (cfgM m hO).N)
    (hi : (cfgM m hO).idle w ((cfgM m hO).grid.coords t) = true) (hf : ((cfgM m hO).win w).flush t = false) :
    left m hO c w t
      = iprop(∃ d, owns (c : Thread nD τ) (((cfgM m hO).win w).stage ((cfgM m hO).slots t w)) fullShare ((dats m hO 0 c).before w t d)) := by
  unfold left; rw [hi, hf]

theorem left_flush (hO : Ok m) (c : Dev nD) (w : Fin (cfgM m hO).W) (t : Fin (cfgM m hO).N)
    (hi : (cfgM m hO).idle w ((cfgM m hO).grid.coords t) = true) (hf : ((cfgM m hO).win w).flush t = true) :
    left m hO c w t = owns (c : Thread nD τ) (((cfgM m hO).win w).stage ((cfgM m hO).slots t w)) fullShare ((dats m hO 0 c).after w t) := by
  unfold left; rw [hi, hf]

theorem left_live (hO : Ok m) (c : Dev nD) (w : Fin (cfgM m hO).W) (t : Fin (cfgM m hO).N)
    (hi : (cfgM m hO).idle w ((cfgM m hO).grid.coords t) = false) :
    left m hO c w t = owns (c : Thread nD τ) (((cfgM m hO).win w).stage ((cfgM m hO).slots t w)) fullShare ((dats m hO 0 c).after w t) := by
  unfold left; rw [hi]

theorem flush_false {a : (pcfg0 (F := F)).Adm} {w : Fin 14} {t : Fin (cfg0 a).N} {p : Prop} (h : ((cfg0 a).win w).flush t = true ↔ p) (hp : ¬ p) :
    ((cfg0 a).win w).flush t = false := by
  cases hf : ((cfg0 a).win w).flush t
  · rfl
  · exact absurd (h.mp hf) hp

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ left m hO c 11 t ∗ left m hO c 12 t ∗ left m hO c 13 t)

set_option maxHeartbeats 1600000 in
/-- The body at visit 0 of a row block. -/
theorem body_first (hO : Ok m) (c : Dev nD) (t : Fin (cfgM m hO).N) (ht : t.val % 14 = 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).owesAt () t.succ = (dats m hO 0 c).owesAt () t.castSucc from rfl, PhiS_castSucc, PhiS_succ,
    after0_0, after0_1, after0_2, after0_3, after0_4, after0_5, after0_6, after0_7, after0_8, after0_9, after0_10]
  rw [left_idle m hO c 11 t (by rw [idle11 m hO t]; exact decide_eq_true (by omega)) (flush_false (flush0_11 (adm m hO) t) (by omega)),
    left_idle m hO c 12 t (by rw [idle12 m hO t]; exact decide_eq_true (by omega)) (flush_false (flush0_12 (adm m hO) t) (by omega)),
    left_idle m hO c 13 t (by rw [idle13 m hO t]; exact decide_eq_true (by omega)) (flush_false (flush0_13 (adm m hO) t) (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runFirst c (grid0.coords t) _ _ _ _ _ _ _ _ _ _ _ _ _ _ _ _ _ _ _ _ _ _ _ _ _ _ _ _ _ _ _ _ ((first_iff t).mpr ht) ((cond2_iff t).mpr (by omega)) (fun h => by have := (cond3_iff t).mp h; omega)
    (fun h => by have := (cond4_iff t).mp h; omega) (iblk m hO c 0 t) (iblk m hO c 1 t) (iblk m hO c 2 t) (iblk m hO c 3 t) (iblk m hO c 4 t) (iblk m hO c 5 t) dH Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexists _; iexact HS1
  iintro ⟨H0, H1, H2, H3, H4, H5, HS0, HS1⟩
  isplitl [HS0 HS1 Hg HT]
  · isplitl [HS0 HS1]
    · iexists _
      iexists _
      isplitl [HS0]; · iexact HS0
      isplitl [HS1]; · iexact HS1
      ipureintro
      exact inv_early m hO c t (by omega) (fun y hy => by rw [ht] at hy; simp at hy) (by rw [ht]; rfl)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexists _; iexact H13

set_option maxHeartbeats 1600000 in
/-- The body at visits 1 to 8 of a row block. -/
theorem body_up (hO : Ok m) (c : Dev nD) (t : Fin (cfgM m hO).N) (ht : 1 ≤ t.val % 14 ∧ t.val % 14 < 9) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).owesAt () t.succ = (dats m hO 0 c).owesAt () t.castSucc from rfl, PhiS_castSucc, PhiS_succ,
    after0_0, after0_1, after0_2, after0_3, after0_4, after0_5, after0_6, after0_7, after0_8, after0_9, after0_10]
  rw [left_idle m hO c 11 t (by rw [idle11 m hO t]; exact decide_eq_true (by omega)) (flush_false (flush0_11 (adm m hO) t) (by omega)),
    left_idle m hO c 12 t (by rw [idle12 m hO t]; exact decide_eq_true (by omega)) (flush_false (flush0_12 (adm m hO) t) (by omega)),
    left_idle m hO c 13 t (by rw [idle13 m hO t]; exact decide_eq_true (by omega)) (flush_false (flush0_13 (adm m hO) t) (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (runUp c (grid0.coords t) _ _ _ _ _ _ _ _ _ _ _ _ _ _ _ _ _ _ _ _ _ _ _ _ _ _ _ _ _ _ _ _ (fun h => by have := (first_iff t).mp h; omega) ((cond2_iff t).mpr (by omega))
    (fun h => by have := (cond3_iff t).mp h; omega) (fun h => by have := (cond4_iff t).mp h; omega) (iblk m hO c 0 t) (iblk m hO c 1 t) (iblk m hO c 2 t) (iblk m hO c 3 t) (iblk m hO c 4 t) (iblk m hO c 5 t) dH dA Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg HT]
  · isplitl [HS0 HS1]
    · iexists _
      iexists _
      isplitl [HS0]; · iexact HS0
      isplitl [HS1]; · iexact HS1
      ipureintro
      exact inv_early m hO c t (by omega) (fun y hy => hI.1 y (by omega))
        (by have := hI.2 (by omega); rwa [show min (t.val % 14) 9 = t.val % 14 from by omega] at this)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexists _; iexact H13

set_option maxHeartbeats 1600000 in
/-- The body at visit 9 of a row block. -/
theorem body_quant (hO : Ok m) (c : Dev nD) (t : Fin (cfgM m hO).N) (ht : t.val % 14 = 9) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).owesAt () t.succ = (dats m hO 0 c).owesAt () t.castSucc from rfl, PhiS_castSucc, PhiS_succ,
    after0_0, after0_1, after0_2, after0_3, after0_4, after0_5, after0_6, after0_7, after0_8, after0_9, after0_10]
  rw [left_live m hO c 11 t (by rw [idle11 m hO t]; exact decide_eq_false (by omega)),
    left_live m hO c 12 t (by rw [idle12 m hO t]; exact decide_eq_false (by omega)),
    left_live m hO c 13 t (by rw [idle13 m hO t]; exact decide_eq_false (by omega)),
    after0_11 m hO c t ((cond4_iff t).mpr (by omega)), after0_12, after0_13]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  obtain rfl := inv_hid m hO c hI (by omega)
  obtain rfl := inv_am m hO c hI (by omega)
  iapply (runQuant c (grid0.coords t) _ _ _ _ _ _ _ _ _ _ _ _ _ _ _ _ _ _ _ _ _ _ _ _ _ _ _ _ _ _ _ _ (fun h => by have := (first_iff t).mp h; omega) (fun h => by have := (cond2_iff t).mp h; omega)
    ((cond3_iff t).mpr ht) ((cond4_iff t).mpr (by omega)) (iblk m hO c 6 t) (iblk m hO c 7 t) (iblk m hO c 8 t) (iblk m hO c 9 t) (iblk m hO c 10 t) (hid m hO c (t.val / 14)) (am m hO c (t.val / 14) 9) Set.univ _)
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [H11]; · iexists _; iexact H11
  isplitl [H12]; · iexists _; iexact H12
  isplitl [H13]; · iexists _; iexact H13
  iintro ⟨H6, H7, H8, H9, H10, HS0, HS1, H11, H12, H13⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 1600000 in
/-- The body at visits 10 to 12 of a row block. -/
theorem body_down (hO : Ok m) (c : Dev nD) (t : Fin (cfgM m hO).N) (ht : 9 < t.val % 14 ∧ t.val % 14 < 13) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).owesAt () t.succ = (dats m hO 0 c).owesAt () t.castSucc from rfl, PhiS_castSucc, PhiS_succ,
    after0_0, after0_1, after0_2, after0_3, after0_4, after0_5, after0_6, after0_7, after0_8, after0_9, after0_10]
  rw [left_live m hO c 11 t (by rw [idle11 m hO t]; exact decide_eq_false (by omega)),
    left_idle m hO c 12 t (by rw [idle12 m hO t]; exact decide_eq_true (by omega)) (flush_false (flush0_12 (adm m hO) t) (by omega)),
    left_idle m hO c 13 t (by rw [idle13 m hO t]; exact decide_eq_true (by omega)) (flush_false (flush0_13 (adm m hO) t) (by omega)),
    after0_11 m hO c t ((cond4_iff t).mpr (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0_12 m hO c t (by omega), before0_13 m hO c t (by omega)]
  iapply (runDown c (grid0.coords t) _ _ _ _ _ _ _ _ _ _ _ _ _ _ _ _ _ _ _ _ _ _ _ _ _ _ _ _ _ _ _ _ (fun h => by have := (first_iff t).mp h; omega) (fun h => by have := (cond2_iff t).mp h; omega)
    (fun h => by have := (cond3_iff t).mp h; omega) ((cond4_iff t).mpr (by omega)) (iblk m hO c 6 t) (iblk m hO c 7 t) (iblk m hO c 8 t) (iblk m hO c 9 t) (iblk m hO c 10 t) (codes m hO c (t.val / 14))
    (scales m hO c (t.val / 14)) Set.univ _)
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H11]; · iexists _; iexact H11
  iintro ⟨H6, H7, H8, H9, H10, H12, H13, H11⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists d12
    rw [before0_12 m hO c t (by omega)]; iexact H12
  iexists d13
  rw [before0_13 m hO c t (by omega)]; iexact H13

set_option maxHeartbeats 1600000 in
/-- The body at visit 13 of a row block. -/
theorem body_last (hO : Ok m) (c : Dev nD) (t : Fin (cfgM m hO).N) (ht : t.val % 14 = 13) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).owesAt () t.succ = (dats m hO 0 c).owesAt () t.castSucc from rfl, PhiS_castSucc, PhiS_succ,
    after0_0, after0_1, after0_2, after0_3, after0_4, after0_5, after0_6, after0_7, after0_8, after0_9, after0_10]
  rw [left_live m hO c 11 t (by rw [idle11 m hO t]; exact decide_eq_false (by omega)),
    left_flush m hO c 12 t (by rw [idle12 m hO t]; exact decide_eq_true (by omega)) ((flush0_12 (adm m hO) t).mpr (by omega)),
    left_flush m hO c 13 t (by rw [idle13 m hO t]; exact decide_eq_true (by omega)) ((flush0_13 (adm m hO) t).mpr (by omega)),
    after0_11 m hO c t ((cond4_iff t).mpr (by omega)), after0_12, after0_13]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before0_12 m hO c t (by omega), before0_13 m hO c t (by omega)]
  iapply (runDown c (grid0.coords t) _ _ _ _ _ _ _ _ _ _ _ _ _ _ _ _ _ _ _ _ _ _ _ _ _ _ _ _ _ _ _ _ (fun h => by have := (first_iff t).mp h; omega) (fun h => by have := (cond2_iff t).mp h; omega)
    (fun h => by have := (cond3_iff t).mp h; omega) ((cond4_iff t).mpr (by omega)) (iblk m hO c 6 t) (iblk m hO c 7 t) (iblk m hO c 8 t) (iblk m hO c 9 t) (iblk m hO c 10 t) (codes m hO c (t.val / 14))
    (scales m hO c (t.val / 14)) Set.univ _)
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H11]; · iexists _; iexact H11
  iintro ⟨H6, H7, H8, H9, H10, H12, H13, H11⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  rcases Nat.lt_trichotomy (t.val % 14) 9 with h | h | h
  · rcases Nat.eq_zero_or_pos (t.val % 14) with h0 | h0
    · exact body_first m hO c t h0
    · exact body_up m hO c t ⟨h0, h⟩
  · exact body_quant m hO c t h
  · rcases Nat.lt_or_ge (t.val % 14) 13 with h13 | h13
    · exact body_down m hO c t ⟨h, h13⟩
    · exact body_last m hO c t (by omega)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

end Cert.KernelIdeal.Ffn

end
-- ==== Proof.Frame.lean ====
/-
  The launch of the kernel: it ends at every fair schedule, its arguments unchanged, its counters at zero, and its results at what the
  pipeline's proof data says of them.
-/
module

public import proofs.«01_k».proof.Proof.Points
public import Idealize.ShloMosaic.Lib.Claim

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's invariant before the first point: the scratch buffers hold anything. -/
theorem phi_in (hO : Ok m) (c : Dev nD) : iprop(Pipeline.ΦA spec0 c ∗ Pipeline.ΦT pre0 (tbl m) c) ⊢ (PhiS m hO c 0 (Nat.zero_le _) : sProp 𝕄) := by
  rw [PhiA0_eq]; unfold PhiS
  iintro ⟨⟨⟨⟨%dH, HS0⟩, ⟨%dA, HS1⟩⟩, Hg⟩, HT⟩
  isplitl [HS0 HS1]
  · iexists dH
    iexists dA
    isplitl [HS0]; · iexact HS0
    isplitl [HS1]; · iexact HS1
    ipureintro
    exact inv_start m hO c dH dA rfl
  isplitl [Hg]; · iexact Hg
  iexact HT

/-- After the last point they are given back at whatever they hold. -/
theorem phi_out (hO : Ok m) (c : Dev nD) (n : ℕ) (hn : n ≤ grid0.N) : (PhiS m hO c n hn : sProp 𝕄) ⊢ Pipeline.ΦA spec0 c := by
  rw [PhiA0_eq]; unfold PhiS
  iintro ⟨⟨%dH, %dA, HS0, HS1, -⟩, Hg, -⟩
  isplitl [HS0 HS1]
  · isplitl [HS0]; · iexists dH; iexact HS0
    iexists dA; iexact HS1
  iexact Hg

set_option backward.isDefEq.respectTransparency.types false in
/-- The launch: each windowed array ends as the proof data has it, every other buffer as launched, and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => phi_in m hO c) (hout := fun c => phi_out m hO c grid0.N (Nat.le_refl _))

/-- An input's array ends as launched. -/
theorem arr_in (hO : Ok m) {r : PUnit × MemSt nD τ sig (Elt F)} (h : Pipeline.FramePost (Pipeline.pin pcfgs fun _ => adm m hO) (dats m hO) 0 (V m) r) (c : Dev nD)
    (w : Fin (cfgM m hO).W) (hin : ((cfgM m hO).win w).isOut = false) :
    r.2.mem ((spec0 w).arr.view.loc (c.tc : Thread nD τ)) = V m c (Pipeline.arrRef spec0 w) :=
  ((h c).1 w).trans (((dats m hO 0 c).arrAt_in w hin _).trans (A_eq m hO c w))

/-- The arguments end as launched. -/
theorem args_of (hO : Ok m) {r : PUnit × MemSt nD τ sig (Elt F)} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨arr_in m hO h c 0 rfl,
    arr_in m hO h c 1 rfl,
    arr_in m hO h c 2 rfl,
    arr_in m hO h c 3 rfl,
    arr_in m hO h c 4 rfl,
    arr_in m hO h c 5 rfl,
    arr_in m hO h c 6 rfl,
    arr_in m hO h c 7 rfl,
    (h c).2 main_arg8 (by decide : main_arg8 ∈ Pipeline.restRefs sig spec0),
    arr_in m hO h c 8 rfl,
    arr_in m hO h c 9 rfl,
    arr_in m hO h c 10 rfl⟩

/-- The frame: under every fair schedule the kernel ends, its arguments unchanged and its counters at zero. -/
theorem frame (hO : Ok m) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => args_of m hO h.1 c, h.2⟩) (run_main m ρ hO)

end Cert.KernelIdeal.Ffn

end
-- ==== Proof.Table.lean ====
/-
  The prefetched table: sample `b`'s word names its expert, the precondition puts every word in 0 .. 3, and so every block that the
  index maps name through the table lies inside its array. Also the index maps' closed forms.
-/
module

public import proofs.«01_k».proof.Proof.Kit
public import proofs.«01_k».proof.Proof.Gen.Pre_experts_exist
public import Idealize.ShloMosaic.Lib.ValueIdxCoords
public import Idealize.ShloMosaic.Lib.Pipeline.ValueKit
public import Idealize.ShloMosaic.Lib.Affine

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- Every word of a table the precondition admits is below 4. -/
theorem words_of_pre (a0 : FVec F Cert.Pre_experts_exist.S8192x2560 .fp8e4m3) (a1 : FVec F Cert.Pre_experts_exist.S8192x128 .f32)
    (a2 : FVec F Cert.Pre_experts_exist.S4x2560x6912 .fp8e4m3) (a3 : FVec F Cert.Pre_experts_exist.S4x1x6912 .f32)
    (a4 : FVec F Cert.Pre_experts_exist.S4x2560x6912 .fp8e4m3) (a5 : FVec F Cert.Pre_experts_exist.S4x1x6912 .f32)
    (a6 : FVec F Cert.Pre_experts_exist.S4x6912x2560 .fp8e4m3) (a7 : FVec F Cert.Pre_experts_exist.S4x1x2560 .f32)
    (a8 : IVec Cert.Pre_experts_exist.S8 32) (a9 : FVec F Cert.Pre_experts_exist.S8192x2560 .f32)
    (a10 : FVec F Cert.Pre_experts_exist.S12x8x2560 .f32) (a11 : FVec F Cert.Pre_experts_exist.S8192x2560 .f32)
    (h : Cert.Pre_experts_exist.fn (F := F) a0 a1 a2 a3 a4 a5 a6 a7 a8 a9 a10 a11 = fun _ => 1#1) (w : Cert.Pre_experts_exist.S8.Idx) :
    (a8 w).toNat < 4 := by
  have andi_one (a b : BitVec 1) : IntOp.andi a b = 1#1 ↔ a = 1#1 ∧ b = 1#1 := by revert a b; decide
  have ofBool_one (p : Bool) : (BitVec.ofBool p = 1#1) ↔ p = true := by cases p <;> decide
  have hw := congrFun h w
  simp only [Cert.Pre_experts_exist.fn, constantI, broadcastInDim, cmpi, andi, andi_one, ofBool_one, IntOp.cmpi, BitVec.sle,
    decide_eq_true_eq, BitVec.toInt, BitVec.toNat_ofNat] at hw
  have := (a8 w).isLt
  omega

variable (m : (ℓ : Loc nD τ sig) → Buf (Elt F) ℓ)

/-- Row block `i 0`'s word of the table: two row blocks to a sample. -/
def word (i : grid0.Coords) : BitVec 32 :=
  (tbl m 0 : Cert.KernelIdeal.S8.Idx → BitVec 32) (ix1 (n := 8) ⟨(i 0).val / 2, by have : (i 0).val < 16 := (i 0).isLt; omega⟩)

theorem off1_eq (i : grid0.Coords) : k0_off1 i = ![(i 0).val / 2] := by
  have h : ∀ i : grid0.Coords, k0_off1 i 0 = (i 0).val / 2 := by decide +kernel
  funext a
  obtain rfl : a = 0 := Subsingleton.elim _ _
  exact h i

/-- The word an index map reads is the row block's. -/
theorem at_eq (i : grid0.Coords) (h1 : (Rect.unit (s := S8) (k0_off1 i) S1.size (k0_off1_inb i)).shape.numel = 1) :
    (tbl m).at 0 (Rect.unit (s := S8) (k0_off1 i) S1.size (k0_off1_inb i)) h1 = word m i := by
  unfold word
  refine congrArg (tbl m 0 : Cert.KernelIdeal.S8.Idx → BitVec 32) (funext fun a => ?_)
  obtain rfl : a = (0 : Fin 1) := Subsingleton.elim (α := Fin 1) _ _
  apply Fin.ext
  refine (ValueKit.rect_emb_unit_val _ _ _ _ _).trans ?_
  exact congrFun (off1_eq i) 0

/-- The up-projection's slab at a visit: the visit, held at the last slab afterwards. -/
theorem min_eq (i : grid0.Coords) : (Scalar.minsi (BitVec.ofNat 32 (i 1).val) 8#32).toNat = min (i 1).val 8 := by revert i; decide +kernel
/-- The column block at a visit: held at the first until visit 9. -/
theorem max_eq (i : grid0.Coords) : (Scalar.maxsi (Scalar.subi (BitVec.ofNat 32 (i 1).val) 9#32) 0#32).toNat = (i 1).val - 9 := by revert i; decide +kernel
theorem row_eq (i : grid0.Coords) : (BitVec.ofNat 32 (i 0).val).toNat = (i 0).val := by revert i; decide +kernel

theorem index2 (i : grid0.Coords) : cc0_transform_2 k0_off1_inb numel1_S1 (tbl m) i = ![(word m i).toNat, 0, min (i 1).val 8] := by
  rw [← at_eq m i numel1_S1, ← min_eq]; rfl
theorem index3 (i : grid0.Coords) : cc0_transform_3 k0_off1_inb numel1_S1 (tbl m) i = ![(word m i).toNat, 0, min (i 1).val 8] := by
  rw [← at_eq m i numel1_S1, ← min_eq]; rfl
theorem index4 (i : grid0.Coords) : cc0_transform_4 k0_off1_inb numel1_S1 (tbl m) i = ![(word m i).toNat, 0, min (i 1).val 8] := by
  rw [← at_eq m i numel1_S1, ← min_eq]; rfl
theorem index5 (i : grid0.Coords) : cc0_transform_5 k0_off1_inb numel1_S1 (tbl m) i = ![(word m i).toNat, 0, min (i 1).val 8] := by
  rw [← at_eq m i numel1_S1, ← min_eq]; rfl
theorem index6 (i : grid0.Coords) : cc0_transform_6 k0_off1_inb numel1_S1 (tbl m) i = ![(word m i).toNat, 0, (i 1).val - 9] := by
  rw [← at_eq m i numel1_S1, ← max_eq]; rfl
theorem index7 (i : grid0.Coords) : cc0_transform_7 k0_off1_inb numel1_S1 (tbl m) i = ![(word m i).toNat, 0, (i 1).val - 9] := by
  rw [← at_eq m i numel1_S1, ← max_eq]; rfl
theorem index0 (i : grid0.Coords) : cc0_transform_0 i = ![(i 0).val, 0] := by rw [← row_eq i]; rfl
theorem index1 (i : grid0.Coords) : cc0_transform_1 i = ![(i 0).val, 0] := by rw [← row_eq i]; rfl
theorem index12 (i : grid0.Coords) : cc0_transform_12 i = ![(i 0).val, 0] := by rw [← row_eq i]; rfl
theorem index13 (i : grid0.Coords) : cc0_transform_13 i = ![(i 0).val, 0] := by rw [← row_eq i]; rfl
theorem index8 (i : grid0.Coords) : cc0_transform_8 i = ![(i 0).val, (i 1).val - 9] := by rw [← row_eq i, ← max_eq i]; rfl
theorem index10 (i : grid0.Coords) : cc0_transform_10 i = ![(i 0).val, (i 1).val - 9] := by rw [← row_eq i, ← max_eq i]; rfl
theorem index11 (i : grid0.Coords) : cc0_transform_11 i = ![(i 0).val, (i 1).val - 9] := by rw [← row_eq i, ← max_eq i]; rfl
theorem index9 (i : grid0.Coords) : cc0_transform_9 i = ![0, 0, (i 1).val - 9] := by rw [← max_eq i]; rfl

/-- With every word below 4 the index maps stay inside their arrays. -/
theorem ok_of_words (h : ∀ w : Cert.KernelIdeal.S8.Idx, ((tbl m 0 : Cert.KernelIdeal.S8.Idx → BitVec 32) w).toNat < 4) : Ok m := by
  have hw (i : grid0.Coords) : (word m i).toNat < 4 := h _
  have up (e j : ℕ) (he : e < 4) : ∀ a : Fin 3, ((![e, 0, min j 8] : Fin 3 → ℕ) a + 1) * S1x2560x768.size a ≤ S4x2560x6912.size a := by
    intro a
    fin_cases a
    · show (e + 1) * 1 ≤ 4; omega
    · show (0 + 1) * 2560 ≤ 2560; omega
    · show (min j 8 + 1) * 768 ≤ 6912; omega
  have upScale (e j : ℕ) (he : e < 4) : ∀ a : Fin 3, ((![e, 0, min j 8] : Fin 3 → ℕ) a + 1) * S1x1x768.size a ≤ S4x1x6912.size a := by
    intro a
    fin_cases a
    · show (e + 1) * 1 ≤ 4; omega
    · show (0 + 1) * 1 ≤ 1; omega
    · show (min j 8 + 1) * 768 ≤ 6912; omega
  have down (e j : ℕ) (he : e < 4) (hj : j < 14) : ∀ a : Fin 3, ((![e, 0, j - 9] : Fin 3 → ℕ) a + 1) * S1x6912x512.size a ≤ S4x6912x2560.size a := by
    intro a
    fin_cases a
    · show (e + 1) * 1 ≤ 4; omega
    · show (0 + 1) * 6912 ≤ 6912; omega
    · show (j - 9 + 1) * 512 ≤ 2560; omega
  have downScale (e j : ℕ) (he : e < 4) (hj : j < 14) : ∀ a : Fin 3, ((![e, 0, j - 9] : Fin 3 → ℕ) a + 1) * S1x1x512.size a ≤ S4x1x2560.size a := by
    intro a
    fin_cases a
    · show (e + 1) * 1 ≤ 4; omega
    · show (0 + 1) * 1 ≤ 1; omega
    · show (j - 9 + 1) * 512 ≤ 2560; omega
  have h1 (i : grid0.Coords) : (i 1).val < 14 := (i 1).isLt
  unfold Ok ok0
  exact ⟨fun i => ⟨by rw [index2]; exact up _ _ (hw i), .inr (Affine.block_words_dvd (of_decide_eq_true rfl) (by decide))⟩,
    fun i => ⟨by rw [index3]; exact upScale _ _ (hw i), .inl rfl⟩,
    fun i => ⟨by rw [index4]; exact up _ _ (hw i), .inr (Affine.block_words_dvd (of_decide_eq_true rfl) (by decide))⟩,
    fun i => ⟨by rw [index5]; exact upScale _ _ (hw i), .inl rfl⟩,
    fun i => ⟨by rw [index6]; exact down _ _ (hw i) (h1 i), .inr (Affine.block_words_dvd (of_decide_eq_true rfl) (by decide))⟩,
    fun i => ⟨by rw [index7]; exact downScale _ _ (hw i) (h1 i), .inl rfl⟩⟩

end Cert.KernelIdeal.Ffn

end
-- ==== Proof.FrameBits.lean ====
/- The printed program and its copy to be read over the extended reals are the same text (the claim offers no rewrites), so the frame
   proved of the copy for every reading of the floats is the printed program's frame at bit patterns. The two texts' definitions are
   shown equal part by part: the body, the table of bodies, the pipeline around it. -/
module

public import proofs.«01_k».proof.Defs
public import proofs.«01_k».proof.Proof.Frame
public import proofs.«01_k».proof.Proof.Table
public import proofs.«01_k».proof.Proof.Gen.Kernel

@[expose] public section

set_option maxRecDepth 16384
set_option maxHeartbeats 1000000

noncomputable section

namespace Cert.Proof

open Idealize.ShloMosaic Idealize.SL.Sem

/-- The two bodies are one function. -/
theorem same_body (a b c d) : Cert.Kernel.cc0_swiglu (F := Bits) a b c d = Cert.KernelIdeal.cc0_swiglu (F := Bits) a b c d := rfl

/-- So are the two tables that run them at a grid point. -/
theorem same_defs0 : Cert.Kernel.defs₀ (F := Bits) = Cert.KernelIdeal.defs₀ (F := Bits) := by
  unfold Cert.Kernel.defs₀ Cert.KernelIdeal.defs₀
  refine congrArg Defs.onTc (funext fun l => funext fun a => ?_)
  obtain rfl : l = (0 : Fin 1) := Subsingleton.elim (α := Fin 1) _ _
  obtain ⟨t, s⟩ := a
  dsimp only
  rw [same_body]
  rfl

theorem same_defs : Cert.Kernel.defs (F := Bits) = Cert.KernelIdeal.defs (F := Bits) := by
  unfold Cert.Kernel.defs Cert.KernelIdeal.defs
  rw [same_defs0]
  rfl

theorem same_main : Cert.Kernel.main (F := Bits) = Cert.KernelIdeal.main (F := Bits) := rfl

/-- The frame of the printed program at bit patterns, under the precondition. -/
theorem frame_bits : Cert.quiescent_Kernel := fun m ρ h => by
  have hO := Cert.KernelIdeal.Ffn.ok_of_words (F := Bits) m fun w => Cert.KernelIdeal.Ffn.words_of_pre _ _ _ _ _ _ _ _ _ _ _ _ (h 0) w
  have := Cert.KernelIdeal.Ffn.frame (F := Bits) m ρ hO
  rw [same_defs, same_main]
  exact this

/-- The frame of the copy over the extended reals, under the precondition. -/
theorem frame_ideal : Cert.quiescent_KernelIdeal := fun m ρ h =>
  Cert.KernelIdeal.Ffn.frame (F := Ideal) m ρ
    (Cert.KernelIdeal.Ffn.ok_of_words (F := Ideal) m fun w => Cert.KernelIdeal.Ffn.words_of_pre _ _ _ _ _ _ _ _ _ _ _ _ (h 0) w)

end Cert.Proof

end
-- ==== Proof.Spec.lean ====
/- What the launch computes, over the extended reals: each token's hidden row, its largest absolute value, its scale, its codes and
   its output row, as plain formulas of the twelve input arrays. Both programs' results are shown to be these. -/
module

public import Idealize.ShloMosaic.Lib.Pointwise

@[expose] public section

set_option maxRecDepth 16384

noncomputable section

namespace Cert.Ffn

open Idealize.ShloMosaic

/-- The arrays that one launch reads: the tokens' codes and scales, the experts' three weight matrices with a scale for each output
    column, the expert of each of the eight samples, the residual, the modulation rows and the shared branch. -/
structure Inputs where
  x : Vec Ideal ⟨2, ![8192, 2560]⟩ .fp8e4m3
  xs : Vec Ideal ⟨2, ![8192, 128]⟩ .f32
  w1 : Vec Ideal ⟨3, ![4, 2560, 6912]⟩ .fp8e4m3
  s1 : Vec Ideal ⟨3, ![4, 1, 6912]⟩ .f32
  w3 : Vec Ideal ⟨3, ![4, 2560, 6912]⟩ .fp8e4m3
  s3 : Vec Ideal ⟨3, ![4, 1, 6912]⟩ .f32
  w2 : Vec Ideal ⟨3, ![4, 6912, 2560]⟩ .fp8e4m3
  s2 : Vec Ideal ⟨3, ![4, 1, 2560]⟩ .f32
  expert : Vec Ideal ⟨1, ![8]⟩ .i32
  ires : Vec Ideal ⟨2, ![8192, 2560]⟩ .f32
  mod : Vec Ideal ⟨3, ![12, 8, 2560]⟩ .f32
  shared : Vec Ideal ⟨2, ![8192, 2560]⟩ .f32

namespace Inputs

/-- The sample that token `R` belongs to: 1024 tokens each. -/
def sample (R : Fin 8192) : Fin 8 := ⟨R.val / 1024, by omega⟩

variable (I : Inputs)

/-- The expert of token `R`: its sample's word, which the precondition puts below 4 (the remainder keeps the index in range). -/
def expertOf (R : Fin 8192) : Fin 4 := ⟨(BitVec.toNat (w := 32) (I.expert (ix1 (sample R)))) % 4, by omega⟩

/-- Column `j` of token `R` through one of the expert's two input matrices `w`: the codes' product, the token's scale, the column's. -/
def up (w : Vec Ideal ⟨3, ![4, 2560, 6912]⟩ .fp8e4m3) (s : Vec Ideal ⟨3, ![4, 1, 6912]⟩ .f32) (R : Fin 8192) (j : Fin 6912) : EReal :=
  (∑ k : Fin 2560, I.x (ix2 R k) * w (ix3 (I.expertOf R) k j)) * I.xs (ix2 R 0) * s (ix3 (I.expertOf R) 0 j)

/-- The gated hidden value: `silu (up w1) * up w3`. -/
def hidden (R : Fin 8192) (j : Fin 6912) : EReal :=
  I.up I.w1 I.s1 R j * Ideal.logistic (I.up I.w1 I.s1 R j) * I.up I.w3 I.s3 R j

/-- The largest absolute hidden value of token `R` (the maximum taken from minus infinity). -/
def largest (R : Fin 8192) : EReal :=
  Finset.univ.fold max (Ideal.ofBits FTy.f32 4286578688#32) fun j : Fin 6912 => FloatOps.absf (F := Ideal) (φ := .f32) (I.hidden R j)

/-- A row's scale from its largest absolute value: 1 for a row of zeros, else the value over 448. -/
def scaleOf (a : EReal) : EReal := if a = 0 then 1 else Ideal.div a (Ideal.ofBits FTy.f32 1138753536#32)

/-- A value's code at a scale: the quotient clipped to [-448, 448]. -/
def codeOf (h s : EReal) : EReal :=
  min (Ideal.ofBits FTy.f32 1138753536#32) (max (Ideal.ofBits FTy.f32 3286237184#32) (Ideal.div h s))

def scale (R : Fin 8192) : EReal := scaleOf (I.largest R)

def code (R : Fin 8192) (j : Fin 6912) : EReal := codeOf (I.hidden R j) (I.scale R)

/-- The output: residual + gate * (shared + codes · second matrix, scaled by the row's and the column's scales). -/
def out (R : Fin 8192) (d : Fin 2560) : EReal :=
  I.ires (ix2 R d) + I.mod (ix3 5 (sample R) d) *
    (I.shared (ix2 R d) + (∑ j : Fin 6912, I.code R j * I.w2 (ix3 (I.expertOf R) j d)) * I.scale R * I.s2 (ix3 (I.expertOf R) 0 d))

/-- The three results as arrays. -/
def outArr : Vec Ideal ⟨2, ![8192, 2560]⟩ .bf16 := fun i => I.out (i 0) (i 1)
def codeArr : Vec Ideal ⟨2, ![8192, 6912]⟩ .fp8e4m3 := fun i => I.code (i 0) (i 1)
def scaleArr : Vec Ideal ⟨2, ![8192, 128]⟩ .f32 := fun i => I.scale (i 0)

end Inputs

end Cert.Ffn

end
-- ==== Proof.Blocks.lean ====
/- What the input windows' blocks hold, entry by entry: at grid point `t` (row block `t / 14`, visit `t % 14`) each block is the part of
   its array that the window's index map names, the weights' blocks the part of the sample's expert. -/
module

public import proofs.«01_k».proof.Proof.Spec
public import proofs.«01_k».proof.Proof.State
public import proofs.«01_k».proof.Proof.Table

@[expose] public section

set_option maxRecDepth 16384

noncomputable section

namespace Cert.KernelIdeal.Ffn

open Cert.KernelIdeal.Gen
open Idealize.ShloMosaic Idealize.ShloMosaic.TcCoe

variable (m : (ℓ : Loc nD τ sig) → Buf (Elt Ideal) ℓ) (hO : Ok m) (c : Dev nD)

/-- The launch's arrays on device `c`. -/
def inputs : Cert.Ffn.Inputs where
  x := m ((c : Thread nD τ).loc main_arg0)
  xs := m ((c : Thread nD τ).loc main_arg1)
  w1 := m ((c : Thread nD τ).loc main_arg2)
  s1 := m ((c : Thread nD τ).loc main_arg3)
  w3 := m ((c : Thread nD τ).loc main_arg4)
  s3 := m ((c : Thread nD τ).loc main_arg5)
  w2 := m ((c : Thread nD τ).loc main_arg6)
  s2 := m ((c : Thread nD τ).loc main_arg7)
  expert := m ((c : Thread nD τ).loc main_arg8)
  ires := m ((c : Thread nD τ).loc main_arg9)
  mod := m ((c : Thread nD τ).loc main_arg10)
  shared := m ((c : Thread nD τ).loc main_arg11)

theorem block0 (t : Fin grid0.N) (y : Fin 512) (k : Fin 2560) (R : Fin 8192) (K : Fin 2560) (hR : R.val = (grid0.coords t 0).val * 512 + y.val)
    (hK : K.val = 0 + k.val) : iblk m hO c 0 t (ix2 y k) = (inputs m c).x (ix2 R K) := by
  have e0 : (pcfg0.win (adm m hO) 0).index t 0 = (grid0.coords t 0).val := congrFun (index0 (grid0.coords t)) 0
  have e1 : (pcfg0.win (adm m hO) 0).index t 1 = 0 := congrFun (index0 (grid0.coords t)) 1
  unfold iblk
  blk_ext [V, hR, hK] <;> (first | erw [e0] | erw [e1] | erw [e2]) <;> omega

theorem block1 (t : Fin grid0.N) (y : Fin 512) (k : Fin 128) (R : Fin 8192) (K : Fin 128) (hR : R.val = (grid0.coords t 0).val * 512 + y.val)
    (hK : K.val = 0 + k.val) : iblk m hO c 1 t (ix2 y k) = (inputs m c).xs (ix2 R K) := by
  have e0 : (pcfg0.win (adm m hO) 1).index t 0 = (grid0.coords t 0).val := congrFun (index1 (grid0.coords t)) 0
  have e1 : (pcfg0.win (adm m hO) 1).index t 1 = 0 := congrFun (index1 (grid0.coords t)) 1
  unfold iblk
  blk_ext [V, hR, hK] <;> (first | erw [e0] | erw [e1] | erw [e2]) <;> omega

theorem block2 (t : Fin grid0.N) (a : Fin 1) (k : Fin 2560) (j : Fin 768) (A : Fin 4) (K : Fin 2560) (J : Fin 6912) (hA : A.val = (word m (grid0.coords t)).toNat)
    (hK : K.val = k.val) (hJ : J.val = min (grid0.coords t 1).val 8 * 768 + j.val) : iblk m hO c 2 t (ix3 a k j) = (inputs m c).w1 (ix3 A K J) := by
  have e0 : (pcfg0.win (adm m hO) 2).index t 0 = (word m (grid0.coords t)).toNat := congrFun (index2 m (grid0.coords t)) 0
  have e1 : (pcfg0.win (adm m hO) 2).index t 1 = 0 := congrFun (index2 m (grid0.coords t)) 1
  have e2 : (pcfg0.win (adm m hO) 2).index t 2 = min (grid0.coords t 1).val 8 := congrFun (index2 m (grid0.coords t)) 2
  unfold iblk
  blk_ext [V, hA, hK, hJ] <;> (first | erw [e0] | erw [e1] | erw [e2]) <;> omega

theorem block3 (t : Fin grid0.N) (a : Fin 1) (k : Fin 1) (j : Fin 768) (A : Fin 4) (K : Fin 1) (J : Fin 6912) (hA : A.val = (word m (grid0.coords t)).toNat)
    (hK : K.val = k.val) (hJ : J.val = min (grid0.coords t 1).val 8 * 768 + j.val) : iblk m hO c 3 t (ix3 a k j) = (inputs m c).s1 (ix3 A K J) := by
  have e0 : (pcfg0.win (adm m hO) 3).index t 0 = (word m (grid0.coords t)).toNat := congrFun (index3 m (grid0.coords t)) 0
  have e1 : (pcfg0.win (adm m hO) 3).index t 1 = 0 := congrFun (index3 m (grid0.coords t)) 1
  have e2 : (pcfg0.win (adm m hO) 3).index t 2 = min (grid0.coords t 1).val 8 := congrFun (index3 m (grid0.coords t)) 2
  unfold iblk
  blk_ext [V, hA, hK, hJ] <;> (first | erw [e0] | erw [e1] | erw [e2]) <;> omega

theorem block4 (t : Fin grid0.N) (a : Fin 1) (k : Fin 2560) (j : Fin 768) (A : Fin 4) (K : Fin 2560) (J : Fin 6912) (hA : A.val = (word m (grid0.coords t)).toNat)
    (hK : K.val = k.val) (hJ : J.val = min (grid0.coords t 1).val 8 * 768 + j.val) : iblk m hO c 4 t (ix3 a k j) = (inputs m c).w3 (ix3 A K J) := by
  have e0 : (pcfg0.win (adm m hO) 4).index t 0 = (word m (grid0.coords t)).toNat := congrFun (index4 m (grid0.coords t)) 0
  have e1 : (pcfg0.win (adm m hO) 4).index t 1 = 0 := congrFun (index4 m (grid0.coords t)) 1
  have e2 : (pcfg0.win (adm m hO) 4).index t 2 = min (grid0.coords t 1).val 8 := congrFun (index4 m (grid0.coords t)) 2
  unfold iblk
  blk_ext [V, hA, hK, hJ] <;> (first | erw [e0] | erw [e1] | erw [e2]) <;> omega

theorem block5 (t : Fin grid0.N) (a : Fin 1) (k : Fin 1) (j : Fin 768) (A : Fin 4) (K : Fin 1) (J : Fin 6912) (hA : A.val = (word m (grid0.coords t)).toNat)
    (hK : K.val = k.val) (hJ : J.val = min (grid0.coords t 1).val 8 * 768 + j.val) : iblk m hO c 5 t (ix3 a k j) = (inputs m c).s3 (ix3 A K J) := by
  have e0 : (pcfg0.win (adm m hO) 5).index t 0 = (word m (grid0.coords t)).toNat := congrFun (index5 m (grid0.coords t)) 0
  have e1 : (pcfg0.win (adm m hO) 5).index t 1 = 0 := congrFun (index5 m (grid0.coords t)) 1
  have e2 : (pcfg0.win (adm m hO) 5).index t 2 = min (grid0.coords t 1).val 8 := congrFun (index5 m (grid0.coords t)) 2
  unfold iblk
  blk_ext [V, hA, hK, hJ] <;> (first | erw [e0] | erw [e1] | erw [e2]) <;> omega

theorem block6 (t : Fin grid0.N) (a : Fin 1) (k : Fin 6912) (j : Fin 512) (A : Fin 4) (K : Fin 6912) (J : Fin 2560) (hA : A.val = (word m (grid0.coords t)).toNat)
    (hK : K.val = k.val) (hJ : J.val = ((grid0.coords t 1).val - 9) * 512 + j.val) : iblk m hO c 6 t (ix3 a k j) = (inputs m c).w2 (ix3 A K J) := by
  have e0 : (pcfg0.win (adm m hO) 6).index t 0 = (word m (grid0.coords t)).toNat := congrFun (index6 m (grid0.coords t)) 0
  have e1 : (pcfg0.win (adm m hO) 6).index t 1 = 0 := congrFun (index6 m (grid0.coords t)) 1
  have e2 : (pcfg0.win (adm m hO) 6).index t 2 = (grid0.coords t 1).val - 9 := congrFun (index6 m (grid0.coords t)) 2
  unfold iblk
  blk_ext [V, hA, hK, hJ] <;> (first | erw [e0] | erw [e1] | erw [e2]) <;> omega

theorem block7 (t : Fin grid0.N) (a : Fin 1) (k : Fin 1) (j : Fin 512) (A : Fin 4) (K : Fin 1) (J : Fin 2560) (hA : A.val = (word m (grid0.coords t)).toNat)
    (hK : K.val = k.val) (hJ : J.val = ((grid0.coords t 1).val - 9) * 512 + j.val) : iblk m hO c 7 t (ix3 a k j) = (inputs m c).s2 (ix3 A K J) := by
  have e0 : (pcfg0.win (adm m hO) 7).index t 0 = (word m (grid0.coords t)).toNat := congrFun (index7 m (grid0.coords t)) 0
  have e1 : (pcfg0.win (adm m hO) 7).index t 1 = 0 := congrFun (index7 m (grid0.coords t)) 1
  have e2 : (pcfg0.win (adm m hO) 7).index t 2 = (grid0.coords t 1).val - 9 := congrFun (index7 m (grid0.coords t)) 2
  unfold iblk
  blk_ext [V, hA, hK, hJ] <;> (first | erw [e0] | erw [e1] | erw [e2]) <;> omega

theorem block8 (t : Fin grid0.N) (y : Fin 512) (k : Fin 512) (R : Fin 8192) (K : Fin 2560) (hR : R.val = (grid0.coords t 0).val * 512 + y.val)
    (hK : K.val = ((grid0.coords t 1).val - 9) * 512 + k.val) : iblk m hO c 8 t (ix2 y k) = (inputs m c).ires (ix2 R K) := by
  have e0 : (pcfg0.win (adm m hO) 8).index t 0 = (grid0.coords t 0).val := congrFun (index8 (grid0.coords t)) 0
  have e1 : (pcfg0.win (adm m hO) 8).index t 1 = (grid0.coords t 1).val - 9 := congrFun (index8 (grid0.coords t)) 1
  unfold iblk
  blk_ext [V, hR, hK] <;> (first | erw [e0] | erw [e1] | erw [e2]) <;> omega

theorem block9 (t : Fin grid0.N) (a : Fin 12) (k : Fin 8) (j : Fin 512) (A : Fin 12) (K : Fin 8) (J : Fin 2560) (hA : A.val = a.val)
    (hK : K.val = k.val) (hJ : J.val = ((grid0.coords t 1).val - 9) * 512 + j.val) : iblk m hO c 9 t (ix3 a k j) = (inputs m c).mod (ix3 A K J) := by
  have e0 : (pcfg0.win (adm m hO) 9).index t 0 = 0 := congrFun (index9 (grid0.coords t)) 0
  have e1 : (pcfg0.win (adm m hO) 9).index t 1 = 0 := congrFun (index9 (grid0.coords t)) 1
  have e2 : (pcfg0.win (adm m hO) 9).index t 2 = (grid0.coords t 1).val - 9 := congrFun (index9 (grid0.coords t)) 2
  unfold iblk
  blk_ext [V, hA, hK, hJ] <;> (first | erw [e0] | erw [e1] | erw [e2]) <;> omega

theorem block10 (t : Fin grid0.N) (y : Fin 512) (k : Fin 512) (R : Fin 8192) (K : Fin 2560) (hR : R.val = (grid0.coords t 0).val * 512 + y.val)
    (hK : K.val = ((grid0.coords t 1).val - 9) * 512 + k.val) : iblk m hO c 10 t (ix2 y k) = (inputs m c).shared (ix2 R K) := by
  have e0 : (pcfg0.win (adm m hO) 10).index t 0 = (grid0.coords t 0).val := congrFun (index10 (grid0.coords t)) 0
  have e1 : (pcfg0.win (adm m hO) 10).index t 1 = (grid0.coords t 1).val - 9 := congrFun (index10 (grid0.coords t)) 1
  unfold iblk
  blk_ext [V, hR, hK] <;> (first | erw [e0] | erw [e1] | erw [e2]) <;> omega

end Cert.KernelIdeal.Ffn

end
-- ==== Proof.Hidden.lean ====
/- A row block's hidden rows are the formula's: one tile entry by entry, then the nine visits' tiles together. -/
module

public import proofs.«01_k».proof.Proof.Blocks

@[expose] public section

set_option maxRecDepth 16384

noncomputable section

namespace Cert.KernelIdeal.Ffn

open Cert.KernelIdeal.Gen
open Idealize.ShloMosaic Idealize.ShloMosaic.TcCoe

/-- One entry of a tile: `silu(a) * b`, `a` and `b` the row's products with the two matrices' columns, scaled. -/
theorem tile_apply (x : Vec Ideal S512x2560 .fp8e4m3) (xs : Vec Ideal S512x128 .f32) (w1 : Vec Ideal S1x2560x768 .fp8e4m3)
    (s1 : Vec Ideal S1x1x768 .f32) (w3 : Vec Ideal S1x2560x768 .fp8e4m3) (s3 : Vec Ideal S1x1x768 .f32) (n : Fin 3) (q : Fin 2)
    (y j : Fin 256) (Y : Fin 512) (J : Fin 768) (hY : Y.val = 256 * q.val + y.val) (hJ : J.val = 256 * n.val + j.val) :
    tile x xs w1 s1 w3 s3 n q (ix2 y j) =
      (∑ k, x (ix2 Y k) * w1 (ix3 0 k J)) * xs (ix2 Y 0) * s1 (ix3 0 0 J) *
        Ideal.logistic ((∑ k, x (ix2 Y k) * w1 (ix3 0 k J)) * xs (ix2 Y 0) * s1 (ix3 0 0 J)) *
        ((∑ k, x (ix2 Y k) * w3 (ix3 0 k J)) * xs (ix2 Y 0) * s3 (ix3 0 0 J)) := by
  have hq := q.isLt
  have hn := n.isLt
  have eY : (⟨256 * q.val + y.val, by omega⟩ : Fin 512) = Y := Fin.ext hY.symm
  have eJ : (⟨256 * n.val + j.val, by omega⟩ : Fin 768) = J := Fin.ext hJ.symm
  pointwise [tile, k0_pay7]
  simp only [eY, eJ]

variable (m : (ℓ : Loc nD τ sig) → Buf (Elt Ideal) ℓ) (hO : Ok m) (c : Dev nD)

theorem coords0 (t : Fin grid0.N) : ((grid0.coords t) 0).val = t.val / 14 := by revert t; decide +kernel

theorem pt_val {r s : ℕ} (hr : r < 16) (hs : s < 14) : (pt r s).val = 14 * r + s := by unfold pt; dsimp only; omega

/-- The expert of a token of row block `r`, as the index maps read it. -/
theorem expert_eq (hw : ∀ w : Cert.KernelIdeal.S8.Idx, ((tbl m 0 : Cert.KernelIdeal.S8.Idx → BitVec 32) w).toNat < 4) (t : Fin grid0.N)
    (R : Fin 8192) (hR : R.val / 512 = t.val / 14) : ((inputs m c).expertOf R).val = (word m (grid0.coords t)).toNat := by
  obtain rfl : c = 0 := Subsingleton.elim _ _
  have e : (inputs m 0).expert (ix1 (Cert.Ffn.Inputs.sample R)) = word m (grid0.coords t) := by
    show m _ _ = m _ _
    refine congrArg _ (funext fun a => Fin.ext ?_)
    obtain rfl : a = 0 := Subsingleton.elim _ _
    show R.val / 1024 = (grid0.coords t 0).val / 2
    rw [coords0]; omega
  show BitVec.toNat (w := 32) ((inputs m 0).expert (ix1 (Cert.Ffn.Inputs.sample R))) % 4 = _
  rw [e]
  exact Nat.mod_eq_of_lt (hw _)

/-- An entry of the tile that visit `s` of row block `r` makes is the formula's hidden value. -/
theorem tiles_apply (hw : ∀ w : Cert.KernelIdeal.S8.Idx, ((tbl m 0 : Cert.KernelIdeal.S8.Idx → BitVec 32) w).toNat < 4) {r s : ℕ} (hr : r < 16)
    (hs : s < 9) (n : Fin 3) (q : Fin 2) (y j : Fin 256) (R : Fin 8192) (J : Fin 6912) (hR : R.val = 512 * r + 256 * q.val + y.val)
    (hJ : J.val = 768 * s + 256 * n.val + j.val) : tiles m hO c (pt r s) n q (ix2 y j) = (inputs m c).hidden R J := by
  have ht : (pt r s).val = 14 * r + s := pt_val hr (by omega)
  have h0 : (grid0.coords (pt r s) 0).val = r := by rw [coords0, ht]; omega
  have h1 : (grid0.coords (pt r s) 1).val = s := by rw [coords1, ht]; omega
  have he := expert_eq m c hw (pt r s) R (by rw [ht]; omega)
  have hq := q.isLt
  have hn := n.isLt
  refine (tile_apply _ _ _ _ _ _ n q y j ⟨256 * q.val + y.val, by omega⟩ ⟨256 * n.val + j.val, by omega⟩ rfl rfl).trans ?_
  rw [Cert.Ffn.Inputs.hidden, Cert.Ffn.Inputs.up, Cert.Ffn.Inputs.up]
  have hx (k : Fin 2560) := block0 m hO c (pt r s) ⟨256 * q.val + y.val, by omega⟩ k R k (by rw [h0]; dsimp only; omega) (by omega)
  have hxs := block1 m hO c (pt r s) ⟨256 * q.val + y.val, by omega⟩ 0 R 0 (by rw [h0]; dsimp only; omega) rfl
  have hJ' : J.val = min (grid0.coords (pt r s) 1).val 8 * 768 + (256 * n.val + j.val) := by rw [h1]; omega
  have hw1 (k : Fin 2560) := block2 m hO c (pt r s) 0 k ⟨256 * n.val + j.val, by omega⟩ _ k J he rfl hJ'
  have hs1 := block3 m hO c (pt r s) 0 0 ⟨256 * n.val + j.val, by omega⟩ _ 0 J he rfl hJ'
  have hw3 (k : Fin 2560) := block4 m hO c (pt r s) 0 k ⟨256 * n.val + j.val, by omega⟩ _ k J he rfl hJ'
  have hs3 := block5 m hO c (pt r s) 0 0 ⟨256 * n.val + j.val, by omega⟩ _ 0 J he rfl hJ'
  simp only [hx, hxs, hw1, hs1, hw3, hs3]

/-- Row block `r`'s hidden rows. -/
theorem hid_apply (hw : ∀ w : Cert.KernelIdeal.S8.Idx, ((tbl m 0 : Cert.KernelIdeal.S8.Idx → BitVec 32) w).toNat < 4) {r : ℕ} (hr : r < 16)
    (y : Fin 512) (J : Fin 6912) (R : Fin 8192) (hR : R.val = 512 * r + y.val) : hid m hO c r (ix2 y J) = (inputs m c).hidden R J := by
  have hy := y.isLt
  have hj := J.isLt
  exact tiles_apply m hO c hw hr (by show J.val / 768 < 9; omega) _ _ ⟨y.val % 256, by omega⟩ ⟨J.val % 768 % 256, by omega⟩ R J
    (by show R.val = 512 * r + 256 * (y.val / 256) + y.val % 256; omega)
    (by show J.val = 768 * (J.val / 768) + 256 * (J.val % 768 / 256) + J.val % 768 % 256; omega)

end Cert.KernelIdeal.Ffn

end
-- ==== Proof.Largest.lean ====
/- The running maximum, kept as 128 lanes and gathered in nine visits of three tiles, is after the last visit the largest absolute value
   of the whole hidden row: its 128 lanes' maximum is at most a bound exactly when every absolute value of the row is. -/
module

public import proofs.«01_k».proof.Proof.Hidden

@[expose] public section

set_option maxRecDepth 16384

noncomputable section

namespace Cert.KernelIdeal.Ffn

open Cert.KernelIdeal.Gen
open Idealize.ShloMosaic Idealize.ShloMosaic.TcCoe

/-- The absolute value over the extended reals. -/
abbrev mag (v : EReal) : EReal := FloatOps.absf (F := Ideal) (φ := .f32) v

theorem mag_nonneg (v : EReal) : 0 ≤ mag v := by
  show 0 ≤ max v (-v)
  rcases le_total 0 v with h | h
  · exact le_max_of_le_left h
  · exact le_max_of_le_right (EReal.neg_nonneg.2 h)

/-- Two lanes of a tile of 256 columns enter lane `l` of the running maximum. -/
theorem amaxTile_apply (h : FVec Ideal S256x256 .f32) (v : Vec Ideal S256x128 .f32) (y : Fin 256) (l : Fin 128) :
    amaxTile h v (ix2 y l) = max (v (ix2 y l)) (max (mag (h (ix2 y ⟨l.val, by omega⟩))) (mag (h (ix2 y ⟨128 + l.val, by omega⟩)))) := by
  pointwise [amaxTile, k0_pay2]

section up
variable (x : Vec Ideal S512x2560 .fp8e4m3) (xs : Vec Ideal S512x128 .f32) (w1 : Vec Ideal S1x2560x768 .fp8e4m3)
  (s1 : Vec Ideal S1x1x768 .f32) (w3 : Vec Ideal S1x2560x768 .fp8e4m3) (s3 : Vec Ideal S1x1x768 .f32) (dA : Vec Ideal S512x128 .f32)

theorem amaxRows_le (q : Fin 2) (y : Fin 256) (l : Fin 128) (Y : Fin 512) (hY : Y.val = 256 * q.val + y.val) (b : EReal) :
    amaxRows x xs w1 s1 w3 s3 dA q (ix2 y l) ≤ b ↔ dA (ix2 Y l) ≤ b ∧ ∀ n : Fin 3,
      mag (tile x xs w1 s1 w3 s3 n q (ix2 y ⟨l.val, by omega⟩)) ≤ b ∧ mag (tile x xs w1 s1 w3 s3 n q (ix2 y ⟨128 + l.val, by omega⟩)) ≤ b := by
  have hq := q.isLt
  have e : View.ld dA (Rect.unit (s := S512x128) ![256 * q.val, 0] S256x128.size (inb_amax q)) (ix2 y l) = dA (ix2 Y l) := by
    have eY : (⟨256 * q.val + y.val, by omega⟩ : Fin 512) = Y := Fin.ext hY.symm
    pointwise
    simp only [eY]
  unfold amaxRows
  rw [amaxTile_apply, amaxTile_apply, amaxTile_apply, e]
  simp only [max_le_iff, Fin.forall_fin_succ, Fin.forall_fin_zero, and_true]
  constructor
  · rintro ⟨⟨⟨h, h0⟩, h1⟩, h2⟩; exact ⟨h, h0, h1, h2⟩
  · rintro ⟨h, h0, h1, h2⟩; exact ⟨⟨⟨h, h0⟩, h1⟩, h2⟩

theorem amaxUp_le (q : Fin 2) (y : Fin 256) (l : Fin 128) (Y : Fin 512) (hY : Y.val = 256 * q.val + y.val) (b : EReal) :
    amaxUp x xs w1 s1 w3 s3 dA (ix2 Y l) ≤ b ↔ dA (ix2 Y l) ≤ b ∧ ∀ n : Fin 3,
      mag (tile x xs w1 s1 w3 s3 n q (ix2 y ⟨l.val, by omega⟩)) ≤ b ∧ mag (tile x xs w1 s1 w3 s3 n q (ix2 y ⟨128 + l.val, by omega⟩)) ≤ b := by
  have hq := q.isLt
  have hy := y.isLt
  rw [← amaxRows_le x xs w1 s1 w3 s3 dA q y l Y hY b]
  unfold amaxUp
  by_cases h : Y.val < 256
  · obtain rfl : q = 0 := Fin.ext (by show q.val = 0; omega)
    rw [dif_pos (show ((ix2 Y l : S512x128.Idx) 0).val < 256 from h)]
    have e : (⟨Y.val, h⟩ : Fin 256) = y := Fin.ext (by show Y.val = y.val; simp at hY; omega)
    exact iff_of_eq (congrArg (fun z => amaxRows x xs w1 s1 w3 s3 dA 0 (ix2 z l) ≤ b) e)
  · obtain rfl : q = 1 := Fin.ext (by show q.val = 1; omega)
    rw [dif_neg (show ¬((ix2 Y l : S512x128.Idx) 0).val < 256 from h)]
    have e : (⟨Y.val - 256, by omega⟩ : Fin 256) = y := Fin.ext (by show Y.val - 256 = y.val; simp at hY; omega)
    exact iff_of_eq (congrArg (fun z => amaxRows x xs w1 s1 w3 s3 dA 1 (ix2 z l) ≤ b) e)
end up

variable (m : (ℓ : Loc nD τ sig) → Buf (Elt Ideal) ℓ) (hO : Ok m) (c : Dev nD)

/-- Before visit `s`, lane `l` of a row's running maximum is the largest of 0 and the absolute values of the columns below `768 * s` that
    are `l` modulo 128. -/
theorem am_le (hw : ∀ w : Cert.KernelIdeal.S8.Idx, ((tbl m 0 : Cert.KernelIdeal.S8.Idx → BitVec 32) w).toNat < 4) {r : ℕ} (hr : r < 16)
    (Y : Fin 512) (l : Fin 128) (R : Fin 8192) (hR : R.val = 512 * r + Y.val) (b : EReal) (s : ℕ) (hs : s ≤ 9) :
    am m hO c r s (ix2 Y l) ≤ b ↔ 0 ≤ b ∧ ∀ J : Fin 6912, J.val < 768 * s → J.val % 128 = l.val → mag ((inputs m c).hidden R J) ≤ b := by
  induction s with
  | zero =>
    have e : am m hO c r 0 (ix2 Y l) = 0 := by
      show k0_pay1 (F := Ideal) (ix2 Y l) = 0
      pointwise [k0_pay1]
    rw [e]
    exact ⟨fun h => ⟨h, fun J hJ => absurd hJ (by omega)⟩, fun h => h.1⟩
  | succ s ih =>
    have hY := Y.isLt
    have hl := l.isLt
    refine (amaxUp_le _ _ _ _ _ _ _ ⟨Y.val / 256, by omega⟩ ⟨Y.val % 256, by omega⟩ l Y (by dsimp only; omega) b).trans ?_
    rw [ih (by omega)]
    have key (n : Fin 3) (j : Fin 256) (J : Fin 6912) (hJ : J.val = 768 * s + 256 * n.val + j.val) :=
      tiles_apply m hO c hw hr (show s < 9 by omega) n ⟨Y.val / 256, by omega⟩ ⟨Y.val % 256, by omega⟩ j R J (by dsimp only; omega) hJ
    unfold tiles at key
    constructor
    · rintro ⟨⟨h0, h⟩, ht⟩
      refine ⟨h0, fun J hJ hm => ?_⟩
      by_cases hJ' : J.val < 768 * s
      · exact h J hJ' hm
      · have hn := ht ⟨(J.val - 768 * s) / 256, by omega⟩
        by_cases hh : (J.val - 768 * s) % 256 < 128
        · have := hn.1
          rw [key _ _ J (by dsimp only; omega)] at this
          exact this
        · have := hn.2
          rw [key _ _ J (by dsimp only; omega)] at this
          exact this
    · rintro ⟨h0, h⟩
      refine ⟨⟨h0, fun J hJ hm => h J (by omega) hm⟩, fun n => ⟨?_, ?_⟩⟩
      · have hn := n.isLt
        rw [key n _ ⟨768 * s + 256 * n.val + l.val, by omega⟩ rfl]
        exact h _ (by dsimp only; omega) (by dsimp only; omega)
      · have hn := n.isLt
        rw [key n _ ⟨768 * s + 256 * n.val + (128 + l.val), by omega⟩ rfl]
        exact h _ (by dsimp only; omega) (by dsimp only; omega)

/-- The 128 lanes' maximum after the nine visits is the row's largest absolute value. -/
theorem largest_eq (hw : ∀ w : Cert.KernelIdeal.S8.Idx, ((tbl m 0 : Cert.KernelIdeal.S8.Idx → BitVec 32) w).toNat < 4) {r : ℕ} (hr : r < 16)
    (Y : Fin 512) (R : Fin 8192) (hR : R.val = 512 * r + Y.val) :
    Finset.univ.fold max (Ideal.ofBits FTy.f32 4286578688#32) (fun l : Fin 128 => am m hO c r 9 (ix2 Y l)) = (inputs m c).largest R := by
  refine eq_of_forall_ge_iff fun b => ?_
  rw [Cert.Ffn.Inputs.largest, Finset.fold_max_le, Finset.fold_max_le]
  refine and_congr_right fun _ => ⟨fun h J _ => ?_, fun h l _ => ?_⟩
  · have hJ := J.isLt
    exact ((am_le m hO c hw hr Y ⟨J.val % 128, by omega⟩ R hR b 9 le_rfl).1 (h _ (Finset.mem_univ _))).2 J (by omega) rfl
  · exact (am_le m hO c hw hr Y l R hR b 9 le_rfl).2
      ⟨(mag_nonneg _).trans (h ⟨0, by omega⟩ (Finset.mem_univ _)), fun J _ _ => h J (Finset.mem_univ _)⟩

end Cert.KernelIdeal.Ffn

end
-- ==== Proof.Codes.lean ====
/- A row block's scales, codes and output block are the formula's. -/
module

public import proofs.«01_k».proof.Proof.Largest

@[expose] public section

set_option maxRecDepth 16384

noncomputable section

namespace Cert.KernelIdeal.Ffn

open Cert.KernelIdeal.Gen Cert.Ffn.Inputs
open Idealize.ShloMosaic Idealize.ShloMosaic.TcCoe

/-- A row's scale from the running maximum's 128 lanes, in every lane. -/
theorem scaleTurn_apply (dA : Vec Ideal S512x128 .f32) (Y : Fin 512) (l : Fin 128) :
    scaleTurn dA (ix2 Y l) = scaleOf (Finset.univ.fold max (Ideal.ofBits FTy.f32 4286578688#32) fun l' : Fin 128 => dA (ix2 Y l')) := by
  have e : (⟨32 * (Y.val / 32) + Y.val % 32, by omega⟩ : Fin 512) = Y := Fin.ext (by dsimp only; omega)
  have h (z : Fin 32) (D : Vec Ideal S32x128 .f32) : k0_pay4 D (ix2 z l) =
      scaleOf (Finset.univ.fold max (Ideal.ofBits FTy.f32 4286578688#32) fun l' : Fin 128 => D (ix2 z l')) := by
    pointwise [k0_pay4, k0_pay3, scaleOf]
  refine (h _ _).trans ?_
  refine congrArg scaleOf (congrArg (fun f => Finset.fold max _ f _) (funext fun l' => ?_))
  pointwise
  simp only [e]

/-- A row's codes: its hidden values clipped at that scale. -/
theorem codeTurn_apply (dA : Vec Ideal S512x128 .f32) (dH : Vec Ideal S512x6912 .f32) (Y : Fin 512) (J : Fin 6912) :
    codeTurn dA dH (ix2 Y J) = codeOf (dH (ix2 Y J))
      (scaleOf (Finset.univ.fold max (Ideal.ofBits FTy.f32 4286578688#32) fun l' : Fin 128 => dA (ix2 Y l'))) := by
  have e : (⟨32 * (Y.val / 32) + Y.val % 32, by omega⟩ : Fin 512) = Y := Fin.ext (by dsimp only; omega)
  have h (z : Fin 32) (D : Vec Ideal S32x128 .f32) (H : Vec Ideal S32x6912 .f32) : k0_pay5 D H (ix2 z J) = codeOf (H (ix2 z J))
      (scaleOf (Finset.univ.fold max (Ideal.ofBits FTy.f32 4286578688#32) fun l' : Fin 128 => D (ix2 z l'))) := by
    pointwise [k0_pay5, k0_pay3, scaleOf, codeOf]
  refine (h _ _ _).trans ?_
  refine congrArg₂ codeOf ?_ (congrArg scaleOf (congrArg (fun f => Finset.fold max _ f _) (funext fun l' => ?_))) <;>
  · pointwise
    simp only [e]

variable (m : (ℓ : Loc nD τ sig) → Buf (Elt Ideal) ℓ) (hO : Ok m) (c : Dev nD)
  (hw : ∀ w : Cert.KernelIdeal.S8.Idx, ((tbl m 0 : Cert.KernelIdeal.S8.Idx → BitVec 32) w).toNat < 4)
include hw

theorem scales_apply {r : ℕ} (hr : r < 16) (Y : Fin 512) (l : Fin 128) (R : Fin 8192) (hR : R.val = 512 * r + Y.val) :
    scales m hO c r (ix2 Y l) = (inputs m c).scale R := by
  rw [scales, scaleTurn_apply, largest_eq m hO c hw hr Y R hR]
  rfl

theorem codes_apply {r : ℕ} (hr : r < 16) (Y : Fin 512) (J : Fin 6912) (R : Fin 8192) (hR : R.val = 512 * r + Y.val) :
    codes m hO c r (ix2 Y J) = (inputs m c).code R J := by
  rw [codes, codeTurn_apply, largest_eq m hO c hw hr Y R hR, hid_apply m hO c hw hr Y J R hR]
  rfl

omit hw in
/-- The modulation row that a point reads: row 5, of the sample that its row block belongs to. -/
theorem off6_eq (i : grid0.Coords) : k0_off6 i = ![5, (i 0).val / 2, 0] := by
  have h : ∀ i : grid0.Coords, k0_off6 i 0 = 5 ∧ k0_off6 i 1 = (i 0).val / 2 ∧ k0_off6 i 2 = 0 := by decide +kernel
  funext a
  fin_cases a
  · exact (h i).1
  · exact (h i).2.1
  · exact (h i).2.2

omit hw in
/-- One entry of an output tile. -/
theorem outTile_apply (i : grid0.Coords) (h4 : k0_cond4 i = 1#1) (cd : Vec Ideal S512x6912 .fp8e4m3) (sc : Vec Ideal S512x128 .f32)
    (w2 : Vec Ideal S1x6912x512 .fp8e4m3) (s2 : Vec Ideal S1x1x512 .f32) (ires : Vec Ideal S512x512 .f32) (mod : Vec Ideal S12x8x512 .f32)
    (shared : Vec Ideal S512x512 .f32) (y d : Fin 512) (b : Fin 8) (hb : b.val = (i 0).val / 2) :
    outTile i h4 cd sc w2 s2 ires mod shared (ix2 y d) = ires (ix2 y d) + mod (ix3 5 b d) *
      (shared (ix2 y d) + (∑ k, cd (ix2 y k) * w2 (ix3 0 k d)) * sc (ix2 y 0) * s2 (ix3 0 0 d)) := by
  have h (f : Vec Ideal S512x1 .f32) (g : Vec Ideal S1x1x512 .f32) : k0_pay6 cd w2 f s2 shared g ires (ix2 y d) =
      ires (ix2 y d) + g (ix3 0 0 d) * (shared (ix2 y d) + (∑ k, cd (ix2 y k) * w2 (ix3 0 k d)) * f (ix2 y 0) * s2 (ix3 0 0 d)) := by
    pointwise [k0_pay6]
  have h1 : View.ld sc (Rect.unit (s := S512x128) ![0, 0] S512x1.size inb_S512x128_S512x1_0_0) (ix2 y 0) = sc (ix2 y 0) := by
    pointwise
  have h2 : View.ld mod (Rect.unit (s := S12x8x512) (k0_off6 i) S1x1x512.size (k0_off6_inb i h4)) (ix3 0 0 d) = mod (ix3 5 b d) := by
    refine congrArg mod (funext fun a => Fin.ext ?_)
    refine (ValueKit.rect_emb_unit_val (s := S12x8x512) _ _ _ _ a).trans ?_
    have e := congrFun (off6_eq i) a
    fin_cases a
    · exact e
    · exact e.trans hb.symm
    · exact (congrArg (· + d.val) e).trans (Nat.zero_add _)
  rw [outTile, h, h1, h2]

/-- The output block of a point of the second half. -/
theorem outBlock_apply (t : Fin grid0.N) (h4 : k0_cond4 (grid0.coords t) = 1#1) (y d : Fin 512) (R : Fin 8192) (D : Fin 2560)
    (hR : R.val = 512 * (t.val / 14) + y.val) (hD : D.val = 512 * (t.val % 14 - 9) + d.val) :
    outBlock m hO c t h4 (ix2 y d) = (inputs m c).out R D := by
  have ht : t.val < 224 := N_0 ▸ t.isLt
  have hr : t.val / 14 < 16 := by omega
  have he := expert_eq m c hw t R (by omega)
  have h0 := coords0 t
  have h1 := coords1 t
  have hR' : R.val = (grid0.coords t 0).val * 512 + y.val := by rw [h0]; omega
  have hD' : D.val = ((grid0.coords t 1).val - 9) * 512 + d.val := by rw [h1]; omega
  refine (outTile_apply _ h4 _ _ _ _ _ _ _ y d (sample R) (by show R.val / 1024 = _; rw [h0]; omega)).trans ?_
  rw [Cert.Ffn.Inputs.out]
  have hw2 (k : Fin 6912) := block6 m hO c t 0 k d _ k D he rfl hD'
  have hs2 := block7 m hO c t 0 0 d _ 0 D he rfl hD'
  have hir := block8 m hO c t y d R D hR' hD'
  have hmo := block9 m hO c t 5 (sample R) d 5 (sample R) D rfl rfl hD'
  have hsh := block10 m hO c t y d R D hR' hD'
  simp only [hw2, hs2, hir, hmo, hsh, codes_apply m hO c hw hr y _ R hR, scales_apply m hO c hw hr y _ R hR]

end Cert.KernelIdeal.Ffn

end
-- ==== Proof.Arrays.lean ====
/- The launch's three result arrays are the formula's: every block that is written back holds the formula's entries of its place, and
   the blocks fill the arrays. -/
module

public import proofs.«01_k».proof.Proof.Codes
public import proofs.«01_k».proof.Proof.Points

@[expose] public section

set_option maxRecDepth 16384

noncomputable section

namespace Cert.KernelIdeal.Ffn

open Cert.KernelIdeal.Gen Cert.Ffn.Inputs
open Idealize.ShloMosaic Idealize.ShloMosaic.TcCoe

variable (m : (ℓ : Loc nD τ sig) → Buf (Elt Ideal) ℓ) (hO : Ok m) (c : Dev nD)
variable (hw : ∀ w : Cert.KernelIdeal.S8.Idx, ((tbl m 0 : Cert.KernelIdeal.S8.Idx → BitVec 32) w).toNat < 4)

include hw

/-- The output array: a block for each row block and column block, written back by the visits 9 to 13. -/
theorem array11 : (dats m hO 0 c).arrAt 11 grid0.N = (inputs m c).outArr := by
  have e0 (t : Fin grid0.N) : (pcfg0.win (adm m hO) 11).index t 0 = (grid0.coords t 0).val := congrFun (index11 (grid0.coords t)) 0
  have e1 (t : Fin grid0.N) : (pcfg0.win (adm m hO) 11).index t 1 = (grid0.coords t 1).val - 9 := congrFun (index11 (grid0.coords t)) 1
  refine (dats m hO 0 c).arrAt_eq_of_emb 11 _ (fun (t : Fin grid0.N) hf (y : S512x512.Idx) => ?_) (fun (i : S8192x2560.Idx) => ?_)
  · have ht : t.val < 224 := N_0 ▸ t.isLt
    have h0 := coords0 t
    have h1 := coords1 t
    have hy : (y 0).val < 512 := (y 0).isLt
    have hz : (y 1).val < 512 := (y 1).isLt
    have hf' := (flush0_11 (adm m hO) t).mp hf
    have E0 : _ = (pcfg0.win (adm m hO) 11).index t 0 * 512 + (y 0).val := Pipeline.Window.rect_emb_val (pcfg0.win (adm m hO) 11) t y 0
    have E1 : _ = (pcfg0.win (adm m hO) 11).index t 1 * 512 + (y 1).val := Pipeline.Window.rect_emb_val (pcfg0.win (adm m hO) 11) t y 1
    rw [e0] at E0
    rw [e1] at E1
    rw [after0_11 m hO c t ((cond4_iff t).mpr hf')]
    blk_simp
    refine (congrArg _ (eq_ix2 y)).trans ?_
    refine (outBlock_apply m hO c hw t ((cond4_iff t).mpr hf') (y 0) (y 1) ⟨512 * (t.val / 14) + (y 0).val, by omega⟩
      ⟨512 * (t.val % 14 - 9) + (y 1).val, by omega⟩ rfl rfl).trans ?_
    exact congrArg₂ (inputs m c).out (Fin.ext (E0.trans (by rw [h0]; dsimp only; omega)).symm) (Fin.ext (E1.trans (by rw [h1]; dsimp only; omega)).symm)
  · have hi0 : (i 0).val < 8192 := (i 0).isLt
    have hi1 : (i 1).val < 2560 := (i 1).isLt
    have hN : 14 * ((i 0).val / 512) + 9 + (i 1).val / 512 < grid0.N := by rw [N_0]; omega
    refine ⟨⟨14 * ((i 0).val / 512) + 9 + (i 1).val / 512, hN⟩, (flush0_11 (adm m hO) _).mpr (by dsimp only; omega), ?_⟩
    refine (Pipeline.Window.emb_mem_blk_iff (pcfg0.win (adm m hO) 11) ⟨14 * ((i 0).val / 512) + 9 + (i 1).val / 512, hN⟩ i).mpr fun a => ?_
    have h0 := coords0 ⟨14 * ((i 0).val / 512) + 9 + (i 1).val / 512, hN⟩
    have h1 := coords1 ⟨14 * ((i 0).val / 512) + 9 + (i 1).val / 512, hN⟩
    dsimp only at h0 h1
    fin_cases a
    · show (pcfg0.win (adm m hO) 11).index _ 0 * 512 ≤ (i 0).val ∧ (i 0).val < (pcfg0.win (adm m hO) 11).index _ 0 * 512 + 512
      rw [e0]; omega
    · show (pcfg0.win (adm m hO) 11).index _ 1 * 512 ≤ (i 1).val ∧ (i 1).val < (pcfg0.win (adm m hO) 11).index _ 1 * 512 + 512
      rw [e1]; omega

/-- The codes: one block of 512 rows for each row block. -/
theorem array12 : (dats m hO 0 c).arrAt 12 grid0.N = (inputs m c).codeArr := by
  have e0 (t : Fin grid0.N) : (pcfg0.win (adm m hO) 12).index t 0 = (grid0.coords t 0).val := congrFun (index12 (grid0.coords t)) 0
  have e1 (t : Fin grid0.N) : (pcfg0.win (adm m hO) 12).index t 1 = 0 := congrFun (index12 (grid0.coords t)) 1
  refine (dats m hO 0 c).arrAt_eq_of_emb 12 _ (fun (t : Fin grid0.N) hf (y : S512x6912.Idx) => ?_) (fun (i : S8192x6912.Idx) => ?_)
  · have ht : t.val < 224 := N_0 ▸ t.isLt
    have h0 := coords0 t
    have hy : (y 0).val < 512 := (y 0).isLt
    have E0 : _ = (pcfg0.win (adm m hO) 12).index t 0 * 512 + (y 0).val := Pipeline.Window.rect_emb_val (pcfg0.win (adm m hO) 12) t y 0
    have E1 : _ = (pcfg0.win (adm m hO) 12).index t 1 * 6912 + (y 1).val := Pipeline.Window.rect_emb_val (pcfg0.win (adm m hO) 12) t y 1
    rw [e0] at E0
    rw [e1] at E1
    rw [after0_12]
    blk_simp
    refine (congrArg _ (eq_ix2 y)).trans ?_
    refine (codes_apply m hO c hw (r := t.val / 14) (by omega) (y 0) (y 1) ⟨512 * (t.val / 14) + (y 0).val, by omega⟩ rfl).trans ?_
    exact congrArg₂ (inputs m c).code (Fin.ext (E0.trans (by rw [h0]; dsimp only; omega)).symm) (Fin.ext (E1.trans (by omega)).symm)
  · have hi0 : (i 0).val < 8192 := (i 0).isLt
    have hi1 : (i 1).val < 6912 := (i 1).isLt
    have hN : 14 * ((i 0).val / 512) + 13 < grid0.N := by rw [N_0]; omega
    refine ⟨⟨14 * ((i 0).val / 512) + 13, hN⟩, (flush0_12 (adm m hO) _).mpr (by dsimp only; omega), ?_⟩
    refine (Pipeline.Window.emb_mem_blk_iff (pcfg0.win (adm m hO) 12) ⟨14 * ((i 0).val / 512) + 13, hN⟩ i).mpr fun a => ?_
    have h0 := coords0 ⟨14 * ((i 0).val / 512) + 13, hN⟩
    dsimp only at h0
    fin_cases a
    · show (pcfg0.win (adm m hO) 12).index _ 0 * 512 ≤ (i 0).val ∧ (i 0).val < (pcfg0.win (adm m hO) 12).index _ 0 * 512 + 512
      rw [e0]; omega
    · show (pcfg0.win (adm m hO) 12).index _ 1 * 6912 ≤ (i 1).val ∧ (i 1).val < (pcfg0.win (adm m hO) 12).index _ 1 * 6912 + 6912
      rw [e1]; omega

/-- The scales, in all 128 lanes. -/
theorem array13 : (dats m hO 0 c).arrAt 13 grid0.N = (inputs m c).scaleArr := by
  have e0 (t : Fin grid0.N) : (pcfg0.win (adm m hO) 13).index t 0 = (grid0.coords t 0).val := congrFun (index13 (grid0.coords t)) 0
  have e1 (t : Fin grid0.N) : (pcfg0.win (adm m hO) 13).index t 1 = 0 := congrFun (index13 (grid0.coords t)) 1
  refine (dats m hO 0 c).arrAt_eq_of_emb 13 _ (fun (t : Fin grid0.N) hf (y : S512x128.Idx) => ?_) (fun (i : S8192x128.Idx) => ?_)
  · have ht : t.val < 224 := N_0 ▸ t.isLt
    have h0 := coords0 t
    have hy : (y 0).val < 512 := (y 0).isLt
    have E0 : _ = (pcfg0.win (adm m hO) 13).index t 0 * 512 + (y 0).val := Pipeline.Window.rect_emb_val (pcfg0.win (adm m hO) 13) t y 0
    have E1 : _ = (pcfg0.win (adm m hO) 13).index t 1 * 128 + (y 1).val := Pipeline.Window.rect_emb_val (pcfg0.win (adm m hO) 13) t y 1
    rw [e0] at E0
    rw [e1] at E1
    rw [after0_13]
    blk_simp
    refine (congrArg _ (eq_ix2 y)).trans ?_
    refine (scales_apply m hO c hw (r := t.val / 14) (by omega) (y 0) (y 1) ⟨512 * (t.val / 14) + (y 0).val, by omega⟩ rfl).trans ?_
    exact congrArg (inputs m c).scale (Fin.ext (E0.trans (by rw [h0]; dsimp only; omega)).symm)
  · have hi0 : (i 0).val < 8192 := (i 0).isLt
    have hi1 : (i 1).val < 128 := (i 1).isLt
    have hN : 14 * ((i 0).val / 512) + 13 < grid0.N := by rw [N_0]; omega
    refine ⟨⟨14 * ((i 0).val / 512) + 13, hN⟩, (flush0_13 (adm m hO) _).mpr (by dsimp only; omega), ?_⟩
    refine (Pipeline.Window.emb_mem_blk_iff (pcfg0.win (adm m hO) 13) ⟨14 * ((i 0).val / 512) + 13, hN⟩ i).mpr fun a => ?_
    have h0 := coords0 ⟨14 * ((i 0).val / 512) + 13, hN⟩
    dsimp only at h0
    fin_cases a
    · show (pcfg0.win (adm m hO) 13).index _ 0 * 512 ≤ (i 0).val ∧ (i 0).val < (pcfg0.win (adm m hO) 13).index _ 0 * 512 + 512
      rw [e0]; omega
    · show (pcfg0.win (adm m hO) 13).index _ 1 * 128 ≤ (i 1).val ∧ (i 1).val < (pcfg0.win (adm m hO) 13).index _ 1 * 128 + 128
      rw [e1]; omega

end Cert.KernelIdeal.Ffn

end
-- ==== Proof.Reference.lean ====
/- The reference's launch under the precondition: every expert word below 4 makes the weight rows that the body loads lie inside their
   arrays. -/
module

public import proofs.«01_k».proof.Defs
public import proofs.«01_k».proof.Proof.Gen.ReferenceIdeal.Frame
public import proofs.«01_k».proof.Proof.Gen.Pre_experts_exist
public import proofs.«01_k».proof.Proof.Table

@[expose] public section

set_option maxRecDepth 16384

noncomputable section

namespace Cert.ReferenceIdeal.Ffn

open Cert.ReferenceIdeal Cert.ReferenceIdeal.Gen
open Idealize.ShloMosaic Idealize.ShloMosaic.TcCoe

/-- A word below 4 names rows of the weights inside their arrays. -/
theorem chk_of_lt (v : BitVec 32) (h : v.toNat < 4) : k0_chk1 v := by
  unfold k0_chk1 k0_off4 k0_off5 k0_off6 k0_off7
  refine ⟨?_, ?_, ?_, ?_⟩ <;> intro a <;> fin_cases a <;> simp [Scalar.indexCast] <;> omega

section hyps

attribute [local irreducible] k0_chk1

theorem hyps_of_words {F : FTy → Type} [FloatOps F] (m : (ℓ : Loc nD τ sig) → Buf (Elt F) ℓ)
    (hw : ∀ (c : Dev nD) (w : Cert.ReferenceIdeal.S8.Idx), (m ((c : Thread nD τ).loc main_arg8) w).toNat < 4) : Hyps m := by
  refine Hyps.of fun c t kq hkq => ?_
  rw [View.readAt_apply, Memref.IsWhole.read_unread]
  exact chk_of_lt _ (hw c _)

end hyps

/-- The reference's frame under the precondition. -/
theorem frame_reference : Cert.quiescent_ReferenceIdeal := fun m ρ h =>
  Cert.ReferenceIdeal.Gen.frame m ρ (hyps_of_words m fun c w => Cert.KernelIdeal.Ffn.words_of_pre _ _ _ _ _ _ _ _ _ _ _ _ (h c) w)

end Cert.ReferenceIdeal.Ffn

end
-- ==== Proof.RefPay.lean ====
/- The reference body's arithmetic, entry by entry: the hidden values, a row's scale, its codes and its output row. -/
module

public import proofs.«01_k».proof.Proof.Spec
public import proofs.«01_k».proof.Proof.Reference

@[expose] public section

set_option maxRecDepth 16384

noncomputable section

namespace Cert.ReferenceIdeal.Ffn

open Cert.ReferenceIdeal Cert.ReferenceIdeal.Gen Cert.Ffn Cert.Ffn.Inputs
open Idealize.ShloMosaic Idealize.ShloMosaic.TcCoe

theorem pay5_apply (x : Vec Ideal S1024x2560 .fp8e4m3) (xs : Vec Ideal S1024x1 .f32) (w1 : Vec Ideal S1x2560x6912 .fp8e4m3) (s1 : Vec Ideal S1x1x6912 .f32)
    (w3 : Vec Ideal S1x2560x6912 .fp8e4m3) (s3 : Vec Ideal S1x1x6912 .f32) (z : Fin 1024) (j : Fin 6912) : k0_pay5 x xs w1 s1 w3 s3 (ix2 z j) =
      (∑ k, x (ix2 z k) * w1 (ix3 0 k j)) * xs (ix2 z 0) * s1 (ix3 0 0 j) *
        Ideal.logistic ((∑ k, x (ix2 z k) * w1 (ix3 0 k j)) * xs (ix2 z 0) * s1 (ix3 0 0 j)) *
        ((∑ k, x (ix2 z k) * w3 (ix3 0 k j)) * xs (ix2 z 0) * s3 (ix3 0 0 j)) := by
  pointwise [k0_pay5]

/-- A row's largest absolute value, in the one column that holds it. -/
theorem amax_apply (h : FVec Ideal S1024x6912 .f32) (z : Fin 1024) :
    shapeCast S1024x1 (multiReduction .maximumf [1] S1024 (absf h) 0xFF800000#32 reduces_S1024x6912_S1024 (.inl rfl) rfl) shapeCasts_S1024_S1024x1 (ix2 z 0) =
      Finset.univ.fold max (Ideal.ofBits FTy.f32 4286578688#32) fun j : Fin 6912 => FloatOps.absf (F := Ideal) (φ := .f32) (h (ix2 z j)) := by
  pointwise

/-- A row's scale from its largest absolute value. -/
theorem scale_apply (g : FVec Ideal S1024x1 .f32) (z : Fin 1024) :
    k0_pay1 (cmpf .oeq g (broadcast S1024x1 (Scalar.ofBits .f32 0x00000000#32))) (divf g (broadcast S1024x1 (Scalar.ofBits .f32 0x43E00000#32))) k0_pay9
      (ix2 z 0) = scaleOf (g (ix2 z 0)) := by
  pointwise [k0_pay1, k0_pay9, scaleOf]

/-- A row's scale, from its hidden values. -/
theorem pay1_apply (x : Vec Ideal S1024x2560 .fp8e4m3) (xs : Vec Ideal S1024x1 .f32) (w1 : Vec Ideal S1x2560x6912 .fp8e4m3) (s1 : Vec Ideal S1x1x6912 .f32)
    (w3 : Vec Ideal S1x2560x6912 .fp8e4m3) (s3 : Vec Ideal S1x1x6912 .f32) (z : Fin 1024) :
    k0_pay1 (k0_pay7 x xs w1 s1 w3 s3) (k0_pay8 x xs w1 s1 w3 s3) k0_pay9 (ix2 z 0) =
      scaleOf (Finset.univ.fold max (Ideal.ofBits FTy.f32 4286578688#32) fun j : Fin 6912 =>
        FloatOps.absf (F := Ideal) (φ := .f32) (k0_pay5 x xs w1 s1 w3 s3 (ix2 z j))) :=
  (scale_apply (k0_pay6 x xs w1 s1 w3 s3) z).trans (congrArg scaleOf (amax_apply (k0_pay5 x xs w1 s1 w3 s3) z))

theorem pay2_apply (h : FVec Ideal S1024x6912 .f32) (a : IVec S1024x1 1) (b c : FVec Ideal S1024x1 .f32) (z : Fin 1024) (j : Fin 6912) :
    k0_pay2 h a b c (ix2 z j) = codeOf (h (ix2 z j)) (k0_pay1 a b c (ix2 z 0)) := by
  unfold k0_pay2
  generalize k0_pay1 a b c = g
  pointwise [codeOf]

theorem pay3_apply (a : IVec S1024x1 1) (b c : FVec Ideal S1024x1 .f32) (z : Fin 1024) (l : Fin 128) :
    k0_pay3 a b c (ix2 z l) = k0_pay1 a b c (ix2 z 0) := by
  unfold k0_pay3
  generalize k0_pay1 a b c = g
  pointwise

theorem pay4_apply (h : FVec Ideal S1024x6912 .f32) (a : IVec S1024x1 1) (b c : FVec Ideal S1024x1 .f32) (w2 : Vec Ideal S1x6912x2560 .fp8e4m3)
    (s2 mo : Vec Ideal S1x1x2560 .f32) (ir sh : Vec Ideal S1024x2560 .f32) (z : Fin 1024) (d : Fin 2560) : k0_pay4 h a b c w2 s2 mo ir sh (ix2 z d) =
      ir (ix2 z d) + mo (ix3 0 0 d) * (sh (ix2 z d) +
        (∑ j, k0_pay2 h a b c (ix2 z j) * w2 (ix3 0 j d)) * k0_pay1 a b c (ix2 z 0) * s2 (ix3 0 0 d)) := by
  unfold k0_pay4
  generalize k0_pay1 a b c = g
  generalize k0_pay2 h a b c = q
  pointwise

end Cert.ReferenceIdeal.Ffn

end
-- ==== Proof.RefTrip.lean ====
/- What one sample of the reference computes: the body's 1024 rows of hidden values, scales, codes and output are the formula's. -/
module

public import proofs.«01_k».proof.Proof.RefPay

@[expose] public section

set_option maxRecDepth 16384

noncomputable section

namespace Cert.ReferenceIdeal.Ffn

open Cert.ReferenceIdeal Cert.ReferenceIdeal.Gen Cert.Ffn Cert.Ffn.Inputs
open Idealize.ShloMosaic Idealize.ShloMosaic.TcCoe

/-- A load's entry is the array's entry at the load's offset plus the index. -/
theorem ld_apply {s : Shape} {e : EltTy} (X : Vec Ideal s e) {off off' size : Fin s.rank → ℕ} {inb} (y : (Rect.unit off size inb).shape.Idx) (i : s.Idx)
    (ho : off = off') (h : ∀ a, (i a).val = off' a + (y a).val) : View.ld X (Rect.unit off size inb) y = X i :=
  congrArg X (funext fun a => Fin.ext ((ValueKit.rect_emb_unit_val off size inb y a).trans (ho ▸ (h a).symm)))

variable (I : Inputs) (k : Fin k0_t1_loop.trips) (v : BitVec 32) (hc : k0_chk1 v)

/-! What the body loads for sample `k`, of expert `v`. -/

def xRows : Vec Ideal S1024x2560 .fp8e4m3 := View.ld I.x (Rect.unit (s := S8192x2560) (k0_off2 k) S1024x2560.size (k0_off2_inb k))
def xsRows : Vec Ideal S1024x1 .f32 := View.ld I.xs (Rect.unit (s := S8192x128) (k0_off3 k) S1024x1.size (k0_off3_inb k))
def inMat (w : Vec Ideal S4x2560x6912 .fp8e4m3) : Vec Ideal S1x2560x6912 .fp8e4m3 :=
  View.ld w (Rect.unit (s := S4x2560x6912) (k0_off4 v) S1x2560x6912.size (k0_off4_inb v hc))
def inScale (s : Vec Ideal S4x1x6912 .f32) : Vec Ideal S1x1x6912 .f32 :=
  View.ld s (Rect.unit (s := S4x1x6912) (k0_off5 v) S1x1x6912.size (k0_off5_inb v hc))
def outMat : Vec Ideal S1x6912x2560 .fp8e4m3 :=
  View.ld I.w2 (Rect.unit (s := S4x6912x2560) (k0_off6 v) S1x6912x2560.size (k0_off6_inb v hc))
def outScale : Vec Ideal S1x1x2560 .f32 :=
  View.ld I.s2 (Rect.unit (s := S4x1x2560) (k0_off7 v) S1x1x2560.size (k0_off7_inb v hc))
def modRow : Vec Ideal S1x1x2560 .f32 :=
  View.ld I.mod (Rect.unit (s := S12x8x2560) (k0_off8 k) S1x1x2560.size (k0_off8_inb k))
def resRows (r : Vec Ideal S8192x2560 .f32) : Vec Ideal S1024x2560 .f32 :=
  View.ld r (Rect.unit (s := S8192x2560) (k0_off11 k) S1024x2560.size (k0_off11_inb k))

/-! What the body computes of them. -/

def hidRows : FVec Ideal S1024x6912 .f32 := k0_pay5 (xRows I k) (xsRows I k) (inMat v hc I.w1) (inScale v hc I.s1) (inMat v hc I.w3) (inScale v hc I.s3)
def zeroRows : IVec S1024x1 1 := k0_pay7 (xRows I k) (xsRows I k) (inMat v hc I.w1) (inScale v hc I.s1) (inMat v hc I.w3) (inScale v hc I.s3)
def quotRows : FVec Ideal S1024x1 .f32 := k0_pay8 (xRows I k) (xsRows I k) (inMat v hc I.w1) (inScale v hc I.s1) (inMat v hc I.w3) (inScale v hc I.s3)
def codeRows : FVec Ideal S1024x6912 .fp8e4m3 := k0_pay2 (hidRows I k v hc) (zeroRows I k v hc) (quotRows I k v hc) k0_pay9
def scaleRows : FVec Ideal S1024x128 .f32 := k0_pay3 (zeroRows I k v hc) (quotRows I k v hc) k0_pay9
def outRows : FVec Ideal S1024x2560 .bf16 := k0_pay4 (hidRows I k v hc) (zeroRows I k v hc) (quotRows I k v hc) k0_pay9 (outMat I v hc)
  (outScale I v hc) (modRow I k) (resRows k I.ires) (resRows k I.shared)

/-! The rows of sample `k`, the formula's entry by entry. -/

variable (z : Fin 1024) (R : Fin 8192) (hR : R.val = 1024 * k.val + z.val) (hv : v.toNat = (I.expertOf R).val)

include hR in
theorem xRows_apply (i : Fin 2560) : xRows I k (ix2 z i) = I.x (ix2 R i) := by
  refine ld_apply _ _ _ (k0_off2_eq k) fun a => ?_
  fin_cases a
  · exact hR
  · exact (Nat.zero_add _).symm

include hR in
theorem xsRows_apply : xsRows I k (ix2 z 0) = I.xs (ix2 R 0) := by
  refine ld_apply _ _ _ (k0_off3_eq k) fun a => ?_
  fin_cases a
  · exact hR
  · rfl

include hR in
theorem resRows_apply (r : Vec Ideal S8192x2560 .f32) (d : Fin 2560) : resRows k r (ix2 z d) = r (ix2 R d) := by
  refine ld_apply _ _ _ (k0_off11_eq k) fun a => ?_
  fin_cases a
  · exact hR
  · exact (Nat.zero_add _).symm

include hR in
theorem modRow_apply (d : Fin 2560) : modRow I k (ix3 0 0 d) = I.mod (ix3 5 (sample R) d) := by
  refine ld_apply _ _ _ (k0_off8_eq k) fun a => ?_
  fin_cases a
  · rfl
  · show R.val / 1024 = k.val + 0
    omega
  · exact (Nat.zero_add _).symm

include hv in
theorem inMat_apply (w : Vec Ideal S4x2560x6912 .fp8e4m3) (i : Fin 2560) (j : Fin 6912) : inMat v hc w (ix3 0 i j) = w (ix3 (I.expertOf R) i j) := by
  refine ld_apply _ _ _ rfl fun a => ?_
  fin_cases a
  · exact hv.symm
  · exact (Nat.zero_add _).symm
  · exact (Nat.zero_add _).symm

include hv in
theorem inScale_apply (s : Vec Ideal S4x1x6912 .f32) (j : Fin 6912) : inScale v hc s (ix3 0 0 j) = s (ix3 (I.expertOf R) 0 j) := by
  refine ld_apply _ _ _ rfl fun a => ?_
  fin_cases a
  · exact hv.symm
  · rfl
  · exact (Nat.zero_add _).symm

include hv in
theorem outMat_apply (j : Fin 6912) (d : Fin 2560) : outMat I v hc (ix3 0 j d) = I.w2 (ix3 (I.expertOf R) j d) := by
  refine ld_apply _ _ _ rfl fun a => ?_
  fin_cases a
  · exact hv.symm
  · exact (Nat.zero_add _).symm
  · exact (Nat.zero_add _).symm

include hv in
theorem outScale_apply (d : Fin 2560) : outScale I v hc (ix3 0 0 d) = I.s2 (ix3 (I.expertOf R) 0 d) := by
  refine ld_apply _ _ _ rfl fun a => ?_
  fin_cases a
  · exact hv.symm
  · rfl
  · exact (Nat.zero_add _).symm

include hR hv

theorem hidRows_apply (j : Fin 6912) : hidRows I k v hc (ix2 z j) = I.hidden R j := by
  refine (pay5_apply _ _ _ _ _ _ z j).trans ?_
  simp only [xRows_apply I k z R hR, xsRows_apply I k z R hR, inMat_apply I v hc R hv, inScale_apply I v hc R hv]
  rfl

/-- The row's scale. -/
theorem scaleOf_rows : k0_pay1 (zeroRows I k v hc) (quotRows I k v hc) k0_pay9 (ix2 z 0) = I.scale R := by
  refine (pay1_apply _ _ _ _ _ _ z).trans (congrArg scaleOf ?_)
  exact congrArg (fun f => Finset.fold max _ f _) (funext fun j => congrArg _ (hidRows_apply I k v hc z R hR hv j))

theorem codeRows_apply (j : Fin 6912) : codeRows I k v hc (ix2 z j) = I.code R j :=
  (pay2_apply _ _ _ _ z j).trans (congrArg₂ codeOf (hidRows_apply I k v hc z R hR hv j) (scaleOf_rows I k v hc z R hR hv))

theorem scaleRows_apply (l : Fin 128) : scaleRows I k v hc (ix2 z l) = I.scale R :=
  (pay3_apply _ _ _ z l).trans (scaleOf_rows I k v hc z R hR hv)

theorem outRows_apply (d : Fin 2560) : outRows I k v hc (ix2 z d) = I.out R d := by
  refine (pay4_apply _ _ _ _ _ _ _ _ _ z d).trans ?_
  have hq (j : Fin 6912) : k0_pay2 (hidRows I k v hc) (zeroRows I k v hc) (quotRows I k v hc) k0_pay9 (ix2 z j) = I.code R j :=
    codeRows_apply I k v hc z R hR hv j
  rw [resRows_apply k z R hR, resRows_apply k z R hR, modRow_apply I k z R hR, scaleOf_rows I k v hc z R hR hv, outScale_apply I v hc R hv]
  simp only [hq, outMat_apply I v hc R hv]
  rfl

end Cert.ReferenceIdeal.Ffn

end
-- ==== Proof.RefBody.lean ====
/- The reference body's stores: its eight trips leave the formula's three arrays. -/
module

public import proofs.«01_k».proof.Proof.RefTrip
public import Idealize.ShloMosaic.Lib.WritesUnit

@[expose] public section

set_option maxRecDepth 16384

noncomputable section

namespace Cert.ReferenceIdeal.Ffn

open Cert.ReferenceIdeal Cert.ReferenceIdeal.Gen Cert.Ffn Cert.Ffn.Inputs
open Idealize.ShloMosaic Idealize.ShloMosaic.TcCoe

variable (I : Inputs) (c : Dev nD) (arg0 : Memref sig .tc .smem S8 .i32) (harg0 : arg0.IsWhole) (arg1 : Memref sig .tc .vmem S8192x2560 .fp8e4m3) (harg1 : arg1.IsWhole) (arg2 : Memref sig .tc .vmem S8192x128 .f32) (harg2 : arg2.IsWhole) (arg3 : Memref sig .tc .vmem S4x2560x6912 .fp8e4m3) (harg3 : arg3.IsWhole) (arg4 : Memref sig .tc .vmem S4x1x6912 .f32) (harg4 : arg4.IsWhole) (arg5 : Memref sig .tc .vmem S4x2560x6912 .fp8e4m3) (harg5 : arg5.IsWhole) (arg6 : Memref sig .tc .vmem S4x1x6912 .f32) (harg6 : arg6.IsWhole) (arg7 : Memref sig .tc .vmem S4x6912x2560 .fp8e4m3) (harg7 : arg7.IsWhole) (arg8 : Memref sig .tc .vmem S4x1x2560 .f32) (harg8 : arg8.IsWhole) (arg9 : Memref sig .tc .vmem S8192x2560 .f32) (harg9 : arg9.IsWhole) (arg10 : Memref sig .tc .vmem S12x8x2560 .f32) (harg10 : arg10.IsWhole) (arg11 : Memref sig .tc .vmem S8192x2560 .f32) (harg11 : arg11.IsWhole) (arg12 : Memref sig .tc .vmem S8192x2560 .bf16) (harg12 : arg12.IsWhole) (arg13 : Memref sig .tc .vmem S8192x6912 .fp8e4m3) (harg13 : arg13.IsWhole) (arg14 : Memref sig .tc .vmem S8192x128 .f32) (harg14 : arg14.IsWhole)
  (hk : ∀ (kq : ℕ) (hkq : kq < k0_t1_loop.trips), k0_chk1 (arg0.view.readAt (Elt Ideal) (Rect.unit (s := S8) (k0_off1 ⟨kq, hkq⟩) S1.size (k0_off1_inb ⟨kq, hkq⟩)).toLoadRect (harg0.unread I.expert) (Shape.Idx.first (numel1_S1.symm ▸ Nat.one_pos))))

/-- The word that a trip reads: the expert of its sample. -/
theorem word_eq (k : Fin k0_t1_loop.trips) (R : Fin 8192) (hR : R.val / 1024 = k.val) :
    (arg0.view.readAt (Elt Ideal) (Rect.unit (s := S8) (k0_off1 k) S1.size (k0_off1_inb k)).toLoadRect (harg0.unread I.expert) (Shape.Idx.first (numel1_S1.symm ▸ Nat.one_pos))) = I.expert (ix1 (sample R)) := by
  rw [View.readAt_apply, Memref.IsWhole.read_unread]
  refine congrArg I.expert (funext fun a => Fin.ext ?_)
  obtain rfl : a = 0 := Subsingleton.elim _ _
  refine (ValueKit.rect_emb_unit_val _ _ _ _ _).trans ?_
  rw [show k0_off1 k 0 = k.val from congrFun (k0_off1_eq k) 0]
  exact hR.symm

/-- What one trip stores, from whatever the buffers hold. -/
theorem trip_loads (k : Fin k0_t1_loop.trips) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (h : k0_chk1 (arg0.view.readAt (Elt Ideal) (Rect.unit (s := S8) (k0_off1 k) S1.size (k0_off1_inb k)).toLoadRect X0 (Shape.Idx.first (numel1_S1.symm ▸ Nat.one_pos)))) :
    tripL_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 X0 X1 X2 X3 X4 X5 X6 X7 X8 X9 X10 X11 k h
      = ([⟨Rect.unit (s := S8192x2560) (k0_off11 k) S1024x2560.size (k0_off11_inb k), k0_pay4 (k0_pay5 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) (k0_pay7 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) (k0_pay8 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) k0_pay9
            (arg7.view.readAt (Elt Ideal) (Rect.unit (s := S4x6912x2560) (k0_off6 _) S1x6912x2560.size (k0_off6_inb _ h)).toLoadRect X7) (arg8.view.readAt (Elt Ideal) (Rect.unit (s := S4x1x2560) (k0_off7 _) S1x1x2560.size (k0_off7_inb _ h)).toLoadRect X8) (arg10.view.readAt (Elt Ideal) (Rect.unit (s := S12x8x2560) (k0_off8 k) S1x1x2560.size (k0_off8_inb k)).toLoadRect X10) (arg9.view.readAt (Elt Ideal) (Rect.unit (s := S8192x2560) (k0_off11 k) S1024x2560.size (k0_off11_inb k)).toLoadRect X9) (arg11.view.readAt (Elt Ideal) (Rect.unit (s := S8192x2560) (k0_off11 k) S1024x2560.size (k0_off11_inb k)).toLoadRect X11)⟩],
        [⟨Rect.unit (s := S8192x6912) (k0_off9 k) S1024x6912.size (k0_off9_inb k), k0_pay2 (k0_pay5 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) (k0_pay7 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) (k0_pay8 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) k0_pay9⟩],
        [⟨Rect.unit (s := S8192x128) (k0_off10 k) S1024x128.size (k0_off10_inb k), k0_pay3 (k0_pay7 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) (k0_pay8 (arg1.view.readAt (Elt Ideal) (Rect.unit (s := S8192x2560) (k0_off2 k) S1024x2560.size (k0_off2_inb k)).toLoadRect X1) (arg2.view.readAt (Elt Ideal) (Rect.unit (s := S8192x128) (k0_off3 k) S1024x1.size (k0_off3_inb k)).toLoadRect X2) (arg3.view.readAt (Elt Ideal) (Rect.unit (s := S4x2560x6912) (k0_off4 _) S1x2560x6912.size (k0_off4_inb _ h)).toLoadRect X3) (arg4.view.readAt (Elt Ideal) (Rect.unit (s := S4x1x6912) (k0_off5 _) S1x1x6912.size (k0_off5_inb _ h)).toLoadRect X4) (arg5.view.readAt (Elt Ideal) (Rect.unit (s := S4x2560x6912) (k0_off4 _) S1x2560x6912.size (k0_off4_inb _ h)).toLoadRect X5) (arg6.view.readAt (Elt Ideal) (Rect.unit (s := S4x1x6912) (k0_off5 _) S1x1x6912.size (k0_off5_inb _ h)).toLoadRect X6)) k0_pay9⟩]) := by
  unfold tripL_k0_t1 trip_k0_t1
  rfl

/-- What one trip stores: the output rows, the codes and the scales of its 1024 tokens. -/
theorem trip_pieces (k : Fin k0_t1_loop.trips) :
    tripL_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) k (hk k.val k.isLt)
      = ([⟨Rect.unit (s := S8192x2560) (k0_off11 k) S1024x2560.size (k0_off11_inb k), outRows I k _ (hk k.val k.isLt)⟩],
        [⟨Rect.unit (s := S8192x6912) (k0_off9 k) S1024x6912.size (k0_off9_inb k), codeRows I k _ (hk k.val k.isLt)⟩],
        [⟨Rect.unit (s := S8192x128) (k0_off10 k) S1024x128.size (k0_off10_inb k), scaleRows I k _ (hk k.val k.isLt)⟩]) := by
  rw [trip_loads]
  simp only [View.readAt_eq_ld arg1.view, View.readAt_eq_ld arg2.view, View.readAt_eq_ld arg3.view, View.readAt_eq_ld arg4.view, View.readAt_eq_ld arg5.view,
    View.readAt_eq_ld arg6.view, View.readAt_eq_ld arg7.view, View.readAt_eq_ld arg8.view, View.readAt_eq_ld arg9.view, View.readAt_eq_ld arg10.view,
    View.readAt_eq_ld arg11.view, Memref.IsWhole.read_unread, outRows, codeRows, scaleRows, hidRows, zeroRows, quotRows, xRows, xsRows, inMat, inScale,
    outMat, outScale, modRow, resRows]

/-- The pieces of one more trip. -/
theorem pieces_succ (k : Fin k0_t1_loop.trips) : pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) hk (k.val + 1) =
    (⟨Rect.unit (s := S8192x2560) (k0_off11 k) S1024x2560.size (k0_off11_inb k), outRows I k _ (hk k.val k.isLt)⟩ :: (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) hk k.val).1,
     ⟨Rect.unit (s := S8192x6912) (k0_off9 k) S1024x6912.size (k0_off9_inb k), codeRows I k _ (hk k.val k.isLt)⟩ :: (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) hk k.val).2.1,
     ⟨Rect.unit (s := S8192x128) (k0_off10 k) S1024x128.size (k0_off10_inb k), scaleRows I k _ (hk k.val k.isLt)⟩ :: (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) hk k.val).2.2) := by
  rw [pb_k0_t1_succ, trip_pieces]
  rfl

variable (hw : ∀ w : S8.Idx, (BitVec.toNat (w := 32) (I.expert w)) < 4)

include hw

theorem word_toNat (k : Fin k0_t1_loop.trips) (R : Fin 8192) (hR : R.val / 1024 = k.val) :
    BitVec.toNat (w := 32) (arg0.view.readAt (Elt Ideal) (Rect.unit (s := S8) (k0_off1 k) S1.size (k0_off1_inb k)).toLoadRect (harg0.unread I.expert) (Shape.Idx.first (numel1_S1.symm ▸ Nat.one_pos))) = (I.expertOf R).val := by
  rw [word_eq I arg0 harg0 k R hR]
  exact (Nat.mod_eq_of_lt (hw _)).symm

/-- The output rows of the trips before `n`. -/
theorem out_before (V : View sig .tc .vmem S8192x2560 .bf16) (g : V.ty.Contents (Elt Ideal)) :
    ∀ n, n ≤ k0_t1_loop.trips → ∀ y : S8192x2560.Idx, (y 0).val < 1024 * n →
      V.read (Elt Ideal) (V.writes (Elt Ideal) g (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) hk n).1) y = I.outArr y
  | 0, _, y, hy => absurd hy (by omega)
  | n + 1, hn, y, hy => by
    have hy0 : (y 0).val < 8192 := (y 0).isLt
    rw [pieces_succ I c arg0 harg0 arg1 harg1 arg2 harg2 arg3 harg3 arg4 harg4 arg5 harg5 arg6 harg6 arg7 harg7 arg8 harg8 arg9 harg9 arg10 harg10 arg11 harg11 arg12 harg12 arg13 harg13 arg14 harg14 hk ⟨n, hn⟩]
    dsimp only
    by_cases h : (y 0).val < 1024 * n
    · refine (View.read_writes_cons_unit_of_not_mem _ _ _ _ _ y (k0_off11_eq ⟨n, hn⟩) 0 (Or.inl h)).trans ?_
      exact out_before V g n (by omega) y h
    · have q : (y 0).val / 1024 = n := by omega
      refine (View.read_writes_cons_unit_of_mem _ _ _ _ _ y (ix2 (n0 := 1024) (n1 := 2560) ⟨(y 0).val % 1024, by omega⟩ (y 1)) (k0_off11_eq ⟨n, hn⟩)
        (Fin.forall_fin_two.mpr ⟨show (y 0).val = 1024 * n + (y 0).val % 1024 by omega, (Nat.zero_add _).symm⟩)).trans ?_
      exact outRows_apply I ⟨n, hn⟩ _ (hk n hn) ⟨(y 0).val % 1024, by omega⟩ (y 0) (show (y 0).val = 1024 * n + (y 0).val % 1024 by omega)
        (word_toNat I arg0 harg0 hw ⟨n, hn⟩ (y 0) q) (y 1)

/-- The codes of the trips before `n`. -/
theorem code_before (V : View sig .tc .vmem S8192x6912 .fp8e4m3) (g : V.ty.Contents (Elt Ideal)) :
    ∀ n, n ≤ k0_t1_loop.trips → ∀ y : S8192x6912.Idx, (y 0).val < 1024 * n →
      V.read (Elt Ideal) (V.writes (Elt Ideal) g (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) hk n).2.1) y = I.codeArr y
  | 0, _, y, hy => absurd hy (by omega)
  | n + 1, hn, y, hy => by
    have hy0 : (y 0).val < 8192 := (y 0).isLt
    rw [pieces_succ I c arg0 harg0 arg1 harg1 arg2 harg2 arg3 harg3 arg4 harg4 arg5 harg5 arg6 harg6 arg7 harg7 arg8 harg8 arg9 harg9 arg10 harg10 arg11 harg11 arg12 harg12 arg13 harg13 arg14 harg14 hk ⟨n, hn⟩]
    dsimp only
    by_cases h : (y 0).val < 1024 * n
    · refine (View.read_writes_cons_unit_of_not_mem _ _ _ _ _ y (k0_off9_eq ⟨n, hn⟩) 0 (Or.inl h)).trans ?_
      exact code_before V g n (by omega) y h
    · have q : (y 0).val / 1024 = n := by omega
      refine (View.read_writes_cons_unit_of_mem _ _ _ _ _ y (ix2 (n0 := 1024) (n1 := 6912) ⟨(y 0).val % 1024, by omega⟩ (y 1)) (k0_off9_eq ⟨n, hn⟩)
        (Fin.forall_fin_two.mpr ⟨show (y 0).val = 1024 * n + (y 0).val % 1024 by omega, (Nat.zero_add _).symm⟩)).trans ?_
      exact codeRows_apply I ⟨n, hn⟩ _ (hk n hn) ⟨(y 0).val % 1024, by omega⟩ (y 0) (show (y 0).val = 1024 * n + (y 0).val % 1024 by omega)
        (word_toNat I arg0 harg0 hw ⟨n, hn⟩ (y 0) q) (y 1)

/-- The scales of the trips before `n`. -/
theorem scale_before (V : View sig .tc .vmem S8192x128 .f32) (g : V.ty.Contents (Elt Ideal)) :
    ∀ n, n ≤ k0_t1_loop.trips → ∀ y : S8192x128.Idx, (y 0).val < 1024 * n →
      V.read (Elt Ideal) (V.writes (Elt Ideal) g (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (harg0.unread I.expert) (harg1.unread I.x) (harg2.unread I.xs) (harg3.unread I.w1) (harg4.unread I.s1) (harg5.unread I.w3) (harg6.unread I.s3) (harg7.unread I.w2) (harg8.unread I.s2) (harg9.unread I.ires) (harg10.unread I.mod) (harg11.unread I.shared) hk n).2.2) y = I.scaleArr y
  | 0, _, y, hy => absurd hy (by omega)
  | n + 1, hn, y, hy => by
    have hy0 : (y 0).val < 8192 := (y 0).isLt
    rw [pieces_succ I c arg0 harg0 arg1 harg1 arg2 harg2 arg3 harg3 arg4 harg4 arg5 harg5 arg6 harg6 arg7 harg7 arg8 harg8 arg9 harg9 arg10 harg10 arg11 harg11 arg12 harg12 arg13 harg13 arg14 harg14 hk ⟨n, hn⟩]
    dsimp only
    by_cases h : (y 0).val < 1024 * n
    · refine (View.read_writes_cons_unit_of_not_mem _ _ _ _ _ y (k0_off10_eq ⟨n, hn⟩) 0 (Or.inl h)).trans ?_
      exact scale_before V g n (by omega) y h
    · have q : (y 0).val / 1024 = n := by omega
      refine (View.read_writes_cons_unit_of_mem _ _ _ _ _ y (ix2 (n0 := 1024) (n1 := 128) ⟨(y 0).val % 1024, by omega⟩ (y 1)) (k0_off10_eq ⟨n, hn⟩)
        (Fin.forall_fin_two.mpr ⟨show (y 0).val = 1024 * n + (y 0).val % 1024 by omega, (Nat.zero_add _).symm⟩)).trans ?_
      exact scaleRows_apply I ⟨n, hn⟩ _ (hk n hn) ⟨(y 0).val % 1024, by omega⟩ (y 0) (show (y 0).val = 1024 * n + (y 0).val % 1024 by omega)
        (word_toNat I arg0 harg0 hw ⟨n, hn⟩ (y 0) q) (y 1)

end Cert.ReferenceIdeal.Ffn

end
-- ==== Proof.RefArrays.lean ====
/- The reference launch's three result arrays are the formula's. -/
module

public import proofs.«01_k».proof.Proof.RefBody
public import proofs.«01_k».proof.Proof.Gen.ReferenceIdeal.Value

@[expose] public section

set_option maxRecDepth 16384

noncomputable section

namespace Cert.ReferenceIdeal.Ffn

open Cert.ReferenceIdeal Cert.ReferenceIdeal.Gen Cert.Ffn Cert.Ffn.Inputs
open Idealize.ShloMosaic Idealize.ShloMosaic.TcCoe

variable (m : (ℓ : Loc nD τ sig) → Buf (Elt Ideal) ℓ) (c : Dev nD)

/-- The launch's arrays on device `c`. -/
def inputs : Inputs where
  expert := m ((c : Thread nD τ).loc main_arg8)
  x := m ((c : Thread nD τ).loc main_arg0)
  xs := m ((c : Thread nD τ).loc main_arg1)
  w1 := m ((c : Thread nD τ).loc main_arg2)
  s1 := m ((c : Thread nD τ).loc main_arg3)
  w3 := m ((c : Thread nD τ).loc main_arg4)
  s3 := m ((c : Thread nD τ).loc main_arg5)
  w2 := m ((c : Thread nD τ).loc main_arg6)
  s2 := m ((c : Thread nD τ).loc main_arg7)
  ires := m ((c : Thread nD τ).loc main_arg9)
  mod := m ((c : Thread nD τ).loc main_arg10)
  shared := m ((c : Thread nD τ).loc main_arg11)

/-- The same arrays as the body finds them in its buffers. -/
def loaded (t : Fin cfg0.N) : Inputs where
  expert := iblk m c 0 t
  x := iblk m c 1 t
  xs := iblk m c 2 t
  w1 := iblk m c 3 t
  s1 := iblk m c 4 t
  w3 := iblk m c 5 t
  s3 := iblk m c 6 t
  w2 := iblk m c 7 t
  s2 := iblk m c 8 t
  ires := iblk m c 9 t
  mod := iblk m c 10 t
  shared := iblk m c 11 t

/-! Every input window is its whole array. -/

theorem load0 (t : Fin cfg0.N) : (iblk m c 0 t : Vec Ideal S8 .i32) = m ((c : Thread nD τ).loc main_arg8) := by
  have e (a) : win0_0.index t a = 0 := rfl
  funext y
  unfold iblk
  blk_ext [V, e]

theorem load1 (t : Fin cfg0.N) : (iblk m c 1 t : Vec Ideal S8192x2560 .fp8e4m3) = m ((c : Thread nD τ).loc main_arg0) := by
  have e (a) : win0_1.index t a = 0 := rfl
  funext y
  unfold iblk
  blk_ext [V, e]

theorem load2 (t : Fin cfg0.N) : (iblk m c 2 t : Vec Ideal S8192x128 .f32) = m ((c : Thread nD τ).loc main_arg1) := by
  have e (a) : win0_2.index t a = 0 := rfl
  funext y
  unfold iblk
  blk_ext [V, e]

theorem load3 (t : Fin cfg0.N) : (iblk m c 3 t : Vec Ideal S4x2560x6912 .fp8e4m3) = m ((c : Thread nD τ).loc main_arg2) := by
  have e (a) : win0_3.index t a = 0 := rfl
  funext y
  unfold iblk
  blk_ext [V, e]

theorem load4 (t : Fin cfg0.N) : (iblk m c 4 t : Vec Ideal S4x1x6912 .f32) = m ((c : Thread nD τ).loc main_arg3) := by
  have e (a) : win0_4.index t a = 0 := rfl
  funext y
  unfold iblk
  blk_ext [V, e]

theorem load5 (t : Fin cfg0.N) : (iblk m c 5 t : Vec Ideal S4x2560x6912 .fp8e4m3) = m ((c : Thread nD τ).loc main_arg4) := by
  have e (a) : win0_5.index t a = 0 := rfl
  funext y
  unfold iblk
  blk_ext [V, e]

theorem load6 (t : Fin cfg0.N) : (iblk m c 6 t : Vec Ideal S4x1x6912 .f32) = m ((c : Thread nD τ).loc main_arg5) := by
  have e (a) : win0_6.index t a = 0 := rfl
  funext y
  unfold iblk
  blk_ext [V, e]

theorem load7 (t : Fin cfg0.N) : (iblk m c 7 t : Vec Ideal S4x6912x2560 .fp8e4m3) = m ((c : Thread nD τ).loc main_arg6) := by
  have e (a) : win0_7.index t a = 0 := rfl
  funext y
  unfold iblk
  blk_ext [V, e]

theorem load8 (t : Fin cfg0.N) : (iblk m c 8 t : Vec Ideal S4x1x2560 .f32) = m ((c : Thread nD τ).loc main_arg7) := by
  have e (a) : win0_8.index t a = 0 := rfl
  funext y
  unfold iblk
  blk_ext [V, e]

theorem load9 (t : Fin cfg0.N) : (iblk m c 9 t : Vec Ideal S8192x2560 .f32) = m ((c : Thread nD τ).loc main_arg9) := by
  have e (a) : win0_9.index t a = 0 := rfl
  funext y
  unfold iblk
  blk_ext [V, e]

theorem load10 (t : Fin cfg0.N) : (iblk m c 10 t : Vec Ideal S12x8x2560 .f32) = m ((c : Thread nD τ).loc main_arg10) := by
  have e (a) : win0_10.index t a = 0 := rfl
  funext y
  unfold iblk
  blk_ext [V, e]

theorem load11 (t : Fin cfg0.N) : (iblk m c 11 t : Vec Ideal S8192x2560 .f32) = m ((c : Thread nD τ).loc main_arg11) := by
  have e (a) : win0_11.index t a = 0 := rfl
  funext y
  unfold iblk
  blk_ext [V, e]

theorem loaded_eq (t : Fin cfg0.N) : loaded m c t = inputs m c := by
  unfold loaded inputs
  rw [load0 m c t, load1 m c t, load2 m c t, load3 m c t, load4 m c t, load5 m c t, load6 m c t, load7 m c t, load8 m c t, load9 m c t, load10 m c t, load11 m c t]

variable (hH : Hyps m) (hw : ∀ w : S8.Idx, (m ((c : Thread nD τ).loc main_arg8) w).toNat < 4)

include hw

theorem array12 : (dats m hH 0 c).arrAt 12 cfg0.N = (inputs m c).outArr := by
  refine (dats m hH 0 c).arrAt_eq_of_after_last 12 ⟨0, by decide⟩ (by decide +kernel) _ fun (j : S8192x2560.Idx) => ?_
  rw [after0_12]
  blk_simp
  have hl : ∀ w : S8.Idx, BitVec.toNat (w := 32) ((loaded m c ⟨0, by decide⟩).expert w) < 4 := by rw [loaded_eq]; exact hw
  refine Eq.trans ?_ (congrFun (congrArg outArr (loaded_eq m c ⟨0, by decide⟩)) j)
  have hj : (j 0).val < 8192 := (j 0).isLt
  exact out_before (loaded m c ⟨0, by decide⟩) c _ _ _ _ _ _ _ _ _ _ _ _ _ _ _ _ _ _ _ _ _ _ _ _ _ _ _ _ _ _ (Hyps.c0 hH c ⟨0, by decide⟩) hl VO0_12 VO0_12.junk 8 (by decide) j (by omega)

theorem array13 : (dats m hH 0 c).arrAt 13 cfg0.N = (inputs m c).codeArr := by
  refine (dats m hH 0 c).arrAt_eq_of_after_last 13 ⟨0, by decide⟩ (by decide +kernel) _ fun (j : S8192x6912.Idx) => ?_
  rw [after0_13]
  blk_simp
  have hl : ∀ w : S8.Idx, BitVec.toNat (w := 32) ((loaded m c ⟨0, by decide⟩).expert w) < 4 := by rw [loaded_eq]; exact hw
  refine Eq.trans ?_ (congrFun (congrArg codeArr (loaded_eq m c ⟨0, by decide⟩)) j)
  have hj : (j 0).val < 8192 := (j 0).isLt
  exact code_before (loaded m c ⟨0, by decide⟩) c _ _ _ _ _ _ _ _ _ _ _ _ _ _ _ _ _ _ _ _ _ _ _ _ _ _ _ _ _ _ (Hyps.c0 hH c ⟨0, by decide⟩) hl VO0_13 VO0_13.junk 8 (by decide) j (by omega)

theorem array14 : (dats m hH 0 c).arrAt 14 cfg0.N = (inputs m c).scaleArr := by
  refine (dats m hH 0 c).arrAt_eq_of_after_last 14 ⟨0, by decide⟩ (by decide +kernel) _ fun (j : S8192x128.Idx) => ?_
  rw [after0_14]
  blk_simp
  have hl : ∀ w : S8.Idx, BitVec.toNat (w := 32) ((loaded m c ⟨0, by decide⟩).expert w) < 4 := by rw [loaded_eq]; exact hw
  refine Eq.trans ?_ (congrFun (congrArg scaleArr (loaded_eq m c ⟨0, by decide⟩)) j)
  have hj : (j 0).val < 8192 := (j 0).isLt
  exact scale_before (loaded m c ⟨0, by decide⟩) c _ _ _ _ _ _ _ _ _ _ _ _ _ _ _ _ _ _ _ _ _ _ _ _ _ _ _ _ _ _ (Hyps.c0 hH c ⟨0, by decide⟩) hl VO0_14 VO0_14.junk 8 (by decide) j (by omega)

end Cert.ReferenceIdeal.Ffn

end
-- ==== Proof.Equation.lean ====
/- The two launches end with the same three arrays: each program's are the formula's of its own inputs, and the inputs agree. -/
module

public import proofs.«01_k».proof.Proof.Arrays
public import proofs.«01_k».proof.Proof.Frame
public import proofs.«01_k».proof.Proof.RefArrays

@[expose] public section

set_option maxRecDepth 16384

noncomputable section

namespace Cert.KernelIdeal.Ffn

open Cert.KernelIdeal.Gen
open Idealize.ShloMosaic Idealize.ShloMosaic.TcCoe Idealize.SL.Sem

/-- The kernel's run: the three results are the formula's arrays. -/
theorem run_value (m : (ℓ : Loc nD τ sig) → Buf (Elt Ideal) ℓ) (ρ : Dev nD → PrngReg)
    (hw : ∀ w : Cert.KernelIdeal.S8.Idx, ((tbl m 0 : Cert.KernelIdeal.S8.Idx → BitVec 32) w).toNat < 4) :
    θ_run (defs (F := Ideal)) (onTc (τ := τ) (main (F := Ideal))) ⟨m, fun _ => 0, ρ⟩ fun r => ∀ c : Dev nD,
      r.2.mem ((c.tc : Thread nD τ).loc main_v0_0) = (inputs m c).outArr
      ∧ r.2.mem ((c.tc : Thread nD τ).loc main_v0_1) = (inputs m c).codeArr
      ∧ r.2.mem ((c.tc : Thread nD τ).loc main_v0_2) = (inputs m c).scaleArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  have hO : Ok m := ok_of_words m hw
  (θ_run defs _ _).mono (fun r h c => ⟨((h.1 c).1 11).trans (array11 m hO c hw), ((h.1 c).1 12).trans (array12 m hO c hw),
    ((h.1 c).1 13).trans (array13 m hO c hw), args_of m hO h.1 c⟩) (run_main m ρ hO)

end Cert.KernelIdeal.Ffn

namespace Cert.Proof

open Idealize.ShloMosaic Idealize.ShloMosaic.TcCoe Idealize.SL.Sem

/-- Over the extended reals the kernel and the reference end with equal results: outputs, codes and scales. -/
theorem algebraic : Cert.algebraic_KernelIdeal_ReferenceIdeal := by
  intro m g m' g' hp hm
  have hw : ∀ (c : Dev Cert.KernelIdeal.nD) (w : Cert.KernelIdeal.S8.Idx),
      (m ((c : Thread Cert.KernelIdeal.nD Cert.KernelIdeal.τ).loc Cert.KernelIdeal.main_arg8) w).toNat < 4 :=
    fun c w => Cert.KernelIdeal.Ffn.words_of_pre _ _ _ _ _ _ _ _ _ _ _ _ (hp c) w
  have hw' : ∀ (c : Dev Cert.ReferenceIdeal.nD) (w : Cert.ReferenceIdeal.S8.Idx),
      (m' ((c : Thread Cert.ReferenceIdeal.nD Cert.ReferenceIdeal.τ).loc Cert.ReferenceIdeal.main_arg8) w).toNat < 4 := fun c w => by
    rw [(hm c).2.2.2.2.2.2.2.2.1]
    exact hw c w
  have hI : ∀ c : Dev Cert.KernelIdeal.nD, Cert.ReferenceIdeal.Ffn.inputs m' c = Cert.KernelIdeal.Ffn.inputs m c := fun c => by
    obtain ⟨h0, h1, h2, h3, h4, h5, h6, h7, h8, h9, h10, h11⟩ := hm c
    unfold Cert.ReferenceIdeal.Ffn.inputs Cert.KernelIdeal.Ffn.inputs
    congr 1
  have hH := Cert.ReferenceIdeal.Ffn.hyps_of_words m' hw'
  refine ⟨fun c => (Cert.KernelIdeal.Ffn.inputs m c).outArr, fun c => (Cert.KernelIdeal.Ffn.inputs m c).codeArr,
    fun c => (Cert.KernelIdeal.Ffn.inputs m c).scaleArr, Cert.KernelIdeal.Ffn.run_value m g (hw 0), ?_⟩
  refine (θ_run Cert.ReferenceIdeal.defs _ _).mono (fun r h c => ?_) (Cert.ReferenceIdeal.Value.run_blocks m' g' hH)
  obtain ⟨h0, h1, h2, ha⟩ := h c
  exact ⟨(h0.trans (Cert.ReferenceIdeal.Ffn.array12 m' c hH (hw' c))).trans (congrArg Cert.Ffn.Inputs.outArr (hI c)),
    (h1.trans (Cert.ReferenceIdeal.Ffn.array13 m' c hH (hw' c))).trans (congrArg Cert.Ffn.Inputs.codeArr (hI c)),
    (h2.trans (Cert.ReferenceIdeal.Ffn.array14 m' c hH (hw' c))).trans (congrArg Cert.Ffn.Inputs.scaleArr (hI c)), ha⟩

end Cert.Proof

end
-- ==== Proof.SharedKit.lean ====
/-
  What the proof of the shared feed-forward kernel shares: the kernel's `@main` up to its one region, the table of zeros the host makes,
  each input window's block at a grid point, the staging and scratch memrefs the body is called on, and the schedule of the output
  windows.
-/
module

public import proofs.«01_k».proof.Proof.Gen.SharedKernelIdeal.Launch
public import proofs.«01_k».proof.Proof.Gen.SharedKernelIdeal.Skeleton
public import proofs.«01_k».proof.Proof.Gen.SharedKernelIdeal.Loops
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.SharedKernelIdeal.Ffn

open Cert.SharedKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the two host operations that make the table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

set_option maxHeartbeats 800000 in
/-- @main up to the region, at the certificate's variants `𝒱₀`: the host operations, then the region (`Pipeline.hmainP_prefix` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that neither host operation writes is found as launched. -/
theorem V_of_ne (c : Dev nD) (b : Ref sig .tc) (h0 : b ≠ main_c) (h1 : b ≠ main_v0) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1⟩))

theorem V_main_arg0 (c : Dev nD) : V m c main_arg0 = m ((c : Thread nD τ).loc main_arg0) := V_of_ne m c _ (by decide) (by decide)
theorem V_main_arg1 (c : Dev nD) : V m c main_arg1 = m ((c : Thread nD τ).loc main_arg1) := V_of_ne m c _ (by decide) (by decide)
theorem V_main_arg2 (c : Dev nD) : V m c main_arg2 = m ((c : Thread nD τ).loc main_arg2) := V_of_ne m c _ (by decide) (by decide)
theorem V_main_arg3 (c : Dev nD) : V m c main_arg3 = m ((c : Thread nD τ).loc main_arg3) := V_of_ne m c _ (by decide) (by decide)
theorem V_main_arg4 (c : Dev nD) : V m c main_arg4 = m ((c : Thread nD τ).loc main_arg4) := V_of_ne m c _ (by decide) (by decide)
theorem V_main_arg5 (c : Dev nD) : V m c main_arg5 = m ((c : Thread nD τ).loc main_arg5) := V_of_ne m c _ (by decide) (by decide)
theorem V_main_arg6 (c : Dev nD) : V m c main_arg6 = m ((c : Thread nD τ).loc main_arg6) := V_of_ne m c _ (by decide) (by decide)
theorem V_main_arg7 (c : Dev nD) : V m c main_arg7 = m ((c : Thread nD τ).loc main_arg7) := V_of_ne m c _ (by decide) (by decide)

/-! ## The prefetched table -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). It holds at
    every launch, as the host writes zeros (SharedTable.lean). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_v0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window `w`'s staging buffer holds its block at every point, fetched there or not, for any proof data over the launch
    arrays whose body leaves the block in place; one lemma for each of the eight input windows. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`). -/
abbrev ms0_0 (hO : Ok m) (t : Fin (cfgM m hO).N) : Memref sig .tc .vmem S512x2560 .fp8e4m3 := spec0_0.stage ((cfgM m hO).slots t 0)
abbrev ms0_1 (hO : Ok m) (t : Fin (cfgM m hO).N) : Memref sig .tc .vmem S512x128 .f32 := spec0_1.stage ((cfgM m hO).slots t 1)
abbrev ms0_2 (hO : Ok m) (t : Fin (cfgM m hO).N) : Memref sig .tc .vmem S1x2560x512 .fp8e4m3 := spec0_2.stage ((cfgM m hO).slots t 2)
abbrev ms0_3 (hO : Ok m) (t : Fin (cfgM m hO).N) : Memref sig .tc .vmem S1x1x512 .f32 := spec0_3.stage ((cfgM m hO).slots t 3)
abbrev ms0_4 (hO : Ok m) (t : Fin (cfgM m hO).N) : Memref sig .tc .vmem S1x2560x512 .fp8e4m3 := spec0_4.stage ((cfgM m hO).slots t 4)
abbrev ms0_5 (hO : Ok m) (t : Fin (cfgM m hO).N) : Memref sig .tc .vmem S1x1x512 .f32 := spec0_5.stage ((cfgM m hO).slots t 5)
abbrev ms0_6 (hO : Ok m) (t : Fin (cfgM m hO).N) : Memref sig .tc .vmem S1x3584x512 .fp8e4m3 := spec0_6.stage ((cfgM m hO).slots t 6)
abbrev ms0_7 (hO : Ok m) (t : Fin (cfgM m hO).N) : Memref sig .tc .vmem S1x1x512 .f32 := spec0_7.stage ((cfgM m hO).slots t 7)
abbrev ms0_8 (hO : Ok m) (t : Fin (cfgM m hO).N) : Memref sig .tc .vmem S512x512 .f32 := spec0_8.stage ((cfgM m hO).slots t 8)
abbrev ms0_9 (hO : Ok m) (t : Fin (cfgM m hO).N) : Memref sig .tc .vmem S512x3584 .fp8e4m3 := spec0_9.stage ((cfgM m hO).slots t 9)
abbrev ms0_10 (hO : Ok m) (t : Fin (cfgM m hO).N) : Memref sig .tc .vmem S512x128 .f32 := spec0_10.stage ((cfgM m hO).slots t 10)
/-- The scratch operands: whole scoped buffers of the kernel's own, passed beside the windows. -/
abbrev scM0_0 : Memref sig .tc .vmem S512x3584 .f32 := Memref.whole cc0_scratch0
abbrev scM0_1 : Memref sig .tc .vmem S512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The schedule of the outputs and the body at a point -/

/-- Window 9 (result 1 (%1#1)) is written back at the points ≡ 11 (mod 12), at any contents of the tables (its index map reads none). -/
theorem flush0_9 (a : (pcfg0 (F := F)).Adm) : ∀ t : Fin (cfg0 a).N, ((cfg0 a).win 9).flush t = true ↔ t.val % 12 = 11 :=
  (fun t => Pipeline.Window.flushOf_reads cc0_transform_9 reads0_9 hreads0_9 0 (by decide) (by decide) (Pipeline.Window.sep_of_coord cc0_transform_9 0 0 (fun _ => rfl) (by decide)) (P := 12) (m := 11) (by decide) rfl t : ∀ t : Fin grid0.N, Pipeline.Window.flushOf grid0 true cc0_transform_9 t = true ↔ t.val % 12 = 11)
/-- Window 10 (result 2 (%1#2)) is written back at the points ≡ 11 (mod 12), at any contents of the tables (its index map reads none). -/
theorem flush0_10 (a : (pcfg0 (F := F)).Adm) : ∀ t : Fin (cfg0 a).N, ((cfg0 a).win 10).flush t = true ↔ t.val % 12 = 11 :=
  (fun t => Pipeline.Window.flushOf_reads cc0_transform_10 reads0_10 hreads0_10 0 (by decide) (by decide) (Pipeline.Window.sep_of_coord cc0_transform_10 0 0 (fun _ => rfl) (by decide)) (P := 12) (m := 11) (by decide) rfl t : ∀ t : Fin grid0.N, Pipeline.Window.flushOf grid0 true cc0_transform_10 t = true ↔ t.val % 12 = 11)

/-- Window 8 (the output tile) is written back at the points of the second half of a row block's twelve (the down projection). -/
theorem flush0_8 (a : (pcfg0 (F := F)).Adm) : ∀ t : Fin (cfg0 a).N, ((cfg0 a).win 8).flush t = true ↔ 7 ≤ t.val % 12 :=
  (by decide +kernel : ∀ t : Fin grid0.N, Pipeline.Window.flushOf grid0 true cc0_transform_8 t = true ↔ 7 ≤ t.val % 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (Memref.whole cc0_scratch0) (Memref.isWhole_whole _) (Memref.whole cc0_scratch1) (Memref.isWhole_whole _)

end Cert.SharedKernelIdeal.Ffn

end
-- ==== Proof.SharedTile.lean ====
/-
  What one visit of the shared kernel's body computes, as functions of the blocks it reads: the 256 x 256 tiles of silu(gate) * up, the
  running maximum of their absolute values, the rows' scales and codes, and how a list of writes into the scratch is read back.
-/
module

public import proofs.«01_k».proof.Proof.SharedKit
public import proofs.«01_k».proof.Proof.Tile
public import Idealize.ShloMosaic.Lib.WritesUnit
public import Idealize.ShloMosaic.Lib.ValueIdxCoords
public import Idealize.ShloMosaic.Lib.Pipeline.RowLoads

@[expose] public section

set_option maxRecDepth 16384

noncomputable section

namespace Cert.SharedKernelIdeal.Ffn

open Cert.SharedKernelIdeal.Gen
open Cert.KernelIdeal.Ffn (read_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The first half: tiles of the hidden rows -/

theorem inb_rows (m : Fin 2) : ∀ a : Fin 2, (![256 * m.val, 0] : Fin 2 → Nat) a + S256x2560.size a ≤ S512x2560.size a := by
  revert m; decide
theorem inb_scale (m : Fin 2) : ∀ a : Fin 2, (![256 * m.val, 0] : Fin 2 → Nat) a + S256x1.size a ≤ S512x128.size a := by
  revert m; decide
theorem inb_cols (n : Fin 2) : ∀ a : Fin 3, (![0, 0, 256 * n.val] : Fin 3 → Nat) a + S1x2560x256.size a ≤ S1x2560x512.size a := by
  revert n; decide
theorem inb_colScale (n : Fin 2) : ∀ a : Fin 3, (![0, 0, 256 * n.val] : Fin 3 → Nat) a + S1x1x256.size a ≤ S1x1x512.size a := by
  revert n; decide
theorem inb_amax (m : Fin 2) : ∀ a : Fin 2, (![256 * m.val, 0] : Fin 2 → Nat) a + S256x128.size a ≤ S512x128.size a := by
  revert m; decide

variable (x : Vec F S512x2560 .fp8e4m3) (xs : Vec F S512x128 .f32) (w1 : Vec F S1x2560x512 .fp8e4m3) (s1 : Vec F S1x1x512 .f32)
  (w3 : Vec F S1x2560x512 .fp8e4m3) (s3 : Vec F S1x1x512 .f32)

/-- The tile of silu(gate) * up at the `m`-th 256 rows of the block and the `n`-th 256 columns of the up-projection's slab. -/
def tile (n : Fin 2) (m : Fin 2) : FVec F S256x256 .f32 :=
  k0_pay9 (View.ld x (Rect.unit (s := S512x2560) ![256 * m.val, 0] S256x2560.size (inb_rows m)))
    (View.ld w1 (Rect.unit (s := S1x2560x512) ![0, 0, 256 * n.val] S1x2560x256.size (inb_cols n)))
    (View.ld xs (Rect.unit (s := S512x128) ![256 * m.val, 0] S256x1.size (inb_scale m)))
    (View.ld s1 (Rect.unit (s := S1x1x512) ![0, 0, 256 * n.val] S1x1x256.size (inb_colScale n)))
    (View.ld x (Rect.unit (s := S512x2560) ![256 * m.val, 0] S256x2560.size (inb_rows m)))
    (View.ld w3 (Rect.unit (s := S1x2560x512) ![0, 0, 256 * n.val] S1x2560x256.size (inb_cols n)))
    (View.ld xs (Rect.unit (s := S512x128) ![256 * m.val, 0] S256x1.size (inb_scale m)))
    (View.ld s3 (Rect.unit (s := S1x1x512) ![0, 0, 256 * n.val] S1x1x256.size (inb_colScale n)))

/-- The running maximum of 256 rows after one more tile `h`: lane `l` takes in |h| at columns `l` and `128 + l`. -/
def amaxTile (h : FVec F S256x256 .f32) (v : Vec F S256x128 .f32) : Vec F S256x128 .f32 := k0_pay15 h v

/-- The running maximum of the `m`-th 256 rows after a visit's two tiles, from `dA` before it. -/
def amaxRows (dA : Vec F S512x128 .f32) (m : Fin 2) : Vec F S256x128 .f32 :=
  amaxTile (tile x xs w1 s1 w3 s3 1 m) (amaxTile (tile x xs w1 s1 w3 s3 0 m)
    (View.ld dA (Rect.unit (s := S512x128) ![256 * m.val, 0] S256x128.size (inb_amax m))))

/-- The running maximum after a visit, from `dA` before it. -/
def amaxUp (dA : Vec F S512x128 .f32) : Vec F S512x128 .f32 := fun y =>
  if h : (y 0).val < 256 then amaxRows x xs w1 s1 w3 s3 dA 0 (ix2 (n0 := 256) (n1 := 128) ⟨(y 0).val, h⟩ (y 1))
  else amaxRows x xs w1 s1 w3 s3 dA 1 (ix2 (n0 := 256) (n1 := 128) ⟨(y 0).val - 256, by have : (y 0).val < 512 := (y 0).isLt; omega⟩ (y 1))

/-- The hidden scratch after visit `s` of a row block: the slab of 512 columns from column `512 * s` made of the four tiles `T`, the
    rest as `d` had it. -/
def paste (s : Nat) (T : Fin 2 → Fin 2 → FVec F S256x256 .f32) (d : Vec F S512x3584 .f32) : Vec F S512x3584 .f32 := fun y =>
  if h : 512 * s ≤ (y 1).val ∧ (y 1).val < 512 * s + 512 then
    T ⟨((y 1).val - 512 * s) / 256, by omega⟩ ⟨(y 0).val / 256, by have : (y 0).val < 512 := (y 0).isLt; omega⟩
      (ix2 (n0 := 256) (n1 := 256) ⟨(y 0).val % 256, by omega⟩ ⟨((y 1).val - 512 * s) % 256, by omega⟩)
  else d y

/-! ## The body's spellings of a tile

The body spells the four tiles and the four updates of the running maximum each in its own names; all are `k0_pay9` and `amaxTile`. -/

section Spellings

variable (a : Vec F S256x2560 .fp8e4m3) (b : Vec F S1x2560x256 .fp8e4m3) (c : Vec F S256x1 .f32) (d : Vec F S1x1x256 .f32)
  (e : Vec F S256x2560 .fp8e4m3) (f : Vec F S1x2560x256 .fp8e4m3) (g : Vec F S256x1 .f32) (h : Vec F S1x1x256 .f32) (t : FVec F S256x256 .f32)
  (v : Vec F S256x128 .f32)

theorem pay10_eq : k0_pay10 a b c d e f g h = k0_pay9 a b c d e f g h := shapeCast_self _ _
theorem pay14_eq : k0_pay14 t = t := shapeCast_self _ _
theorem pay20_eq : k0_pay20 (k0_pay16 a b c d) (k0_pay17 e f) (k0_pay18 g) h = k0_pay9 a b c d e f g h := shapeCast_self _ _
theorem pay3_eq : k0_pay3 (k0_pay22 a b c d) e f g h = k0_pay9 a b c d e f g h := shapeCast_self _ _
theorem pay13_eq : k0_pay13 a b c d e f g h = k0_pay9 a b c d e f g h := rfl
theorem pay12_eq : k0_pay12 (k0_pay11 a b c d e f g h) v = amaxTile (k0_pay9 a b c d e f g h) v := rfl
theorem pay15_eq : k0_pay15 t v = amaxTile t v := rfl
theorem pay21_eq : k0_pay21 (k0_pay16 a b c d) (k0_pay17 e f) (k0_pay18 g) h v = amaxTile (k0_pay9 a b c d e f g h) v := rfl
theorem pay4_eq : k0_pay4 (k0_pay22 a b c d) e f g h v = amaxTile (k0_pay9 a b c d e f g h) v := rfl

end Spellings

/-! ## Reading back a list of writes -/

section Reads

variable {sig' : RefSig} {κ : Kind} {sp : Space}

/-- One 256 x 256 tile of a list of writes into the hidden scratch, read at a place: the tile there if it holds the place. -/
theorem read_cons_tile (v : View sig' κ sp S512x3584 .f32) (f : v.ty.Contents (Elt F)) {off : Fin 2 → Nat} {a b : Nat} (hoff : off = ![a, b])
    (inb : ∀ k, off k + S256x256.size k ≤ S512x3584.size k) (w : S256x256.Idx → Elt F .f32) (L : List (View.Piece (Elt F) S512x3584 .f32))
    (y : S512x3584.Idx) :
    v.read (Elt F) (v.writes (Elt F) f (⟨Rect.unit (s := S512x3584) off S256x256.size inb, w⟩ :: L)) y
      = if h : (a ≤ (y 0).val ∧ (y 0).val < a + 256) ∧ (b ≤ (y 1).val ∧ (y 1).val < b + 256) then
          w (ix2 (n0 := 256) (n1 := 256) ⟨(y 0).val - a, by omega⟩ ⟨(y 1).val - b, by omega⟩)
        else v.read (Elt F) (v.writes (Elt F) f L) y := by
  split
  · next h =>
    refine View.read_writes_cons_unit_of_mem v f inb w L y
      (ix2 (n0 := 256) (n1 := 256) ⟨(y 0).val - a, by omega⟩ ⟨(y 1).val - b, by omega⟩) hoff (Fin.forall_fin_two.mpr ⟨?_, ?_⟩)
    · show (y 0).val = a + ((y 0).val - a); omega
    · show (y 1).val = b + ((y 1).val - b); omega
  · next h =>
    by_cases h0 : a ≤ (y 0).val ∧ (y 0).val < a + 256
    · refine View.read_writes_cons_unit_of_not_mem v f inb w L y hoff 1 ?_
      show (y 1).val < b ∨ b + 256 ≤ (y 1).val
      omega
    · refine View.read_writes_cons_unit_of_not_mem v f inb w L y hoff 0 ?_
      show (y 0).val < a ∨ a + 256 ≤ (y 0).val
      omega

/-- The four tiles of visit `s` written into the hidden scratch, read back. -/
theorem read_four (v : View sig' κ sp S512x3584 .f32) (f : v.ty.Contents (Elt F)) (s : Nat) (T : Fin 2 → Fin 2 → FVec F S256x256 .f32)
    {o00 o01 o10 o11 : Fin 2 → Nat}
    (h00 : o00 = ![0, 512 * s + 256 * 0]) (h01 : o01 = ![256, 512 * s + 256 * 0]) (h10 : o10 = ![0, 512 * s + 256 * 1])
    (h11 : o11 = ![256, 512 * s + 256 * 1])
    (i00 : ∀ k, o00 k + S256x256.size k ≤ S512x3584.size k) (i01 : ∀ k, o01 k + S256x256.size k ≤ S512x3584.size k)
    (i10 : ∀ k, o10 k + S256x256.size k ≤ S512x3584.size k) (i11 : ∀ k, o11 k + S256x256.size k ≤ S512x3584.size k)
    {w00 w01 w10 w11 : S256x256.Idx → Elt F .f32} (e00 : w00 = T 0 0) (e01 : w01 = T 0 1) (e10 : w10 = T 1 0) (e11 : w11 = T 1 1) :
    v.read (Elt F) (v.writes (Elt F) f [⟨Rect.unit (s := S512x3584) o11 S256x256.size i11, w11⟩,
      ⟨Rect.unit (s := S512x3584) o10 S256x256.size i10, w10⟩, ⟨Rect.unit (s := S512x3584) o01 S256x256.size i01, w01⟩,
      ⟨Rect.unit (s := S512x3584) o00 S256x256.size i00, w00⟩]) = paste s T (v.read (Elt F) f) := by
  subst e00 e01 e10 e11
  funext y
  have hy0 : (y 0).val < 512 := (y 0).isLt
  have key : ∀ (n m : Fin 2) (a b : Nat) (ha : a < 256) (hb : b < 256) (h : 512 * s ≤ (y 1).val ∧ (y 1).val < 512 * s + 512),
      (y 0).val = 256 * m.val + a → (y 1).val = 512 * s + 256 * n.val + b →
      T n m (ix2 (n0 := 256) (n1 := 256) ⟨a, ha⟩ ⟨b, hb⟩) = paste s T (v.read (Elt F) f) y := by
    intro n m a b ha hb h e0 e1
    unfold paste
    rw [dif_pos h]
    have q0 : (y 0).val / 256 = m.val := by omega
    have q1 : (y 0).val % 256 = a := by omega
    have q2 : ((y 1).val - 512 * s) / 256 = n.val := by omega
    have q3 : ((y 1).val - 512 * s) % 256 = b := by omega
    simp only [q0, q1, q2, q3]
  rw [read_cons_tile v f h11]
  split
  · next h =>
    exact key 1 1 ((y 0).val - 256) ((y 1).val - (512 * s + 256 * 1)) (by omega) (by omega) (by omega)
      (show (y 0).val = 256 * 1 + ((y 0).val - 256) by omega) (show (y 1).val = 512 * s + 256 * 1 + ((y 1).val - (512 * s + 256 * 1)) by omega)
  rw [read_cons_tile v f h10]
  split
  · next h =>
    exact key 1 0 ((y 0).val - 0) ((y 1).val - (512 * s + 256 * 1)) (by omega) (by omega) (by omega)
      (show (y 0).val = 256 * 0 + ((y 0).val - 0) by omega) (show (y 1).val = 512 * s + 256 * 1 + ((y 1).val - (512 * s + 256 * 1)) by omega)
  rw [read_cons_tile v f h01]
  split
  · next h =>
    exact key 0 1 ((y 0).val - 256) ((y 1).val - (512 * s + 256 * 0)) (by omega) (by omega) (by omega)
      (show (y 0).val = 256 * 1 + ((y 0).val - 256) by omega) (show (y 1).val = 512 * s + 256 * 0 + ((y 1).val - (512 * s + 256 * 0)) by omega)
  rw [read_cons_tile v f h00]
  split
  · next h =>
    exact key 0 0 ((y 0).val - 0) ((y 1).val - (512 * s + 256 * 0)) (by omega) (by omega) (by omega)
      (show (y 0).val = 256 * 0 + ((y 0).val - 0) by omega) (show (y 1).val = 512 * s + 256 * 0 + ((y 1).val - (512 * s + 256 * 0)) by omega)
  have : ¬(512 * s ≤ (y 1).val ∧ (y 1).val < 512 * s + 512) := by omega
  unfold paste
  rw [dif_neg this]
  rfl

end Reads

/-! ## The turn: the rows' scales and codes -/

theorem inb_turn (k : Fin 16) : ∀ a : Fin 2, (![32 * k.val, 0] : Fin 2 → Nat) a + S32x128.size a ≤ S512x128.size a := by
  revert k; decide
theorem inb_turnH (k : Fin 16) : ∀ a : Fin 2, (![32 * k.val, 0] : Fin 2 → Nat) a + S32x3584.size a ≤ S512x3584.size a := by
  revert k; decide

/-- The rows' scales, repeated over the 128 lanes, from the running maximum `dA`. -/
def scaleTurn (dA : Vec F S512x128 .f32) : Vec F S512x128 .f32 := fun y =>
  k0_pay6 (View.ld dA (Rect.unit (s := S512x128) ![32 * ((y 0).val / 32), 0] S32x128.size
      (inb_turn ⟨(y 0).val / 32, by have : (y 0).val < 512 := (y 0).isLt; omega⟩)))
    (ix2 (n0 := 32) (n1 := 128) ⟨(y 0).val % 32, by omega⟩ (y 1))

/-- The rows' codes from the running maximum `dA` and the hidden rows `dH`. -/
def codeTurn (dA : Vec F S512x128 .f32) (dH : Vec F S512x3584 .f32) : Vec F S512x3584 .fp8e4m3 := fun y =>
  k0_pay7 (View.ld dA (Rect.unit (s := S512x128) ![32 * ((y 0).val / 32), 0] S32x128.size
      (inb_turn ⟨(y 0).val / 32, by have : (y 0).val < 512 := (y 0).isLt; omega⟩)))
    (View.ld dH (Rect.unit (s := S512x3584) ![32 * ((y 0).val / 32), 0] S32x3584.size
      (inb_turnH ⟨(y 0).val / 32, by have : (y 0).val < 512 := (y 0).isLt; omega⟩)))
    (ix2 (n0 := 32) (n1 := 3584) ⟨(y 0).val % 32, by omega⟩ (y 1))

/-! ## The second half: the output tile -/

/-- The output tile of a visit of the second half: codes · weights, scaled. -/
def outTile (codes : Vec F S512x3584 .fp8e4m3) (scales : Vec F S512x128 .f32) (w2 : Vec F S1x3584x512 .fp8e4m3)
    (s2 : Vec F S1x1x512 .f32) : Vec F S512x512 .f32 :=
  k0_pay8 codes w2 (View.ld scales (Rect.unit (s := S512x128) ![0, 0] S512x1.size inb_S512x128_S512x1_0_0)) s2

end Cert.SharedKernelIdeal.Ffn

end
-- ==== Proof.SharedBodyFirst.lean ====
/- One run of the body at the first up-visit of a row block: it first sets the running maximum to zero, then does as the other
   up-visits do. -/
module

public import proofs.«01_k».proof.Proof.SharedTile

@[expose] public section

set_option maxRecDepth 16384

noncomputable section

namespace Cert.SharedKernelIdeal.Ffn

open Cert.SharedKernelIdeal.Gen
open Cert.KernelIdeal.Ffn (read_whole ld_unit_congr readCov_amax_hit readCov_amax_miss0 readCov_amax_miss1 readCov_amax_whole read_amax)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x512 .fp8e4m3) (harg5 : arg5.IsWhole) (arg6 : Memref sig .tc .vmem S1x1x512 .f32) (harg6 : arg6.IsWhole) (arg7 : Memref sig .tc .vmem S1x2560x512 .fp8e4m3) (harg7 : arg7.IsWhole) (arg8 : Memref sig .tc .vmem S1x1x512 .f32) (harg8 : arg8.IsWhole) (arg9 : Memref sig .tc .vmem S1x3584x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S512x3584 .fp8e4m3) (harg12 : arg12.IsWhole) (arg13 : Memref sig .tc .vmem S512x128 .f32) (harg13 : arg13.IsWhole) (arg14 : Memref sig .tc .vmem S512x3584 .f32) (harg14 : arg14.IsWhole) (arg15 : Memref sig .tc .vmem S512x128 .f32) (harg15 : arg15.IsWhole)

set_option maxHeartbeats 2000000 in
/-- The first visit of a row block. -/
theorem runFirst (h1 : (Scalar.cmpi .ne (Scalar.extui (Scalar.cmpi .eq (BitVec.ofNat 32 (i 1).val) 0#32) : BitVec 32) 0#32 = 1#1)) (h2 : k0_cond2 i = 1#1) (h3 : ¬(k0_cond3 i = 1#1)) (h4 : ¬(k0_cond4 i = 1#1))
    (x0 : Vec F S512x2560 .fp8e4m3) (x1 : Vec F S512x128 .f32) (x2 : Vec F S1x2560x512 .fp8e4m3) (x3 : Vec F S1x1x512 .f32) (x4 : Vec F S1x2560x512 .fp8e4m3) (x5 : Vec F S1x1x512 .f32) (dH : Vec F S512x3584 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg14 fullShare dH ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg14 fullShare (paste (i 1).val (tile x0 x1 x2 x3 x4 x5) dH) ∗ owns (c : Thread nD τ) arg15 fullShare (amaxUp x0 x1 x2 x3 x4 x5 (k0_pay1 (F := F)))) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%e1, %g1, -, G1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg14.eq_unread hg0
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [G0]
  · iexists _; isplitr; swap; · iexact G0
    ipureintro
    sl_unfold_words
    simp only [View.readAt_eq_ld, Memref.IsWhole.read_unread, pay10_eq, pay14_eq, pay20_eq, pay3_eq, pay13_eq]
    refine (read_four arg14.view _ (i 1).val (tile x0 x1 x2 x3 x4 x5) (k0_off2_eq i 0) (k0_off3_eq i 0) (k0_off2_eq i 1) (k0_off3_eq i 1)
      _ _ _ _ rfl rfl rfl rfl).trans ?_
    rw [harg14.read_unread]
  iexists _; isplitr; swap; · iexact G1
  ipureintro
  sl_unfold_words
  simp only [readCov_amax_hit, readCov_amax_miss0, readCov_amax_miss1, readCov_amax_whole]
  refine (read_amax arg15.view _ _ _ _ _ _).trans ?_
  simp only [View.readAt_eq_ld, Memref.IsWhole.read_unread, pay10_eq, pay14_eq, pay20_eq, pay3_eq, pay13_eq, pay12_eq, pay15_eq,
    pay21_eq, pay4_eq]
  rfl

end Cert.SharedKernelIdeal.Ffn

end
-- ==== Proof.SharedBodyUp.lean ====
/- One run of the body at an up-visit that is not the first: it writes two tiles of hidden values for each half of the rows and
   carries the running maximum of absolute values, lane by lane. -/
module

public import proofs.«01_k».proof.Proof.SharedTile

@[expose] public section

set_option maxRecDepth 16384

noncomputable section

namespace Cert.SharedKernelIdeal.Ffn

open Cert.SharedKernelIdeal.Gen
open Cert.KernelIdeal.Ffn (read_whole ld_unit_congr readCov_amax_hit readCov_amax_miss0 readCov_amax_miss1 readCov_amax_whole read_amax)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x512 .fp8e4m3) (harg5 : arg5.IsWhole) (arg6 : Memref sig .tc .vmem S1x1x512 .f32) (harg6 : arg6.IsWhole) (arg7 : Memref sig .tc .vmem S1x2560x512 .fp8e4m3) (harg7 : arg7.IsWhole) (arg8 : Memref sig .tc .vmem S1x1x512 .f32) (harg8 : arg8.IsWhole) (arg9 : Memref sig .tc .vmem S1x3584x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S512x3584 .fp8e4m3) (harg12 : arg12.IsWhole) (arg13 : Memref sig .tc .vmem S512x128 .f32) (harg13 : arg13.IsWhole) (arg14 : Memref sig .tc .vmem S512x3584 .f32) (harg14 : arg14.IsWhole) (arg15 : Memref sig .tc .vmem S512x128 .f32) (harg15 : arg15.IsWhole)

set_option maxHeartbeats 2000000 in
/-- A visit of the first half after the first. -/
theorem runUp (h1 : ¬(Scalar.cmpi .ne (Scalar.extui (Scalar.cmpi .eq (BitVec.ofNat 32 (i 1).val) 0#32) : BitVec 32) 0#32 = 1#1)) (h2 : k0_cond2 i = 1#1) (h3 : ¬(k0_cond3 i = 1#1)) (h4 : ¬(k0_cond4 i = 1#1))
    (x0 : Vec F S512x2560 .fp8e4m3) (x1 : Vec F S512x128 .f32) (x2 : Vec F S1x2560x512 .fp8e4m3) (x3 : Vec F S1x1x512 .f32) (x4 : Vec F S1x2560x512 .fp8e4m3) (x5 : Vec F S1x1x512 .f32) (dH : Vec F S512x3584 .f32) (dA : Vec F S512x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg14 fullShare dH ∗ owns (c : Thread nD τ) arg15 fullShare dA
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg14 fullShare (paste (i 1).val (tile x0 x1 x2 x3 x4 x5) dH) ∗ owns (c : Thread nD τ) arg15 fullShare (amaxUp x0 x1 x2 x3 x4 x5 dA)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg14.eq_unread hg0; obtain rfl := harg15.eq_unread hg1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [G0]
  · iexists _; isplitr; swap; · iexact G0
    ipureintro
    sl_unfold_words
    simp only [View.readAt_eq_ld, Memref.IsWhole.read_unread, pay10_eq, pay14_eq, pay20_eq, pay3_eq, pay13_eq]
    refine (read_four arg14.view _ (i 1).val (tile x0 x1 x2 x3 x4 x5) (k0_off2_eq i 0) (k0_off3_eq i 0) (k0_off2_eq i 1) (k0_off3_eq i 1)
      _ _ _ _ rfl rfl rfl rfl).trans ?_
    rw [harg14.read_unread]
  iexists _; isplitr; swap; · iexact G1
  ipureintro
  sl_unfold_words
  simp only [readCov_amax_hit, readCov_amax_miss0, readCov_amax_miss1, readCov_amax_whole]
  refine (read_amax arg15.view _ _ _ _ _ _).trans ?_
  simp only [View.readAt_eq_ld, Memref.IsWhole.read_unread, pay10_eq, pay14_eq, pay20_eq, pay3_eq, pay13_eq, pay12_eq, pay15_eq,
    pay21_eq, pay4_eq]
  rfl

end Cert.SharedKernelIdeal.Ffn

end
-- ==== Proof.SharedBodyQuant.lean ====
/- One run of the body at the turn from up to down: sixteen trips of a loop, 32 rows each, turn the hidden rows and their largest
   absolute values into scales and codes, and the first output tile follows from them. -/
module

public import proofs.«01_k».proof.Proof.SharedTile

@[expose] public section

set_option maxRecDepth 16384

noncomputable section

namespace Cert.SharedKernelIdeal.Ffn

open Cert.SharedKernelIdeal.Gen
open Cert.KernelIdeal.Ffn (read_whole ld_unit_congr readCov_amax_hit readCov_amax_miss0 readCov_amax_miss1 readCov_amax_whole read_amax)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x512 .fp8e4m3) (harg5 : arg5.IsWhole) (arg6 : Memref sig .tc .vmem S1x1x512 .f32) (harg6 : arg6.IsWhole) (arg7 : Memref sig .tc .vmem S1x2560x512 .fp8e4m3) (harg7 : arg7.IsWhole) (arg8 : Memref sig .tc .vmem S1x1x512 .f32) (harg8 : arg8.IsWhole) (arg9 : Memref sig .tc .vmem S1x3584x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S512x3584 .fp8e4m3) (harg12 : arg12.IsWhole) (arg13 : Memref sig .tc .vmem S512x128 .f32) (harg13 : arg13.IsWhole) (arg14 : Memref sig .tc .vmem S512x3584 .f32) (harg14 : arg14.IsWhole) (arg15 : Memref sig .tc .vmem S512x128 .f32) (harg15 : arg15.IsWhole)

/-- What one trip of the turn's loop stores: the codes and the scales of 32 rows. -/
theorem trip_pieces (h3 : k0_cond3 i = 1#1) (X14 : arg14.view.ty.Contents (Elt F)) (X15 : arg15.view.ty.Contents (Elt F)) (k : Fin k0_t1_loop.trips) :
    tripL_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 h3 X14 X15 k
      = ([⟨Rect.unit (s := S512x3584) (k0_off5 k) S32x3584.size (k0_off5_inb i k h3),
          k0_pay7 (arg15.view.readAt (Elt F) (Rect.unit (s := S512x128) (k0_off4 k) S32x128.size (k0_off4_inb i k h3)).toLoadRect X15)
            (arg14.view.readAt (Elt F) (Rect.unit (s := S512x3584) (k0_off5 k) S32x3584.size (k0_off5_inb i k h3)).toLoadRect X14)⟩],
        [⟨Rect.unit (s := S512x128) (k0_off4 k) S32x128.size (k0_off4_inb i k h3),
          k0_pay6 (arg15.view.readAt (Elt F) (Rect.unit (s := S512x128) (k0_off4 k) S32x128.size (k0_off4_inb i k h3)).toLoadRect X15)⟩]) := by
  unfold tripL_k0_t1 trip_k0_t1
  rfl

/-- The codes of the rows of the trips before `n`. -/
theorem codes_before (h3 : k0_cond3 i = 1#1) (dH : Vec F S512x3584 .f32) (dA : Vec F S512x128 .f32) (g : arg12.view.ty.Contents (Elt F)) :
    ∀ n, n ≤ k0_t1_loop.trips → ∀ y : S512x3584.Idx, (y 0).val < 32 * n →
      arg12.view.read (Elt F) (arg12.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 h3 (harg14.unread dH) (harg15.unread dA) n).1) y = codeTurn dA dH y
  | 0, _, y, hy => absurd hy (by omega)
  | n + 1, hn, y, hy => by
    rw [show (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 h3 (harg14.unread dH) (harg15.unread dA) (n + 1)) = _ from pb_k0_t1_succ _ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off5_eq ⟨n, hn⟩) 0 (Or.inl h)).trans ?_
      exact codes_before h3 dH dA g n (by omega) y h
    · have q : (y 0).val / 32 = n := by omega
      refine (View.read_writes_cons_unit_of_mem _ _ _ _ _ y (ix2 (n0 := 32) (n1 := 3584) ⟨(y 0).val % 32, by omega⟩ (y 1)) (k0_off5_eq ⟨n, hn⟩)
        (Fin.forall_fin_two.mpr ⟨show (y 0).val = 32 * n + (y 0).val % 32 by omega, (Nat.zero_add _).symm⟩)).trans ?_
      unfold codeTurn
      simp only [View.readAt_eq_ld, Memref.IsWhole.read_unread]
      exact congrFun (congrArg₂ k0_pay7 (ld_unit_congr dA ((k0_off4_eq ⟨n, hn⟩).trans (by rw [q])) _ _)
        (ld_unit_congr dH ((k0_off5_eq ⟨n, hn⟩).trans (by rw [q])) _ _)) _

/-- The scales of the rows of the trips before `n`. -/
theorem scales_before (h3 : k0_cond3 i = 1#1) (dH : Vec F S512x3584 .f32) (dA : Vec F S512x128 .f32) (g : arg13.view.ty.Contents (Elt F)) :
    ∀ n, n ≤ k0_t1_loop.trips → ∀ y : S512x128.Idx, (y 0).val < 32 * n →
      arg13.view.read (Elt F) (arg13.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 h3 (harg14.unread dH) (harg15.unread dA) n).2) y = scaleTurn dA y
  | 0, _, y, hy => absurd hy (by omega)
  | n + 1, hn, y, hy => by
    rw [show (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 h3 (harg14.unread dH) (harg15.unread dA) (n + 1)) = _ from pb_k0_t1_succ _ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off4_eq ⟨n, hn⟩) 0 (Or.inl h)).trans ?_
      exact scales_before h3 dH dA g n (by omega) y h
    · have q : (y 0).val / 32 = n := by omega
      refine (View.read_writes_cons_unit_of_mem _ _ _ _ _ y (ix2 (n0 := 32) (n1 := 128) ⟨(y 0).val % 32, by omega⟩ (y 1)) (k0_off4_eq ⟨n, hn⟩)
        (Fin.forall_fin_two.mpr ⟨show (y 0).val = 32 * n + (y 0).val % 32 by omega, (Nat.zero_add _).symm⟩)).trans ?_
      unfold scaleTurn
      simp only [View.readAt_eq_ld, Memref.IsWhole.read_unread]
      exact congrFun (congrArg k0_pay6 (ld_unit_congr dA ((k0_off4_eq ⟨n, hn⟩).trans (by rw [q])) _ _)) _

/-- All the rows' codes after the loop. -/
theorem codes_after (h3 : k0_cond3 i = 1#1) (dH : Vec F S512x3584 .f32) (dA : Vec F S512x128 .f32) (g : arg12.view.ty.Contents (Elt F)) :
    arg12.view.read (Elt F) (arg12.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 h3 (harg14.unread dH) (harg15.unread dA) k0_t1_loop.trips).1) = codeTurn dA dH :=
  funext fun y => codes_before c i arg3 harg3 arg4 harg4 arg5 harg5 arg6 harg6 arg7 harg7 arg8 harg8 arg9 harg9 arg10 harg10 arg11 harg11 arg12 harg12 arg13 harg13 arg14 harg14 arg15 harg15 h3 dH dA g _ le_rfl y (Nat.lt_of_lt_of_le (y 0).isLt (by decide))

/-- All the rows' scales after the loop. -/
theorem scales_after (h3 : k0_cond3 i = 1#1) (dH : Vec F S512x3584 .f32) (dA : Vec F S512x128 .f32) (g : arg13.view.ty.Contents (Elt F)) :
    arg13.view.read (Elt F) (arg13.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 h3 (harg14.unread dH) (harg15.unread dA) k0_t1_loop.trips).2) = scaleTurn dA :=
  funext fun y => scales_before c i arg3 harg3 arg4 harg4 arg5 harg5 arg6 harg6 arg7 harg7 arg8 harg8 arg9 harg9 arg10 harg10 arg11 harg11 arg12 harg12 arg13 harg13 arg14 harg14 arg15 harg15 h3 dH dA g _ le_rfl y (Nat.lt_of_lt_of_le (y 0).isLt (by decide))

set_option maxHeartbeats 2000000 in
/-- The visit at the turn of a row block. -/
theorem runQuant (h1 : ¬(Scalar.cmpi .ne (Scalar.extui (Scalar.cmpi .eq (BitVec.ofNat 32 (i 1).val) 0#32) : BitVec 32) 0#32 = 1#1)) (h2 : ¬(k0_cond2 i = 1#1)) (h3 : k0_cond3 i = 1#1) (h4 : k0_cond4 i = 1#1)
    (x6 : Vec F S1x3584x512 .fp8e4m3) (x7 : Vec F S1x1x512 .f32) (dH : Vec F S512x3584 .f32) (dA : Vec F S512x128 .f32) (E : Set ℕ) (K : PUnit → sProp 𝕄) :
    iprop(owns (c : Thread nD τ) arg9 fullShare x6 ∗ owns (c : Thread nD τ) arg10 fullShare x7 ∗ owns (c : Thread nD τ) arg14 fullShare dH ∗ owns (c : Thread nD τ) arg15 fullShare dA ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg9 fullShare x6 ∗ owns (c : Thread nD τ) arg10 fullShare x7 ∗ owns (c : Thread nD τ) arg14 fullShare dH ∗ owns (c : Thread nD τ) arg15 fullShare dA ∗ owns (c : Thread nD τ) arg11 fullShare (outTile (codeTurn dA dH) (scaleTurn dA) x6 x7) ∗ owns (c : Thread nD τ) arg12 fullShare (codeTurn dA dH) ∗ owns (c : Thread nD τ) arg13 fullShare (scaleTurn dA)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_swiglu_eq_skeleton]; unfold cc0_swiglu_skel
  unfold owns
  iintro ⟨⟨%f0, %hf0, H0⟩, ⟨%f1, %hf1, H1⟩, ⟨%f5, %hf5, H5⟩, ⟨%f6, %hf6, H6⟩, ⟨%e0, %g0, -, G0⟩, ⟨%e1, %g1, -, G1⟩, ⟨%e2, %g2, -, G2⟩, Hk⟩
  obtain rfl := harg9.eq_unread hf0; obtain rfl := harg10.eq_unread hf1; obtain rfl := harg14.eq_unread hf5; obtain rfl := harg15.eq_unread hf6
  sl_exec
  sl_step
  iapply Hk
  isplitl [H0]
  · iexists _; isplitr; · ipureintro; exact harg9.read_unread _
    iexact H0
  isplitl [H1]
  · iexists _; isplitr; · ipureintro; exact harg10.read_unread _
    iexact H1
  isplitl [H5]
  · iexists _; isplitr; · ipureintro; exact harg14.read_unread _
    iexact H5
  isplitl [H6]
  · iexists _; isplitr; · ipureintro; exact harg15.read_unread _
    iexact H6
  isplitl [G0]
  · iexists _; isplitr; swap; · iexact G0
    ipureintro
    sl_unfold_words
    refine (read_whole arg11.view _ (by funext a; fin_cases a <;> rfl) _ _ _).trans ?_
    simp only [View.readAt_eq_ld, Memref.IsWhole.read_unread]
    erw [codes_after, scales_after]
    unfold outTile
    rw [View.ld_unit_zero (by funext a; fin_cases a <;> rfl), View.ld_unit_zero (by funext a; fin_cases a <;> rfl), View.ld_unit_zero (by funext a; fin_cases a <;> rfl)]
  isplitl [G1]
  · iexists _; isplitr; swap; · iexact G1
    ipureintro
    exact codes_after _ _ _ _ _ _ _ _ _ _ _ _ _ _ _ _ _ _ _ _ _ _ _ _ _ _ _ _ _ _ _ _
  iexists _; isplitr; swap; · iexact G2
  ipureintro
  exact scales_after _ _ _ _ _ _ _ _ _ _ _ _ _ _ _ _ _ _ _ _ _ _ _ _ _ _ _ _ _ _ _ _

end Cert.SharedKernelIdeal.Ffn

end
-- ==== Proof.SharedBodyDown.lean ====
/- One run of the body at a later down-visit: one output tile from the codes and scales already made. -/
module

public import proofs.«01_k».proof.Proof.SharedTile

@[expose] public section

set_option maxRecDepth 16384

noncomputable section

namespace Cert.SharedKernelIdeal.Ffn

open Cert.SharedKernelIdeal.Gen
open Cert.KernelIdeal.Ffn (read_whole ld_unit_congr readCov_amax_hit readCov_amax_miss0 readCov_amax_miss1 readCov_amax_whole read_amax)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S512x2560 .fp8e4m3) (harg3 : arg3.IsWhole) (arg4 : Memref sig .tc .vmem S512x128 .f32) (harg4 : arg4.IsWhole) (arg5 : Memref sig .tc .vmem S1x2560x512 .fp8e4m3) (harg5 : arg5.IsWhole) (arg6 : Memref sig .tc .vmem S1x1x512 .f32) (harg6 : arg6.IsWhole) (arg7 : Memref sig .tc .vmem S1x2560x512 .fp8e4m3) (harg7 : arg7.IsWhole) (arg8 : Memref sig .tc .vmem S1x1x512 .f32) (harg8 : arg8.IsWhole) (arg9 : Memref sig .tc .vmem S1x3584x512 .fp8e4m3) (harg9 : arg9.IsWhole) (arg10 : Memref sig .tc .vmem S1x1x512 .f32) (harg10 : arg10.IsWhole) (arg11 : Memref sig .tc .vmem S512x512 .f32) (harg11 : arg11.IsWhole) (arg12 : Memref sig .tc .vmem S512x3584 .fp8e4m3) (harg12 : arg12.IsWhole) (arg13 : Memref sig .tc .vmem S512x128 .f32) (harg13 : arg13.IsWhole) (arg14 : Memref sig .tc .vmem S512x3584 .f32) (harg14 : arg14.IsWhole) (arg15 : Memref sig .tc .vmem S512x128 .f32) (harg15 : arg15.IsWhole)

set_option maxHeartbeats 2000000 in
/-- A visit of the second half after the turn. -/
theorem runDown (h1 : ¬(Scalar.cmpi .ne (Scalar.extui (Scalar.cmpi .eq (BitVec.ofNat 32 (i 1).val) 0#32) : BitVec 32) 0#32 = 1#1)) (h2 : ¬(k0_cond2 i = 1#1)) (h3 : ¬(k0_cond3 i = 1#1)) (h4 : k0_cond4 i = 1#1)
    (x6 : Vec F S1x3584x512 .fp8e4m3) (x7 : Vec F S1x1x512 .f32) (x12 : Vec F S512x3584 .fp8e4m3) (x13 : Vec F S512x128 .f32) (E : Set ℕ) (K : PUnit → sProp 𝕄) :
    iprop(owns (c : Thread nD τ) arg9 fullShare x6 ∗ owns (c : Thread nD τ) arg10 fullShare x7 ∗ owns (c : Thread nD τ) arg12 fullShare x12 ∗ owns (c : Thread nD τ) arg13 fullShare x13 ∗ (∃ d, owns (c : Thread nD τ) arg11 fullShare d)
        ∗ (iprop(owns (c : Thread nD τ) arg9 fullShare x6 ∗ owns (c : Thread nD τ) arg10 fullShare x7 ∗ owns (c : Thread nD τ) arg12 fullShare x12 ∗ owns (c : Thread nD τ) arg13 fullShare x13 ∗ owns (c : Thread nD τ) arg11 fullShare (outTile x12 x13 x6 x7)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15) K := by
  simp only [cc0_swiglu_eq_skeleton]; unfold cc0_swiglu_skel
  unfold owns
  iintro ⟨⟨%f0, %hf0, H0⟩, ⟨%f1, %hf1, H1⟩, ⟨%f5, %hf5, H5⟩, ⟨%f6, %hf6, H6⟩, ⟨%e0, %g0, -, G0⟩, Hk⟩
  obtain rfl := harg9.eq_unread hf0; obtain rfl := harg10.eq_unread hf1; obtain rfl := harg12.eq_unread hf5; obtain rfl := harg13.eq_unread hf6
  sl_exec
  sl_step
  iapply Hk
  isplitl [H0]
  · iexists _; isplitr; · ipureintro; exact harg9.read_unread _
    iexact H0
  isplitl [H1]
  · iexists _; isplitr; · ipureintro; exact harg10.read_unread _
    iexact H1
  isplitl [H5]
  · iexists _; isplitr; · ipureintro; exact harg12.read_unread _
    iexact H5
  isplitl [H6]
  · iexists _; isplitr; · ipureintro; exact harg13.read_unread _
    iexact H6
  iexists _; isplitr; swap; · iexact G0
  ipureintro
  refine (read_whole arg11.view _ (by funext a; fin_cases a <;> rfl) _ _ _).trans ?_
  simp only [View.readAt_eq_ld, Memref.IsWhole.read_unread]
  unfold outTile
  rw [View.ld_unit_zero (by funext a; fin_cases a <;> rfl), View.ld_unit_zero (by funext a; fin_cases a <;> rfl), View.ld_unit_zero (by funext a; fin_cases a <;> rfl)]

end Cert.SharedKernelIdeal.Ffn

end
-- ==== Proof.SharedState.lean ====
/-
  The state of the shared kernel between grid points, and what the pipeline's windows hold: point `12 * r + s` is visit `s` of row block `r`;
  visits 0 to 6 fill the hidden rows slab by slab and keep the running row maximum, visit 7 quantises the rows, visits 7 to 11 write the
  five column blocks of the output.
-/
module

public import proofs.«01_k».proof.Proof.SharedBodyFirst
public import proofs.«01_k».proof.Proof.SharedBodyUp
public import proofs.«01_k».proof.Proof.SharedBodyQuant
public import proofs.«01_k».proof.Proof.SharedBodyDown
public import Idealize.ShloMosaic.Lib.Pipeline.TableIdle

@[expose] public section

set_option maxRecDepth 16384

noncomputable section

namespace Cert.SharedKernelIdeal.Ffn

open Cert.SharedKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok m) (c : Dev nD)

/-! ## The schedule -/

/-- Visit `s` of row block `r`, as a grid point. -/
def pt (r s : ℕ) : Fin grid0.N := ⟨(12 * r + s) % 192, by rw [N_0]; exact Nat.mod_lt _ (by decide)⟩

theorem pt_self (t : Fin grid0.N) : pt (t.val / 12) (t.val % 12) = t := by
  have : t.val < 192 := N_0 ▸ t.isLt
  apply Fin.ext; unfold pt; dsimp only
  omega

/-- The second grid coordinate is the visit. -/
theorem coords1 (t : Fin grid0.N) : ((grid0.coords t) 1).val = t.val % 12 := by revert t; decide +kernel

/-- The running maximum is reset at visit 0, -/
theorem first_iff (t : Fin grid0.N) :
    (Scalar.cmpi .ne (Scalar.extui (Scalar.cmpi .eq (BitVec.ofNat 32 ((grid0.coords t) 1).val) 0#32) : BitVec 32) 0#32 = 1#1) ↔ t.val % 12 = 0 := by
  revert t; decide +kernel
/-- the hidden rows are filled at visits 0 to 6, -/
theorem cond2_iff (t : Fin grid0.N) : k0_cond2 (grid0.coords t) = 1#1 ↔ t.val % 12 < 7 := by revert t; decide +kernel
/-- the rows are quantised at visit 7, -/
theorem cond3_iff (t : Fin grid0.N) : k0_cond3 (grid0.coords t) = 1#1 ↔ t.val % 12 = 7 := by revert t; decide +kernel
/-- and an output block is written at visits 7 to 11. -/
theorem cond4_iff (t : Fin grid0.N) : k0_cond4 (grid0.coords t) = 1#1 ↔ 7 ≤ t.val % 12 := by revert t; decide +kernel

theorem idle8 (t : Fin (cfgM m hO).N) : (cfgM m hO).idle 8 ((cfgM m hO).grid.coords t) = decide (t.val % 12 < 7) :=
  (by decide +kernel : ∀ t : Fin grid0.N, (!(k0_cond4 (grid0.coords t) == 1#1)) = decide (t.val % 12 < 7)) t
theorem idle9 (t : Fin (cfgM m hO).N) : (cfgM m hO).idle 9 ((cfgM m hO).grid.coords t) = decide (t.val % 12 ≠ 7) :=
  (by decide +kernel : ∀ t : Fin grid0.N, (!(k0_cond3 (grid0.coords t) == 1#1)) = decide (t.val % 12 ≠ 7)) t
theorem idle10 (t : Fin (cfgM m hO).N) : (cfgM m hO).idle 10 ((cfgM m hO).grid.coords t) = decide (t.val % 12 ≠ 7) :=
  (by decide +kernel : ∀ t : Fin grid0.N, (!(k0_cond3 (grid0.coords t) == 1#1)) = decide (t.val % 12 ≠ 7)) t

/-! ## The closed forms -/

/-- The four tiles point `t` computes. -/
def tiles (t : Fin grid0.N) : Fin 2 → Fin 2 → FVec F S256x256 .f32 :=
  tile (iblk m hO c 0 t) (iblk m hO c 1 t) (iblk m hO c 2 t) (iblk m hO c 3 t) (iblk m hO c 4 t) (iblk m hO c 5 t)

/-- The hidden rows of row block `r`: silu(gate) * up, 512 rows of 3584 columns. -/
def hid (r : ℕ) : Vec F S512x3584 .f32 := fun y =>
  tiles m hO c (pt r ((y 1).val / 512)) ⟨(y 1).val % 512 / 256, by omega⟩ ⟨(y 0).val / 256, by have : (y 0).val < 512 := (y 0).isLt; omega⟩
    (ix2 (n0 := 256) (n1 := 256) ⟨(y 0).val % 256, by omega⟩ ⟨(y 1).val % 512 % 256, by omega⟩)

/-- The running maximum of row block `r` before visit `s`. -/
def am (r : ℕ) : ℕ → Vec F S512x128 .f32
  | 0 => k0_pay1
  | s + 1 => amaxUp (iblk m hO c 0 (pt r s)) (iblk m hO c 1 (pt r s)) (iblk m hO c 2 (pt r s)) (iblk m hO c 3 (pt r s)) (iblk m hO c 4 (pt r s))
      (iblk m hO c 5 (pt r s)) (am r s)

/-- The codes of row block `r`'s hidden rows. -/
def codes (r : ℕ) : Vec F S512x3584 .fp8e4m3 := codeTurn (am m hO c r 7) (hid m hO c r)

/-- The scales of row block `r`'s hidden rows. -/
def scales (r : ℕ) : Vec F S512x128 .f32 := scaleTurn (am m hO c r 7)

/-- The output block written at point `t`. -/
def outBlock (t : Fin grid0.N) (h4 : k0_cond4 (grid0.coords t) = 1#1) : Vec F S512x512 .f32 :=
  outTile (codes m hO c (t.val / 12)) (scales m hO c (t.val / 12)) (iblk m hO c 6 t) (iblk m hO c 7 t)

/-- Before point `n` the first columns of the hidden scratch are row block `n / 12`'s, as far as its visits have come, and the other
    scratch is its running maximum. -/
def Inv (n : ℕ) (dH : Vec F S512x3584 .f32) (dA : Vec F S512x128 .f32) : Prop :=
  (∀ y : S512x3584.Idx, (y 1).val < 512 * min (n % 12) 7 → dH y = hid m hO c (n / 12) y) ∧
    (1 ≤ n % 12 → dA = am m hO c (n / 12) (min (n % 12) 7))

theorem inv_hid {n : ℕ} {dH : Vec F S512x3584 .f32} {dA : Vec F S512x128 .f32} (h : Inv m hO c n dH dA) (hn : 7 ≤ n % 12) :
    dH = hid m hO c (n / 12) := by
  funext y
  refine h.1 y ?_
  have : (y 1).val < 3584 := (y 1).isLt
  omega

theorem inv_am {n : ℕ} {dH : Vec F S512x3584 .f32} {dA : Vec F S512x128 .f32} (h : Inv m hO c n dH dA) (hn : 7 ≤ n % 12) :
    dA = am m hO c (n / 12) 7 := by
  have := h.2 (by omega)
  rwa [show min (n % 12) 7 = 7 from by omega] at this

/-- Nothing need be known at a row block's start. -/
theorem inv_start {n : ℕ} (dH : Vec F S512x3584 .f32) (dA : Vec F S512x128 .f32) (hn : n % 12 = 0) : Inv m hO c n dH dA :=
  ⟨fun y hy => by rw [hn] at hy; simp at hy, fun h => by omega⟩

/-- A visit after the seventh leaves the scratch alone. -/
theorem inv_late {n : ℕ} {dH : Vec F S512x3584 .f32} {dA : Vec F S512x128 .f32} (h : Inv m hO c n dH dA) (hn : 7 ≤ n % 12) :
    Inv m hO c (n + 1) dH dA := by
  rcases Nat.lt_or_ge (n % 12) 11 with h13 | h13
  · have e : (n + 1) / 12 = n / 12 := by omega
    constructor
    · intro y hy
      rw [e]; exact congrFun (inv_hid m hO c h hn) y
    · intro _
      rw [e, show min ((n + 1) % 12) 7 = 7 from by omega]
      exact inv_am m hO c h hn
  · exact inv_start m hO c dH dA (by omega)

/-- A visit among the first seven pastes its slab, and updates the running maximum. -/
theorem inv_early (t : Fin grid0.N) (ht : t.val % 12 < 7) {dH : Vec F S512x3584 .f32} {dA : Vec F S512x128 .f32}
    (h : ∀ y : S512x3584.Idx, (y 1).val < 512 * (t.val % 12) → dH y = hid m hO c (t.val / 12) y)
    (hA : dA = am m hO c (t.val / 12) (t.val % 12)) :
    Inv m hO c (t.val + 1) (paste ((grid0.coords t) 1).val (tiles m hO c t) dH)
      (amaxUp (iblk m hO c 0 t) (iblk m hO c 1 t) (iblk m hO c 2 t) (iblk m hO c 3 t) (iblk m hO c 4 t) (iblk m hO c 5 t) dA) := by
  have e : (t.val + 1) / 12 = t.val / 12 := by omega
  have em : (t.val + 1) % 12 = t.val % 12 + 1 := by omega
  constructor
  · intro y hy
    rw [e]
    rw [em] at hy
    rw [coords1]
    unfold paste
    split
    · next hin =>
      unfold hid
      have hq : (y 1).val / 512 = t.val % 12 := by omega
      have hm : (y 1).val % 512 = (y 1).val - 512 * (t.val % 12) := by omega
      simp only [hq, hm, pt_self]
    · next hout => exact h y (by omega)
  · intro _
    rw [e, em, show min (t.val % 12 + 1) 7 = t.val % 12 + 1 from by omega]
    subst hA
    conv_rhs => unfold am
    rw [pt_self]

end Cert.SharedKernelIdeal.Ffn

end
-- ==== Proof.SharedPoints.lean ====
/-
  The shared kernel's body at every grid point, from what the windows' buffers and the scratch hold before it to what they hold after it.
-/
module

public import proofs.«01_k».proof.Proof.SharedState

@[expose] public section

set_option maxRecDepth 16384

noncomputable section

namespace Cert.SharedKernelIdeal.Ffn

open Cert.SharedKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pipeline's proof data -/

/-- What the body holds between points: the two scratch buffers, as `Inv` says of them, the generator register, and the table. -/
def PhiS (hO : Ok m) (c : Dev nD) (n : ℕ) (_ : n ≤ grid0.N) : sProp 𝕄 :=
  iprop((∃ dH dA, owns (c : Thread nD τ) scM0_0 fullShare dH ∗ owns (c : Thread nD τ) scM0_1 fullShare dA ∗ ⌜Inv m hO c n dH dA⌝)
    ∗ (∃ r, prngReg c r) ∗ Pipeline.ΦT pre0 (tbl m) c)

/-- The proof data of the pipeline on core `c`: each input's buffer holds its block throughout; the output block, the codes and the
    scales are the closed forms of SharedState.lean. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => if h4 : k0_cond4 (grid0.coords t) = 1#1 then outBlock m hO c t h4 else Pipeline.Dat.unnamed (cfg := (cfgM m hO)) ⟨8, h⟩ t
    | ⟨9, _⟩ => codes m hO c (t.val / 12)
    | ⟨10, _⟩ => scales m hO c (t.val / 12)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) : (dats m hO 0 c).Φ t.castSucc = PhiS m hO c t.val (Nat.le_of_lt t.isLt) := by
  dsimp only [dats]; exact Pipeline.Dat.Φ_castSucc (PhiS m hO c) t
theorem PhiS_succ (hO : Ok m) (c : Dev nD) (t : Fin (cfgM m hO).N) : (dats m hO 0 c).Φ t.succ = PhiS m hO c (t.val + 1) t.isLt := by
  dsimp only [dats]; rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) (h4 : k0_cond4 (grid0.coords t) = 1#1) :
    (dats m hO 0 c).after 8 t = outBlock m hO c t h4 := (by dsimp only [dats]; try rfl : _ = dite _ _ _).trans (dif_pos h4)
theorem after0_9 (hO : Ok m) (c : Dev nD) (t : Fin (cfgM m hO).N) : (dats m hO 0 c).after 9 t = codes m hO c (t.val / 12) := by dsimp only [dats]; try rfl
theorem after0_10 (hO : Ok m) (c : Dev nD) (t : Fin (cfgM m hO).N) : (dats m hO 0 c).after 10 t = scales m hO c (t.val / 12) := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-- Window 9's buffer holds nothing of the row block's until its visit 7 is done, -/
theorem fresh9 (hO : Ok m) (n : ℕ) (hn : n ≤ (cfgM m hO).N) : (cfgM m hO).fresh 9 n = decide (n % 12 ≤ 7) :=
  (cfgM m hO).fresh_tab 9 (fun n => decide (n % 12 ≤ 7)) (by decide) (fun t => by
    rw [idle9 m hO t]
    have hf := flush0_9 (adm m hO) t
    cases h : ((cfgM m hO).win 9).flush t
    · have : ¬ t.val % 12 = 11 := fun e => by rw [hf.mpr e] at h; exact Bool.noConfusion h
      rw [Bool.false_or, ← Bool.decide_and]
      exact decide_eq_decide.mpr (by omega)
    · have : t.val % 12 = 11 := hf.mp h
      rw [Bool.true_or]
      exact decide_eq_true (by omega)) n hn

/-- and then the row block's codes. -/
theorem before0_9 (hO : Ok m) (c : Dev nD) (t : Fin (cfgM m hO).N) (ht : 7 < t.val % 12) (d) :
    (dats m hO 0 c).before 9 t d = codes m hO c (t.val / 12) := by
  rw [(dats m hO 0 c).before_out_traj 9 rfl (fun _ _ => rfl) (fun t ht0 _ hfr => ?_) t.val t rfl d, fresh9 m hO _ (Nat.le_of_lt t.isLt),
    if_neg (by rw [decide_eq_true_eq]; omega), after0_9]
  · dsimp only; rw [show (t.val - 1) / 12 = t.val / 12 from by omega]
  · rw [fresh9 m hO _ (Nat.le_of_lt t.isLt), decide_eq_false_iff_not] at hfr
    rw [after0_9, after0_9]; dsimp only; rw [show (t.val - 1) / 12 = t.val / 12 from by omega]

/-- Window 10's buffer holds nothing of the row block's until its visit 7 is done, -/
theorem fresh10 (hO : Ok m) (n : ℕ) (hn : n ≤ (cfgM m hO).N) : (cfgM m hO).fresh 10 n = decide (n % 12 ≤ 7) :=
  (cfgM m hO).fresh_tab 10 (fun n => decide (n % 12 ≤ 7)) (by decide) (fun t => by
    rw [idle10 m hO t]
    have hf := flush0_10 (adm m hO) t
    cases h : ((cfgM m hO).win 10).flush t
    · have : ¬ t.val % 12 = 11 := fun e => by rw [hf.mpr e] at h; exact Bool.noConfusion h
      rw [Bool.false_or, ← Bool.decide_and]
      exact decide_eq_decide.mpr (by omega)
    · have : t.val % 12 = 11 := hf.mp h
      rw [Bool.true_or]
      exact decide_eq_true (by omega)) n hn

/-- and then the row block's scales. -/
theorem before0_10 (hO : Ok m) (c : Dev nD) (t : Fin (cfgM m hO).N) (ht : 7 < t.val % 12) (d) :
    (dats m hO 0 c).before 10 t d = scales m hO c (t.val / 12) := by
  rw [(dats m hO 0 c).before_out_traj 10 rfl (fun _ _ => rfl) (fun t ht0 _ hfr => ?_) t.val t rfl d, fresh10 m hO _ (Nat.le_of_lt t.isLt),
    if_neg (by rw [decide_eq_true_eq]; omega), after0_10]
  · dsimp only; rw [show (t.val - 1) / 12 = t.val / 12 from by omega]
  · rw [fresh10 m hO _ (Nat.le_of_lt t.isLt), decide_eq_false_iff_not] at hfr
    rw [after0_10, after0_10]; dsimp only; rw [show (t.val - 1) / 12 = t.val / 12 from by omega]

/-! ## The body obligation, at a generic point -/

/-- How a point leaves window `w`'s buffer: a point that writes nothing into it, and does not write it back, leaves what it found. -/
def left (hO : Ok m) (c : Dev nD) (w : Fin (cfgM m hO).W) (t : Fin (cfgM m hO).N) : sProp 𝕄 :=
  match (cfgM m hO).idle w ((cfgM m hO).grid.coords t) with
  | true =>
    match ((cfgM m hO).win w).flush t with
    | false => iprop(∃ d, owns (c : Thread nD τ) (((cfgM m hO).win w).stage ((cfgM m hO).slots t w)) fullShare ((dats m hO 0 c).before w t d))
    | true => owns (c : Thread nD τ) (((cfgM m hO).win w).stage ((cfgM m hO).slots t w)) fullShare ((dats m hO 0 c).after w t)
  | false => owns (c : Thread nD τ) (((cfgM m hO).win w).stage ((cfgM m hO).slots t w)) fullShare ((dats m hO 0 c).after w t)

theorem left_idle (hO : Ok m) (c : Dev nD) (w : Fin (cfgM m hO).W) (t : Fin (cfgM m hO).N)
    (hi : (cfgM m hO).idle w ((cfgM m hO).grid.coords t) = true) (hf : ((cfgM m hO).win w).flush t = false) :
    left m hO c w t
      = iprop(∃ d, owns (c : Thread nD τ) (((cfgM m hO).win w).stage ((cfgM m hO).slots t w)) fullShare ((dats m hO 0 c).before w t d)) := by
  unfold left; rw [hi, hf]

theorem left_flush (hO : Ok m) (c : Dev nD) (w : Fin (cfgM m hO).W) (t : Fin (cfgM m hO).N)
    (hi : (cfgM m hO).idle w ((cfgM m hO).grid.coords t) = true) (hf : ((cfgM m hO).win w).flush t = true) :
    left m hO c w t = owns (c : Thread nD τ) (((cfgM m hO).win w).stage ((cfgM m hO).slots t w)) fullShare ((dats m hO 0 c).after w t) := by
  unfold left; rw [hi, hf]

theorem left_live (hO : Ok m) (c : Dev nD) (w : Fin (cfgM m hO).W) (t : Fin (cfgM m hO).N)
    (hi : (cfgM m hO).idle w ((cfgM m hO).grid.coords t) = false) :
    left m hO c w t = owns (c : Thread nD τ) (((cfgM m hO).win w).stage ((cfgM m hO).slots t w)) fullShare ((dats m hO 0 c).after w t) := by
  unfold left; rw [hi]

theorem flush_false {a : (pcfg0 (F := F)).Adm} {w : Fin 11} {t : Fin (cfg0 a).N} {p : Prop} (h : ((cfg0 a).win w).flush t = true ↔ p) (hp : ¬ p) :
    ((cfg0 a).win w).flush t = false := by
  cases hf : ((cfg0 a).win w).flush t
  · rfl
  · exact absurd (h.mp hf) hp

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ left m hO c 8 t ∗ left m hO c 9 t ∗ left m hO c 10 t)

set_option maxHeartbeats 1600000 in
/-- The body at visit 0 of a row block. -/
theorem body_first (hO : Ok m) (c : Dev nD) (t : Fin (cfgM m hO).N) (ht : t.val % 12 = 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl, PhiS_castSucc, PhiS_succ,
    after0_0, after0_1, after0_2, after0_3, after0_4, after0_5, after0_6, after0_7]
  rw [left_idle m hO c 8 t (by rw [idle8 m hO t]; exact decide_eq_true (by omega)) (flush_false (flush0_8 (adm m hO) t) (by omega)),
    left_idle m hO c 9 t (by rw [idle9 m hO t]; exact decide_eq_true (by omega)) (flush_false (flush0_9 (adm m hO) t) (by omega)),
    left_idle m hO c 10 t (by rw [idle10 m hO t]; exact decide_eq_true (by omega)) (flush_false (flush0_10 (adm m hO) t) (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runFirst c (grid0.coords t) _ _ _ _ _ _ _ _ _ _ _ _ _ _ _ _ _ _ _ _ _ _ _ _ _ _ ((first_iff t).mpr ht) ((cond2_iff t).mpr (by omega)) (fun h => by have := (cond3_iff t).mp h; omega)
    (fun h => by have := (cond4_iff t).mp h; omega) (iblk m hO c 0 t) (iblk m hO c 1 t) (iblk m hO c 2 t) (iblk m hO c 3 t) (iblk m hO c 4 t) (iblk m hO c 5 t) dH Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexists _; iexact HS1
  iintro ⟨H0, H1, H2, H3, H4, H5, HS0, HS1⟩
  isplitl [HS0 HS1 Hg HT]
  · isplitl [HS0 HS1]
    · iexists _
      iexists _
      isplitl [HS0]; · iexact HS0
      isplitl [HS1]; · iexact HS1
      ipureintro
      exact inv_early m hO c t (by omega) (fun y hy => by rw [ht] at hy; simp at hy) (by rw [ht]; rfl)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 1600000 in
/-- The body at visits 1 to 6 of a row block. -/
theorem body_up (hO : Ok m) (c : Dev nD) (t : Fin (cfgM m hO).N) (ht : 1 ≤ t.val % 12 ∧ t.val % 12 < 7) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl, PhiS_castSucc, PhiS_succ,
    after0_0, after0_1, after0_2, after0_3, after0_4, after0_5, after0_6, after0_7]
  rw [left_idle m hO c 8 t (by rw [idle8 m hO t]; exact decide_eq_true (by omega)) (flush_false (flush0_8 (adm m hO) t) (by omega)),
    left_idle m hO c 9 t (by rw [idle9 m hO t]; exact decide_eq_true (by omega)) (flush_false (flush0_9 (adm m hO) t) (by omega)),
    left_idle m hO c 10 t (by rw [idle10 m hO t]; exact decide_eq_true (by omega)) (flush_false (flush0_10 (adm m hO) t) (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runUp c (grid0.coords t) _ _ _ _ _ _ _ _ _ _ _ _ _ _ _ _ _ _ _ _ _ _ _ _ _ _ (fun h => by have := (first_iff t).mp h; omega) ((cond2_iff t).mpr (by omega))
    (fun h => by have := (cond3_iff t).mp h; omega) (fun h => by have := (cond4_iff t).mp h; omega) (iblk m hO c 0 t) (iblk m hO c 1 t) (iblk m hO c 2 t) (iblk m hO c 3 t) (iblk m hO c 4 t) (iblk m hO c 5 t) dH dA Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg HT]
  · isplitl [HS0 HS1]
    · iexists _
      iexists _
      isplitl [HS0]; · iexact HS0
      isplitl [HS1]; · iexact HS1
      ipureintro
      exact inv_early m hO c t (by omega) (fun y hy => hI.1 y (by omega))
        (by have := hI.2 (by omega); rwa [show min (t.val % 12) 7 = t.val % 12 from by omega] at this)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 1600000 in
/-- The body at visit 7 of a row block. -/
theorem body_quant (hO : Ok m) (c : Dev nD) (t : Fin (cfgM m hO).N) (ht : t.val % 12 = 7) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl, PhiS_castSucc, PhiS_succ,
    after0_0, after0_1, after0_2, after0_3, after0_4, after0_5, after0_6, after0_7]
  rw [left_live m hO c 8 t (by rw [idle8 m hO t]; exact decide_eq_false (by omega)),
    left_live m hO c 9 t (by rw [idle9 m hO t]; exact decide_eq_false (by omega)),
    left_live m hO c 10 t (by rw [idle10 m hO t]; exact decide_eq_false (by omega)),
    after0_8 m hO c t ((cond4_iff t).mpr (by omega)), after0_9, after0_10]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := inv_hid m hO c hI (by omega)
  obtain rfl := inv_am m hO c hI (by omega)
  iapply (runQuant c (grid0.coords t) _ _ _ _ _ _ _ _ _ _ _ _ _ _ _ _ _ _ _ _ _ _ _ _ _ _ (fun h => by have := (first_iff t).mp h; omega) (fun h => by have := (cond2_iff t).mp h; omega)
    ((cond3_iff t).mpr ht) ((cond4_iff t).mpr (by omega)) (iblk m hO c 6 t) (iblk m hO c 7 t) (hid m hO c (t.val / 12)) (am m hO c (t.val / 12) 7) Set.univ _)
  isplitl [H6]; · iexact H6
  isplitl [H7]; · iexact H7
  isplitl [HS0]; · iexact HS0
  isplitl [HS1]; · iexact HS1
  isplitl [H8]; · iexists _; iexact H8
  isplitl [H9]; · iexists _; iexact H9
  isplitl [H10]; · iexists _; iexact H10
  iintro ⟨H6, H7, HS0, HS1, H8, H9, H10⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- The body at visits 8 to 10 of a row block. -/
theorem body_down (hO : Ok m) (c : Dev nD) (t : Fin (cfgM m hO).N) (ht : 7 < t.val % 12 ∧ t.val % 12 < 11) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl, PhiS_castSucc, PhiS_succ,
    after0_0, after0_1, after0_2, after0_3, after0_4, after0_5, after0_6, after0_7]
  rw [left_live m hO c 8 t (by rw [idle8 m hO t]; exact decide_eq_false (by omega)),
    left_idle m hO c 9 t (by rw [idle9 m hO t]; exact decide_eq_true (by omega)) (flush_false (flush0_9 (adm m hO) t) (by omega)),
    left_idle m hO c 10 t (by rw [idle10 m hO t]; exact decide_eq_true (by omega)) (flush_false (flush0_10 (adm m hO) t) (by omega)),
    after0_8 m hO c t ((cond4_iff t).mpr (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_9 m hO c t (by omega), before0_10 m hO c t (by omega)]
  iapply (runDown c (grid0.coords t) _ _ _ _ _ _ _ _ _ _ _ _ _ _ _ _ _ _ _ _ _ _ _ _ _ _ (fun h => by have := (first_iff t).mp h; omega) (fun h => by have := (cond2_iff t).mp h; omega)
    (fun h => by have := (cond3_iff t).mp h; omega) ((cond4_iff t).mpr (by omega)) (iblk m hO c 6 t) (iblk m hO c 7 t) (codes m hO c (t.val / 12))
    (scales m hO c (t.val / 12)) Set.univ _)
  isplitl [H6]; · iexact H6
  isplitl [H7]; · iexact H7
  isplitl [H9]; · iexact H9
  isplitl [H10]; · iexact H10
  isplitl [H8]; · iexists _; iexact H8
  iintro ⟨H6, H7, H9, H10, H8⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists d9
    rw [before0_9 m hO c t (by omega)]; iexact H9
  iexists d10
  rw [before0_10 m hO c t (by omega)]; iexact H10

set_option maxHeartbeats 1600000 in
/-- The body at visit 11 of a row block. -/
theorem body_last (hO : Ok m) (c : Dev nD) (t : Fin (cfgM m hO).N) (ht : t.val % 12 = 11) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl, PhiS_castSucc, PhiS_succ,
    after0_0, after0_1, after0_2, after0_3, after0_4, after0_5, after0_6, after0_7]
  rw [left_live m hO c 8 t (by rw [idle8 m hO t]; exact decide_eq_false (by omega)),
    left_flush m hO c 9 t (by rw [idle9 m hO t]; exact decide_eq_true (by omega)) ((flush0_9 (adm m hO) t).mpr (by omega)),
    left_flush m hO c 10 t (by rw [idle10 m hO t]; exact decide_eq_true (by omega)) ((flush0_10 (adm m hO) t).mpr (by omega)),
    after0_8 m hO c t ((cond4_iff t).mpr (by omega)), after0_9, after0_10]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0_9 m hO c t (by omega), before0_10 m hO c t (by omega)]
  iapply (runDown c (grid0.coords t) _ _ _ _ _ _ _ _ _ _ _ _ _ _ _ _ _ _ _ _ _ _ _ _ _ _ (fun h => by have := (first_iff t).mp h; omega) (fun h => by have := (cond2_iff t).mp h; omega)
    (fun h => by have := (cond3_iff t).mp h; omega) ((cond4_iff t).mpr (by omega)) (iblk m hO c 6 t) (iblk m hO c 7 t) (codes m hO c (t.val / 12))
    (scales m hO c (t.val / 12)) Set.univ _)
  isplitl [H6]; · iexact H6
  isplitl [H7]; · iexact H7
  isplitl [H9]; · iexact H9
  isplitl [H10]; · iexact H10
  isplitl [H8]; · iexists _; iexact H8
  iintro ⟨H6, H7, H9, H10, H8⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  rcases Nat.lt_trichotomy (t.val % 12) 7 with h | h | h
  · rcases Nat.eq_zero_or_pos (t.val % 12) with h0 | h0
    · exact body_first m hO c t h0
    · exact body_up m hO c t ⟨h0, h⟩
  · exact body_quant m hO c t h
  · rcases Nat.lt_or_ge (t.val % 12) 11 with h13 | h13
    · exact body_down m hO c t ⟨h, h13⟩
    · exact body_last m hO c t (by omega)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

end Cert.SharedKernelIdeal.Ffn

end
-- ==== Proof.SharedFrame.lean ====
/-
  The launch of the shared kernel: it ends at every fair schedule, its arguments unchanged, its counters at zero, and its results at
  what the pipeline's proof data says of them.
-/
module

public import proofs.«01_k».proof.Proof.SharedPoints
public import Idealize.ShloMosaic.Lib.Claim

@[expose] public section

set_option maxRecDepth 16384

noncomputable section

namespace Cert.SharedKernelIdeal.Ffn

open Cert.SharedKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's invariant before the first point: the scratch buffers hold anything. -/
theorem phi_in (hO : Ok m) (c : Dev nD) : iprop(Pipeline.ΦA spec0 c ∗ Pipeline.ΦT pre0 (tbl m) c) ⊢ (PhiS m hO c 0 (Nat.zero_le _) : sProp 𝕄) := by
  rw [PhiA0_eq]; unfold PhiS
  iintro ⟨⟨⟨⟨%dH, HS0⟩, ⟨%dA, HS1⟩⟩, Hg⟩, HT⟩
  isplitl [HS0 HS1]
  · iexists dH
    iexists dA
    isplitl [HS0]; · iexact HS0
    isplitl [HS1]; · iexact HS1
    ipureintro
    exact inv_start m hO c dH dA rfl
  isplitl [Hg]; · iexact Hg
  iexact HT

/-- After the last point they are given back at whatever they hold. -/
theorem phi_out (hO : Ok m) (c : Dev nD) (n : ℕ) (hn : n ≤ grid0.N) : (PhiS m hO c n hn : sProp 𝕄) ⊢ Pipeline.ΦA spec0 c := by
  rw [PhiA0_eq]; unfold PhiS
  iintro ⟨⟨%dH, %dA, HS0, HS1, -⟩, Hg, -⟩
  isplitl [HS0 HS1]
  · isplitl [HS0]; · iexists dH; iexact HS0
    iexists dA; iexact HS1
  iexact Hg

set_option backward.isDefEq.respectTransparency.types false in
/-- The launch: each windowed array ends as the proof data has it, every other buffer as launched, and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => phi_in m hO c) (hout := fun c => phi_out m hO c grid0.N (Nat.le_refl _))

/-- An input's array ends as the host code left it. -/
theorem arr_in (hO : Ok m) {r : PUnit × MemSt nD τ sig (Elt F)} (h : Pipeline.FramePost (Pipeline.pin pcfgs fun _ => adm m hO) (dats m hO) 0 (V m) r) (c : Dev nD)
    (w : Fin (cfgM m hO).W) (hin : ((cfgM m hO).win w).isOut = false) :
    r.2.mem ((spec0 w).arr.view.loc (c.tc : Thread nD τ)) = V m c (Pipeline.arrRef spec0 w) :=
  ((h c).1 w).trans (((dats m hO 0 c).arrAt_in w hin _).trans (A_eq m hO c w))

/-- The arguments end as launched. -/
theorem args_of (hO : Ok m) {r : PUnit × MemSt nD τ sig (Elt F)} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(arr_in m hO h c 0 rfl).trans (V_main_arg0 m c),
    (arr_in m hO h c 1 rfl).trans (V_main_arg1 m c),
    (arr_in m hO h c 2 rfl).trans (V_main_arg2 m c),
    (arr_in m hO h c 3 rfl).trans (V_main_arg3 m c),
    (arr_in m hO h c 4 rfl).trans (V_main_arg4 m c),
    (arr_in m hO h c 5 rfl).trans (V_main_arg5 m c),
    (arr_in m hO h c 6 rfl).trans (V_main_arg6 m c),
    (arr_in m hO h c 7 rfl).trans (V_main_arg7 m c)⟩

/-- The frame: under every fair schedule the kernel ends, its arguments unchanged and its counters at zero. -/
theorem frame (hO : Ok m) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_of m hO h.1 c, h.2⟩) (run_main m ρ hO)

end Cert.SharedKernelIdeal.Ffn

end
-- ==== Proof.SharedTable.lean ====
/-
  The prefetched table: the host writes zeros, so every block that the index maps name through the table lies inside its array, with no
  precondition. Also the index maps' closed forms.
-/
module

public import proofs.«01_k».proof.Proof.SharedKit
public import Idealize.ShloMosaic.Lib.ValueIdxCoords
public import Idealize.ShloMosaic.Lib.Pipeline.ValueKit
public import Idealize.ShloMosaic.Lib.Affine

@[expose] public section

set_option maxRecDepth 16384

noncomputable section

namespace Cert.SharedKernelIdeal.Ffn

open Cert.SharedKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ)

/-- Row block `i 0`'s word of the table: two row blocks to a sample. -/
def word (i : grid0.Coords) : BitVec 32 :=
  (tbl m 0 : Cert.SharedKernelIdeal.S8.Idx → BitVec 32) (ix1 (n := 8) ⟨(i 0).val / 2, by have : (i 0).val < 16 := (i 0).isLt; omega⟩)

theorem off1_eq (i : grid0.Coords) : k0_off1 i = ![(i 0).val / 2] := by
  have h : ∀ i : grid0.Coords, k0_off1 i 0 = (i 0).val / 2 := by decide +kernel
  funext a
  obtain rfl : a = 0 := Subsingleton.elim _ _
  exact h i

/-- The word an index map reads is the row block's. -/
theorem at_eq (i : grid0.Coords) (h1 : (Rect.unit (s := S8) (k0_off1 i) S1.size (k0_off1_inb i)).shape.numel = 1) :
    (tbl m).at 0 (Rect.unit (s := S8) (k0_off1 i) S1.size (k0_off1_inb i)) h1 = word m i := by
  unfold word
  refine congrArg (tbl m 0 : Cert.SharedKernelIdeal.S8.Idx → BitVec 32) (funext fun a => ?_)
  obtain rfl : a = (0 : Fin 1) := Subsingleton.elim (α := Fin 1) _ _
  apply Fin.ext
  refine (ValueKit.rect_emb_unit_val _ _ _ _ _).trans ?_
  exact congrFun (off1_eq i) 0

/-- The host's table holds zeros. -/
theorem table_zero (w : Cert.SharedKernelIdeal.S8.Idx) : (tbl m 0 : Cert.SharedKernelIdeal.S8.Idx → BitVec 32) w = 0#32 := by
  have h : V m 0 main_v0 = fun _ => 0#32 := by
    show StableHlo.after hostOps0 (fun b => m (0, b)) (Proc.devRef .tc main_v0) = _
    rfl
  exact congrFun h w

theorem word_eq (i : grid0.Coords) : (word m i).toNat = 0 := by
  unfold word; rw [table_zero]; rfl

/-- The up-projection's slab at a visit: the visit, held at the last slab afterwards. -/
theorem min_eq (i : grid0.Coords) : (Scalar.minsi (BitVec.ofNat 32 (i 1).val) 6#32).toNat = min (i 1).val 6 := by revert i; decide +kernel
/-- The column block at a visit: held at the first until visit 7. -/
theorem max_eq (i : grid0.Coords) : (Scalar.maxsi (Scalar.subi (BitVec.ofNat 32 (i 1).val) 7#32) 0#32).toNat = (i 1).val - 7 := by revert i; decide +kernel
theorem row_eq (i : grid0.Coords) : (BitVec.ofNat 32 (i 0).val).toNat = (i 0).val := by revert i; decide +kernel

theorem index2 (i : grid0.Coords) : cc0_transform_2 k0_off1_inb numel1_S1 (tbl m) i = ![0, 0, min (i 1).val 6] := by
  rw [← congrArg (fun z => (![z, 0, min (i 1).val 6] : Fin 3 → ℕ)) (word_eq m i), ← at_eq m i numel1_S1, ← min_eq]; rfl
theorem index3 (i : grid0.Coords) : cc0_transform_3 k0_off1_inb numel1_S1 (tbl m) i = ![0, 0, min (i 1).val 6] := by
  rw [← congrArg (fun z => (![z, 0, min (i 1).val 6] : Fin 3 → ℕ)) (word_eq m i), ← at_eq m i numel1_S1, ← min_eq]; rfl
theorem index4 (i : grid0.Coords) : cc0_transform_4 k0_off1_inb numel1_S1 (tbl m) i = ![0, 0, min (i 1).val 6] := by
  rw [← congrArg (fun z => (![z, 0, min (i 1).val 6] : Fin 3 → ℕ)) (word_eq m i), ← at_eq m i numel1_S1, ← min_eq]; rfl
theorem index5 (i : grid0.Coords) : cc0_transform_5 k0_off1_inb numel1_S1 (tbl m) i = ![0, 0, min (i 1).val 6] := by
  rw [← congrArg (fun z => (![z, 0, min (i 1).val 6] : Fin 3 → ℕ)) (word_eq m i), ← at_eq m i numel1_S1, ← min_eq]; rfl
theorem index6 (i : grid0.Coords) : cc0_transform_6 k0_off1_inb numel1_S1 (tbl m) i = ![0, 0, (i 1).val - 7] := by
  rw [← congrArg (fun z => (![z, 0, (i 1).val - 7] : Fin 3 → ℕ)) (word_eq m i), ← at_eq m i numel1_S1, ← max_eq]; rfl
theorem index7 (i : grid0.Coords) : cc0_transform_7 k0_off1_inb numel1_S1 (tbl m) i = ![0, 0, (i 1).val - 7] := by
  rw [← congrArg (fun z => (![z, 0, (i 1).val - 7] : Fin 3 → ℕ)) (word_eq m i), ← at_eq m i numel1_S1, ← max_eq]; rfl
theorem index0 (i : grid0.Coords) : cc0_transform_0 i = ![(i 0).val, 0] := by rw [← row_eq i]; rfl
theorem index1 (i : grid0.Coords) : cc0_transform_1 i = ![(i 0).val, 0] := by rw [← row_eq i]; rfl
theorem index9 (i : grid0.Coords) : cc0_transform_9 i = ![(i 0).val, 0] := by rw [← row_eq i]; rfl
theorem index10 (i : grid0.Coords) : cc0_transform_10 i = ![(i 0).val, 0] := by rw [← row_eq i]; rfl
theorem index8 (i : grid0.Coords) : cc0_transform_8 i = ![(i 0).val, (i 1).val - 7] := by rw [← row_eq i, ← max_eq i]; rfl

/-- The index maps stay inside their arrays. -/
theorem ok : Ok m := by
  have up (j : ℕ) : ∀ a : Fin 3, ((![0, 0, min j 6] : Fin 3 → ℕ) a + 1) * S1x2560x512.size a ≤ S1x2560x3584.size a := by
    intro a
    fin_cases a
    · exact le_rfl
    · exact le_rfl
    · show (min j 6 + 1) * 512 ≤ 3584; omega
  have upScale (j : ℕ) : ∀ a : Fin 3, ((![0, 0, min j 6] : Fin 3 → ℕ) a + 1) * S1x1x512.size a ≤ S1x1x3584.size a := by
    intro a
    fin_cases a
    · exact le_rfl
    · exact le_rfl
    · show (min j 6 + 1) * 512 ≤ 3584; omega
  have down (j : ℕ) (hj : j < 12) : ∀ a : Fin 3, ((![0, 0, j - 7] : Fin 3 → ℕ) a + 1) * S1x3584x512.size a ≤ S1x3584x2560.size a := by
    intro a
    fin_cases a
    · exact le_rfl
    · exact le_rfl
    · show (j - 7 + 1) * 512 ≤ 2560; omega
  have downScale (j : ℕ) (hj : j < 12) : ∀ a : Fin 3, ((![0, 0, j - 7] : Fin 3 → ℕ) a + 1) * S1x1x512.size a ≤ S1x1x2560.size a := by
    intro a
    fin_cases a
    · exact le_rfl
    · exact le_rfl
    · show (j - 7 + 1) * 512 ≤ 2560; omega
  have h1 (i : grid0.Coords) : (i 1).val < 12 := (i 1).isLt
  unfold Ok ok0
  exact ⟨fun i => ⟨by rw [index2]; exact up _, .inr (Affine.block_words_dvd (of_decide_eq_true rfl) (by decide))⟩,
    fun i => ⟨by rw [index3]; exact upScale _, .inl rfl⟩,
    fun i => ⟨by rw [index4]; exact up _, .inr (Affine.block_words_dvd (of_decide_eq_true rfl) (by decide))⟩,
    fun i => ⟨by rw [index5]; exact upScale _, .inl rfl⟩,
    fun i => ⟨by rw [index6]; exact down _ (h1 i), .inr (Affine.block_words_dvd (of_decide_eq_true rfl) (by decide))⟩,
    fun i => ⟨by rw [index7]; exact downScale _ (h1 i), .inl rfl⟩⟩

end Cert.SharedKernelIdeal.Ffn

end
-- ==== Proof.SharedFrameBits.lean ====
/- The printed shared program and its copy to be read over the extended reals are the same text (the claim offers no rewrites), so the
   frame proved of the copy for every reading of the floats is the printed program's frame at bit patterns. The two texts' definitions are
   shown equal part by part: the body, the table of bodies, the pipeline around it. -/
module

public import proofs.«01_k».proof.Defs
public import proofs.«01_k».proof.Proof.SharedFrame
public import proofs.«01_k».proof.Proof.SharedTable
public import proofs.«01_k».proof.Proof.Gen.SharedKernel

@[expose] public section

set_option maxRecDepth 16384
set_option maxHeartbeats 1000000

noncomputable section

namespace Cert.Proof.Shared

open Idealize.ShloMosaic Idealize.SL.Sem

/-- The two bodies are one function. -/
theorem same_body (a b c d) : Cert.SharedKernel.cc0_swiglu (F := Bits) a b c d = Cert.SharedKernelIdeal.cc0_swiglu (F := Bits) a b c d := rfl

/-- So are the two tables that run them at a grid point. -/
theorem same_defs0 : Cert.SharedKernel.defs₀ (F := Bits) = Cert.SharedKernelIdeal.defs₀ (F := Bits) := by
  unfold Cert.SharedKernel.defs₀ Cert.SharedKernelIdeal.defs₀
  refine congrArg Defs.onTc (funext fun l => funext fun a => ?_)
  obtain rfl : l = (0 : Fin 1) := Subsingleton.elim (α := Fin 1) _ _
  obtain ⟨t, s⟩ := a
  dsimp only
  rw [same_body]
  rfl

theorem same_defs : Cert.SharedKernel.defs (F := Bits) = Cert.SharedKernelIdeal.defs (F := Bits) := by
  unfold Cert.SharedKernel.defs Cert.SharedKernelIdeal.defs
  rw [same_defs0]
  rfl

theorem same_main : Cert.SharedKernel.main (F := Bits) = Cert.SharedKernelIdeal.main (F := Bits) := rfl

/-- The frame of the printed program at bit patterns. -/
theorem frame_bits : Cert.quiescent_SharedKernel := fun m ρ _ => by
  have := Cert.SharedKernelIdeal.Ffn.frame (F := Bits) m ρ (Cert.SharedKernelIdeal.Ffn.ok (F := Bits) m)
  rw [same_defs, same_main]
  exact this

/-- The frame of the copy over the extended reals. -/
theorem frame_ideal : Cert.quiescent_SharedKernelIdeal := fun m ρ _ =>
  Cert.SharedKernelIdeal.Ffn.frame (F := Ideal) m ρ (Cert.SharedKernelIdeal.Ffn.ok (F := Ideal) m)

end Cert.Proof.Shared

end
-- ==== Proof.SharedSpec.lean ====
/- What the shared launch computes, over the extended reals: each token's hidden row, its largest absolute value, its scale, its codes
   and its output row, as plain formulas of the eight input arrays. Both programs' results are shown to be these. -/
module

public import proofs.«01_k».proof.Proof.Spec

@[expose] public section

set_option maxRecDepth 16384

noncomputable section

namespace Cert.SharedFfn

open Idealize.ShloMosaic
open Cert.Ffn.Inputs (scaleOf codeOf)

/-- The arrays that one launch reads: the tokens' codes and scales, and the three weight matrices with a scale for each output column. -/
structure Inputs where
  x : Vec Ideal ⟨2, ![8192, 2560]⟩ .fp8e4m3
  xs : Vec Ideal ⟨2, ![8192, 128]⟩ .f32
  w1 : Vec Ideal ⟨3, ![1, 2560, 3584]⟩ .fp8e4m3
  s1 : Vec Ideal ⟨3, ![1, 1, 3584]⟩ .f32
  w3 : Vec Ideal ⟨3, ![1, 2560, 3584]⟩ .fp8e4m3
  s3 : Vec Ideal ⟨3, ![1, 1, 3584]⟩ .f32
  w2 : Vec Ideal ⟨3, ![1, 3584, 2560]⟩ .fp8e4m3
  s2 : Vec Ideal ⟨3, ![1, 1, 2560]⟩ .f32

namespace Inputs

variable (I : Inputs)

/-- Column `j` of token `R` through one of the two input matrices `w`: the codes' product, the token's scale, the column's. -/
def up (w : Vec Ideal ⟨3, ![1, 2560, 3584]⟩ .fp8e4m3) (s : Vec Ideal ⟨3, ![1, 1, 3584]⟩ .f32) (R : Fin 8192) (j : Fin 3584) : EReal :=
  (∑ k : Fin 2560, I.x (ix2 R k) * w (ix3 0 k j)) * I.xs (ix2 R 0) * s (ix3 0 0 j)

/-- The gated hidden value: `silu (up w1) * up w3`. -/
def hidden (R : Fin 8192) (j : Fin 3584) : EReal :=
  I.up I.w1 I.s1 R j * Ideal.logistic (I.up I.w1 I.s1 R j) * I.up I.w3 I.s3 R j

/-- The largest absolute hidden value of token `R` (the maximum taken from minus infinity). -/
def largest (R : Fin 8192) : EReal :=
  Finset.univ.fold max (Ideal.ofBits FTy.f32 4286578688#32) fun j : Fin 3584 => FloatOps.absf (F := Ideal) (φ := .f32) (I.hidden R j)

def scale (R : Fin 8192) : EReal := scaleOf (I.largest R)

def code (R : Fin 8192) (j : Fin 3584) : EReal := codeOf (I.hidden R j) (I.scale R)

/-- The output: codes · second matrix, scaled by the row's and the column's scales. -/
def out (R : Fin 8192) (d : Fin 2560) : EReal :=
  (∑ j : Fin 3584, I.code R j * I.w2 (ix3 0 j d)) * I.scale R * I.s2 (ix3 0 0 d)

/-- The three results as arrays. -/
def outArr : Vec Ideal ⟨2, ![8192, 2560]⟩ .f32 := fun i => I.out (i 0) (i 1)
def codeArr : Vec Ideal ⟨2, ![8192, 3584]⟩ .fp8e4m3 := fun i => I.code (i 0) (i 1)
def scaleArr : Vec Ideal ⟨2, ![8192, 128]⟩ .f32 := fun i => I.scale (i 0)

end Inputs

end Cert.SharedFfn

end
-- ==== Proof.SharedBlocks.lean ====
/- What the input windows' blocks hold, entry by entry: at grid point `t` (row block `t / 12`, visit `t % 12`) each block is the part of
   its array that the window's index map names. -/
module

public import proofs.«01_k».proof.Proof.SharedSpec
public import proofs.«01_k».proof.Proof.SharedState
public import proofs.«01_k».proof.Proof.SharedTable

@[expose] public section

set_option maxRecDepth 16384

noncomputable section

namespace Cert.SharedKernelIdeal.Ffn

open Cert.SharedKernelIdeal.Gen
open Idealize.ShloMosaic Idealize.ShloMosaic.TcCoe

variable (m : (ℓ : Loc nD τ sig) → Buf (Elt Ideal) ℓ) (hO : Ok m) (c : Dev nD)

/-- The arrays that the pipeline reads on device `c`. -/
def inputs : Cert.SharedFfn.Inputs where
  x := V m c main_arg0
  xs := V m c main_arg1
  w1 := V m c main_arg2
  s1 := V m c main_arg3
  w3 := V m c main_arg4
  s3 := V m c main_arg5
  w2 := V m c main_arg6
  s2 := V m c main_arg7

theorem block0 (t : Fin grid0.N) (y : Fin 512) (k : Fin 2560) (R : Fin 8192) (K : Fin 2560) (hR : R.val = (grid0.coords t 0).val * 512 + y.val)
    (hK : K.val = 0 + k.val) : iblk m hO c 0 t (ix2 y k) = (inputs m c).x (ix2 R K) := by
  have e0 : (pcfg0.win (adm m hO) 0).index t 0 = (grid0.coords t 0).val := congrFun (index0 (grid0.coords t)) 0
  have e1 : (pcfg0.win (adm m hO) 0).index t 1 = 0 := congrFun (index0 (grid0.coords t)) 1
  unfold iblk
  blk_ext [hR, hK] <;> (first | erw [e0] | erw [e1] | erw [e2]) <;> omega

theorem block1 (t : Fin grid0.N) (y : Fin 512) (k : Fin 128) (R : Fin 8192) (K : Fin 128) (hR : R.val = (grid0.coords t 0).val * 512 + y.val)
    (hK : K.val = 0 + k.val) : iblk m hO c 1 t (ix2 y k) = (inputs m c).xs (ix2 R K) := by
  have e0 : (pcfg0.win (adm m hO) 1).index t 0 = (grid0.coords t 0).val := congrFun (index1 (grid0.coords t)) 0
  have e1 : (pcfg0.win (adm m hO) 1).index t 1 = 0 := congrFun (index1 (grid0.coords t)) 1
  unfold iblk
  blk_ext [hR, hK] <;> (first | erw [e0] | erw [e1] | erw [e2]) <;> omega

theorem block2 (t : Fin grid0.N) (a : Fin 1) (k : Fin 2560) (j : Fin 512) (A : Fin 1) (K : Fin 2560) (J : Fin 3584) (hA : A.val = 0)
    (hK : K.val = k.val) (hJ : J.val = min (grid0.coords t 1).val 6 * 512 + j.val) : iblk m hO c 2 t (ix3 a k j) = (inputs m c).w1 (ix3 A K J) := by
  have e0 : (pcfg0.win (adm m hO) 2).index t 0 = 0 := congrFun (index2 m (grid0.coords t)) 0
  have e1 : (pcfg0.win (adm m hO) 2).index t 1 = 0 := congrFun (index2 m (grid0.coords t)) 1
  have e2 : (pcfg0.win (adm m hO) 2).index t 2 = min (grid0.coords t 1).val 6 := congrFun (index2 m (grid0.coords t)) 2
  unfold iblk
  blk_ext [hA, hK, hJ] <;> (first | erw [e0] | erw [e1] | erw [e2]) <;> omega

theorem block3 (t : Fin grid0.N) (a : Fin 1) (k : Fin 1) (j : Fin 512) (A : Fin 1) (K : Fin 1) (J : Fin 3584) (hA : A.val = 0)
    (hK : K.val = k.val) (hJ : J.val = min (grid0.coords t 1).val 6 * 512 + j.val) : iblk m hO c 3 t (ix3 a k j) = (inputs m c).s1 (ix3 A K J) := by
  have e0 : (pcfg0.win (adm m hO) 3).index t 0 = 0 := congrFun (index3 m (grid0.coords t)) 0
  have e1 : (pcfg0.win (adm m hO) 3).index t 1 = 0 := congrFun (index3 m (grid0.coords t)) 1
  have e2 : (pcfg0.win (adm m hO) 3).index t 2 = min (grid0.coords t 1).val 6 := congrFun (index3 m (grid0.coords t)) 2
  unfold iblk
  blk_ext [hA, hK, hJ] <;> (first | erw [e0] | erw [e1] | erw [e2]) <;> omega

theorem block4 (t : Fin grid0.N) (a : Fin 1) (k : Fin 2560) (j : Fin 512) (A : Fin 1) (K : Fin 2560) (J : Fin 3584) (hA : A.val = 0)
    (hK : K.val = k.val) (hJ : J.val = min (grid0.coords t 1).val 6 * 512 + j.val) : iblk m hO c 4 t (ix3 a k j) = (inputs m c).w3 (ix3 A K J) := by
  have e0 : (pcfg0.win (adm m hO) 4).index t 0 = 0 := congrFun (index4 m (grid0.coords t)) 0
  have e1 : (pcfg0.win (adm m hO) 4).index t 1 = 0 := congrFun (index4 m (grid0.coords t)) 1
  have e2 : (pcfg0.win (adm m hO) 4).index t 2 = min (grid0.coords t 1).val 6 := congrFun (index4 m (grid0.coords t)) 2
  unfold iblk
  blk_ext [hA, hK, hJ] <;> (first | erw [e0] | erw [e1] | erw [e2]) <;> omega

theorem block5 (t : Fin grid0.N) (a : Fin 1) (k : Fin 1) (j : Fin 512) (A : Fin 1) (K : Fin 1) (J : Fin 3584) (hA : A.val = 0)
    (hK : K.val = k.val) (hJ : J.val = min (grid0.coords t 1).val 6 * 512 + j.val) : iblk m hO c 5 t (ix3 a k j) = (inputs m c).s3 (ix3 A K J) := by
  have e0 : (pcfg0.win (adm m hO) 5).index t 0 = 0 := congrFun (index5 m (grid0.coords t)) 0
  have e1 : (pcfg0.win (adm m hO) 5).index t 1 = 0 := congrFun (index5 m (grid0.coords t)) 1
  have e2 : (pcfg0.win (adm m hO) 5).index t 2 = min (grid0.coords t 1).val 6 := congrFun (index5 m (grid0.coords t)) 2
  unfold iblk
  blk_ext [hA, hK, hJ] <;> (first | erw [e0] | erw [e1] | erw [e2]) <;> omega

theorem block6 (t : Fin grid0.N) (a : Fin 1) (k : Fin 3584) (j : Fin 512) (A : Fin 1) (K : Fin 3584) (J : Fin 2560) (hA : A.val = 0)
    (hK : K.val = k.val) (hJ : J.val = ((grid0.coords t 1).val - 7) * 512 + j.val) : iblk m hO c 6 t (ix3 a k j) = (inputs m c).w2 (ix3 A K J) := by
  have e0 : (pcfg0.win (adm m hO) 6).index t 0 = 0 := congrFun (index6 m (grid0.coords t)) 0
  have e1 : (pcfg0.win (adm m hO) 6).index t 1 = 0 := congrFun (index6 m (grid0.coords t)) 1
  have e2 : (pcfg0.win (adm m hO) 6).index t 2 = (grid0.coords t 1).val - 7 := congrFun (index6 m (grid0.coords t)) 2
  unfold iblk
  blk_ext [hA, hK, hJ] <;> (first | erw [e0] | erw [e1] | erw [e2]) <;> omega

theorem block7 (t : Fin grid0.N) (a : Fin 1) (k : Fin 1) (j : Fin 512) (A : Fin 1) (K : Fin 1) (J : Fin 2560) (hA : A.val = 0)
    (hK : K.val = k.val) (hJ : J.val = ((grid0.coords t 1).val - 7) * 512 + j.val) : iblk m hO c 7 t (ix3 a k j) = (inputs m c).s2 (ix3 A K J) := by
  have e0 : (pcfg0.win (adm m hO) 7).index t 0 = 0 := congrFun (index7 m (grid0.coords t)) 0
  have e1 : (pcfg0.win (adm m hO) 7).index t 1 = 0 := congrFun (index7 m (grid0.coords t)) 1
  have e2 : (pcfg0.win (adm m hO) 7).index t 2 = (grid0.coords t 1).val - 7 := congrFun (index7 m (grid0.coords t)) 2
  unfold iblk
  blk_ext [hA, hK, hJ] <;> (first | erw [e0] | erw [e1] | erw [e2]) <;> omega

end Cert.SharedKernelIdeal.Ffn

end
-- ==== Proof.SharedHidden.lean ====
/- A row block's hidden rows are the formula's: one tile entry by entry, then the seven visits' tiles together. -/
module

public import proofs.«01_k».proof.Proof.SharedBlocks

@[expose] public section

set_option maxRecDepth 16384

noncomputable section

namespace Cert.SharedKernelIdeal.Ffn

open Cert.SharedKernelIdeal.Gen
open Idealize.ShloMosaic Idealize.ShloMosaic.TcCoe

/-- One entry of a tile: `silu(a) * b`, `a` and `b` the row's products with the two matrices' columns, scaled. -/
theorem tile_apply (x : Vec Ideal S512x2560 .fp8e4m3) (xs : Vec Ideal S512x128 .f32) (w1 : Vec Ideal S1x2560x512 .fp8e4m3)
    (s1 : Vec Ideal S1x1x512 .f32) (w3 : Vec Ideal S1x2560x512 .fp8e4m3) (s3 : Vec Ideal S1x1x512 .f32) (n : Fin 2) (q : Fin 2)
    (y j : Fin 256) (Y : Fin 512) (J : Fin 512) (hY : Y.val = 256 * q.val + y.val) (hJ : J.val = 256 * n.val + j.val) :
    tile x xs w1 s1 w3 s3 n q (ix2 y j) =
      (∑ k, x (ix2 Y k) * w1 (ix3 0 k J)) * xs (ix2 Y 0) * s1 (ix3 0 0 J) *
        Ideal.logistic ((∑ k, x (ix2 Y k) * w1 (ix3 0 k J)) * xs (ix2 Y 0) * s1 (ix3 0 0 J)) *
        ((∑ k, x (ix2 Y k) * w3 (ix3 0 k J)) * xs (ix2 Y 0) * s3 (ix3 0 0 J)) := by
  have hq := q.isLt
  have hn := n.isLt
  have eY : (⟨256 * q.val + y.val, by omega⟩ : Fin 512) = Y := Fin.ext hY.symm
  have eJ : (⟨256 * n.val + j.val, by omega⟩ : Fin 512) = J := Fin.ext hJ.symm
  pointwise [tile, k0_pay9]
  simp only [eY, eJ]

variable (m : (ℓ : Loc nD τ sig) → Buf (Elt Ideal) ℓ) (hO : Ok m) (c : Dev nD)

theorem coords0 (t : Fin grid0.N) : ((grid0.coords t) 0).val = t.val / 12 := by revert t; decide +kernel

theorem pt_val {r s : ℕ} (hr : r < 16) (hs : s < 12) : (pt r s).val = 12 * r + s := by unfold pt; dsimp only; omega

/-- An entry of the tile that visit `s` of row block `r` makes is the formula's hidden value. -/
theorem tiles_apply {r s : ℕ} (hr : r < 16)
    (hs : s < 7) (n : Fin 2) (q : Fin 2) (y j : Fin 256) (R : Fin 8192) (J : Fin 3584) (hR : R.val = 512 * r + 256 * q.val + y.val)
    (hJ : J.val = 512 * s + 256 * n.val + j.val) : tiles m hO c (pt r s) n q (ix2 y j) = (inputs m c).hidden R J := by
  have ht : (pt r s).val = 12 * r + s := pt_val hr (by omega)
  have h0 : (grid0.coords (pt r s) 0).val = r := by rw [coords0, ht]; omega
  have h1 : (grid0.coords (pt r s) 1).val = s := by rw [coords1, ht]; omega
  have hq := q.isLt
  have hn := n.isLt
  refine (tile_apply _ _ _ _ _ _ n q y j ⟨256 * q.val + y.val, by omega⟩ ⟨256 * n.val + j.val, by omega⟩ rfl rfl).trans ?_
  rw [Cert.SharedFfn.Inputs.hidden, Cert.SharedFfn.Inputs.up, Cert.SharedFfn.Inputs.up]
  have hx (k : Fin 2560) := block0 m hO c (pt r s) ⟨256 * q.val + y.val, by omega⟩ k R k (by rw [h0]; dsimp only; omega) (by omega)
  have hxs := block1 m hO c (pt r s) ⟨256 * q.val + y.val, by omega⟩ 0 R 0 (by rw [h0]; dsimp only; omega) rfl
  have hJ' : J.val = min (grid0.coords (pt r s) 1).val 6 * 512 + (256 * n.val + j.val) := by rw [h1]; omega
  have hw1 (k : Fin 2560) := block2 m hO c (pt r s) 0 k ⟨256 * n.val + j.val, by omega⟩ 0 k J rfl rfl hJ'
  have hs1 := block3 m hO c (pt r s) 0 0 ⟨256 * n.val + j.val, by omega⟩ 0 0 J rfl rfl hJ'
  have hw3 (k : Fin 2560) := block4 m hO c (pt r s) 0 k ⟨256 * n.val + j.val, by omega⟩ 0 k J rfl rfl hJ'
  have hs3 := block5 m hO c (pt r s) 0 0 ⟨256 * n.val + j.val, by omega⟩ 0 0 J rfl rfl hJ'
  simp only [hx, hxs, hw1, hs1, hw3, hs3]

/-- Row block `r`'s hidden rows. -/
theorem hid_apply {r : ℕ} (hr : r < 16)
    (y : Fin 512) (J : Fin 3584) (R : Fin 8192) (hR : R.val = 512 * r + y.val) : hid m hO c r (ix2 y J) = (inputs m c).hidden R J := by
  have hy := y.isLt
  have hj := J.isLt
  exact tiles_apply m hO c hr (by show J.val / 512 < 7; omega) _ _ ⟨y.val % 256, by omega⟩ ⟨J.val % 512 % 256, by omega⟩ R J
    (by show R.val = 512 * r + 256 * (y.val / 256) + y.val % 256; omega)
    (by show J.val = 512 * (J.val / 512) + 256 * (J.val % 512 / 256) + J.val % 512 % 256; omega)

end Cert.SharedKernelIdeal.Ffn

end
-- ==== Proof.SharedLargest.lean ====
/- The running maximum, kept as 128 lanes and gathered in seven visits of two tiles, is after the last visit the largest absolute value
   of the whole hidden row: its 128 lanes' maximum is at most a bound exactly when every absolute value of the row is. -/
module

public import proofs.«01_k».proof.Proof.Largest
public import proofs.«01_k».proof.Proof.SharedHidden

@[expose] public section

set_option maxRecDepth 16384

noncomputable section

namespace Cert.SharedKernelIdeal.Ffn

open Cert.SharedKernelIdeal.Gen
open Cert.KernelIdeal.Ffn (mag mag_nonneg)
open Idealize.ShloMosaic Idealize.ShloMosaic.TcCoe

/-- Two lanes of a tile of 256 columns enter lane `l` of the running maximum. -/
theorem amaxTile_apply (h : FVec Ideal S256x256 .f32) (v : Vec Ideal S256x128 .f32) (y : Fin 256) (l : Fin 128) :
    amaxTile h v (ix2 y l) = max (v (ix2 y l)) (max (mag (h (ix2 y ⟨l.val, by omega⟩))) (mag (h (ix2 y ⟨128 + l.val, by omega⟩)))) := by
  pointwise [amaxTile, k0_pay15]

section up
variable (x : Vec Ideal S512x2560 .fp8e4m3) (xs : Vec Ideal S512x128 .f32) (w1 : Vec Ideal S1x2560x512 .fp8e4m3)
  (s1 : Vec Ideal S1x1x512 .f32) (w3 : Vec Ideal S1x2560x512 .fp8e4m3) (s3 : Vec Ideal S1x1x512 .f32) (dA : Vec Ideal S512x128 .f32)

theorem amaxRows_le (q : Fin 2) (y : Fin 256) (l : Fin 128) (Y : Fin 512) (hY : Y.val = 256 * q.val + y.val) (b : EReal) :
    amaxRows x xs w1 s1 w3 s3 dA q (ix2 y l) ≤ b ↔ dA (ix2 Y l) ≤ b ∧ ∀ n : Fin 2,
      mag (tile x xs w1 s1 w3 s3 n q (ix2 y ⟨l.val, by omega⟩)) ≤ b ∧ mag (tile x xs w1 s1 w3 s3 n q (ix2 y ⟨128 + l.val, by omega⟩)) ≤ b := by
  have hq := q.isLt
  have e : View.ld dA (Rect.unit (s := S512x128) ![256 * q.val, 0] S256x128.size (inb_amax q)) (ix2 y l) = dA (ix2 Y l) := by
    have eY : (⟨256 * q.val + y.val, by omega⟩ : Fin 512) = Y := Fin.ext hY.symm
    pointwise
    simp only [eY]
  unfold amaxRows
  rw [amaxTile_apply, amaxTile_apply, e]
  simp only [max_le_iff, Fin.forall_fin_succ, Fin.forall_fin_zero, and_true]
  constructor
  · rintro ⟨⟨h, h0⟩, h1⟩; exact ⟨h, h0, h1⟩
  · rintro ⟨h, h0, h1⟩; exact ⟨⟨h, h0⟩, h1⟩

theorem amaxUp_le (q : Fin 2) (y : Fin 256) (l : Fin 128) (Y : Fin 512) (hY : Y.val = 256 * q.val + y.val) (b : EReal) :
    amaxUp x xs w1 s1 w3 s3 dA (ix2 Y l) ≤ b ↔ dA (ix2 Y l) ≤ b ∧ ∀ n : Fin 2,
      mag (tile x xs w1 s1 w3 s3 n q (ix2 y ⟨l.val, by omega⟩)) ≤ b ∧ mag (tile x xs w1 s1 w3 s3 n q (ix2 y ⟨128 + l.val, by omega⟩)) ≤ b := by
  have hq := q.isLt
  have hy := y.isLt
  rw [← amaxRows_le x xs w1 s1 w3 s3 dA q y l Y hY b]
  unfold amaxUp
  by_cases h : Y.val < 256
  · obtain rfl : q = 0 := Fin.ext (by show q.val = 0; omega)
    rw [dif_pos (show ((ix2 Y l : S512x128.Idx) 0).val < 256 from h)]
    have e : (⟨Y.val, h⟩ : Fin 256) = y := Fin.ext (by show Y.val = y.val; simp at hY; omega)
    exact iff_of_eq (congrArg (fun z => amaxRows x xs w1 s1 w3 s3 dA 0 (ix2 z l) ≤ b) e)
  · obtain rfl : q = 1 := Fin.ext (by show q.val = 1; omega)
    rw [dif_neg (show ¬((ix2 Y l : S512x128.Idx) 0).val < 256 from h)]
    have e : (⟨Y.val - 256, by omega⟩ : Fin 256) = y := Fin.ext (by show Y.val - 256 = y.val; simp at hY; omega)
    exact iff_of_eq (congrArg (fun z => amaxRows x xs w1 s1 w3 s3 dA 1 (ix2 z l) ≤ b) e)
end up

variable (m : (ℓ : Loc nD τ sig) → Buf (Elt Ideal) ℓ) (hO : Ok m) (c : Dev nD)

/-- Before visit `s`, lane `l` of a row's running maximum is the largest of 0 and the absolute values of the columns below `512 * s` that
    are `l` modulo 128. -/
theorem am_le {r : ℕ} (hr : r < 16)
    (Y : Fin 512) (l : Fin 128) (R : Fin 8192) (hR : R.val = 512 * r + Y.val) (b : EReal) (s : ℕ) (hs : s ≤ 7) :
    am m hO c r s (ix2 Y l) ≤ b ↔ 0 ≤ b ∧ ∀ J : Fin 3584, J.val < 512 * s → J.val % 128 = l.val → mag ((inputs m c).hidden R J) ≤ b := by
  induction s with
  | zero =>
    have e : am m hO c r 0 (ix2 Y l) = 0 := by
      show k0_pay1 (F := Ideal) (ix2 Y l) = 0
      pointwise [k0_pay1]
    rw [e]
    exact ⟨fun h => ⟨h, fun J hJ => absurd hJ (by omega)⟩, fun h => h.1⟩
  | succ s ih =>
    have hY := Y.isLt
    have hl := l.isLt
    refine (amaxUp_le _ _ _ _ _ _ _ ⟨Y.val / 256, by omega⟩ ⟨Y.val % 256, by omega⟩ l Y (by dsimp only; omega) b).trans ?_
    rw [ih (by omega)]
    have key (n : Fin 2) (j : Fin 256) (J : Fin 3584) (hJ : J.val = 512 * s + 256 * n.val + j.val) :=
      tiles_apply m hO c hr (show s < 7 by omega) n ⟨Y.val / 256, by omega⟩ ⟨Y.val % 256, by omega⟩ j R J (by dsimp only; omega) hJ
    unfold tiles at key
    constructor
    · rintro ⟨⟨h0, h⟩, ht⟩
      refine ⟨h0, fun J hJ hm => ?_⟩
      by_cases hJ' : J.val < 512 * s
      · exact h J hJ' hm
      · have hn := ht ⟨(J.val - 512 * s) / 256, by omega⟩
        by_cases hh : (J.val - 512 * s) % 256 < 128
        · have := hn.1
          rw [key _ _ J (by dsimp only; omega)] at this
          exact this
        · have := hn.2
          rw [key _ _ J (by dsimp only; omega)] at this
          exact this
    · rintro ⟨h0, h⟩
      refine ⟨⟨h0, fun J hJ hm => h J (by omega) hm⟩, fun n => ⟨?_, ?_⟩⟩
      · have hn := n.isLt
        rw [key n _ ⟨512 * s + 256 * n.val + l.val, by omega⟩ rfl]
        exact h _ (by dsimp only; omega) (by dsimp only; omega)
      · have hn := n.isLt
        rw [key n _ ⟨512 * s + 256 * n.val + (128 + l.val), by omega⟩ rfl]
        exact h _ (by dsimp only; omega) (by dsimp only; omega)

/-- The 128 lanes' maximum after the seven visits is the row's largest absolute value. -/
theorem largest_eq {r : ℕ} (hr : r < 16)
    (Y : Fin 512) (R : Fin 8192) (hR : R.val = 512 * r + Y.val) :
    Finset.univ.fold max (Ideal.ofBits FTy.f32 4286578688#32) (fun l : Fin 128 => am m hO c r 7 (ix2 Y l)) = (inputs m c).largest R := by
  refine eq_of_forall_ge_iff fun b => ?_
  rw [Cert.SharedFfn.Inputs.largest, Finset.fold_max_le, Finset.fold_max_le]
  refine and_congr_right fun _ => ⟨fun h J _ => ?_, fun h l _ => ?_⟩
  · have hJ := J.isLt
    exact ((am_le m hO c hr Y ⟨J.val % 128, by omega⟩ R hR b 7 le_rfl).1 (h _ (Finset.mem_univ _))).2 J (by omega) rfl
  · exact (am_le m hO c hr Y l R hR b 7 le_rfl).2
      ⟨(mag_nonneg _).trans (h ⟨0, by omega⟩ (Finset.mem_univ _)), fun J _ _ => h J (Finset.mem_univ _)⟩

end Cert.SharedKernelIdeal.Ffn

end
-- ==== Proof.SharedCodes.lean ====
/- A row block's scales, codes and output block are the formula's. -/
module

public import proofs.«01_k».proof.Proof.SharedLargest

@[expose] public section

set_option maxRecDepth 16384

noncomputable section

namespace Cert.SharedKernelIdeal.Ffn

open Cert.SharedKernelIdeal.Gen
open Cert.Ffn.Inputs (scaleOf codeOf)
open Idealize.ShloMosaic Idealize.ShloMosaic.TcCoe

/-- A row's scale from the running maximum's 128 lanes, in every lane. -/
theorem scaleTurn_apply (dA : Vec Ideal S512x128 .f32) (Y : Fin 512) (l : Fin 128) :
    scaleTurn dA (ix2 Y l) = scaleOf (Finset.univ.fold max (Ideal.ofBits FTy.f32 4286578688#32) fun l' : Fin 128 => dA (ix2 Y l')) := by
  have e : (⟨32 * (Y.val / 32) + Y.val % 32, by omega⟩ : Fin 512) = Y := Fin.ext (by dsimp only; omega)
  have h (z : Fin 32) (D : Vec Ideal S32x128 .f32) : k0_pay6 D (ix2 z l) =
      scaleOf (Finset.univ.fold max (Ideal.ofBits FTy.f32 4286578688#32) fun l' : Fin 128 => D (ix2 z l')) := by
    pointwise [k0_pay6, k0_pay5, scaleOf]
  refine (h _ _).trans ?_
  refine congrArg scaleOf (congrArg (fun f => Finset.fold max _ f _) (funext fun l' => ?_))
  pointwise
  simp only [e]

/-- A row's codes: its hidden values clipped at that scale. -/
theorem codeTurn_apply (dA : Vec Ideal S512x128 .f32) (dH : Vec Ideal S512x3584 .f32) (Y : Fin 512) (J : Fin 3584) :
    codeTurn dA dH (ix2 Y J) = codeOf (dH (ix2 Y J))
      (scaleOf (Finset.univ.fold max (Ideal.ofBits FTy.f32 4286578688#32) fun l' : Fin 128 => dA (ix2 Y l'))) := by
  have e : (⟨32 * (Y.val / 32) + Y.val % 32, by omega⟩ : Fin 512) = Y := Fin.ext (by dsimp only; omega)
  have h (z : Fin 32) (D : Vec Ideal S32x128 .f32) (H : Vec Ideal S32x3584 .f32) : k0_pay7 D H (ix2 z J) = codeOf (H (ix2 z J))
      (scaleOf (Finset.univ.fold max (Ideal.ofBits FTy.f32 4286578688#32) fun l' : Fin 128 => D (ix2 z l'))) := by
    pointwise [k0_pay7, k0_pay5, scaleOf, codeOf]
  refine (h _ _ _).trans ?_
  refine congrArg₂ codeOf ?_ (congrArg scaleOf (congrArg (fun f => Finset.fold max _ f _) (funext fun l' => ?_))) <;>
  · pointwise
    simp only [e]

variable (m : (ℓ : Loc nD τ sig) → Buf (Elt Ideal) ℓ) (hO : Ok m) (c : Dev nD)

theorem scales_apply {r : ℕ} (hr : r < 16) (Y : Fin 512) (l : Fin 128) (R : Fin 8192) (hR : R.val = 512 * r + Y.val) :
    scales m hO c r (ix2 Y l) = (inputs m c).scale R := by
  rw [scales, scaleTurn_apply, largest_eq m hO c hr Y R hR]
  rfl

theorem codes_apply {r : ℕ} (hr : r < 16) (Y : Fin 512) (J : Fin 3584) (R : Fin 8192) (hR : R.val = 512 * r + Y.val) :
    codes m hO c r (ix2 Y J) = (inputs m c).code R J := by
  rw [codes, codeTurn_apply, largest_eq m hO c hr Y R hR, hid_apply m hO c hr Y J R hR]
  rfl

/-- One entry of an output tile. -/
theorem outTile_apply (cd : Vec Ideal S512x3584 .fp8e4m3) (sc : Vec Ideal S512x128 .f32) (w2 : Vec Ideal S1x3584x512 .fp8e4m3)
    (s2 : Vec Ideal S1x1x512 .f32) (y d : Fin 512) :
    outTile cd sc w2 s2 (ix2 y d) = (∑ k, cd (ix2 y k) * w2 (ix3 0 k d)) * sc (ix2 y 0) * s2 (ix3 0 0 d) := by
  have h (f : Vec Ideal S512x1 .f32) : k0_pay8 cd w2 f s2 (ix2 y d) =
      (∑ k, cd (ix2 y k) * w2 (ix3 0 k d)) * f (ix2 y 0) * s2 (ix3 0 0 d) := by
    pointwise [k0_pay8]
  have h1 : View.ld sc (Rect.unit (s := S512x128) ![0, 0] S512x1.size inb_S512x128_S512x1_0_0) (ix2 y 0) = sc (ix2 y 0) := by
    pointwise
  rw [outTile, h, h1]

/-- The output block of a point of the second half. -/
theorem outBlock_apply (t : Fin grid0.N) (h4 : k0_cond4 (grid0.coords t) = 1#1) (y d : Fin 512) (R : Fin 8192) (D : Fin 2560)
    (hR : R.val = 512 * (t.val / 12) + y.val) (hD : D.val = 512 * (t.val % 12 - 7) + d.val) :
    outBlock m hO c t h4 (ix2 y d) = (inputs m c).out R D := by
  have ht : t.val < 192 := N_0 ▸ t.isLt
  have hr : t.val / 12 < 16 := by omega
  have h0 := coords0 t
  have h1 := coords1 t
  have hR' : R.val = (grid0.coords t 0).val * 512 + y.val := by rw [h0]; omega
  have hD' : D.val = ((grid0.coords t 1).val - 7) * 512 + d.val := by rw [h1]; omega
  refine (outTile_apply _ _ _ _ y d).trans ?_
  rw [Cert.SharedFfn.Inputs.out]
  have hw2 (k : Fin 3584) := block6 m hO c t 0 k d 0 k D rfl rfl hD'
  have hs2 := block7 m hO c t 0 0 d 0 0 D rfl rfl hD'
  simp only [hw2, hs2, codes_apply m hO c hr y _ R hR, scales_apply m hO c hr y _ R hR]

end Cert.SharedKernelIdeal.Ffn

end
-- ==== Proof.SharedArrays.lean ====
/- The shared launch's three result arrays are the formula's: every block that is written back holds the formula's entries of its place, and
   the blocks fill the arrays. -/
module

public import proofs.«01_k».proof.Proof.SharedCodes
public import proofs.«01_k».proof.Proof.SharedPoints

@[expose] public section

set_option maxRecDepth 16384

noncomputable section

namespace Cert.SharedKernelIdeal.Ffn

open Cert.SharedKernelIdeal.Gen
open Idealize.ShloMosaic Idealize.ShloMosaic.TcCoe

variable (m : (ℓ : Loc nD τ sig) → Buf (Elt Ideal) ℓ) (hO : Ok m) (c : Dev nD)

/-- The output array: a block for each row block and column block, written back by the visits 7 to 11. -/
theorem array8 : (dats m hO 0 c).arrAt 8 grid0.N = (inputs m c).outArr := by
  have e0 (t : Fin grid0.N) : (pcfg0.win (adm m hO) 8).index t 0 = (grid0.coords t 0).val := congrFun (index8 (grid0.coords t)) 0
  have e1 (t : Fin grid0.N) : (pcfg0.win (adm m hO) 8).index t 1 = (grid0.coords t 1).val - 7 := congrFun (index8 (grid0.coords t)) 1
  refine (dats m hO 0 c).arrAt_eq_of_emb 8 _ (fun (t : Fin grid0.N) hf (y : S512x512.Idx) => ?_) (fun (i : S8192x2560.Idx) => ?_)
  · have ht : t.val < 192 := N_0 ▸ t.isLt
    have h0 := coords0 t
    have h1 := coords1 t
    have hy : (y 0).val < 512 := (y 0).isLt
    have hz : (y 1).val < 512 := (y 1).isLt
    have hf' := (flush0_8 (adm m hO) t).mp hf
    have E0 : _ = (pcfg0.win (adm m hO) 8).index t 0 * 512 + (y 0).val := Pipeline.Window.rect_emb_val (pcfg0.win (adm m hO) 8) t y 0
    have E1 : _ = (pcfg0.win (adm m hO) 8).index t 1 * 512 + (y 1).val := Pipeline.Window.rect_emb_val (pcfg0.win (adm m hO) 8) t y 1
    rw [e0] at E0
    rw [e1] at E1
    rw [after0_8 m hO c t ((cond4_iff t).mpr hf')]
    blk_simp
    refine (congrArg _ (eq_ix2 y)).trans ?_
    refine (outBlock_apply m hO c t ((cond4_iff t).mpr hf') (y 0) (y 1) ⟨512 * (t.val / 12) + (y 0).val, by omega⟩
      ⟨512 * (t.val % 12 - 7) + (y 1).val, by omega⟩ rfl rfl).trans ?_
    exact congrArg₂ (inputs m c).out (Fin.ext (E0.trans (by rw [h0]; dsimp only; omega)).symm) (Fin.ext (E1.trans (by rw [h1]; dsimp only; omega)).symm)
  · have hi0 : (i 0).val < 8192 := (i 0).isLt
    have hi1 : (i 1).val < 2560 := (i 1).isLt
    have hN : 12 * ((i 0).val / 512) + 7 + (i 1).val / 512 < grid0.N := by rw [N_0]; omega
    refine ⟨⟨12 * ((i 0).val / 512) + 7 + (i 1).val / 512, hN⟩, (flush0_8 (adm m hO) _).mpr (by dsimp only; omega), ?_⟩
    refine (Pipeline.Window.emb_mem_blk_iff (pcfg0.win (adm m hO) 8) ⟨12 * ((i 0).val / 512) + 7 + (i 1).val / 512, hN⟩ i).mpr fun a => ?_
    have h0 := coords0 ⟨12 * ((i 0).val / 512) + 7 + (i 1).val / 512, hN⟩
    have h1 := coords1 ⟨12 * ((i 0).val / 512) + 7 + (i 1).val / 512, hN⟩
    dsimp only at h0 h1
    fin_cases a
    · show (pcfg0.win (adm m hO) 8).index _ 0 * 512 ≤ (i 0).val ∧ (i 0).val < (pcfg0.win (adm m hO) 8).index _ 0 * 512 + 512
      rw [e0]; omega
    · show (pcfg0.win (adm m hO) 8).index _ 1 * 512 ≤ (i 1).val ∧ (i 1).val < (pcfg0.win (adm m hO) 8).index _ 1 * 512 + 512
      rw [e1]; omega

/-- The codes: one block of 512 rows for each row block. -/
theorem array9 : (dats m hO 0 c).arrAt 9 grid0.N = (inputs m c).codeArr := by
  have e0 (t : Fin grid0.N) : (pcfg0.win (adm m hO) 9).index t 0 = (grid0.coords t 0).val := congrFun (index9 (grid0.coords t)) 0
  have e1 (t : Fin grid0.N) : (pcfg0.win (adm m hO) 9).index t 1 = 0 := congrFun (index9 (grid0.coords t)) 1
  refine (dats m hO 0 c).arrAt_eq_of_emb 9 _ (fun (t : Fin grid0.N) hf (y : S512x3584.Idx) => ?_) (fun (i : S8192x3584.Idx) => ?_)
  · have ht : t.val < 192 := N_0 ▸ t.isLt
    have h0 := coords0 t
    have hy : (y 0).val < 512 := (y 0).isLt
    have E0 : _ = (pcfg0.win (adm m hO) 9).index t 0 * 512 + (y 0).val := Pipeline.Window.rect_emb_val (pcfg0.win (adm m hO) 9) t y 0
    have E1 : _ = (pcfg0.win (adm m hO) 9).index t 1 * 3584 + (y 1).val := Pipeline.Window.rect_emb_val (pcfg0.win (adm m hO) 9) t y 1
    rw [e0] at E0
    rw [e1] at E1
    rw [after0_9]
    blk_simp
    refine (congrArg _ (eq_ix2 y)).trans ?_
    refine (codes_apply m hO c (r := t.val / 12) (by omega) (y 0) (y 1) ⟨512 * (t.val / 12) + (y 0).val, by omega⟩ rfl).trans ?_
    exact congrArg₂ (inputs m c).code (Fin.ext (E0.trans (by rw [h0]; dsimp only; omega)).symm) (Fin.ext (E1.trans (by omega)).symm)
  · have hi0 : (i 0).val < 8192 := (i 0).isLt
    have hi1 : (i 1).val < 3584 := (i 1).isLt
    have hN : 12 * ((i 0).val / 512) + 11 < grid0.N := by rw [N_0]; omega
    refine ⟨⟨12 * ((i 0).val / 512) + 11, hN⟩, (flush0_9 (adm m hO) _).mpr (by dsimp only; omega), ?_⟩
    refine (Pipeline.Window.emb_mem_blk_iff (pcfg0.win (adm m hO) 9) ⟨12 * ((i 0).val / 512) + 11, hN⟩ i).mpr fun a => ?_
    have h0 := coords0 ⟨12 * ((i 0).val / 512) + 11, hN⟩
    dsimp only at h0
    fin_cases a
    · show (pcfg0.win (adm m hO) 9).index _ 0 * 512 ≤ (i 0).val ∧ (i 0).val < (pcfg0.win (adm m hO) 9).index _ 0 * 512 + 512
      rw [e0]; omega
    · show (pcfg0.win (adm m hO) 9).index _ 1 * 3584 ≤ (i 1).val ∧ (i 1).val < (pcfg0.win (adm m hO) 9).index _ 1 * 3584 + 3584
      rw [e1]; omega

/-- The scales, in all 128 lanes. -/
theorem array10 : (dats m hO 0 c).arrAt 10 grid0.N = (inputs m c).scaleArr := by
  have e0 (t : Fin grid0.N) : (pcfg0.win (adm m hO) 10).index t 0 = (grid0.coords t 0).val := congrFun (index10 (grid0.coords t)) 0
  have e1 (t : Fin grid0.N) : (pcfg0.win (adm m hO) 10).index t 1 = 0 := congrFun (index10 (grid0.coords t)) 1
  refine (dats m hO 0 c).arrAt_eq_of_emb 10 _ (fun (t : Fin grid0.N) hf (y : S512x128.Idx) => ?_) (fun (i : S8192x128.Idx) => ?_)
  · have ht : t.val < 192 := N_0 ▸ t.isLt
    have h0 := coords0 t
    have hy : (y 0).val < 512 := (y 0).isLt
    have E0 : _ = (pcfg0.win (adm m hO) 10).index t 0 * 512 + (y 0).val := Pipeline.Window.rect_emb_val (pcfg0.win (adm m hO) 10) t y 0
    have E1 : _ = (pcfg0.win (adm m hO) 10).index t 1 * 128 + (y 1).val := Pipeline.Window.rect_emb_val (pcfg0.win (adm m hO) 10) t y 1
    rw [e0] at E0
    rw [e1] at E1
    rw [after0_10]
    blk_simp
    refine (congrArg _ (eq_ix2 y)).trans ?_
    refine (scales_apply m hO c (r := t.val / 12) (by omega) (y 0) (y 1) ⟨512 * (t.val / 12) + (y 0).val, by omega⟩ rfl).trans ?_
    exact congrArg (inputs m c).scale (Fin.ext (E0.trans (by rw [h0]; dsimp only; omega)).symm)
  · have hi0 : (i 0).val < 8192 := (i 0).isLt
    have hi1 : (i 1).val < 128 := (i 1).isLt
    have hN : 12 * ((i 0).val / 512) + 11 < grid0.N := by rw [N_0]; omega
    refine ⟨⟨12 * ((i 0).val / 512) + 11, hN⟩, (flush0_10 (adm m hO) _).mpr (by dsimp only; omega), ?_⟩
    refine (Pipeline.Window.emb_mem_blk_iff (pcfg0.win (adm m hO) 10) ⟨12 * ((i 0).val / 512) + 11, hN⟩ i).mpr fun a => ?_
    have h0 := coords0 ⟨12 * ((i 0).val / 512) + 11, hN⟩
    dsimp only at h0
    fin_cases a
    · show (pcfg0.win (adm m hO) 10).index _ 0 * 512 ≤ (i 0).val ∧ (i 0).val < (pcfg0.win (adm m hO) 10).index _ 0 * 512 + 512
      rw [e0]; omega
    · show (pcfg0.win (adm m hO) 10).index _ 1 * 128 ≤ (i 1).val ∧ (i 1).val < (pcfg0.win (adm m hO) 10).index _ 1 * 128 + 128
      rw [e1]; omega

end Cert.SharedKernelIdeal.Ffn

end
-- ==== Proof.SharedReference.lean ====
/- The shared reference's arithmetic, entry by entry (the hidden values, a row's scale, its codes and its output row), and with it its
   three result arrays: they are the formula's. -/
module

public import proofs.«01_k».proof.Defs
public import proofs.«01_k».proof.Proof.SharedSpec
public import proofs.«01_k».proof.Proof.Gen.SharedReferenceIdeal.Frame
public import proofs.«01_k».proof.Proof.Gen.SharedReferenceIdeal.Value

@[expose] public section

set_option maxRecDepth 16384

noncomputable section

namespace Cert.SharedReferenceIdeal.Ffn

open Cert.SharedReferenceIdeal Cert.SharedReferenceIdeal.Gen Cert.SharedReferenceIdeal.Value Cert.SharedFfn
open Cert.Ffn.Inputs (scaleOf codeOf)
open Idealize.ShloMosaic Idealize.ShloMosaic.TcCoe

theorem pay4_apply (x : Vec Ideal S8192x2560 .fp8e4m3) (xs : Vec Ideal S8192x1 .f32) (w1 : Vec Ideal S1x2560x3584 .fp8e4m3) (s1 : Vec Ideal S1x1x3584 .f32)
    (w3 : Vec Ideal S1x2560x3584 .fp8e4m3) (s3 : Vec Ideal S1x1x3584 .f32) (z : Fin 8192) (j : Fin 3584) : k0_pay4 x xs w1 s1 w3 s3 (ix2 z j) =
      (∑ k, x (ix2 z k) * w1 (ix3 0 k j)) * xs (ix2 z 0) * s1 (ix3 0 0 j) *
        Ideal.logistic ((∑ k, x (ix2 z k) * w1 (ix3 0 k j)) * xs (ix2 z 0) * s1 (ix3 0 0 j)) *
        ((∑ k, x (ix2 z k) * w3 (ix3 0 k j)) * xs (ix2 z 0) * s3 (ix3 0 0 j)) := by
  pointwise [k0_pay4]

/-- A row's largest absolute value, in the one column that holds it. -/
theorem amax_apply (h : FVec Ideal S8192x3584 .f32) (z : Fin 8192) :
    shapeCast S8192x1 (multiReduction .maximumf [1] S8192 (absf h) 0xFF800000#32 reduces_S8192x3584_S8192 (.inl rfl) rfl) shapeCasts_S8192_S8192x1 (ix2 z 0) =
      Finset.univ.fold max (Ideal.ofBits FTy.f32 4286578688#32) fun j : Fin 3584 => FloatOps.absf (F := Ideal) (φ := .f32) (h (ix2 z j)) := by
  pointwise

/-- A row's scale from its largest absolute value. -/
theorem scaleOf_apply (g : FVec Ideal S8192x1 .f32) (z : Fin 8192) :
    select (cmpf .oeq g (broadcast S8192x1 (Scalar.ofBits .f32 0x00000000#32))) (broadcast S8192x1 (Scalar.ofBits .f32 0x3F800000#32))
      (divf g (broadcast S8192x1 (Scalar.ofBits .f32 0x43E00000#32))) (ix2 z 0) = scaleOf (g (ix2 z 0)) := by
  pointwise [scaleOf]

/-- A row's scale, from its hidden values. -/
theorem pay5_apply (x : Vec Ideal S8192x2560 .fp8e4m3) (xs : Vec Ideal S8192x1 .f32) (w1 : Vec Ideal S1x2560x3584 .fp8e4m3) (s1 : Vec Ideal S1x1x3584 .f32)
    (w3 : Vec Ideal S1x2560x3584 .fp8e4m3) (s3 : Vec Ideal S1x1x3584 .f32) (z : Fin 8192) :
    k0_pay5 x xs w1 s1 w3 s3 (ix2 z 0) = scaleOf (Finset.univ.fold max (Ideal.ofBits FTy.f32 4286578688#32) fun j : Fin 3584 =>
        FloatOps.absf (F := Ideal) (φ := .f32) (k0_pay4 x xs w1 s1 w3 s3 (ix2 z j))) :=
  (scaleOf_apply (shapeCast S8192x1 (multiReduction .maximumf [1] S8192 (absf (k0_pay4 x xs w1 s1 w3 s3)) 0xFF800000#32 reduces_S8192x3584_S8192 (.inl rfl) rfl)
    shapeCasts_S8192_S8192x1) z).trans (congrArg scaleOf (amax_apply (k0_pay4 x xs w1 s1 w3 s3) z))

theorem pay2_apply (g : FVec Ideal S8192x1 .f32) (z : Fin 8192) (l : Fin 128) : k0_pay2 g (ix2 z l) = g (ix2 z 0) := by
  pointwise [k0_pay2]

/-- A code from a value and its row's scale: the quotient clipped. -/
theorem codeOf_apply (h : FVec Ideal S8192x3584 .f32) (g : FVec Ideal S8192x1 .f32) (z : Fin 8192) (j : Fin 3584) :
    k0_pay1 (Scalar.ofBits .f32 0x43E00000#32) (maximumf (broadcast S8192x3584 (Scalar.ofBits .f32 0xC3E00000#32))
      (divf h (broadcastTo S8192x3584 g broadcasts_S8192x1_S8192x3584))) (ix2 z j) = codeOf (h (ix2 z j)) (g (ix2 z 0)) := by
  pointwise [k0_pay1, codeOf]

/-- A row's codes: its hidden values over its scale, clipped. -/
theorem pay1_apply (x : Vec Ideal S8192x2560 .fp8e4m3) (xs : Vec Ideal S8192x1 .f32) (w1 : Vec Ideal S1x2560x3584 .fp8e4m3) (s1 : Vec Ideal S1x1x3584 .f32)
    (w3 : Vec Ideal S1x2560x3584 .fp8e4m3) (s3 : Vec Ideal S1x1x3584 .f32) (z : Fin 8192) (j : Fin 3584) :
    k0_pay1 (Scalar.ofBits .f32 0x43E00000#32) (k0_pay6 x xs w1 s1 w3 s3) (ix2 z j) =
      codeOf (k0_pay4 x xs w1 s1 w3 s3 (ix2 z j)) (k0_pay5 x xs w1 s1 w3 s3 (ix2 z 0)) :=
  codeOf_apply (k0_pay4 x xs w1 s1 w3 s3) (k0_pay5 x xs w1 s1 w3 s3) z j

theorem pay3_apply (g : FVec Ideal S8192x1 .f32) (b : Ideal .f32) (q : FVec Ideal S8192x3584 .f32) (w2 : Vec Ideal S1x3584x2560 .fp8e4m3)
    (s2 : Vec Ideal S1x1x2560 .f32) (z : Fin 8192) (d : Fin 2560) : k0_pay3 g b q w2 s2 (ix2 z d) =
      (∑ j, k0_pay1 b q (ix2 z j) * w2 (ix3 0 j d)) * g (ix2 z 0) * s2 (ix3 0 0 d) := by
  unfold k0_pay3
  generalize k0_pay1 b q = p
  pointwise

section arrays

variable (I : Inputs)

/-- The loads of whole arrays, and of the scales' first lane. -/
theorem load_lane (R : Fin 8192) : View.ld I.xs r0_1 (ix2 R 0) = I.xs (ix2 R 0) := by
  pointwise

theorem hidden_apply (R : Fin 8192) (j : Fin 3584) :
    k0_pay4 (View.ld I.x r0_0) (View.ld I.xs r0_1) (View.ld I.w1 r0_2) (View.ld I.s1 r0_3) (View.ld I.w3 r0_2) (View.ld I.s3 r0_3) (ix2 R j) =
      I.hidden R j := by
  rw [pay4_apply, load_lane, View.ld_unit_zero (S := S8192x2560) hz0 _ I.x, View.ld_unit_zero (S := S1x2560x3584) hz2 _ I.w1,
    View.ld_unit_zero (S := S1x1x3584) hz3 _ I.s1, View.ld_unit_zero (S := S1x2560x3584) hz2 _ I.w3, View.ld_unit_zero (S := S1x1x3584) hz3 _ I.s3]
  rfl

theorem rowScale_apply (R : Fin 8192) : k0_pay7 I.x I.xs I.w1 I.s1 I.w3 I.s3 I.w2 I.s2 (ix2 R 0) = I.scale R := by
  unfold k0_pay7
  rw [pay5_apply]
  simp only [hidden_apply]
  rfl

theorem rowCodes_apply (R : Fin 8192) (j : Fin 3584) :
    k0_pay1 (Scalar.ofBits .f32 0x43E00000#32) (k0_pay8 I.x I.xs I.w1 I.s1 I.w3 I.s3 I.w2 I.s2) (ix2 R j) = I.code R j := by
  unfold k0_pay8
  rw [pay1_apply, pay5_apply]
  simp only [hidden_apply]
  rfl

theorem out_apply (R : Fin 8192) (d : Fin 2560) : G8 I.x I.xs I.w1 I.s1 I.w3 I.s3 I.w2 I.s2 (ix2 R d) = I.out R d := by
  refine (pay3_apply _ _ _ _ _ _ _).trans ?_
  rw [rowScale_apply]
  simp only [rowCodes_apply]
  rfl

theorem out_eq : G8 I.x I.xs I.w1 I.s1 I.w3 I.s3 I.w2 I.s2 = I.outArr := by
  funext y
  rw [eq_ix2 y]
  exact out_apply I _ _

theorem code_eq : G9 I.x I.xs I.w1 I.s1 I.w3 I.s3 I.w2 I.s2 = I.codeArr := by
  funext y
  rw [eq_ix2 y]
  exact rowCodes_apply I _ _

theorem scale_eq : G10 I.x I.xs I.w1 I.s1 I.w3 I.s3 I.w2 I.s2 = I.scaleArr := by
  funext y
  rw [eq_ix2 y]
  exact (pay2_apply _ _ _).trans (rowScale_apply I _)

end arrays

/-- The launch's arrays on device `c`. -/
def inputs (m : (ℓ : Loc nD τ sig) → Buf (Elt Ideal) ℓ) (c : Dev nD) : Inputs where
  x := m ((c : Thread nD τ).loc main_arg0)
  xs := m ((c : Thread nD τ).loc main_arg1)
  w1 := m ((c : Thread nD τ).loc main_arg2)
  s1 := m ((c : Thread nD τ).loc main_arg3)
  w3 := m ((c : Thread nD τ).loc main_arg4)
  s3 := m ((c : Thread nD τ).loc main_arg5)
  w2 := m ((c : Thread nD τ).loc main_arg6)
  s2 := m ((c : Thread nD τ).loc main_arg7)

/-- The shared reference's frame. -/
theorem frame_reference : Cert.quiescent_SharedReferenceIdeal := fun m ρ _ => Cert.SharedReferenceIdeal.Gen.frame m ρ

end Cert.SharedReferenceIdeal.Ffn

end
-- ==== Proof.SharedEquation.lean ====
/- The two shared launches end with the same three arrays: each program's are the formula's of its own inputs, and the inputs agree. -/
module

public import proofs.«01_k».proof.Proof.SharedArrays
public import proofs.«01_k».proof.Proof.SharedFrame
public import proofs.«01_k».proof.Proof.SharedReference

@[expose] public section

set_option maxRecDepth 16384

noncomputable section

namespace Cert.SharedKernelIdeal.Ffn

open Cert.SharedKernelIdeal.Gen
open Idealize.ShloMosaic Idealize.ShloMosaic.TcCoe Idealize.SL.Sem

/-- The kernel's run: the three results are the formula's arrays. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (inputs m c).outArr
      ∧ r.2.mem ((c.tc : Thread nD τ).loc main_v1_1) = (inputs m c).codeArr
      ∧ r.2.mem ((c.tc : Thread nD τ).loc main_v1_2) = (inputs m c).scaleArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 8).trans (array8 m (ok m) c), ((h.1 c).1 9).trans (array9 m (ok m) c),
    ((h.1 c).1 10).trans (array10 m (ok m) c), args_of m (ok m) h.1 c⟩) (run_main m ρ (ok m))

end Cert.SharedKernelIdeal.Ffn

namespace Cert.Proof.Shared

open Idealize.ShloMosaic Idealize.ShloMosaic.TcCoe Idealize.SL.Sem

/-- Over the extended reals the shared kernel and its reference end with equal results: outputs, codes and scales. -/
theorem algebraic : Cert.algebraic_SharedKernelIdeal_SharedReferenceIdeal := by
  intro m g m' g' hp hm
  have hI : ∀ c : Dev Cert.SharedKernelIdeal.nD, Cert.SharedReferenceIdeal.Ffn.inputs m' c = Cert.SharedKernelIdeal.Ffn.inputs m c := fun c => by
    obtain ⟨h0, h1, h2, h3, h4, h5, h6, h7⟩ := hm c
    unfold Cert.SharedReferenceIdeal.Ffn.inputs Cert.SharedKernelIdeal.Ffn.inputs
    congr 1
  refine ⟨fun c => (Cert.SharedKernelIdeal.Ffn.inputs m c).outArr, fun c => (Cert.SharedKernelIdeal.Ffn.inputs m c).codeArr,
    fun c => (Cert.SharedKernelIdeal.Ffn.inputs m c).scaleArr, Cert.SharedKernelIdeal.Ffn.run_value m g, ?_⟩
  refine (θ_run Cert.SharedReferenceIdeal.defs _ _).mono (fun r h c => ?_) (Cert.SharedReferenceIdeal.Value.run m' g')
  obtain ⟨h0, h1, h2, ha⟩ := h c
  exact ⟨(h0.trans (Cert.SharedReferenceIdeal.Ffn.out_eq (Cert.SharedReferenceIdeal.Ffn.inputs m' c))).trans (congrArg Cert.SharedFfn.Inputs.outArr (hI c)),
    (h1.trans (Cert.SharedReferenceIdeal.Ffn.code_eq (Cert.SharedReferenceIdeal.Ffn.inputs m' c))).trans (congrArg Cert.SharedFfn.Inputs.codeArr (hI c)),
    (h2.trans (Cert.SharedReferenceIdeal.Ffn.scale_eq (Cert.SharedReferenceIdeal.Ffn.inputs m' c))).trans (congrArg Cert.SharedFfn.Inputs.scaleArr (hI c)), ha⟩

end Cert.Proof.Shared

end
-- ==== Proof.TextKit.lean ====
/-
  What the proof of the text feed-forward kernel shares: the kernel's `@main` up to its one region, the table of zeros the host makes,
  each input window's block at a grid point, the staging and scratch memrefs the body is called on, and the schedule of the output
  windows.
-/
module

public import proofs.«01_k».proof.Proof.Gen.TextKernelIdeal.Launch
public import proofs.«01_k».proof.Proof.Gen.TextKernelIdeal.Skeleton
public import proofs.«01_k».proof.Proof.Gen.TextKernelIdeal.Loops
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the two host operations that make the table. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

set_option maxHeartbeats 800000 in
/-- @main up to the region, at the certificate's variants `𝒱₀`: the host operations, then the region (`Pipeline.hmainP_prefix` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that neither host operation writes is found as launched. -/
theorem V_of_ne (c : Dev nD) (b : Ref sig .tc) (h0 : b ≠ main_c) (h1 : b ≠ main_v0) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, Finset.mem_singleton]
    exact ⟨StableHlo.devRef_ne_of_ne h0, StableHlo.devRef_ne_of_ne h1⟩))

theorem V_main_arg0 (c : Dev nD) : V m c main_arg0 = m ((c : Thread nD τ).loc main_arg0) := V_of_ne m c _ (by decide) (by decide)
theorem V_main_arg1 (c : Dev nD) : V m c main_arg1 = m ((c : Thread nD τ).loc main_arg1) := V_of_ne m c _ (by decide) (by decide)
theorem V_main_arg2 (c : Dev nD) : V m c main_arg2 = m ((c : Thread nD τ).loc main_arg2) := V_of_ne m c _ (by decide) (by decide)
theorem V_main_arg3 (c : Dev nD) : V m c main_arg3 = m ((c : Thread nD τ).loc main_arg3) := V_of_ne m c _ (by decide) (by decide)
theorem V_main_arg4 (c : Dev nD) : V m c main_arg4 = m ((c : Thread nD τ).loc main_arg4) := V_of_ne m c _ (by decide) (by decide)
theorem V_main_arg5 (c : Dev nD) : V m c main_arg5 = m ((c : Thread nD τ).loc main_arg5) := V_of_ne m c _ (by decide) (by decide)
theorem V_main_arg6 (c : Dev nD) : V m c main_arg6 = m ((c : Thread nD τ).loc main_arg6) := V_of_ne m c _ (by decide) (by decide)
theorem V_main_arg7 (c : Dev nD) : V m c main_arg7 = m ((c : Thread nD τ).loc main_arg7) := V_of_ne m c _ (by decide) (by decide)
theorem V_main_arg8 (c : Dev nD) : V m c main_arg8 = m ((c : Thread nD τ).loc main_arg8) := V_of_ne m c _ (by decide) (by decide)
theorem V_main_arg9 (c : Dev nD) : V m c main_arg9 = m ((c : Thread nD τ).loc main_arg9) := V_of_ne m c _ (by decide) (by decide)

/-! ## The prefetched table -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). It holds at
    every launch, as the host writes zeros (TextTable.lean). -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_v0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window `w`'s staging buffer holds its block at every point, fetched there or not, for any proof data over the launch
    arrays whose body leaves the block in place; one lemma for each of the ten input windows. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`). -/
abbrev ms0_0 (hO : Ok m) (t : Fin (cfgM m hO).N) : Memref sig .tc .vmem S256x2560 .fp8e4m3 := spec0_0.stage ((cfgM m hO).slots t 0)
abbrev ms0_1 (hO : Ok m) (t : Fin (cfgM m hO).N) : Memref sig .tc .vmem S256x128 .f32 := spec0_1.stage ((cfgM m hO).slots t 1)
abbrev ms0_2 (hO : Ok m) (t : Fin (cfgM m hO).N) : Memref sig .tc .vmem S1x2560x768 .fp8e4m3 := spec0_2.stage ((cfgM m hO).slots t 2)
abbrev ms0_3 (hO : Ok m) (t : Fin (cfgM m hO).N) : Memref sig .tc .vmem S1x1x768 .f32 := spec0_3.stage ((cfgM m hO).slots t 3)
abbrev ms0_4 (hO : Ok m) (t : Fin (cfgM m hO).N) : Memref sig .tc .vmem S1x2560x768 .fp8e4m3 := spec0_4.stage ((cfgM m hO).slots t 4)
abbrev ms0_5 (hO : Ok m) (t : Fin (cfgM m hO).N) : Memref sig .tc .vmem S1x1x768 .f32 := spec0_5.stage ((cfgM m hO).slots t 5)
abbrev ms0_6 (hO : Ok m) (t : Fin (cfgM m hO).N) : Memref sig .tc .vmem S1x6912x512 .fp8e4m3 := spec0_6.stage ((cfgM m hO).slots t 6)
abbrev ms0_7 (hO : Ok m) (t : Fin (cfgM m hO).N) : Memref sig .tc .vmem S1x1x512 .f32 := spec0_7.stage ((cfgM m hO).slots t 7)
abbrev ms0_8 (hO : Ok m) (t : Fin (cfgM m hO).N) : Memref sig .tc .vmem S256x512 .f32 := spec0_8.stage ((cfgM m hO).slots t 8)
abbrev ms0_9 (hO : Ok m) (t : Fin (cfgM m hO).N) : Memref sig .tc .vmem S12x8x512 .f32 := spec0_9.stage ((cfgM m hO).slots t 9)
abbrev ms0_10 (hO : Ok m) (t : Fin (cfgM m hO).N) : Memref sig .tc .vmem S256x512 .bf16 := spec0_10.stage ((cfgM m hO).slots t 10)
abbrev ms0_11 (hO : Ok m) (t : Fin (cfgM m hO).N) : Memref sig .tc .vmem S256x6912 .fp8e4m3 := spec0_11.stage ((cfgM m hO).slots t 11)
abbrev ms0_12 (hO : Ok m) (t : Fin (cfgM m hO).N) : Memref sig .tc .vmem S256x128 .f32 := spec0_12.stage ((cfgM m hO).slots t 12)
/-- The scratch operands: whole scoped buffers of the kernel's own, passed beside the windows. -/
abbrev scM0_0 : Memref sig .tc .vmem S256x6912 .f32 := Memref.whole cc0_scratch0
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The schedule of the outputs and the body at a point -/

/-- Window 11 (result 1 (%1#1)) is written back at the points ≡ 13 (mod 14), at any contents of the tables (its index map reads none). -/
theorem flush0_11 (a : (pcfg0 (F := F)).Adm) : ∀ t : Fin (cfg0 a).N, ((cfg0 a).win 11).flush t = true ↔ t.val % 14 = 13 :=
  (fun t => Pipeline.Window.flushOf_reads cc0_transform_11 reads0_11 hreads0_11 0 (by decide) (by decide) (Pipeline.Window.sep_of_coord cc0_transform_11 0 0 (fun _ => rfl) (by decide)) (P := 14) (m := 13) (by decide) rfl t : ∀ t : Fin grid0.N, Pipeline.Window.flushOf grid0 true cc0_transform_11 t = true ↔ t.val % 14 = 13)
/-- Window 12 (result 2 (%1#2)) is written back at the points ≡ 13 (mod 14), at any contents of the tables (its index map reads none). -/
theorem flush0_12 (a : (pcfg0 (F := F)).Adm) : ∀ t : Fin (cfg0 a).N, ((cfg0 a).win 12).flush t = true ↔ t.val % 14 = 13 :=
  (fun t => Pipeline.Window.flushOf_reads cc0_transform_12 reads0_12 hreads0_12 0 (by decide) (by decide) (Pipeline.Window.sep_of_coord cc0_transform_12 0 0 (fun _ => rfl) (by decide)) (P := 14) (m := 13) (by decide) rfl t : ∀ t : Fin grid0.N, Pipeline.Window.flushOf grid0 true cc0_transform_12 t = true ↔ t.val % 14 = 13)

/-- Window 10 (the output tile) is written back at the points of the second half of a row block's fourteen (the down projection). -/
theorem flush0_10 (a : (pcfg0 (F := F)).Adm) : ∀ t : Fin (cfg0 a).N, ((cfg0 a).win 10).flush t = true ↔ 9 ≤ t.val % 14 :=
  (by decide +kernel : ∀ t : Fin grid0.N, Pipeline.Window.flushOf grid0 true cc0_transform_10 t = true ↔ 9 ≤ t.val % 14)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _)

end Cert.TextKernelIdeal.Ffn

end
-- ==== Proof.TextTile.lean ====
/-
  What one visit of the kernel's body computes, as functions of the blocks it reads: the 256 x 256 tiles of silu(gate) * up, the
  running maximum of their absolute values, the rows' scales and codes, and how a list of writes into the scratch is read back.
-/
module

public import proofs.«01_k».proof.Proof.TextKit
public import Idealize.ShloMosaic.Lib.WritesUnit
public import Idealize.ShloMosaic.Lib.ValueIdxCoords
public import Idealize.ShloMosaic.Lib.Pipeline.RowLoads

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The first half: tiles of the hidden rows -/

theorem inb_rows : ∀ a : Fin 2, (![0, 0] : Fin 2 → Nat) a + S256x2560.size a ≤ S256x2560.size a := by decide
theorem inb_scale : ∀ a : Fin 2, (![0, 0] : Fin 2 → Nat) a + S256x1.size a ≤ S256x128.size a := by decide
theorem inb_cols (n : Fin 3) : ∀ a : Fin 3, (![0, 0, 256 * n.val] : Fin 3 → Nat) a + S1x2560x256.size a ≤ S1x2560x768.size a := by
  revert n; decide
theorem inb_colScale (n : Fin 3) : ∀ a : Fin 3, (![0, 0, 256 * n.val] : Fin 3 → Nat) a + S1x1x256.size a ≤ S1x1x768.size a := by
  revert n; decide

variable (x : Vec F S256x2560 .fp8e4m3) (xs : Vec F S256x128 .f32) (w1 : Vec F S1x2560x768 .fp8e4m3) (s1 : Vec F S1x1x768 .f32)
  (w3 : Vec F S1x2560x768 .fp8e4m3) (s3 : Vec F S1x1x768 .f32)

/-- The tile of silu(gate) * up at the `n`-th 256 columns of the up-projection's slab. -/
def tile (n : Fin 3) : FVec F S256x256 .f32 :=
  k0_pay9 (View.ld x (Rect.unit (s := S256x2560) ![0, 0] S256x2560.size inb_rows))
    (View.ld w1 (Rect.unit (s := S1x2560x768) ![0, 0, 256 * n.val] S1x2560x256.size (inb_cols n)))
    (View.ld xs (Rect.unit (s := S256x128) ![0, 0] S256x1.size inb_scale))
    (View.ld s1 (Rect.unit (s := S1x1x768) ![0, 0, 256 * n.val] S1x1x256.size (inb_colScale n)))
    (View.ld x (Rect.unit (s := S256x2560) ![0, 0] S256x2560.size inb_rows))
    (View.ld w3 (Rect.unit (s := S1x2560x768) ![0, 0, 256 * n.val] S1x2560x256.size (inb_cols n)))
    (View.ld xs (Rect.unit (s := S256x128) ![0, 0] S256x1.size inb_scale))
    (View.ld s3 (Rect.unit (s := S1x1x768) ![0, 0, 256 * n.val] S1x1x256.size (inb_colScale n)))

/-- The running maximum after one more tile `h`: lane `l` takes in |h| at columns `l` and `128 + l`. -/
def amaxTile (h : FVec F S256x256 .f32) (v : Vec F S256x128 .f32) : Vec F S256x128 .f32 := k0_pay12 (absf h) v

/-- The running maximum after a visit's three tiles, from `dA` before it. -/
def amaxUp (dA : Vec F S256x128 .f32) : Vec F S256x128 .f32 :=
  amaxTile (tile x xs w1 s1 w3 s3 2) (amaxTile (tile x xs w1 s1 w3 s3 1) (amaxTile (tile x xs w1 s1 w3 s3 0) dA))

/-- The hidden scratch after visit `s` of a row block: the slab of 768 columns from column `768 * s` made of the three tiles `T`, the
    rest as `d` had it. -/
def paste (s : Nat) (T : Fin 3 → FVec F S256x256 .f32) (d : Vec F S256x6912 .f32) : Vec F S256x6912 .f32 := fun y =>
  if h : 768 * s ≤ (y 1).val ∧ (y 1).val < 768 * s + 768 then
    T ⟨((y 1).val - 768 * s) / 256, by omega⟩ (ix2 (n0 := 256) (n1 := 256) (y 0) ⟨((y 1).val - 768 * s) % 256, by omega⟩)
  else d y

/-! ## The body's spellings of a tile

The body spells the three tiles and the three updates of the running maximum each in its own names; all are `k0_pay9` and `amaxTile`. -/

section Spellings

variable (a : Vec F S256x2560 .fp8e4m3) (b : Vec F S1x2560x256 .fp8e4m3) (c : Vec F S256x1 .f32) (d : Vec F S1x1x256 .f32)
  (e : Vec F S256x2560 .fp8e4m3) (f : Vec F S1x2560x256 .fp8e4m3) (g : Vec F S256x1 .f32) (h : Vec F S1x1x256 .f32) (t : FVec F S256x256 .f32)
  (v : Vec F S256x128 .f32)

theorem pay10_eq : k0_pay10 a b c d e f g h = k0_pay9 a b c d e f g h := shapeCast_self _ _
theorem pay13_eq : k0_pay13 a b c d e f g h = k0_pay9 a b c d e f g h := rfl
theorem pay14_eq : k0_pay14 t = t := shapeCast_self _ _
theorem pay3_eq : k0_pay3 (k0_pay16 a b c d) (k0_pay17 e f) (k0_pay18 g) h = k0_pay9 a b c d e f g h := shapeCast_self _ _
theorem pay12_eq : k0_pay12 (k0_pay11 a b c d e f g h) v = amaxTile (k0_pay9 a b c d e f g h) v := rfl
theorem pay15_eq : k0_pay15 t v = amaxTile t v := rfl
theorem pay4_eq : k0_pay4 (k0_pay16 a b c d) (k0_pay17 e f) (k0_pay18 g) h v = amaxTile (k0_pay9 a b c d e f g h) v := rfl

end Spellings

/-! ## Reading back a list of writes -/

section Reads

variable {sig' : RefSig} {κ : Kind} {sp : Space}

/-- What a store over a whole buffer leaves. -/
theorem read_whole {S : Shape} {e : EltTy} {Val : EltTy → Type} (v : View sig' κ sp S e) (f : v.ty.Contents Val) {off : Fin S.rank → Nat}
    (hz : off = fun _ => 0) (inb : ∀ a, off a + S.size a ≤ S.size a) (w : S.Idx → Val e) (L : List (View.Piece Val S e)) :
    v.read Val (v.writes Val f (⟨Rect.unit off S.size inb, w⟩ :: L)) = w := by
  subst hz
  funext y
  exact View.read_writes_cons_unit_of_mem v f inb w L y y rfl fun a => (Nat.zero_add _).symm

/-- A load through rectangles at equal offsets. -/
theorem ld_unit_congr {S : Shape} {e : EltTy} {Val : EltTy → Type} (X : S.Idx → Val e) {off off' size : Fin S.rank → Nat} (h : off = off')
    (inb : ∀ a, off a + size a ≤ S.size a) (inb' : ∀ a, off' a + size a ≤ S.size a) :
    View.ld X (Rect.unit off size inb) = View.ld X (Rect.unit off' size inb') := by
  subst h; rfl

/-- What a load through a rectangle reads right after a store through the same rectangle: the stored value. -/
theorem readCov_hit {S : Shape} {e : EltTy} {Val : EltTy → Type} [∀ e, Nonempty (Val e)] (v : View sig' κ sp S e) (r : Rect S)
    (w : r.shape.Idx → Val e) (L : List (View.Piece Val S e)) : v.readCov (⟨r, w⟩ :: L) r.toLoadRect = w := by
  funext j
  exact View.read_writes_cons_emb v v.junk r w L j

/-- One 256 x 256 tile of a list of writes into the hidden scratch, read at a place: the tile there if it holds the place. -/
theorem read_cons_tile (v : View sig' κ sp S256x6912 .f32) (f : v.ty.Contents (Elt F)) {off : Fin 2 → Nat} {a b : Nat} (hoff : off = ![a, b])
    (inb : ∀ k, off k + S256x256.size k ≤ S256x6912.size k) (w : S256x256.Idx → Elt F .f32) (L : List (View.Piece (Elt F) S256x6912 .f32))
    (y : S256x6912.Idx) :
    v.read (Elt F) (v.writes (Elt F) f (⟨Rect.unit (s := S256x6912) off S256x256.size inb, w⟩ :: L)) y
      = if h : (a ≤ (y 0).val ∧ (y 0).val < a + 256) ∧ (b ≤ (y 1).val ∧ (y 1).val < b + 256) then
          w (ix2 (n0 := 256) (n1 := 256) ⟨(y 0).val - a, by omega⟩ ⟨(y 1).val - b, by omega⟩)
        else v.read (Elt F) (v.writes (Elt F) f L) y := by
  split
  · next h =>
    refine View.read_writes_cons_unit_of_mem v f inb w L y
      (ix2 (n0 := 256) (n1 := 256) ⟨(y 0).val - a, by omega⟩ ⟨(y 1).val - b, by omega⟩) hoff (Fin.forall_fin_two.mpr ⟨?_, ?_⟩)
    · show (y 0).val = a + ((y 0).val - a); omega
    · show (y 1).val = b + ((y 1).val - b); omega
  · next h =>
    by_cases h0 : a ≤ (y 0).val ∧ (y 0).val < a + 256
    · refine View.read_writes_cons_unit_of_not_mem v f inb w L y hoff 1 ?_
      show (y 1).val < b ∨ b + 256 ≤ (y 1).val
      omega
    · refine View.read_writes_cons_unit_of_not_mem v f inb w L y hoff 0 ?_
      show (y 0).val < a ∨ a + 256 ≤ (y 0).val
      omega

/-- The three tiles of visit `s` written into the hidden scratch, read back. -/
theorem read_three (v : View sig' κ sp S256x6912 .f32) (f : v.ty.Contents (Elt F)) (s : Nat) (T : Fin 3 → FVec F S256x256 .f32)
    {o0 o1 o2 : Fin 2 → Nat} (h0 : o0 = ![0, 768 * s + 256 * 0]) (h1 : o1 = ![0, 768 * s + 256 * 1]) (h2 : o2 = ![0, 768 * s + 256 * 2])
    (i0 : ∀ k, o0 k + S256x256.size k ≤ S256x6912.size k) (i1 : ∀ k, o1 k + S256x256.size k ≤ S256x6912.size k)
    (i2 : ∀ k, o2 k + S256x256.size k ≤ S256x6912.size k)
    {w0 w1 w2 : S256x256.Idx → Elt F .f32} (e0 : w0 = T 0) (e1 : w1 = T 1) (e2 : w2 = T 2) :
    v.read (Elt F) (v.writes (Elt F) f [⟨Rect.unit (s := S256x6912) o2 S256x256.size i2, w2⟩,
      ⟨Rect.unit (s := S256x6912) o1 S256x256.size i1, w1⟩, ⟨Rect.unit (s := S256x6912) o0 S256x256.size i0, w0⟩])
      = paste s T (v.read (Elt F) f) := by
  subst e0 e1 e2
  funext y
  have hy0 : (y 0).val < 256 := (y 0).isLt
  have key : ∀ (n : Fin 3) (a b : Nat) (ha : a < 256) (hb : b < 256) (h : 768 * s ≤ (y 1).val ∧ (y 1).val < 768 * s + 768),
      (y 0).val = a → (y 1).val = 768 * s + 256 * n.val + b →
      T n (ix2 (n0 := 256) (n1 := 256) ⟨a, ha⟩ ⟨b, hb⟩) = paste s T (v.read (Elt F) f) y := by
    intro n a b ha hb h e0 e1
    unfold paste
    rw [dif_pos h]
    have q0 : y 0 = (⟨a, ha⟩ : Fin 256) := Fin.ext e0
    have q2 : ((y 1).val - 768 * s) / 256 = n.val := by omega
    have q3 : ((y 1).val - 768 * s) % 256 = b := by omega
    simp only [q0, q2, q3]
  rw [read_cons_tile v f h2]
  split
  · next h =>
    exact key 2 ((y 0).val - 0) ((y 1).val - (768 * s + 256 * 2)) (by omega) (by omega) (by omega)
      (by omega) (show (y 1).val = 768 * s + 256 * 2 + ((y 1).val - (768 * s + 256 * 2)) by omega)
  rw [read_cons_tile v f h1]
  split
  · next h =>
    exact key 1 ((y 0).val - 0) ((y 1).val - (768 * s + 256 * 1)) (by omega) (by omega) (by omega)
      (by omega) (show (y 1).val = 768 * s + 256 * 1 + ((y 1).val - (768 * s + 256 * 1)) by omega)
  rw [read_cons_tile v f h0]
  split
  · next h =>
    exact key 0 ((y 0).val - 0) ((y 1).val - (768 * s + 256 * 0)) (by omega) (by omega) (by omega)
      (by omega) (show (y 1).val = 768 * s + 256 * 0 + ((y 1).val - (768 * s + 256 * 0)) by omega)
  have : ¬(768 * s ≤ (y 1).val ∧ (y 1).val < 768 * s + 768) := by omega
  unfold paste
  rw [dif_neg this]
  rfl

/-- A load of the running maximum right after a store of it reads the stored value. -/
theorem readCov_amax_hit (v : View sig' κ sp S256x128 .f32)
    (i0 i1 : ∀ k, (![0, 0] : Fin 2 → Nat) k + S256x128.size k ≤ S256x128.size k) (w : S256x128.Idx → Elt F .f32)
    (L : List (View.Piece (Elt F) S256x128 .f32)) :
    v.readCov (⟨Rect.unit (s := S256x128) ![0, 0] (no_index S256x128.size) i0, w⟩ :: L) (Rect.unit (s := S256x128) ![0, 0] (no_index S256x128.size) i1).toLoadRect = w :=
  readCov_hit v (Rect.unit (s := S256x128) ![0, 0] (no_index S256x128.size) i0) w L

end Reads

/-! ## The turn: the rows' scales and codes -/

theorem inb_turn (k : Fin 8) : ∀ a : Fin 2, (![32 * k.val, 0] : Fin 2 → Nat) a + S32x128.size a ≤ S256x128.size a := by
  revert k; decide
theorem inb_turnH (k : Fin 8) : ∀ a : Fin 2, (![32 * k.val, 0] : Fin 2 → Nat) a + S32x6912.size a ≤ S256x6912.size a := by
  revert k; decide

/-- The rows' scales, repeated over the 128 lanes, from the running maximum `dA`. -/
def scaleTurn (dA : Vec F S256x128 .f32) : Vec F S256x128 .f32 := fun y =>
  k0_pay6 (View.ld dA (Rect.unit (s := S256x128) ![32 * ((y 0).val / 32), 0] S32x128.size
      (inb_turn ⟨(y 0).val / 32, by have : (y 0).val < 256 := (y 0).isLt; omega⟩)))
    (ix2 (n0 := 32) (n1 := 128) ⟨(y 0).val % 32, by omega⟩ (y 1))

/-- The rows' codes from the running maximum `dA` and the hidden rows `dH`. -/
def codeTurn (dA : Vec F S256x128 .f32) (dH : Vec F S256x6912 .f32) : Vec F S256x6912 .fp8e4m3 := fun y =>
  k0_pay7 (View.ld dA (Rect.unit (s := S256x128) ![32 * ((y 0).val / 32), 0] S32x128.size
      (inb_turn ⟨(y 0).val / 32, by have : (y 0).val < 256 := (y 0).isLt; omega⟩)))
    (View.ld dH (Rect.unit (s := S256x6912) ![32 * ((y 0).val / 32), 0] S32x6912.size
      (inb_turnH ⟨(y 0).val / 32, by have : (y 0).val < 256 := (y 0).isLt; omega⟩)))
    (ix2 (n0 := 32) (n1 := 6912) ⟨(y 0).val % 32, by omega⟩ (y 1))

/-! ## The second half: the output tile -/

/-- The output tile of a visit of the second half at grid coordinates `i`: residual + gate * (codes · weights, scaled). -/
def outTile (i : grid0.Coords) (h4 : k0_cond4 i = 1#1) (codes : Vec F S256x6912 .fp8e4m3) (scales : Vec F S256x128 .f32)
    (w2 : Vec F S1x6912x512 .fp8e4m3) (s2 : Vec F S1x1x512 .f32) (tres : Vec F S256x512 .f32) (mod : Vec F S12x8x512 .f32) :
    Vec F S256x512 .bf16 :=
  k0_pay8 codes w2 (View.ld scales (Rect.unit (s := S256x128) ![0, 0] S256x1.size inb_S256x128_S256x1_0_0)) s2
    (View.ld mod (Rect.unit (s := S12x8x512) (k0_off5 i) S1x1x512.size (k0_off5_inb i h4))) tres

end Cert.TextKernelIdeal.Ffn

end
-- ==== Proof.TextBodyFirst.lean ====
/- One run of the body at the first up-visit of a row block: it first sets the running maximum to zero, then does as the other
   up-visits do. -/
module

public import proofs.«01_k».proof.Proof.TextTile

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x2560 .fp8e4m3) (harg3 : arg3.IsWhole) (arg4 : Memref sig .tc .vmem S256x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S256x512 .f32) (harg11 : arg11.IsWhole) (arg12 : Memref sig .tc .vmem S12x8x512 .f32) (harg12 : arg12.IsWhole) (arg13 : Memref sig .tc .vmem S256x512 .bf16) (harg13 : arg13.IsWhole) (arg14 : Memref sig .tc .vmem S256x6912 .fp8e4m3) (harg14 : arg14.IsWhole) (arg15 : Memref sig .tc .vmem S256x128 .f32) (harg15 : arg15.IsWhole) (arg16 : Memref sig .tc .vmem S256x6912 .f32) (harg16 : arg16.IsWhole) (arg17 : Memref sig .tc .vmem S256x128 .f32) (harg17 : arg17.IsWhole)

set_option maxHeartbeats 2000000 in
/-- The first visit of a row block. -/
theorem runFirst (h1 : (Scalar.cmpi .ne (Scalar.extui (Scalar.cmpi .eq (BitVec.ofNat 32 (i 1).val) 0#32) : BitVec 32) 0#32 = 1#1)) (h2 : k0_cond2 i = 1#1) (h3 : ¬(k0_cond3 i = 1#1)) (h4 : ¬(k0_cond4 i = 1#1))
    (x0 : Vec F S256x2560 .fp8e4m3) (x1 : Vec F S256x128 .f32) (x2 : Vec F S1x2560x768 .fp8e4m3) (x3 : Vec F S1x1x768 .f32) (x4 : Vec F S1x2560x768 .fp8e4m3) (x5 : Vec F S1x1x768 .f32) (dH : Vec F S256x6912 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg16 fullShare dH ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg16 fullShare (paste (i 1).val (tile x0 x1 x2 x3 x4 x5) dH) ∗ owns (c : Thread nD τ) arg17 fullShare (amaxUp x0 x1 x2 x3 x4 x5 (k0_pay1 (F := F)))) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%e1, %g1, -, G1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg16.eq_unread hg0
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [G0]
  · iexists _; isplitr; swap; · iexact G0
    ipureintro
    sl_unfold_words
    simp only [View.readAt_eq_ld, Memref.IsWhole.read_unread, pay10_eq, pay13_eq, pay14_eq, pay3_eq]
    refine (read_three arg16.view _ (i 1).val (tile x0 x1 x2 x3 x4 x5) (k0_off2_eq i 0) (k0_off2_eq i 1) (k0_off2_eq i 2) _ _ _ rfl rfl rfl).trans ?_
    rw [harg16.read_unread]
  iexists _; isplitr; swap; · iexact G1
  ipureintro
  sl_unfold_words
  refine (read_whole arg17.view _ (by funext a; fin_cases a <;> rfl) _ _ _).trans ?_
  simp only [readCov_amax_hit]
  simp only [View.readAt_eq_ld, Memref.IsWhole.read_unread, pay12_eq, pay13_eq, pay15_eq, pay4_eq]
  rfl

end Cert.TextKernelIdeal.Ffn

end
-- ==== Proof.TextBodyUp.lean ====
/- One run of the body at an up-visit that is not the first: it writes three tiles of hidden values and
   carries the running maximum of absolute values, lane by lane. -/
module

public import proofs.«01_k».proof.Proof.TextTile

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x2560 .fp8e4m3) (harg3 : arg3.IsWhole) (arg4 : Memref sig .tc .vmem S256x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S256x512 .f32) (harg11 : arg11.IsWhole) (arg12 : Memref sig .tc .vmem S12x8x512 .f32) (harg12 : arg12.IsWhole) (arg13 : Memref sig .tc .vmem S256x512 .bf16) (harg13 : arg13.IsWhole) (arg14 : Memref sig .tc .vmem S256x6912 .fp8e4m3) (harg14 : arg14.IsWhole) (arg15 : Memref sig .tc .vmem S256x128 .f32) (harg15 : arg15.IsWhole) (arg16 : Memref sig .tc .vmem S256x6912 .f32) (harg16 : arg16.IsWhole) (arg17 : Memref sig .tc .vmem S256x128 .f32) (harg17 : arg17.IsWhole)

set_option maxHeartbeats 2000000 in
/-- A visit of the first half after the first. -/
theorem runUp (h1 : ¬(Scalar.cmpi .ne (Scalar.extui (Scalar.cmpi .eq (BitVec.ofNat 32 (i 1).val) 0#32) : BitVec 32) 0#32 = 1#1)) (h2 : k0_cond2 i = 1#1) (h3 : ¬(k0_cond3 i = 1#1)) (h4 : ¬(k0_cond4 i = 1#1))
    (x0 : Vec F S256x2560 .fp8e4m3) (x1 : Vec F S256x128 .f32) (x2 : Vec F S1x2560x768 .fp8e4m3) (x3 : Vec F S1x1x768 .f32) (x4 : Vec F S1x2560x768 .fp8e4m3) (x5 : Vec F S1x1x768 .f32) (dH : Vec F S256x6912 .f32) (dA : Vec F S256x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg16 fullShare dH ∗ owns (c : Thread nD τ) arg17 fullShare dA
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg16 fullShare (paste (i 1).val (tile x0 x1 x2 x3 x4 x5) dH) ∗ owns (c : Thread nD τ) arg17 fullShare (amaxUp x0 x1 x2 x3 x4 x5 dA)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, G0⟩, ⟨%g1, %hg1, G1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg16.eq_unread hg0; obtain rfl := harg17.eq_unread hg1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [G0]
  · iexists _; isplitr; swap; · iexact G0
    ipureintro
    sl_unfold_words
    simp only [View.readAt_eq_ld, Memref.IsWhole.read_unread, pay10_eq, pay13_eq, pay14_eq, pay3_eq]
    refine (read_three arg16.view _ (i 1).val (tile x0 x1 x2 x3 x4 x5) (k0_off2_eq i 0) (k0_off2_eq i 1) (k0_off2_eq i 2) _ _ _ rfl rfl rfl).trans ?_
    rw [harg16.read_unread]
  iexists _; isplitr; swap; · iexact G1
  ipureintro
  sl_unfold_words
  refine (read_whole arg17.view _ (by funext a; fin_cases a <;> rfl) _ _ _).trans ?_
  simp only [readCov_amax_hit]
  simp only [View.readAt_eq_ld, Memref.IsWhole.read_unread, pay12_eq, pay13_eq, pay15_eq, pay4_eq]
  rw [View.ld_unit_zero (by funext a; fin_cases a <;> rfl) _ dA]
  rfl

end Cert.TextKernelIdeal.Ffn

end
-- ==== Proof.TextBodyQuant.lean ====
/- One run of the body at the turn from up to down: sixteen trips of a loop, 32 rows each, turn the hidden rows and their largest
   absolute values into scales and codes, and the first output tile follows from them. -/
module

public import proofs.«01_k».proof.Proof.TextTile

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x2560 .fp8e4m3) (harg3 : arg3.IsWhole) (arg4 : Memref sig .tc .vmem S256x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S256x512 .f32) (harg11 : arg11.IsWhole) (arg12 : Memref sig .tc .vmem S12x8x512 .f32) (harg12 : arg12.IsWhole) (arg13 : Memref sig .tc .vmem S256x512 .bf16) (harg13 : arg13.IsWhole) (arg14 : Memref sig .tc .vmem S256x6912 .fp8e4m3) (harg14 : arg14.IsWhole) (arg15 : Memref sig .tc .vmem S256x128 .f32) (harg15 : arg15.IsWhole) (arg16 : Memref sig .tc .vmem S256x6912 .f32) (harg16 : arg16.IsWhole) (arg17 : Memref sig .tc .vmem S256x128 .f32) (harg17 : arg17.IsWhole)

/-- What one trip of the turn's loop stores: the codes and the scales of 32 rows. -/
theorem trip_pieces (h3 : k0_cond3 i = 1#1) (X16 : arg16.view.ty.Contents (Elt F)) (X17 : arg17.view.ty.Contents (Elt F)) (k : Fin k0_t1_loop.trips) :
    tripL_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 h3 X16 X17 k
      = ([⟨Rect.unit (s := S256x6912) (k0_off4 k) S32x6912.size (k0_off4_inb i k h3),
          k0_pay7 (arg17.view.readAt (Elt F) (Rect.unit (s := S256x128) (k0_off3 k) S32x128.size (k0_off3_inb i k h3)).toLoadRect X17)
            (arg16.view.readAt (Elt F) (Rect.unit (s := S256x6912) (k0_off4 k) S32x6912.size (k0_off4_inb i k h3)).toLoadRect X16)⟩],
        [⟨Rect.unit (s := S256x128) (k0_off3 k) S32x128.size (k0_off3_inb i k h3),
          k0_pay6 (arg17.view.readAt (Elt F) (Rect.unit (s := S256x128) (k0_off3 k) S32x128.size (k0_off3_inb i k h3)).toLoadRect X17)⟩]) := by
  unfold tripL_k0_t1 trip_k0_t1
  rfl

/-- The codes of the rows of the trips before `n`. -/
theorem codes_before (h3 : k0_cond3 i = 1#1) (dH : Vec F S256x6912 .f32) (dA : Vec F S256x128 .f32) (g : arg14.view.ty.Contents (Elt F)) :
    ∀ n, n ≤ k0_t1_loop.trips → ∀ y : S256x6912.Idx, (y 0).val < 32 * n →
      arg14.view.read (Elt F) (arg14.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 h3 (harg16.unread dH) (harg17.unread dA) n).1) y = codeTurn dA dH y
  | 0, _, y, hy => absurd hy (by omega)
  | n + 1, hn, y, hy => by
    rw [show (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 h3 (harg16.unread dH) (harg17.unread dA) (n + 1)) = _ from pb_k0_t1_succ _ _ _ _ _ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off4_eq ⟨n, hn⟩) 0 (Or.inl h)).trans ?_
      exact codes_before h3 dH dA g n (by omega) y h
    · have q : (y 0).val / 32 = n := by omega
      refine (View.read_writes_cons_unit_of_mem _ _ _ _ _ y (ix2 (n0 := 32) (n1 := 6912) ⟨(y 0).val % 32, by omega⟩ (y 1)) (k0_off4_eq ⟨n, hn⟩)
        (Fin.forall_fin_two.mpr ⟨show (y 0).val = 32 * n + (y 0).val % 32 by omega, (Nat.zero_add _).symm⟩)).trans ?_
      unfold codeTurn
      simp only [View.readAt_eq_ld, Memref.IsWhole.read_unread]
      exact congrFun (congrArg₂ k0_pay7 (ld_unit_congr dA ((k0_off3_eq ⟨n, hn⟩).trans (by rw [q])) _ _)
        (ld_unit_congr dH ((k0_off4_eq ⟨n, hn⟩).trans (by rw [q])) _ _)) _

/-- The scales of the rows of the trips before `n`. -/
theorem scales_before (h3 : k0_cond3 i = 1#1) (dH : Vec F S256x6912 .f32) (dA : Vec F S256x128 .f32) (g : arg15.view.ty.Contents (Elt F)) :
    ∀ n, n ≤ k0_t1_loop.trips → ∀ y : S256x128.Idx, (y 0).val < 32 * n →
      arg15.view.read (Elt F) (arg15.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 h3 (harg16.unread dH) (harg17.unread dA) n).2) y = scaleTurn dA y
  | 0, _, y, hy => absurd hy (by omega)
  | n + 1, hn, y, hy => by
    rw [show (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 h3 (harg16.unread dH) (harg17.unread dA) (n + 1)) = _ from pb_k0_t1_succ _ _ _ _ _ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off3_eq ⟨n, hn⟩) 0 (Or.inl h)).trans ?_
      exact scales_before h3 dH dA g n (by omega) y h
    · have q : (y 0).val / 32 = n := by omega
      refine (View.read_writes_cons_unit_of_mem _ _ _ _ _ y (ix2 (n0 := 32) (n1 := 128) ⟨(y 0).val % 32, by omega⟩ (y 1)) (k0_off3_eq ⟨n, hn⟩)
        (Fin.forall_fin_two.mpr ⟨show (y 0).val = 32 * n + (y 0).val % 32 by omega, (Nat.zero_add _).symm⟩)).trans ?_
      unfold scaleTurn
      simp only [View.readAt_eq_ld, Memref.IsWhole.read_unread]
      exact congrFun (congrArg k0_pay6 (ld_unit_congr dA ((k0_off3_eq ⟨n, hn⟩).trans (by rw [q])) _ _)) _

/-- All the rows' codes after the loop. -/
theorem codes_after (h3 : k0_cond3 i = 1#1) (dH : Vec F S256x6912 .f32) (dA : Vec F S256x128 .f32) (g : arg14.view.ty.Contents (Elt F)) :
    arg14.view.read (Elt F) (arg14.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 h3 (harg16.unread dH) (harg17.unread dA) k0_t1_loop.trips).1) = codeTurn dA dH :=
  funext fun y => codes_before c i arg3 harg3 arg4 harg4 arg5 harg5 arg6 harg6 arg7 harg7 arg8 harg8 arg9 harg9 arg10 harg10 arg11 harg11 arg12 harg12 arg13 harg13 arg14 harg14 arg15 harg15 arg16 harg16 arg17 harg17 h3 dH dA g _ le_rfl y (Nat.lt_of_lt_of_le (y 0).isLt (by decide))

/-- All the rows' scales after the loop. -/
theorem scales_after (h3 : k0_cond3 i = 1#1) (dH : Vec F S256x6912 .f32) (dA : Vec F S256x128 .f32) (g : arg15.view.ty.Contents (Elt F)) :
    arg15.view.read (Elt F) (arg15.view.writes (Elt F) g (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 h3 (harg16.unread dH) (harg17.unread dA) k0_t1_loop.trips).2) = scaleTurn dA :=
  funext fun y => scales_before c i arg3 harg3 arg4 harg4 arg5 harg5 arg6 harg6 arg7 harg7 arg8 harg8 arg9 harg9 arg10 harg10 arg11 harg11 arg12 harg12 arg13 harg13 arg14 harg14 arg15 harg15 arg16 harg16 arg17 harg17 h3 dH dA g _ le_rfl y (Nat.lt_of_lt_of_le (y 0).isLt (by decide))

set_option maxHeartbeats 2000000 in
/-- The visit at the turn of a row block. -/
theorem runQuant (h1 : ¬(Scalar.cmpi .ne (Scalar.extui (Scalar.cmpi .eq (BitVec.ofNat 32 (i 1).val) 0#32) : BitVec 32) 0#32 = 1#1)) (h2 : ¬(k0_cond2 i = 1#1)) (h3 : k0_cond3 i = 1#1) (h4 : k0_cond4 i = 1#1)
    (x6 : Vec F S1x6912x512 .fp8e4m3) (x7 : Vec F S1x1x512 .f32) (x8 : Vec F S256x512 .f32) (x9 : Vec F S12x8x512 .f32) (dH : Vec F S256x6912 .f32) (dA : Vec F S256x128 .f32) (E : Set ℕ) (K : PUnit → sProp 𝕄) :
    iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg16 fullShare dH ∗ owns (c : Thread nD τ) arg17 fullShare dA ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg16 fullShare dH ∗ owns (c : Thread nD τ) arg17 fullShare dA ∗ owns (c : Thread nD τ) arg13 fullShare (outTile i h4 (codeTurn dA dH) (scaleTurn dA) x6 x7 x8 x9) ∗ owns (c : Thread nD τ) arg14 fullShare (codeTurn dA dH) ∗ owns (c : Thread nD τ) arg15 fullShare (scaleTurn dA)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%e0, %g0, -, G0⟩, ⟨%e1, %g1, -, G1⟩, ⟨%e2, %g2, -, G2⟩, Hk⟩
  obtain rfl := harg9.eq_unread hf0; obtain rfl := harg10.eq_unread hf1; obtain rfl := harg11.eq_unread hf2; obtain rfl := harg12.eq_unread hf3; obtain rfl := harg16.eq_unread hf5; obtain rfl := harg17.eq_unread hf6
  sl_exec
  sl_step
  iapply Hk
  isplitl [H0]
  · iexists _; isplitr; · ipureintro; exact harg9.read_unread _
    iexact H0
  isplitl [H1]
  · iexists _; isplitr; · ipureintro; exact harg10.read_unread _
    iexact H1
  isplitl [H2]
  · iexists _; isplitr; · ipureintro; exact harg11.read_unread _
    iexact H2
  isplitl [H3]
  · iexists _; isplitr; · ipureintro; exact harg12.read_unread _
    iexact H3
  isplitl [H5]
  · iexists _; isplitr; · ipureintro; exact harg16.read_unread _
    iexact H5
  isplitl [H6]
  · iexists _; isplitr; · ipureintro; exact harg17.read_unread _
    iexact H6
  isplitl [G0]
  · iexists _; isplitr; swap; · iexact G0
    ipureintro
    sl_unfold_words
    refine (read_whole arg13.view _ (by funext a; fin_cases a <;> rfl) _ _ _).trans ?_
    simp only [View.readAt_eq_ld, Memref.IsWhole.read_unread]
    erw [codes_after, scales_after]
    unfold outTile
    rw [View.ld_unit_zero (by funext a; fin_cases a <;> rfl), View.ld_unit_zero (by funext a; fin_cases a <;> rfl),
      View.ld_unit_zero (by funext a; fin_cases a <;> rfl), View.ld_unit_zero (by funext a; fin_cases a <;> rfl)]
    rfl
  isplitl [G1]
  · iexists _; isplitr; swap; · iexact G1
    ipureintro
    exact codes_after _ _ _ _ _ _ _ _ _ _ _ _ _ _ _ _ _ _ _ _ _ _ _ _ _ _ _ _ _ _ _ _ _ _ _ _
  iexists _; isplitr; swap; · iexact G2
  ipureintro
  exact scales_after _ _ _ _ _ _ _ _ _ _ _ _ _ _ _ _ _ _ _ _ _ _ _ _ _ _ _ _ _ _ _ _ _ _ _ _

end Cert.TextKernelIdeal.Ffn

end
-- ==== Proof.TextBodyDown.lean ====
/- One run of the body at a later down-visit: one output tile from the codes and scales already made. -/
module

public import proofs.«01_k».proof.Proof.TextTile

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S256x2560 .fp8e4m3) (harg3 : arg3.IsWhole) (arg4 : Memref sig .tc .vmem S256x128 .f32) (harg4 : arg4.IsWhole) (arg5 : Memref sig .tc .vmem S1x2560x768 .fp8e4m3) (harg5 : arg5.IsWhole) (arg6 : Memref sig .tc .vmem S1x1x768 .f32) (harg6 : arg6.IsWhole) (arg7 : Memref sig .tc .vmem S1x2560x768 .fp8e4m3) (harg7 : arg7.IsWhole) (arg8 : Memref sig .tc .vmem S1x1x768 .f32) (harg8 : arg8.IsWhole) (arg9 : Memref sig .tc .vmem S1x6912x512 .fp8e4m3) (harg9 : arg9.IsWhole) (arg10 : Memref sig .tc .vmem S1x1x512 .f32) (harg10 : arg10.IsWhole) (arg11 : Memref sig .tc .vmem S256x512 .f32) (harg11 : arg11.IsWhole) (arg12 : Memref sig .tc .vmem S12x8x512 .f32) (harg12 : arg12.IsWhole) (arg13 : Memref sig .tc .vmem S256x512 .bf16) (harg13 : arg13.IsWhole) (arg14 : Memref sig .tc .vmem S256x6912 .fp8e4m3) (harg14 : arg14.IsWhole) (arg15 : Memref sig .tc .vmem S256x128 .f32) (harg15 : arg15.IsWhole) (arg16 : Memref sig .tc .vmem S256x6912 .f32) (harg16 : arg16.IsWhole) (arg17 : Memref sig .tc .vmem S256x128 .f32) (harg17 : arg17.IsWhole)

set_option maxHeartbeats 2000000 in
/-- A visit of the second half after the turn. -/
theorem runDown (h1 : ¬(Scalar.cmpi .ne (Scalar.extui (Scalar.cmpi .eq (BitVec.ofNat 32 (i 1).val) 0#32) : BitVec 32) 0#32 = 1#1)) (h2 : ¬(k0_cond2 i = 1#1)) (h3 : ¬(k0_cond3 i = 1#1)) (h4 : k0_cond4 i = 1#1)
    (x6 : Vec F S1x6912x512 .fp8e4m3) (x7 : Vec F S1x1x512 .f32) (x8 : Vec F S256x512 .f32) (x9 : Vec F S12x8x512 .f32) (x12 : Vec F S256x6912 .fp8e4m3) (x13 : Vec F S256x128 .f32) (E : Set ℕ) (K : PUnit → sProp 𝕄) :
    iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg14 fullShare x12 ∗ owns (c : Thread nD τ) arg15 fullShare x13 ∗ (∃ d, owns (c : Thread nD τ) arg13 fullShare d)
        ∗ (iprop(owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg14 fullShare x12 ∗ owns (c : Thread nD τ) arg15 fullShare x13 ∗ owns (c : Thread nD τ) arg13 fullShare (outTile i h4 x12 x13 x6 x7 x8 x9)) -∗ K ⟨⟩))
      ⊢ wp frame (wpE (defs₀ (F := F)) Variants.none c none) E (cc0_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_swiglu_eq_skeleton]; unfold cc0_swiglu_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%e0, %g0, -, G0⟩, Hk⟩
  obtain rfl := harg9.eq_unread hf0; obtain rfl := harg10.eq_unread hf1; obtain rfl := harg11.eq_unread hf2; obtain rfl := harg12.eq_unread hf3; obtain rfl := harg14.eq_unread hf5; obtain rfl := harg15.eq_unread hf6
  sl_exec
  sl_step
  iapply Hk
  isplitl [H0]
  · iexists _; isplitr; · ipureintro; exact harg9.read_unread _
    iexact H0
  isplitl [H1]
  · iexists _; isplitr; · ipureintro; exact harg10.read_unread _
    iexact H1
  isplitl [H2]
  · iexists _; isplitr; · ipureintro; exact harg11.read_unread _
    iexact H2
  isplitl [H3]
  · iexists _; isplitr; · ipureintro; exact harg12.read_unread _
    iexact H3
  isplitl [H5]
  · iexists _; isplitr; · ipureintro; exact harg14.read_unread _
    iexact H5
  isplitl [H6]
  · iexists _; isplitr; · ipureintro; exact harg15.read_unread _
    iexact H6
  iexists _; isplitr; swap; · iexact G0
  ipureintro
  refine (read_whole arg13.view _ (by funext a; fin_cases a <;> rfl) _ _ _).trans ?_
  simp only [View.readAt_eq_ld, Memref.IsWhole.read_unread]
  unfold outTile
  rw [View.ld_unit_zero (by funext a; fin_cases a <;> rfl), View.ld_unit_zero (by funext a; fin_cases a <;> rfl),
    View.ld_unit_zero (by funext a; fin_cases a <;> rfl), View.ld_unit_zero (by funext a; fin_cases a <;> rfl)]

end Cert.TextKernelIdeal.Ffn

end
-- ==== Proof.TextState.lean ====
/-
  The state of the kernel between grid points, and what the pipeline's windows hold: point `14 * r + s` is visit `s` of row block `r`;
  visits 0 to 8 fill the hidden rows slab by slab and keep the running row maximum, visit 9 quantises the rows, visits 9 to 13 write the
  five column blocks of the output.
-/
module

public import proofs.«01_k».proof.Proof.TextBodyFirst
public import proofs.«01_k».proof.Proof.TextBodyUp
public import proofs.«01_k».proof.Proof.TextBodyQuant
public import proofs.«01_k».proof.Proof.TextBodyDown
public import Idealize.ShloMosaic.Lib.Pipeline.TableIdle

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Ok m) (c : Dev nD)

/-! ## The schedule -/

/-- Visit `s` of row block `r`, as a grid point. -/
def pt (r s : ℕ) : Fin grid0.N := ⟨(14 * r + s) % 112, by rw [N_0]; exact Nat.mod_lt _ (by decide)⟩

theorem pt_self (t : Fin grid0.N) : pt (t.val / 14) (t.val % 14) = t := by
  have : t.val < 112 := N_0 ▸ t.isLt
  apply Fin.ext; unfold pt; dsimp only
  omega

/-- The second grid coordinate is the visit. -/
theorem coords1 (t : Fin grid0.N) : ((grid0.coords t) 1).val = t.val % 14 := by revert t; decide +kernel

/-- The running maximum is reset at visit 0, -/
theorem first_iff (t : Fin grid0.N) :
    (Scalar.cmpi .ne (Scalar.extui (Scalar.cmpi .eq (BitVec.ofNat 32 ((grid0.coords t) 1).val) 0#32) : BitVec 32) 0#32 = 1#1) ↔ t.val % 14 = 0 := by
  revert t; decide +kernel
/-- the hidden rows are filled at visits 0 to 8, -/
theorem cond2_iff (t : Fin grid0.N) : k0_cond2 (grid0.coords t) = 1#1 ↔ t.val % 14 < 9 := by revert t; decide +kernel
/-- the rows are quantised at visit 9, -/
theorem cond3_iff (t : Fin grid0.N) : k0_cond3 (grid0.coords t) = 1#1 ↔ t.val % 14 = 9 := by revert t; decide +kernel
/-- and an output block is written at visits 9 to 13. -/
theorem cond4_iff (t : Fin grid0.N) : k0_cond4 (grid0.coords t) = 1#1 ↔ 9 ≤ t.val % 14 := by revert t; decide +kernel

theorem idle10 (t : Fin (cfgM m hO).N) : (cfgM m hO).idle 10 ((cfgM m hO).grid.coords t) = decide (t.val % 14 < 9) :=
  (by decide +kernel : ∀ t : Fin grid0.N, (!(k0_cond4 (grid0.coords t) == 1#1)) = decide (t.val % 14 < 9)) t
theorem idle11 (t : Fin (cfgM m hO).N) : (cfgM m hO).idle 11 ((cfgM m hO).grid.coords t) = decide (t.val % 14 ≠ 9) :=
  (by decide +kernel : ∀ t : Fin grid0.N, (!(k0_cond3 (grid0.coords t) == 1#1)) = decide (t.val % 14 ≠ 9)) t
theorem idle12 (t : Fin (cfgM m hO).N) : (cfgM m hO).idle 12 ((cfgM m hO).grid.coords t) = decide (t.val % 14 ≠ 9) :=
  (by decide +kernel : ∀ t : Fin grid0.N, (!(k0_cond3 (grid0.coords t) == 1#1)) = decide (t.val % 14 ≠ 9)) t

/-! ## The closed forms -/

/-- The three tiles point `t` computes. -/
def tiles (t : Fin grid0.N) : Fin 3 → FVec F S256x256 .f32 :=
  tile (iblk m hO c 0 t) (iblk m hO c 1 t) (iblk m hO c 2 t) (iblk m hO c 3 t) (iblk m hO c 4 t) (iblk m hO c 5 t)

/-- The hidden rows of row block `r`: silu(gate) * up, 256 rows of 6912 columns. -/
def hid (r : ℕ) : Vec F S256x6912 .f32 := fun y =>
  tiles m hO c (pt r ((y 1).val / 768)) ⟨(y 1).val % 768 / 256, by omega⟩
    (ix2 (n0 := 256) (n1 := 256) (y 0) ⟨(y 1).val % 768 % 256, by omega⟩)

/-- The running maximum of row block `r` before visit `s`. -/
def am (r : ℕ) : ℕ → Vec F S256x128 .f32
  | 0 => k0_pay1
  | s + 1 => amaxUp (iblk m hO c 0 (pt r s)) (iblk m hO c 1 (pt r s)) (iblk m hO c 2 (pt r s)) (iblk m hO c 3 (pt r s)) (iblk m hO c 4 (pt r s))
      (iblk m hO c 5 (pt r s)) (am r s)

/-- The codes of row block `r`'s hidden rows. -/
def codes (r : ℕ) : Vec F S256x6912 .fp8e4m3 := codeTurn (am m hO c r 9) (hid m hO c r)

/-- The scales of row block `r`'s hidden rows. -/
def scales (r : ℕ) : Vec F S256x128 .f32 := scaleTurn (am m hO c r 9)

/-- The output block written at point `t`. -/
def outBlock (t : Fin grid0.N) (h4 : k0_cond4 (grid0.coords t) = 1#1) : Vec F S256x512 .bf16 :=
  outTile (grid0.coords t) h4 (codes m hO c (t.val / 14)) (scales m hO c (t.val / 14)) (iblk m hO c 6 t) (iblk m hO c 7 t) (iblk m hO c 8 t) (iblk m hO c 9 t)

/-- Before point `n` the first columns of the hidden scratch are row block `n / 14`'s, as far as its visits have come, and the other
    scratch is its running maximum. -/
def Inv (n : ℕ) (dH : Vec F S256x6912 .f32) (dA : Vec F S256x128 .f32) : Prop :=
  (∀ y : S256x6912.Idx, (y 1).val < 768 * min (n % 14) 9 → dH y = hid m hO c (n / 14) y) ∧
    (1 ≤ n % 14 → dA = am m hO c (n / 14) (min (n % 14) 9))

theorem inv_hid {n : ℕ} {dH : Vec F S256x6912 .f32} {dA : Vec F S256x128 .f32} (h : Inv m hO c n dH dA) (hn : 9 ≤ n % 14) :
    dH = hid m hO c (n / 14) := by
  funext y
  refine h.1 y ?_
  have : (y 1).val < 6912 := (y 1).isLt
  omega

theorem inv_am {n : ℕ} {dH : Vec F S256x6912 .f32} {dA : Vec F S256x128 .f32} (h : Inv m hO c n dH dA) (hn : 9 ≤ n % 14) :
    dA = am m hO c (n / 14) 9 := by
  have := h.2 (by omega)
  rwa [show min (n % 14) 9 = 9 from by omega] at this

/-- Nothing need be known at a row block's start. -/
theorem inv_start {n : ℕ} (dH : Vec F S256x6912 .f32) (dA : Vec F S256x128 .f32) (hn : n % 14 = 0) : Inv m hO c n dH dA :=
  ⟨fun y hy => by rw [hn] at hy; simp at hy, fun h => by omega⟩

/-- A visit after the ninth leaves the scratch alone. -/
theorem inv_late {n : ℕ} {dH : Vec F S256x6912 .f32} {dA : Vec F S256x128 .f32} (h : Inv m hO c n dH dA) (hn : 9 ≤ n % 14) :
    Inv m hO c (n + 1) dH dA := by
  rcases Nat.lt_or_ge (n % 14) 13 with h13 | h13
  · have e : (n + 1) / 14 = n / 14 := by omega
    constructor
    · intro y hy
      rw [e]; exact congrFun (inv_hid m hO c h hn) y
    · intro _
      rw [e, show min ((n + 1) % 14) 9 = 9 from by omega]
      exact inv_am m hO c h hn
  · exact inv_start m hO c dH dA (by omega)

/-- A visit among the first nine pastes its slab, and updates the running maximum. -/
theorem inv_early (t : Fin grid0.N) (ht : t.val % 14 < 9) {dH : Vec F S256x6912 .f32} {dA : Vec F S256x128 .f32}
    (h : ∀ y : S256x6912.Idx, (y 1).val < 768 * (t.val % 14) → dH y = hid m hO c (t.val / 14) y)
    (hA : dA = am m hO c (t.val / 14) (t.val % 14)) :
    Inv m hO c (t.val + 1) (paste ((grid0.coords t) 1).val (tiles m hO c t) dH)
      (amaxUp (iblk m hO c 0 t) (iblk m hO c 1 t) (iblk m hO c 2 t) (iblk m hO c 3 t) (iblk m hO c 4 t) (iblk m hO c 5 t) dA) := by
  have e : (t.val + 1) / 14 = t.val / 14 := by omega
  have em : (t.val + 1) % 14 = t.val % 14 + 1 := by omega
  constructor
  · intro y hy
    rw [e]
    rw [em] at hy
    rw [coords1]
    unfold paste
    split
    · next hin =>
      unfold hid
      have hq : (y 1).val / 768 = t.val % 14 := by omega
      have hm : (y 1).val % 768 = (y 1).val - 768 * (t.val % 14) := by omega
      simp only [hq, hm, pt_self]
    · next hout => exact h y (by omega)
  · intro _
    rw [e, em, show min (t.val % 14 + 1) 9 = t.val % 14 + 1 from by omega]
    subst hA
    conv_rhs => unfold am
    rw [pt_self]

end Cert.TextKernelIdeal.Ffn

end
-- ==== Proof.TextPoints.lean ====
/-
  The kernel's body at every grid point, from what the windows' buffers and the scratch hold before it to what they hold after it.
-/
module

public import proofs.«01_k».proof.Proof.TextState

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pipeline's proof data -/

/-- What the body holds between points: the two scratch buffers, as `Inv` says of them, the generator register, and the table. -/
def PhiS (hO : Ok m) (c : Dev nD) (n : ℕ) (_ : n ≤ grid0.N) : sProp 𝕄 :=
  iprop((∃ dH dA, owns (c : Thread nD τ) scM0_0 fullShare dH ∗ owns (c : Thread nD τ) scM0_1 fullShare dA ∗ ⌜Inv m hO c n dH dA⌝)
    ∗ (∃ r, prngReg c r) ∗ Pipeline.ΦT pre0 (tbl m) c)

/-- The proof data of the pipeline on core `c`: each input's buffer holds its block throughout; the output block, the codes and the
    scales are the closed forms of TextState.lean. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, h⟩ => if h4 : k0_cond4 (grid0.coords t) = 1#1 then outBlock m hO c t h4 else Pipeline.Dat.unnamed (cfg := (cfgM m hO)) ⟨10, h⟩ t
    | ⟨11, _⟩ => codes m hO c (t.val / 14)
    | ⟨12, _⟩ => scales m hO c (t.val / 14)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) : (dats m hO 0 c).Φ t.castSucc = PhiS m hO c t.val (Nat.le_of_lt t.isLt) := by
  dsimp only [dats]; exact Pipeline.Dat.Φ_castSucc (PhiS m hO c) t
theorem PhiS_succ (hO : Ok m) (c : Dev nD) (t : Fin (cfgM m hO).N) : (dats m hO 0 c).Φ t.succ = PhiS m hO c (t.val + 1) t.isLt := by
  dsimp only [dats]; rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) (h4 : k0_cond4 (grid0.coords t) = 1#1) :
    (dats m hO 0 c).after 10 t = outBlock m hO c t h4 := (by dsimp only [dats]; try rfl : _ = dite _ _ _).trans (dif_pos h4)
theorem after0_11 (hO : Ok m) (c : Dev nD) (t : Fin (cfgM m hO).N) : (dats m hO 0 c).after 11 t = codes m hO c (t.val / 14) := by dsimp only [dats]; try rfl
theorem after0_12 (hO : Ok m) (c : Dev nD) (t : Fin (cfgM m hO).N) : (dats m hO 0 c).after 12 t = scales m hO c (t.val / 14) := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-- Window 11's buffer holds nothing of the row block's until its visit 9 is done, -/
theorem fresh11 (hO : Ok m) (n : ℕ) (hn : n ≤ (cfgM m hO).N) : (cfgM m hO).fresh 11 n = decide (n % 14 ≤ 9) :=
  (cfgM m hO).fresh_tab 11 (fun n => decide (n % 14 ≤ 9)) (by decide) (fun t => by
    rw [idle11 m hO t]
    have hf := flush0_11 (adm m hO) t
    cases h : ((cfgM m hO).win 11).flush t
    · have : ¬ t.val % 14 = 13 := fun e => by rw [hf.mpr e] at h; exact Bool.noConfusion h
      rw [Bool.false_or, ← Bool.decide_and]
      exact decide_eq_decide.mpr (by omega)
    · have : t.val % 14 = 13 := hf.mp h
      rw [Bool.true_or]
      exact decide_eq_true (by omega)) n hn

/-- and then the row block's codes. -/
theorem before0_11 (hO : Ok m) (c : Dev nD) (t : Fin (cfgM m hO).N) (ht : 9 < t.val % 14) (d) :
    (dats m hO 0 c).before 11 t d = codes m hO c (t.val / 14) := by
  rw [(dats m hO 0 c).before_out_traj 11 rfl (fun _ _ => rfl) (fun t ht0 _ hfr => ?_) t.val t rfl d, fresh11 m hO _ (Nat.le_of_lt t.isLt),
    if_neg (by rw [decide_eq_true_eq]; omega), after0_11]
  · dsimp only; rw [show (t.val - 1) / 14 = t.val / 14 from by omega]
  · rw [fresh11 m hO _ (Nat.le_of_lt t.isLt), decide_eq_false_iff_not] at hfr
    rw [after0_11, after0_11]; dsimp only; rw [show (t.val - 1) / 14 = t.val / 14 from by omega]

/-- Window 12's buffer holds nothing of the row block's until its visit 9 is done, -/
theorem fresh12 (hO : Ok m) (n : ℕ) (hn : n ≤ (cfgM m hO).N) : (cfgM m hO).fresh 12 n = decide (n % 14 ≤ 9) :=
  (cfgM m hO).fresh_tab 12 (fun n => decide (n % 14 ≤ 9)) (by decide) (fun t => by
    rw [idle12 m hO t]
    have hf := flush0_12 (adm m hO) t
    cases h : ((cfgM m hO).win 12).flush t
    · have : ¬ t.val % 14 = 13 := fun e => by rw [hf.mpr e] at h; exact Bool.noConfusion h
      rw [Bool.false_or, ← Bool.decide_and]
      exact decide_eq_decide.mpr (by omega)
    · have : t.val % 14 = 13 := hf.mp h
      rw [Bool.true_or]
      exact decide_eq_true (by omega)) n hn

/-- and then the row block's scales. -/
theorem before0_12 (hO : Ok m) (c : Dev nD) (t : Fin (cfgM m hO).N) (ht : 9 < t.val % 14) (d) :
    (dats m hO 0 c).before 12 t d = scales m hO c (t.val / 14) := by
  rw [(dats m hO 0 c).before_out_traj 12 rfl (fun _ _ => rfl) (fun t ht0 _ hfr => ?_) t.val t rfl d, fresh12 m hO _ (Nat.le_of_lt t.isLt),
    if_neg (by rw [decide_eq_true_eq]; omega), after0_12]
  · dsimp only; rw [show (t.val - 1) / 14 = t.val / 14 from by omega]
  · rw [fresh12 m hO _ (Nat.le_of_lt t.isLt), decide_eq_false_iff_not] at hfr
    rw [after0_12, after0_12]; dsimp only; rw [show (t.val - 1) / 14 = t.val / 14 from by omega]

/-! ## The body obligation, at a generic point -/

/-- How a point leaves window `w`'s buffer: a point that writes nothing into it, and does not write it back, leaves what it found. -/
def left (hO : Ok m) (c : Dev nD) (w : Fin (cfgM m hO).W) (t : Fin (cfgM m hO).N) : sProp 𝕄 :=
  match (cfgM m hO).idle w ((cfgM m hO).grid.coords t) with
  | true =>
    match ((cfgM m hO).win w).flush t with
    | false => iprop(∃ d, owns (c : Thread nD τ) (((cfgM m hO).win w).stage ((cfgM m hO).slots t w)) fullShare ((dats m hO 0 c).before w t d))
    | true => owns (c : Thread nD τ) (((cfgM m hO).win w).stage ((cfgM m hO).slots t w)) fullShare ((dats m hO 0 c).after w t)
  | false => owns (c : Thread nD τ) (((cfgM m hO).win w).stage ((cfgM m hO).slots t w)) fullShare ((dats m hO 0 c).after w t)

theorem left_idle (hO : Ok m) (c : Dev nD) (w : Fin (cfgM m hO).W) (t : Fin (cfgM m hO).N)
    (hi : (cfgM m hO).idle w ((cfgM m hO).grid.coords t) = true) (hf : ((cfgM m hO).win w).flush t = false) :
    left m hO c w t
      = iprop(∃ d, owns (c : Thread nD τ) (((cfgM m hO).win w).stage ((cfgM m hO).slots t w)) fullShare ((dats m hO 0 c).before w t d)) := by
  unfold left; rw [hi, hf]

theorem left_flush (hO : Ok m) (c : Dev nD) (w : Fin (cfgM m hO).W) (t : Fin (cfgM m hO).N)
    (hi : (cfgM m hO).idle w ((cfgM m hO).grid.coords t) = true) (hf : ((cfgM m hO).win w).flush t = true) :
    left m hO c w t = owns (c : Thread nD τ) (((cfgM m hO).win w).stage ((cfgM m hO).slots t w)) fullShare ((dats m hO 0 c).after w t) := by
  unfold left; rw [hi, hf]

theorem left_live (hO : Ok m) (c : Dev nD) (w : Fin (cfgM m hO).W) (t : Fin (cfgM m hO).N)
    (hi : (cfgM m hO).idle w ((cfgM m hO).grid.coords t) = false) :
    left m hO c w t = owns (c : Thread nD τ) (((cfgM m hO).win w).stage ((cfgM m hO).slots t w)) fullShare ((dats m hO 0 c).after w t) := by
  unfold left; rw [hi]

theorem flush_false {a : (pcfg0 (F := F)).Adm} {w : Fin 13} {t : Fin (cfg0 a).N} {p : Prop} (h : ((cfg0 a).win w).flush t = true ↔ p) (hp : ¬ p) :
    ((cfg0 a).win w).flush t = false := by
  cases hf : ((cfg0 a).win w).flush t
  · rfl
  · exact absurd (h.mp hf) hp

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ left m hO c 10 t ∗ left m hO c 11 t ∗ left m hO c 12 t)

set_option maxHeartbeats 1600000 in
/-- The body at visit 0 of a row block. -/
theorem body_first (hO : Ok m) (c : Dev nD) (t : Fin (cfgM m hO).N) (ht : t.val % 14 = 0) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).owesAt () t.succ = (dats m hO 0 c).owesAt () t.castSucc from rfl, PhiS_castSucc, PhiS_succ,
    after0_0, after0_1, after0_2, after0_3, after0_4, after0_5, after0_6, after0_7, after0_8, after0_9]
  rw [left_idle m hO c 10 t (by rw [idle10 m hO t]; exact decide_eq_true (by omega)) (flush_false (flush0_10 (adm m hO) t) (by omega)),
    left_idle m hO c 11 t (by rw [idle11 m hO t]; exact decide_eq_true (by omega)) (flush_false (flush0_11 (adm m hO) t) (by omega)),
    left_idle m hO c 12 t (by rw [idle12 m hO t]; exact decide_eq_true (by omega)) (flush_false (flush0_12 (adm m hO) t) (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runFirst c (grid0.coords t) _ _ _ _ _ _ _ _ _ _ _ _ _ _ _ _ _ _ _ _ _ _ _ _ _ _ _ _ _ _ ((first_iff t).mpr ht) ((cond2_iff t).mpr (by omega)) (fun h => by have := (cond3_iff t).mp h; omega)
    (fun h => by have := (cond4_iff t).mp h; omega) (iblk m hO c 0 t) (iblk m hO c 1 t) (iblk m hO c 2 t) (iblk m hO c 3 t) (iblk m hO c 4 t) (iblk m hO c 5 t) dH Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexists _; iexact HS1
  iintro ⟨H0, H1, H2, H3, H4, H5, HS0, HS1⟩
  isplitl [HS0 HS1 Hg HT]
  · isplitl [HS0 HS1]
    · iexists _
      iexists _
      isplitl [HS0]; · iexact HS0
      isplitl [HS1]; · iexact HS1
      ipureintro
      exact inv_early m hO c t (by omega) (fun y hy => by rw [ht] at hy; simp at hy) (by rw [ht]; rfl)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

set_option maxHeartbeats 1600000 in
/-- The body at visits 1 to 8 of a row block. -/
theorem body_up (hO : Ok m) (c : Dev nD) (t : Fin (cfgM m hO).N) (ht : 1 ≤ t.val % 14 ∧ t.val % 14 < 9) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).owesAt () t.succ = (dats m hO 0 c).owesAt () t.castSucc from rfl, PhiS_castSucc, PhiS_succ,
    after0_0, after0_1, after0_2, after0_3, after0_4, after0_5, after0_6, after0_7, after0_8, after0_9]
  rw [left_idle m hO c 10 t (by rw [idle10 m hO t]; exact decide_eq_true (by omega)) (flush_false (flush0_10 (adm m hO) t) (by omega)),
    left_idle m hO c 11 t (by rw [idle11 m hO t]; exact decide_eq_true (by omega)) (flush_false (flush0_11 (adm m hO) t) (by omega)),
    left_idle m hO c 12 t (by rw [idle12 m hO t]; exact decide_eq_true (by omega)) (flush_false (flush0_12 (adm m hO) t) (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runUp c (grid0.coords t) _ _ _ _ _ _ _ _ _ _ _ _ _ _ _ _ _ _ _ _ _ _ _ _ _ _ _ _ _ _ (fun h => by have := (first_iff t).mp h; omega) ((cond2_iff t).mpr (by omega))
    (fun h => by have := (cond3_iff t).mp h; omega) (fun h => by have := (cond4_iff t).mp h; omega) (iblk m hO c 0 t) (iblk m hO c 1 t) (iblk m hO c 2 t) (iblk m hO c 3 t) (iblk m hO c 4 t) (iblk m hO c 5 t) dH dA Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg HT]
  · isplitl [HS0 HS1]
    · iexists _
      iexists _
      isplitl [HS0]; · iexact HS0
      isplitl [HS1]; · iexact HS1
      ipureintro
      exact inv_early m hO c t (by omega) (fun y hy => hI.1 y (by omega))
        (by have := hI.2 (by omega); rwa [show min (t.val % 14) 9 = t.val % 14 from by omega] at this)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

set_option maxHeartbeats 1600000 in
/-- The body at visit 9 of a row block. -/
theorem body_quant (hO : Ok m) (c : Dev nD) (t : Fin (cfgM m hO).N) (ht : t.val % 14 = 9) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).owesAt () t.succ = (dats m hO 0 c).owesAt () t.castSucc from rfl, PhiS_castSucc, PhiS_succ,
    after0_0, after0_1, after0_2, after0_3, after0_4, after0_5, after0_6, after0_7, after0_8, after0_9]
  rw [left_live m hO c 10 t (by rw [idle10 m hO t]; exact decide_eq_false (by omega)),
    left_live m hO c 11 t (by rw [idle11 m hO t]; exact decide_eq_false (by omega)),
    left_live m hO c 12 t (by rw [idle12 m hO t]; exact decide_eq_false (by omega)),
    after0_10 m hO c t ((cond4_iff t).mpr (by omega)), after0_11, after0_12]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := inv_hid m hO c hI (by omega)
  obtain rfl := inv_am m hO c hI (by omega)
  iapply (runQuant c (grid0.coords t) _ _ _ _ _ _ _ _ _ _ _ _ _ _ _ _ _ _ _ _ _ _ _ _ _ _ _ _ _ _ (fun h => by have := (first_iff t).mp h; omega) (fun h => by have := (cond2_iff t).mp h; omega)
    ((cond3_iff t).mpr ht) ((cond4_iff t).mpr (by omega)) (iblk m hO c 6 t) (iblk m hO c 7 t) (iblk m hO c 8 t) (iblk m hO c 9 t) (hid m hO c (t.val / 14)) (am m hO c (t.val / 14) 9) Set.univ _)
  isplitl [H6]; · iexact H6
  isplitl [H7]; · iexact H7
  isplitl [H8]; · iexact H8
  isplitl [H9]; · iexact H9
  isplitl [HS0]; · iexact HS0
  isplitl [HS1]; · iexact HS1
  isplitl [H10]; · iexists _; iexact H10
  isplitl [H11]; · iexists _; iexact H11
  isplitl [H12]; · iexists _; iexact H12
  iintro ⟨H6, H7, H8, H9, HS0, HS1, H10, H11, H12⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 1600000 in
/-- The body at visits 10 to 12 of a row block. -/
theorem body_down (hO : Ok m) (c : Dev nD) (t : Fin (cfgM m hO).N) (ht : 9 < t.val % 14 ∧ t.val % 14 < 13) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).owesAt () t.succ = (dats m hO 0 c).owesAt () t.castSucc from rfl, PhiS_castSucc, PhiS_succ,
    after0_0, after0_1, after0_2, after0_3, after0_4, after0_5, after0_6, after0_7, after0_8, after0_9]
  rw [left_live m hO c 10 t (by rw [idle10 m hO t]; exact decide_eq_false (by omega)),
    left_idle m hO c 11 t (by rw [idle11 m hO t]; exact decide_eq_true (by omega)) (flush_false (flush0_11 (adm m hO) t) (by omega)),
    left_idle m hO c 12 t (by rw [idle12 m hO t]; exact decide_eq_true (by omega)) (flush_false (flush0_12 (adm m hO) t) (by omega)),
    after0_10 m hO c t ((cond4_iff t).mpr (by omega))]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_11 m hO c t (by omega), before0_12 m hO c t (by omega)]
  iapply (runDown c (grid0.coords t) _ _ _ _ _ _ _ _ _ _ _ _ _ _ _ _ _ _ _ _ _ _ _ _ _ _ _ _ _ _ (fun h => by have := (first_iff t).mp h; omega) (fun h => by have := (cond2_iff t).mp h; omega)
    (fun h => by have := (cond3_iff t).mp h; omega) ((cond4_iff t).mpr (by omega)) (iblk m hO c 6 t) (iblk m hO c 7 t) (iblk m hO c 8 t) (iblk m hO c 9 t) (codes m hO c (t.val / 14))
    (scales m hO c (t.val / 14)) Set.univ _)
  isplitl [H6]; · iexact H6
  isplitl [H7]; · iexact H7
  isplitl [H8]; · iexact H8
  isplitl [H9]; · iexact H9
  isplitl [H11]; · iexact H11
  isplitl [H12]; · iexact H12
  isplitl [H10]; · iexists _; iexact H10
  iintro ⟨H6, H7, H8, H9, H11, H12, H10⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists d11
    rw [before0_11 m hO c t (by omega)]; iexact H11
  iexists d12
  rw [before0_12 m hO c t (by omega)]; iexact H12

set_option maxHeartbeats 1600000 in
/-- The body at visit 13 of a row block. -/
theorem body_last (hO : Ok m) (c : Dev nD) (t : Fin (cfgM m hO).N) (ht : t.val % 14 = 13) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).owesAt () t.succ = (dats m hO 0 c).owesAt () t.castSucc from rfl, PhiS_castSucc, PhiS_succ,
    after0_0, after0_1, after0_2, after0_3, after0_4, after0_5, after0_6, after0_7, after0_8, after0_9]
  rw [left_live m hO c 10 t (by rw [idle10 m hO t]; exact decide_eq_false (by omega)),
    left_flush m hO c 11 t (by rw [idle11 m hO t]; exact decide_eq_true (by omega)) ((flush0_11 (adm m hO) t).mpr (by omega)),
    left_flush m hO c 12 t (by rw [idle12 m hO t]; exact decide_eq_true (by omega)) ((flush0_12 (adm m hO) t).mpr (by omega)),
    after0_10 m hO c t ((cond4_iff t).mpr (by omega)), after0_11, after0_12]
  unfold PhiS
  iintro ⟨⟨⟨%dH, %dA, HS0, HS1, %hI⟩, Hg, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0_11 m hO c t (by omega), before0_12 m hO c t (by omega)]
  iapply (runDown c (grid0.coords t) _ _ _ _ _ _ _ _ _ _ _ _ _ _ _ _ _ _ _ _ _ _ _ _ _ _ _ _ _ _ (fun h => by have := (first_iff t).mp h; omega) (fun h => by have := (cond2_iff t).mp h; omega)
    (fun h => by have := (cond3_iff t).mp h; omega) ((cond4_iff t).mpr (by omega)) (iblk m hO c 6 t) (iblk m hO c 7 t) (iblk m hO c 8 t) (iblk m hO c 9 t) (codes m hO c (t.val / 14))
    (scales m hO c (t.val / 14)) Set.univ _)
  isplitl [H6]; · iexact H6
  isplitl [H7]; · iexact H7
  isplitl [H8]; · iexact H8
  isplitl [H9]; · iexact H9
  isplitl [H11]; · iexact H11
  isplitl [H12]; · iexact H12
  isplitl [H10]; · iexists _; iexact H10
  iintro ⟨H6, H7, H8, H9, H11, H12, H10⟩
  isplitl [HS0 HS1 Hg HT]
  · isplitl [HS0 HS1]
    · iexists _
      iexists _
      isplitl [HS0]; · iexact HS0
      isplitl [HS1]; · iexact HS1
      ipureintro
      exact inv_late m hO c hI (by omega)
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  rcases Nat.lt_trichotomy (t.val % 14) 9 with h | h | h
  · rcases Nat.eq_zero_or_pos (t.val % 14) with h0 | h0
    · exact body_first m hO c t h0
    · exact body_up m hO c t ⟨h0, h⟩
  · exact body_quant m hO c t h
  · rcases Nat.lt_or_ge (t.val % 14) 13 with h13 | h13
    · exact body_down m hO c t ⟨h, h13⟩
    · exact body_last m hO c t (by omega)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

end Cert.TextKernelIdeal.Ffn

end
-- ==== Proof.TextFrame.lean ====
/-
  The launch of the text kernel: it ends at every fair schedule, its arguments unchanged, its counters at zero, and its results at
  what the pipeline's proof data says of them.
-/
module

public import proofs.«01_k».proof.Proof.TextPoints
public import Idealize.ShloMosaic.Lib.Claim

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's invariant before the first point: the scratch buffers hold anything. -/
theorem phi_in (hO : Ok m) (c : Dev nD) : iprop(Pipeline.ΦA spec0 c ∗ Pipeline.ΦT pre0 (tbl m) c) ⊢ (PhiS m hO c 0 (Nat.zero_le _) : sProp 𝕄) := by
  rw [PhiA0_eq]; unfold PhiS
  iintro ⟨⟨⟨⟨%dH, HS0⟩, ⟨%dA, HS1⟩⟩, Hg⟩, HT⟩
  isplitl [HS0 HS1]
  · iexists dH
    iexists dA
    isplitl [HS0]; · iexact HS0
    isplitl [HS1]; · iexact HS1
    ipureintro
    exact inv_start m hO c dH dA rfl
  isplitl [Hg]; · iexact Hg
  iexact HT

/-- After the last point they are given back at whatever they hold. -/
theorem phi_out (hO : Ok m) (c : Dev nD) (n : ℕ) (hn : n ≤ grid0.N) : (PhiS m hO c n hn : sProp 𝕄) ⊢ Pipeline.ΦA spec0 c := by
  rw [PhiA0_eq]; unfold PhiS
  iintro ⟨⟨%dH, %dA, HS0, HS1, -⟩, Hg, -⟩
  isplitl [HS0 HS1]
  · isplitl [HS0]; · iexists dH; iexact HS0
    iexists dA; iexact HS1
  iexact Hg

set_option backward.isDefEq.respectTransparency.types false in
/-- The launch: each windowed array ends as the proof data has it, every other buffer as launched, and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => phi_in m hO c) (hout := fun c => phi_out m hO c grid0.N (Nat.le_refl _))

/-- An input's array ends as the host code left it. -/
theorem arr_in (hO : Ok m) {r : PUnit × MemSt nD τ sig (Elt F)} (h : Pipeline.FramePost (Pipeline.pin pcfgs fun _ => adm m hO) (dats m hO) 0 (V m) r) (c : Dev nD)
    (w : Fin (cfgM m hO).W) (hin : ((cfgM m hO).win w).isOut = false) :
    r.2.mem ((spec0 w).arr.view.loc (c.tc : Thread nD τ)) = V m c (Pipeline.arrRef spec0 w) :=
  ((h c).1 w).trans (((dats m hO 0 c).arrAt_in w hin _).trans (A_eq m hO c w))

/-- The arguments end as launched. -/
theorem args_of (hO : Ok m) {r : PUnit × MemSt nD τ sig (Elt F)} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(arr_in m hO h c 0 rfl).trans (V_main_arg0 m c),
    (arr_in m hO h c 1 rfl).trans (V_main_arg1 m c),
    (arr_in m hO h c 2 rfl).trans (V_main_arg2 m c),
    (arr_in m hO h c 3 rfl).trans (V_main_arg3 m c),
    (arr_in m hO h c 4 rfl).trans (V_main_arg4 m c),
    (arr_in m hO h c 5 rfl).trans (V_main_arg5 m c),
    (arr_in m hO h c 6 rfl).trans (V_main_arg6 m c),
    (arr_in m hO h c 7 rfl).trans (V_main_arg7 m c),
    (arr_in m hO h c 8 rfl).trans (V_main_arg8 m c),
    (arr_in m hO h c 9 rfl).trans (V_main_arg9 m c)⟩

/-- The frame: under every fair schedule the kernel ends, its arguments unchanged and its counters at zero. -/
theorem frame (hO : Ok m) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => args_of m hO h.1 c, h.2⟩) (run_main m ρ hO)

end Cert.TextKernelIdeal.Ffn

end
-- ==== Proof.TextTable.lean ====
/-
  The prefetched table: the host writes zeros, so every block that the index maps name through the table lies inside its array, with no
  precondition. Also the index maps' closed forms.
-/
module

public import proofs.«01_k».proof.Proof.TextKit
public import Idealize.ShloMosaic.Lib.ValueIdxCoords
public import Idealize.ShloMosaic.Lib.Pipeline.ValueKit
public import Idealize.ShloMosaic.Lib.Affine

@[expose] public section

set_option maxRecDepth 16384

noncomputable section

namespace Cert.TextKernelIdeal.Ffn

open Cert.TextKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ)

/-- Row block `i 0`'s word of the table. -/
def word (i : grid0.Coords) : BitVec 32 :=
  (tbl m 0 : Cert.TextKernelIdeal.S8.Idx → BitVec 32) (ix1 (n := 8) (i 0))

/-- The word an index map reads is the row block's. -/
theorem at_eq (i : grid0.Coords) (h1 : (Rect.unit (s := S8) (k0_off1 i) S1.size (k0_off1_inb i)).shape.numel = 1) :
    (tbl m).at 0 (Rect.unit (s := S8) (k0_off1 i) S1.size (k0_off1_inb i)) h1 = word m i := by
  unfold word
  refine congrArg (tbl m 0 : Cert.TextKernelIdeal.S8.Idx → BitVec 32) (funext fun a => ?_)
  obtain rfl : a = (0 : Fin 1) := Subsingleton.elim (α := Fin 1) _ _
  apply Fin.ext
  refine (ValueKit.rect_emb_unit_val _ _ _ _ _).trans ?_
  exact congrFun (k0_off1_eq i) 0

/-- The host's table holds zeros. -/
theorem table_zero (w : Cert.TextKernelIdeal.S8.Idx) : (tbl m 0 : Cert.TextKernelIdeal.S8.Idx → BitVec 32) w = 0#32 := by
  have h : V m 0 main_v0 = fun _ => 0#32 := by
    show StableHlo.after hostOps0 (fun b => m (0, b)) (Proc.devRef .tc main_v0) = _
    rfl
  exact congrFun h w

theorem word_eq (i : grid0.Coords) : (word m i).toNat = 0 := by
  unfold word; rw [table_zero]; rfl

/-- The up-projection's slab at a visit: the visit, held at the last slab afterwards. -/
theorem min_eq (i : grid0.Coords) : (Scalar.minsi (BitVec.ofNat 32 (i 1).val) 8#32).toNat = min (i 1).val 8 := by revert i; decide +kernel
/-- The column block at a visit: held at the first until visit 9. -/
theorem max_eq (i : grid0.Coords) : (Scalar.maxsi (Scalar.subi (BitVec.ofNat 32 (i 1).val) 9#32) 0#32).toNat = (i 1).val - 9 := by revert i; decide +kernel
theorem row_eq (i : grid0.Coords) : (BitVec.ofNat 32 (i 0).val).toNat = (i 0).val := by revert i; decide +kernel

theorem index2 (i : grid0.Coords) : cc0_transform_2 k0_off1_inb numel1_S1 (tbl m) i = ![0, 0, min (i 1).val 8] := by
  rw [← congrArg (fun z => (![z, 0, min (i 1).val 8] : Fin 3 → ℕ)) (word_eq m i), ← at_eq m i numel1_S1, ← min_eq]; rfl
theorem index3 (i : grid0.Coords) : cc0_transform_3 k0_off1_inb numel1_S1 (tbl m) i = ![0, 0, min (i 1).val 8] := by
  rw [← congrArg (fun z => (![z, 0, min (i 1).val 8] : Fin 3 → ℕ)) (word_eq m i), ← at_eq m i numel1_S1, ← min_eq]; rfl
theorem index4 (i : grid0.Coords) : cc0_transform_4 k0_off1_inb numel1_S1 (tbl m) i = ![0, 0, min (i 1).val 8] := by
  rw [← congrArg (fun z => (![z, 0, min (i 1).val 8] : Fin 3 → ℕ)) (word_eq m i), ← at_eq m i numel1_S1, ← min_eq]; rfl
theorem index5 (i : grid0.Coords) : cc0_transform_5 k0_off1_inb numel1_S1 (tbl m) i = ![0, 0, min (i 1).val 8] := by
  rw [← congrArg (fun z => (![z, 0, min (i 1).val 8] : Fin 3 → ℕ)) (word_eq m i), ← at_eq m i numel1_S1, ← min_eq]; rfl
theorem index6 (i : grid0.Coords) : cc0_transform_6 k0_off1_inb numel1_S1 (tbl m) i = ![0, 0, (i 1).val - 9] := by
  rw [← congrArg (fun z => (![z, 0, (i 1).val - 9] : Fin 3 → ℕ)) (word_eq m i), ← at_eq m i numel1_S1, ← max_eq]; rfl
theorem index7 (i : grid0.Coords) : cc0_transform_7 k0_off1_inb numel1_S1 (tbl m) i = ![0, 0, (i 1).val - 9] := by
  rw [← congrArg (fun z => (![z, 0, (i 1).val - 9] : Fin 3 → ℕ)) (word_eq m i), ← at_eq m i numel1_S1, ← max_eq]; rfl
theorem index0 (i : grid0.Coords) : cc0_transform_0 i = ![(i 0).val, 0] := by rw [← row_eq i]; rfl
theorem index1 (i : grid0.Coords) : cc0_transform_1 i = ![(i 0).val, 0] := by rw [← row_eq i]; rfl
theorem index11 (i : grid0.Coords) : cc0_transform_11 i = ![(i 0).val, 0] := by rw [← row_eq i]; rfl
theorem index12 (i : grid0.Coords) : cc0_transform_12 i = ![(i 0).val, 0] := by rw [← row_eq i]; rfl
theorem index8 (i : grid0.Coords) : cc0_transform_8 i = ![(i 0).val, (i 1).val - 9] := by rw [← row_eq i, ← max_eq i]; rfl
theorem index10 (i : grid0.Coords) : cc0_transform_10 i = ![(i 0).val, (i 1).val - 9] := by rw [← row_eq i, ← max_eq i]; rfl
theorem index9 (i : grid0.Coords) : cc0_transform_9 i = ![0, 0, (i 1).val - 9] := by rw [← max_eq i]; rfl

/-- The index maps stay inside their arrays. -/
theorem ok : Ok m := by
  have up (j : ℕ) : ∀ a : Fin 3, ((![0, 0, min j 8] : Fin 3 → ℕ) a + 1) * S1x2560x768.size a ≤ S1x2560x6912.size a := by
    intro a
    fin_cases a
    · exact le_rfl
    · exact le_rfl
    · show (min j 8 + 1) * 768 ≤ 6912; omega
  have upScale (j : ℕ) : ∀ a : Fin 3, ((![0, 0, min j 8] : Fin 3 → ℕ) a + 1) * S1x1x768.size a ≤ S1x1x6912.size a := by
    intro a
    fin_cases a
    · exact le_rfl
    · exact le_rfl
    · show (min j 8 + 1) * 768 ≤ 6912; omega
  have down (j : ℕ) (hj : j < 14) : ∀ a : Fin 3, ((![0, 0, j - 9] : Fin 3 → ℕ) a + 1) * S1x6912x512.size a ≤ S1x6912x2560.size a := by
    intro a
    fin_cases a
    · exact le_rfl
    · show (0 + 1) * 6912 ≤ 6912; omega
    · show (j - 9 + 1) * 512 ≤ 2560; omega
  have downScale (j : ℕ) (hj : j < 14) : ∀ a : Fin 3, ((![0, 0, j - 9] : Fin 3 → ℕ) a + 1) * S1x1x512.size a ≤ S1x1x2560.size a := by
    intro a
    fin_cases a
    · exact le_rfl
    · exact le_rfl
    · show (j - 9 + 1) * 512 ≤ 2560; omega
  have h1 (i : grid0.Coords) : (i 1).val < 14 := (i 1).isLt
  unfold Ok ok0
  exact ⟨fun i => ⟨by rw [index2]; exact up _, .inr (Affine.block_words_dvd (of_decide_eq_true rfl) (by decide))⟩,
    fun i => ⟨by rw [index3]; exact upScale _, .inl rfl⟩,
    fun i => ⟨by rw [index4]; exact up _, .inr (Affine.block_words_dvd (of_decide_eq_true rfl) (by decide))⟩,
    fun i => ⟨by rw [index5]; exact upScale _, .inl rfl⟩,
    fun i => ⟨by rw [index6]; exact down _ (h1 i), .inr (Affine.block_words_dvd (of_decide_eq_true rfl) (by decide))⟩,
    fun i => ⟨by rw [index7]; exact downScale _ (h1 i), .inl rfl⟩⟩

end Cert.TextKernelIdeal.Ffn

end
-- ==== Proof.TextFrameBits.lean ====
/- The printed text program and its copy to be read over the extended reals are the same program (the claim offers no rewrites), so the
   frame proved of the copy for every reading of the floats is the printed program's frame at bit patterns. The two programs' definitions are
   shown equal part by part: the body, the table of bodies, the pipeline around it. -/
module

public import proofs.«01_k».proof.Defs
public import proofs.«01_k».proof.Proof.TextFrame
public import proofs.«01_k».proof.Proof.TextTable
public import proofs.«01_k».proof.Proof.Gen.TextKernel

@[expose] public section

set_option maxRecDepth 16384
set_option maxHeartbeats 1000000

noncomputable section

namespace Cert.Proof.Text

open Idealize.ShloMosaic Idealize.SL.Sem

/-- The two bodies are one function. -/
theorem same_body (a b c d) : Cert.TextKernel.cc0_swiglu (F := Bits) a b c d = Cert.TextKernelIdeal.cc0_swiglu (F := Bits) a b c d := rfl

/-- So are the two tables that run them at a grid point. -/
theorem same_defs0 : Cert.TextKernel.defs₀ (F := Bits) = Cert.TextKernelIdeal.defs₀ (F := Bits) := by
  unfold Cert.TextKernel.defs₀ Cert.TextKernelIdeal.defs₀
  refine congrArg Defs.onTc (funext fun l => funext fun a => ?_)
  obtain rfl : l = (0 : Fin 1) := Subsingleton.elim (α := Fin 1) _ _
  obtain ⟨t, s⟩ := a
  dsimp only
  rw [same_body]
  rfl

theorem same_defs : Cert.TextKernel.defs (F := Bits) = Cert.TextKernelIdeal.defs (F := Bits) := by
  unfold Cert.TextKernel.defs Cert.TextKernelIdeal.defs
  rw [same_defs0]
  rfl

theorem same_main : Cert.TextKernel.main (F := Bits) = Cert.TextKernelIdeal.main (F := Bits) := rfl

/-- The frame of the printed program at bit patterns. -/
theorem frame_bits : Cert.quiescent_TextKernel := fun m ρ _ => by
  have := Cert.TextKernelIdeal.Ffn.frame (F := Bits) m ρ (Cert.TextKernelIdeal.Ffn.ok (F := Bits) m)
  rw [same_defs, same_main]
  exact this

/-- The frame of the copy over the extended reals. -/
theorem frame_ideal : Cert.quiescent_TextKernelIdeal := fun m ρ _ =>
  Cert.TextKernelIdeal.Ffn.frame (F := Ideal) m ρ (Cert.TextKernelIdeal.Ffn.ok (F := Ideal) m)

end Cert.Proof.Text

end
-- ==== Proof.TextSpec.lean ====
/- What the text launch computes, over the extended reals: each token's hidden row, its largest absolute value, its scale, its codes
   and its output row, as plain formulas of the ten input arrays. Both programs' results are shown to be these. -/
module

public import proofs.«01_k».proof.Proof.Spec

@[expose] public section

set_option maxRecDepth 16384

noncomputable section

namespace Cert.TextFfn

open Idealize.ShloMosaic
open Cert.Ffn.Inputs (scaleOf codeOf)

/-- The arrays that one launch reads: the tokens' codes and scales, and the three weight matrices with a scale for each output column,
    the residual and the modulation rows. -/
structure Inputs where
  x : Vec Ideal ⟨2, ![2048, 2560]⟩ .fp8e4m3
  xs : Vec Ideal ⟨2, ![2048, 128]⟩ .f32
  w1 : Vec Ideal ⟨3, ![1, 2560, 6912]⟩ .fp8e4m3
  s1 : Vec Ideal ⟨3, ![1, 1, 6912]⟩ .f32
  w3 : Vec Ideal ⟨3, ![1, 2560, 6912]⟩ .fp8e4m3
  s3 : Vec Ideal ⟨3, ![1, 1, 6912]⟩ .f32
  w2 : Vec Ideal ⟨3, ![1, 6912, 2560]⟩ .fp8e4m3
  s2 : Vec Ideal ⟨3, ![1, 1, 2560]⟩ .f32
  tres : Vec Ideal ⟨2, ![2048, 2560]⟩ .f32
  mod : Vec Ideal ⟨3, ![12, 8, 2560]⟩ .f32

namespace Inputs

/-- The sample that token `R` belongs to: 256 tokens each. -/
def sample (R : Fin 2048) : Fin 8 := ⟨R.val / 256, by omega⟩

variable (I : Inputs)

/-- Column `j` of token `R` through one of the two input matrices `w`: the codes' product, the token's scale, the column's. -/
def up (w : Vec Ideal ⟨3, ![1, 2560, 6912]⟩ .fp8e4m3) (s : Vec Ideal ⟨3, ![1, 1, 6912]⟩ .f32) (R : Fin 2048) (j : Fin 6912) : EReal :=
  (∑ k : Fin 2560, I.x (ix2 R k) * w (ix3 0 k j)) * I.xs (ix2 R 0) * s (ix3 0 0 j)

/-- The gated hidden value: `silu (up w1) * up w3`. -/
def hidden (R : Fin 2048) (j : Fin 6912) : EReal :=
  I.up I.w1 I.s1 R j * Ideal.logistic (I.up I.w1 I.s1 R j) * I.up I.w3 I.s3 R j

/-- The largest absolute hidden value of token `R` (the maximum taken from minus infinity). -/
def largest (R : Fin 2048) : EReal :=
  Finset.univ.fold max (Ideal.ofBits FTy.f32 4286578688#32) fun j : Fin 6912 => FloatOps.absf (F := Ideal) (φ := .f32) (I.hidden R j)

def scale (R : Fin 2048) : EReal := scaleOf (I.largest R)

def code (R : Fin 2048) (j : Fin 6912) : EReal := codeOf (I.hidden R j) (I.scale R)

/-- The output: residual + gate * (codes · second matrix, scaled by the row's and the column's scales). -/
def out (R : Fin 2048) (d : Fin 2560) : EReal :=
  I.tres (ix2 R d) + I.mod (ix3 11 (sample R) d) *
    ((∑ j : Fin 6912, I.code R j * I.w2 (ix3 0 j d)) * I.scale R * I.s2 (ix3 0 0 d))

/-- The three results as arrays. -/
def outArr : Vec Ideal ⟨2, ![2048, 2560]⟩ .bf16 := fun i => I.out (i 0) (i 1)
def codeArr : Vec Ideal ⟨2, ![2048, 6912]⟩ .fp8e4m3 := fun i => I.code (i 0) (i 1)
def scaleArr : Vec Ideal ⟨2, ![2048, 128]⟩ .f32 := fun i => I.scale (i 0)

end Inputs

end Cert.TextFfn

end
-- ==== Proof.TextBlocks.lean ====
/- What the input windows' blocks hold, entry by entry: at grid point `t` (row block `t / 14`, visit `t % 14`) each block is the part of
   its array that the window's index map names. -/
module

public import proofs.«01_k».proof.Proof.TextSpec
public import proofs.«01_k».proof.Proof.TextState
public import proofs.«01_k».proof.Proof.TextTable

@[expose] public section

set_option maxRecDepth 16384

noncomputable section

namespace Cert.TextKernelIdeal.Ffn

open Cert.TextKernelIdeal.Gen
open Idealize.ShloMosaic Idealize.ShloMosaic.TcCoe

variable (m : (ℓ : Loc nD τ sig) → Buf (Elt Ideal) ℓ) (hO : Ok m) (c : Dev nD)

/-- The arrays that the pipeline reads on device `c`. -/
def inputs : Cert.TextFfn.Inputs where
  x := V m c main_arg0
  xs := V m c main_arg1
  w1 := V m c main_arg2
  s1 := V m c main_arg3
  w3 := V m c main_arg4
  s3 := V m c main_arg5
  w2 := V m c main_arg6
  s2 := V m c main_arg7
  tres := V m c main_arg8
  mod := V m c main_arg9

theorem block0 (t : Fin grid0.N) (y : Fin 256) (k : Fin 2560) (R : Fin 2048) (K : Fin 2560) (hR : R.val = (grid0.coords t 0).val * 256 + y.val)
    (hK : K.val = 0 + k.val) : iblk m hO c 0 t (ix2 y k) = (inputs m c).x (ix2 R K) := by
  have e0 : (pcfg0.win (adm m hO) 0).index t 0 = (grid0.coords t 0).val := congrFun (index0 (grid0.coords t)) 0
  have e1 : (pcfg0.win (adm m hO) 0).index t 1 = 0 := congrFun (index0 (grid0.coords t)) 1
  unfold iblk
  blk_ext [hR, hK] <;> (first | erw [e0] | erw [e1] | erw [e2]) <;> omega

theorem block1 (t : Fin grid0.N) (y : Fin 256) (k : Fin 128) (R : Fin 2048) (K : Fin 128) (hR : R.val = (grid0.coords t 0).val * 256 + y.val)
    (hK : K.val = 0 + k.val) : iblk m hO c 1 t (ix2 y k) = (inputs m c).xs (ix2 R K) := by
  have e0 : (pcfg0.win (adm m hO) 1).index t 0 = (grid0.coords t 0).val := congrFun (index1 (grid0.coords t)) 0
  have e1 : (pcfg0.win (adm m hO) 1).index t 1 = 0 := congrFun (index1 (grid0.coords t)) 1
  unfold iblk
  blk_ext [hR, hK] <;> (first | erw [e0] | erw [e1] | erw [e2]) <;> omega

theorem block2 (t : Fin grid0.N) (a : Fin 1) (k : Fin 2560) (j : Fin 768) (A : Fin 1) (K : Fin 2560) (J : Fin 6912) (hA : A.val = 0)
    (hK : K.val = k.val) (hJ : J.val = min (grid0.coords t 1).val 8 * 768 + j.val) : iblk m hO c 2 t (ix3 a k j) = (inputs m c).w1 (ix3 A K J) := by
  have e0 : (pcfg0.win (adm m hO) 2).index t 0 = 0 := congrFun (index2 m (grid0.coords t)) 0
  have e1 : (pcfg0.win (adm m hO) 2).index t 1 = 0 := congrFun (index2 m (grid0.coords t)) 1
  have e2 : (pcfg0.win (adm m hO) 2).index t 2 = min (grid0.coords t 1).val 8 := congrFun (index2 m (grid0.coords t)) 2
  unfold iblk
  blk_ext [hA, hK, hJ] <;> (first | erw [e0] | erw [e1] | erw [e2]) <;> omega

theorem block3 (t : Fin grid0.N) (a : Fin 1) (k : Fin 1) (j : Fin 768) (A : Fin 1) (K : Fin 1) (J : Fin 6912) (hA : A.val = 0)
    (hK : K.val = k.val) (hJ : J.val = min (grid0.coords t 1).val 8 * 768 + j.val) : iblk m hO c 3 t (ix3 a k j) = (inputs m c).s1 (ix3 A K J) := by
  have e0 : (pcfg0.win (adm m hO) 3).index t 0 = 0 := congrFun (index3 m (grid0.coords t)) 0
  have e1 : (pcfg0.win (adm m hO) 3).index t 1 = 0 := congrFun (index3 m (grid0.coords t)) 1
  have e2 : (pcfg0.win (adm m hO) 3).index t 2 = min (grid0.coords t 1).val 8 := congrFun (index3 m (grid0.coords t)) 2
  unfold iblk
  blk_ext [hA, hK, hJ] <;> (first | erw [e0] | erw [e1] | erw [e2]) <;> omega

theorem block4 (t : Fin grid0.N) (a : Fin 1) (k : Fin 2560) (j : Fin 768) (A : Fin 1) (K : Fin 2560) (J : Fin 6912) (hA : A.val = 0)
    (hK : K.val = k.val) (hJ : J.val = min (grid0.coords t 1).val 8 * 768 + j.val) : iblk m hO c 4 t (ix3 a k j) = (inputs m c).w3 (ix3 A K J) := by
  have e0 : (pcfg0.win (adm m hO) 4).index t 0 = 0 := congrFun (index4 m (grid0.coords t)) 0
  have e1 : (pcfg0.win (adm m hO) 4).index t 1 = 0 := congrFun (index4 m (grid0.coords t)) 1
  have e2 : (pcfg0.win (adm m hO) 4).index t 2 = min (grid0.coords t 1).val 8 := congrFun (index4 m (grid0.coords t)) 2
  unfold iblk
  blk_ext [hA, hK, hJ] <;> (first | erw [e0] | erw [e1] | erw [e2]) <;> omega

theorem block5 (t : Fin grid0.N) (a : Fin 1) (k : Fin 1) (j : Fin 768) (A : Fin 1) (K : Fin 1) (J : Fin 6912) (hA : A.val = 0)
    (hK : K.val = k.val) (hJ : J.val = min (grid0.coords t 1).val 8 * 768 + j.val) : iblk m hO c 5 t (ix3 a k j) = (inputs m c).s3 (ix3 A K J) := by
  have e0 : (pcfg0.win (adm m hO) 5).index t 0 = 0 := congrFun (index5 m (grid0.coords t)) 0
  have e1 : (pcfg0.win (adm m hO) 5).index t 1 = 0 := congrFun (index5 m (grid0.coords t)) 1
  have e2 : (pcfg0.win (adm m hO) 5).index t 2 = min (grid0.coords t 1).val 8 := congrFun (index5 m (grid0.coords t)) 2
  unfold iblk
  blk_ext [hA, hK, hJ] <;> (first | erw [e0] | erw [e1] | erw [e2]) <;> omega

theorem block6 (t : Fin grid0.N) (a : Fin 1) (k : Fin 6912) (j : Fin 512) (A : Fin 1) (K : Fin 6912) (J : Fin 2560) (hA : A.val = 0)
    (hK : K.val = k.val) (hJ : J.val = ((grid0.coords t 1).val - 9) * 512 + j.val) : iblk m hO c 6 t (ix3 a k j) = (inputs m c).w2 (ix3 A K J) := by
  have e0 : (pcfg0.win (adm m hO) 6).index t 0 = 0 := congrFun (index6 m (grid0.coords t)) 0
  have e1 : (pcfg0.win (adm m hO) 6).index t 1 = 0 := congrFun (index6 m (grid0.coords t)) 1
  have e2 : (pcfg0.win (adm m hO) 6).index t 2 = (grid0.coords t 1).val - 9 := congrFun (index6 m (grid0.coords t)) 2
  unfold iblk
  blk_ext [hA, hK, hJ] <;> (first | erw [e0] | erw [e1] | erw [e2]) <;> omega

theorem block7 (t : Fin grid0.N) (a : Fin 1) (k : Fin 1) (j : Fin 512) (A : Fin 1) (K : Fin 1) (J : Fin 2560) (hA : A.val = 0)
    (hK : K.val = k.val) (hJ : J.val = ((grid0.coords t 1).val - 9) * 512 + j.val) : iblk m hO c 7 t (ix3 a k j) = (inputs m c).s2 (ix3 A K J) := by
  have e0 : (pcfg0.win (adm m hO) 7).index t 0 = 0 := congrFun (index7 m (grid0.coords t)) 0
  have e1 : (pcfg0.win (adm m hO) 7).index t 1 = 0 := congrFun (index7 m (grid0.coords t)) 1
  have e2 : (pcfg0.win (adm m hO) 7).index t 2 = (grid0.coords t 1).val - 9 := congrFun (index7 m (grid0.coords t)) 2
  unfold iblk
  blk_ext [hA, hK, hJ] <;> (first | erw [e0] | erw [e1] | erw [e2]) <;> omega

theorem block8 (t : Fin grid0.N) (y : Fin 256) (k : Fin 512) (R : Fin 2048) (K : Fin 2560) (hR : R.val = (grid0.coords t 0).val * 256 + y.val)
    (hK : K.val = ((grid0.coords t 1).val - 9) * 512 + k.val) : iblk m hO c 8 t (ix2 y k) = (inputs m c).tres (ix2 R K) := by
  have e0 : (pcfg0.win (adm m hO) 8).index t 0 = (grid0.coords t 0).val := congrFun (index8 (grid0.coords t)) 0
  have e1 : (pcfg0.win (adm m hO) 8).index t 1 = (grid0.coords t 1).val - 9 := congrFun (index8 (grid0.coords t)) 1
  unfold iblk
  blk_ext [hR, hK] <;> (first | erw [e0] | erw [e1] | erw [e2]) <;> omega

theorem block9 (t : Fin grid0.N) (a : Fin 12) (k : Fin 8) (j : Fin 512) (A : Fin 12) (K : Fin 8) (J : Fin 2560) (hA : A.val = a.val)
    (hK : K.val = k.val) (hJ : J.val = ((grid0.coords t 1).val - 9) * 512 + j.val) : iblk m hO c 9 t (ix3 a k j) = (inputs m c).mod (ix3 A K J) := by
  have e0 : (pcfg0.win (adm m hO) 9).index t 0 = 0 := congrFun (index9 (grid0.coords t)) 0
  have e1 : (pcfg0.win (adm m hO) 9).index t 1 = 0 := congrFun (index9 (grid0.coords t)) 1
  have e2 : (pcfg0.win (adm m hO) 9).index t 2 = (grid0.coords t 1).val - 9 := congrFun (index9 (grid0.coords t)) 2
  unfold iblk
  blk_ext [hA, hK, hJ] <;> (first | erw [e0] | erw [e1] | erw [e2]) <;> omega

end Cert.TextKernelIdeal.Ffn

end
-- ==== Proof.TextHidden.lean ====
/- A row block's hidden rows are the formula's: one tile entry by entry, then the nine visits' tiles together. -/
module

public import proofs.«01_k».proof.Proof.TextBlocks

@[expose] public section

set_option maxRecDepth 16384

noncomputable section

namespace Cert.TextKernelIdeal.Ffn

open Cert.TextKernelIdeal.Gen
open Idealize.ShloMosaic Idealize.ShloMosaic.TcCoe

/-- One entry of a tile: `silu(a) * b`, `a` and `b` the row's products with the two matrices' columns, scaled. -/
theorem tile_apply (x : Vec Ideal S256x2560 .fp8e4m3) (xs : Vec Ideal S256x128 .f32) (w1 : Vec Ideal S1x2560x768 .fp8e4m3)
    (s1 : Vec Ideal S1x1x768 .f32) (w3 : Vec Ideal S1x2560x768 .fp8e4m3) (s3 : Vec Ideal S1x1x768 .f32) (n : Fin 3)
    (y j : Fin 256) (J : Fin 768) (hJ : J.val = 256 * n.val + j.val) :
    tile x xs w1 s1 w3 s3 n (ix2 y j) =
      (∑ k, x (ix2 y k) * w1 (ix3 0 k J)) * xs (ix2 y 0) * s1 (ix3 0 0 J) *
        Ideal.logistic ((∑ k, x (ix2 y k) * w1 (ix3 0 k J)) * xs (ix2 y 0) * s1 (ix3 0 0 J)) *
        ((∑ k, x (ix2 y k) * w3 (ix3 0 k J)) * xs (ix2 y 0) * s3 (ix3 0 0 J)) := by
  have hn := n.isLt
  have eJ : (⟨256 * n.val + j.val, by omega⟩ : Fin 768) = J := Fin.ext hJ.symm
  pointwise [tile, k0_pay9]
  simp only [eJ]

variable (m : (ℓ : Loc nD τ sig) → Buf (Elt Ideal) ℓ) (hO : Ok m) (c : Dev nD)

theorem coords0 (t : Fin grid0.N) : ((grid0.coords t) 0).val = t.val / 14 := by revert t; decide +kernel

theorem pt_val {r s : ℕ} (hr : r < 8) (hs : s < 14) : (pt r s).val = 14 * r + s := by unfold pt; dsimp only; omega

/-- An entry of the tile that visit `s` of row block `r` makes is the formula's hidden value. -/
theorem tiles_apply {r s : ℕ} (hr : r < 8) (hs : s < 9) (n : Fin 3) (y j : Fin 256) (R : Fin 2048) (J : Fin 6912)
    (hR : R.val = 256 * r + y.val) (hJ : J.val = 768 * s + 256 * n.val + j.val) :
    tiles m hO c (pt r s) n (ix2 y j) = (inputs m c).hidden R J := by
  have ht : (pt r s).val = 14 * r + s := pt_val hr (by omega)
  have h0 : (grid0.coords (pt r s) 0).val = r := by rw [coords0, ht]; omega
  have h1 : (grid0.coords (pt r s) 1).val = s := by rw [coords1, ht]; omega
  have hn := n.isLt
  refine (tile_apply _ _ _ _ _ _ n y j ⟨256 * n.val + j.val, by omega⟩ rfl).trans ?_
  rw [Cert.TextFfn.Inputs.hidden, Cert.TextFfn.Inputs.up, Cert.TextFfn.Inputs.up]
  have hx (k : Fin 2560) := block0 m hO c (pt r s) y k R k (by rw [h0]; omega) (by omega)
  have hxs := block1 m hO c (pt r s) y 0 R 0 (by rw [h0]; omega) rfl
  have hJ' : J.val = min (grid0.coords (pt r s) 1).val 8 * 768 + (256 * n.val + j.val) := by rw [h1]; omega
  have hw1 (k : Fin 2560) := block2 m hO c (pt r s) 0 k ⟨256 * n.val + j.val, by omega⟩ 0 k J rfl rfl hJ'
  have hs1 := block3 m hO c (pt r s) 0 0 ⟨256 * n.val + j.val, by omega⟩ 0 0 J rfl rfl hJ'
  have hw3 (k : Fin 2560) := block4 m hO c (pt r s) 0 k ⟨256 * n.val + j.val, by omega⟩ 0 k J rfl rfl hJ'
  have hs3 := block5 m hO c (pt r s) 0 0 ⟨256 * n.val + j.val, by omega⟩ 0 0 J rfl rfl hJ'
  simp only [hx, hxs, hw1, hs1, hw3, hs3]

/-- Row block `r`'s hidden rows. -/
theorem hid_apply {r : ℕ} (hr : r < 8) (y : Fin 256) (J : Fin 6912) (R : Fin 2048) (hR : R.val = 256 * r + y.val) :
    hid m hO c r (ix2 y J) = (inputs m c).hidden R J := by
  have hj := J.isLt
  exact tiles_apply m hO c hr (by show J.val / 768 < 9; omega) _ y ⟨J.val % 768 % 256, by omega⟩ R J hR
    (by show J.val = 768 * (J.val / 768) + 256 * (J.val % 768 / 256) + J.val % 768 % 256; omega)

end Cert.TextKernelIdeal.Ffn

end
-- ==== Proof.TextLargest.lean ====
/- The running maximum, kept as 128 lanes and gathered in nine visits of three tiles, is after the last visit the largest absolute value
   of the whole hidden row: its 128 lanes' maximum is at most a bound exactly when every absolute value of the row is. -/
module

public import proofs.«01_k».proof.Proof.Largest
public import proofs.«01_k».proof.Proof.TextHidden

@[expose] public section

set_option maxRecDepth 16384

noncomputable section

namespace Cert.TextKernelIdeal.Ffn

open Cert.TextKernelIdeal.Gen
open Cert.KernelIdeal.Ffn (mag mag_nonneg)
open Idealize.ShloMosaic Idealize.ShloMosaic.TcCoe

/-- Two lanes of a tile of 256 columns enter lane `l` of the running maximum. -/
theorem amaxTile_apply (h : FVec Ideal S256x256 .f32) (v : Vec Ideal S256x128 .f32) (y : Fin 256) (l : Fin 128) :
    amaxTile h v (ix2 y l) = max (v (ix2 y l)) (max (mag (h (ix2 y ⟨l.val, by omega⟩))) (mag (h (ix2 y ⟨128 + l.val, by omega⟩)))) := by
  pointwise [amaxTile, k0_pay12]

section up
variable (x : Vec Ideal S256x2560 .fp8e4m3) (xs : Vec Ideal S256x128 .f32) (w1 : Vec Ideal S1x2560x768 .fp8e4m3)
  (s1 : Vec Ideal S1x1x768 .f32) (w3 : Vec Ideal S1x2560x768 .fp8e4m3) (s3 : Vec Ideal S1x1x768 .f32) (dA : Vec Ideal S256x128 .f32)

theorem amaxUp_le (y : Fin 256) (l : Fin 128) (b : EReal) :
    amaxUp x xs w1 s1 w3 s3 dA (ix2 y l) ≤ b ↔ dA (ix2 y l) ≤ b ∧ ∀ n : Fin 3,
      mag (tile x xs w1 s1 w3 s3 n (ix2 y ⟨l.val, by omega⟩)) ≤ b ∧ mag (tile x xs w1 s1 w3 s3 n (ix2 y ⟨128 + l.val, by omega⟩)) ≤ b := by
  unfold amaxUp
  rw [amaxTile_apply, amaxTile_apply, amaxTile_apply]
  simp only [max_le_iff, Fin.forall_fin_succ, Fin.forall_fin_zero, and_true]
  constructor
  · rintro ⟨⟨⟨h, h0⟩, h1⟩, h2⟩; exact ⟨h, h0, h1, h2⟩
  · rintro ⟨h, h0, h1, h2⟩; exact ⟨⟨⟨h, h0⟩, h1⟩, h2⟩
end up

variable (m : (ℓ : Loc nD τ sig) → Buf (Elt Ideal) ℓ) (hO : Ok m) (c : Dev nD)

/-- Before visit `s`, lane `l` of a row's running maximum is the largest of 0 and the absolute values of the columns below `768 * s` that
    are `l` modulo 128. -/
theorem am_le {r : ℕ} (hr : r < 8)
    (Y : Fin 256) (l : Fin 128) (R : Fin 2048) (hR : R.val = 256 * r + Y.val) (b : EReal) (s : ℕ) (hs : s ≤ 9) :
    am m hO c r s (ix2 Y l) ≤ b ↔ 0 ≤ b ∧ ∀ J : Fin 6912, J.val < 768 * s → J.val % 128 = l.val → mag ((inputs m c).hidden R J) ≤ b := by
  induction s with
  | zero =>
    have e : am m hO c r 0 (ix2 Y l) = 0 := by
      show k0_pay1 (F := Ideal) (ix2 Y l) = 0
      pointwise [k0_pay1]
    rw [e]
    exact ⟨fun h => ⟨h, fun J hJ => absurd hJ (by omega)⟩, fun h => h.1⟩
  | succ s ih =>
    have hY := Y.isLt
    have hl := l.isLt
    refine (amaxUp_le _ _ _ _ _ _ _ Y l b).trans ?_
    rw [ih (by omega)]
    have key (n : Fin 3) (j : Fin 256) (J : Fin 6912) (hJ : J.val = 768 * s + 256 * n.val + j.val) :=
      tiles_apply m hO c hr (show s < 9 by omega) n Y j R J hR hJ
    unfold tiles at key
    constructor
    · rintro ⟨⟨h0, h⟩, ht⟩
      refine ⟨h0, fun J hJ hm => ?_⟩
      by_cases hJ' : J.val < 768 * s
      · exact h J hJ' hm
      · have hn := ht ⟨(J.val - 768 * s) / 256, by omega⟩
        by_cases hh : (J.val - 768 * s) % 256 < 128
        · have := hn.1
          rw [key _ _ J (by dsimp only; omega)] at this
          exact this
        · have := hn.2
          rw [key _ _ J (by dsimp only; omega)] at this
          exact this
    · rintro ⟨h0, h⟩
      refine ⟨⟨h0, fun J hJ hm => h J (by omega) hm⟩, fun n => ⟨?_, ?_⟩⟩
      · have hn := n.isLt
        rw [key n _ ⟨768 * s + 256 * n.val + l.val, by omega⟩ rfl]
        exact h _ (by dsimp only; omega) (by dsimp only; omega)
      · have hn := n.isLt
        rw [key n _ ⟨768 * s + 256 * n.val + (128 + l.val), by omega⟩ rfl]
        exact h _ (by dsimp only; omega) (by dsimp only; omega)

/-- The 128 lanes' maximum after the nine visits is the row's largest absolute value. -/
theorem largest_eq {r : ℕ} (hr : r < 8)
    (Y : Fin 256) (R : Fin 2048) (hR : R.val = 256 * r + Y.val) :
    Finset.univ.fold max (Ideal.ofBits FTy.f32 4286578688#32) (fun l : Fin 128 => am m hO c r 9 (ix2 Y l)) = (inputs m c).largest R := by
  refine eq_of_forall_ge_iff fun b => ?_
  rw [Cert.TextFfn.Inputs.largest, Finset.fold_max_le, Finset.fold_max_le]
  refine and_congr_right fun _ => ⟨fun h J _ => ?_, fun h l _ => ?_⟩
  · have hJ := J.isLt
    exact ((am_le m hO c hr Y ⟨J.val % 128, by omega⟩ R hR b 9 le_rfl).1 (h _ (Finset.mem_univ _))).2 J (by omega) rfl
  · exact (am_le m hO c hr Y l R hR b 9 le_rfl).2
      ⟨(mag_nonneg _).trans (h ⟨0, by omega⟩ (Finset.mem_univ _)), fun J _ _ => h J (Finset.mem_univ _)⟩

end Cert.TextKernelIdeal.Ffn

end
-- ==== Proof.TextCodes.lean ====
/- A row block's scales, codes and output block are the formula's. -/
module

public import proofs.«01_k».proof.Proof.TextLargest

@[expose] public section

set_option maxRecDepth 16384

noncomputable section

namespace Cert.TextKernelIdeal.Ffn

open Cert.TextKernelIdeal.Gen Cert.TextFfn.Inputs
open Cert.Ffn.Inputs (scaleOf codeOf)
open Idealize.ShloMosaic Idealize.ShloMosaic.TcCoe

/-- A row's scale from the running maximum's 128 lanes, in every lane. -/
theorem scaleTurn_apply (dA : Vec Ideal S256x128 .f32) (Y : Fin 256) (l : Fin 128) :
    scaleTurn dA (ix2 Y l) = scaleOf (Finset.univ.fold max (Ideal.ofBits FTy.f32 4286578688#32) fun l' : Fin 128 => dA (ix2 Y l')) := by
  have e : (⟨32 * (Y.val / 32) + Y.val % 32, by omega⟩ : Fin 256) = Y := Fin.ext (by dsimp only; omega)
  have h (z : Fin 32) (D : Vec Ideal S32x128 .f32) : k0_pay6 D (ix2 z l) =
      scaleOf (Finset.univ.fold max (Ideal.ofBits FTy.f32 4286578688#32) fun l' : Fin 128 => D (ix2 z l')) := by
    pointwise [k0_pay6, k0_pay5, scaleOf]
  refine (h _ _).trans ?_
  refine congrArg scaleOf (congrArg (fun f => Finset.fold max _ f _) (funext fun l' => ?_))
  pointwise
  simp only [e]

/-- A row's codes: its hidden values clipped at that scale. -/
theorem codeTurn_apply (dA : Vec Ideal S256x128 .f32) (dH : Vec Ideal S256x6912 .f32) (Y : Fin 256) (J : Fin 6912) :
    codeTurn dA dH (ix2 Y J) = codeOf (dH (ix2 Y J))
      (scaleOf (Finset.univ.fold max (Ideal.ofBits FTy.f32 4286578688#32) fun l' : Fin 128 => dA (ix2 Y l'))) := by
  have e : (⟨32 * (Y.val / 32) + Y.val % 32, by omega⟩ : Fin 256) = Y := Fin.ext (by dsimp only; omega)
  have h (z : Fin 32) (D : Vec Ideal S32x128 .f32) (H : Vec Ideal S32x6912 .f32) : k0_pay7 D H (ix2 z J) = codeOf (H (ix2 z J))
      (scaleOf (Finset.univ.fold max (Ideal.ofBits FTy.f32 4286578688#32) fun l' : Fin 128 => D (ix2 z l'))) := by
    pointwise [k0_pay7, k0_pay5, scaleOf, codeOf]
  refine (h _ _ _).trans ?_
  refine congrArg₂ codeOf ?_ (congrArg scaleOf (congrArg (fun f => Finset.fold max _ f _) (funext fun l' => ?_))) <;>
  · pointwise
    simp only [e]

variable (m : (ℓ : Loc nD τ sig) → Buf (Elt Ideal) ℓ) (hO : Ok m) (c : Dev nD)
theorem scales_apply {r : ℕ} (hr : r < 8) (Y : Fin 256) (l : Fin 128) (R : Fin 2048) (hR : R.val = 256 * r + Y.val) :
    scales m hO c r (ix2 Y l) = (inputs m c).scale R := by
  rw [scales, scaleTurn_apply, largest_eq m hO c hr Y R hR]
  rfl

theorem codes_apply {r : ℕ} (hr : r < 8) (Y : Fin 256) (J : Fin 6912) (R : Fin 2048) (hR : R.val = 256 * r + Y.val) :
    codes m hO c r (ix2 Y J) = (inputs m c).code R J := by
  rw [codes, codeTurn_apply, largest_eq m hO c hr Y R hR, hid_apply m hO c hr Y J R hR]
  rfl

/-- One entry of an output tile. -/
theorem outTile_apply (i : grid0.Coords) (h4 : k0_cond4 i = 1#1) (cd : Vec Ideal S256x6912 .fp8e4m3) (sc : Vec Ideal S256x128 .f32)
    (w2 : Vec Ideal S1x6912x512 .fp8e4m3) (s2 : Vec Ideal S1x1x512 .f32) (tres : Vec Ideal S256x512 .f32) (mod : Vec Ideal S12x8x512 .f32)
    (y : Fin 256) (d : Fin 512) (b : Fin 8) (hb : b.val = (i 0).val) :
    outTile i h4 cd sc w2 s2 tres mod (ix2 y d) = tres (ix2 y d) + mod (ix3 11 b d) *
      ((∑ k, cd (ix2 y k) * w2 (ix3 0 k d)) * sc (ix2 y 0) * s2 (ix3 0 0 d)) := by
  have h (f : Vec Ideal S256x1 .f32) (g : Vec Ideal S1x1x512 .f32) : k0_pay8 cd w2 f s2 g tres (ix2 y d) =
      tres (ix2 y d) + g (ix3 0 0 d) * ((∑ k, cd (ix2 y k) * w2 (ix3 0 k d)) * f (ix2 y 0) * s2 (ix3 0 0 d)) := by
    pointwise [k0_pay8]
  have h1 : View.ld sc (Rect.unit (s := S256x128) ![0, 0] S256x1.size inb_S256x128_S256x1_0_0) (ix2 y 0) = sc (ix2 y 0) := by
    pointwise
  have h2 : View.ld mod (Rect.unit (s := S12x8x512) (k0_off5 i) S1x1x512.size (k0_off5_inb i h4)) (ix3 0 0 d) = mod (ix3 11 b d) := by
    refine congrArg mod (funext fun a => Fin.ext ?_)
    refine (ValueKit.rect_emb_unit_val (s := S12x8x512) _ _ _ _ a).trans ?_
    have e := congrFun (k0_off5_eq i) a
    fin_cases a
    · exact e
    · exact e.trans hb.symm
    · exact (congrArg (· + d.val) e).trans (Nat.zero_add _)
  rw [outTile, h, h1, h2]

/-- The output block of a point of the second half. -/
theorem outBlock_apply (t : Fin grid0.N) (h4 : k0_cond4 (grid0.coords t) = 1#1) (y : Fin 256) (d : Fin 512) (R : Fin 2048) (D : Fin 2560)
    (hR : R.val = 256 * (t.val / 14) + y.val) (hD : D.val = 512 * (t.val % 14 - 9) + d.val) :
    outBlock m hO c t h4 (ix2 y d) = (inputs m c).out R D := by
  have ht : t.val < 112 := N_0 ▸ t.isLt
  have hr : t.val / 14 < 8 := by omega
  have h0 := coords0 t
  have h1 := coords1 t
  have hR' : R.val = (grid0.coords t 0).val * 256 + y.val := by rw [h0]; omega
  have hD' : D.val = ((grid0.coords t 1).val - 9) * 512 + d.val := by rw [h1]; omega
  refine (outTile_apply _ h4 _ _ _ _ _ _ y d (sample R) (by show R.val / 256 = _; rw [h0]; omega)).trans ?_
  rw [Cert.TextFfn.Inputs.out]
  have hw2 (k : Fin 6912) := block6 m hO c t 0 k d 0 k D rfl rfl hD'
  have hs2 := block7 m hO c t 0 0 d 0 0 D rfl rfl hD'
  have hir := block8 m hO c t y d R D hR' hD'
  have hmo := block9 m hO c t 11 (sample R) d 11 (sample R) D rfl rfl hD'
  simp only [hw2, hs2, hir, hmo, codes_apply m hO c hr y _ R hR, scales_apply m hO c hr y _ R hR]

end Cert.TextKernelIdeal.Ffn

end
-- ==== Proof.TextArrays.lean ====
/- The text launch's three result arrays are the formula's: every block that is written back holds the formula's entries of its place, and
   the blocks fill the arrays. -/
module

public import proofs.«01_k».proof.Proof.TextCodes
public import proofs.«01_k».proof.Proof.TextPoints

@[expose] public section

set_option maxRecDepth 16384

noncomputable section

namespace Cert.TextKernelIdeal.Ffn

open Cert.TextKernelIdeal.Gen Cert.TextFfn.Inputs
open Idealize.ShloMosaic Idealize.ShloMosaic.TcCoe

variable (m : (ℓ : Loc nD τ sig) → Buf (Elt Ideal) ℓ) (hO : Ok m) (c : Dev nD)

/-- The output array: a block for each row block and column block, written back by the visits 9 to 13. -/
theorem array10 : (dats m hO 0 c).arrAt 10 grid0.N = (inputs m c).outArr := by
  have e0 (t : Fin grid0.N) : (pcfg0.win (adm m hO) 10).index t 0 = (grid0.coords t 0).val := congrFun (index10 (grid0.coords t)) 0
  have e1 (t : Fin grid0.N) : (pcfg0.win (adm m hO) 10).index t 1 = (grid0.coords t 1).val - 9 := congrFun (index10 (grid0.coords t)) 1
  refine (dats m hO 0 c).arrAt_eq_of_emb 10 _ (fun (t : Fin grid0.N) hf (y : S256x512.Idx) => ?_) (fun (i : S2048x2560.Idx) => ?_)
  · have ht : t.val < 112 := N_0 ▸ t.isLt
    have h0 := coords0 t
    have h1 := coords1 t
    have hy : (y 0).val < 256 := (y 0).isLt
    have hz : (y 1).val < 512 := (y 1).isLt
    have hf' := (flush0_10 (adm m hO) t).mp hf
    have E0 : _ = (pcfg0.win (adm m hO) 10).index t 0 * 256 + (y 0).val := Pipeline.Window.rect_emb_val (pcfg0.win (adm m hO) 10) t y 0
    have E1 : _ = (pcfg0.win (adm m hO) 10).index t 1 * 512 + (y 1).val := Pipeline.Window.rect_emb_val (pcfg0.win (adm m hO) 10) t y 1
    rw [e0] at E0
    rw [e1] at E1
    rw [after0_10 m hO c t ((cond4_iff t).mpr hf')]
    blk_simp
    refine (congrArg _ (eq_ix2 y)).trans ?_
    refine (outBlock_apply m hO c t ((cond4_iff t).mpr hf') (y 0) (y 1) ⟨256 * (t.val / 14) + (y 0).val, by omega⟩
      ⟨512 * (t.val % 14 - 9) + (y 1).val, by omega⟩ rfl rfl).trans ?_
    exact congrArg₂ (inputs m c).out (Fin.ext (E0.trans (by rw [h0]; dsimp only; omega)).symm) (Fin.ext (E1.trans (by rw [h1]; dsimp only; omega)).symm)
  · have hi0 : (i 0).val < 2048 := (i 0).isLt
    have hi1 : (i 1).val < 2560 := (i 1).isLt
    have hN : 14 * ((i 0).val / 256) + 9 + (i 1).val / 512 < grid0.N := by rw [N_0]; omega
    refine ⟨⟨14 * ((i 0).val / 256) + 9 + (i 1).val / 512, hN⟩, (flush0_10 (adm m hO) _).mpr (by dsimp only; omega), ?_⟩
    refine (Pipeline.Window.emb_mem_blk_iff (pcfg0.win (adm m hO) 10) ⟨14 * ((i 0).val / 256) + 9 + (i 1).val / 512, hN⟩ i).mpr fun a => ?_
    have h0 := coords0 ⟨14 * ((i 0).val / 256) + 9 + (i 1).val / 512, hN⟩
    have h1 := coords1 ⟨14 * ((i 0).val / 256) + 9 + (i 1).val / 512, hN⟩
    dsimp only at h0 h1
    fin_cases a
    · show (pcfg0.win (adm m hO) 10).index _ 0 * 256 ≤ (i 0).val ∧ (i 0).val < (pcfg0.win (adm m hO) 10).index _ 0 * 256 + 256
      rw [e0]; omega
    · show (pcfg0.win (adm m hO) 10).index _ 1 * 512 ≤ (i 1).val ∧ (i 1).val < (pcfg0.win (adm m hO) 10).index _ 1 * 512 + 512
      rw [e1]; omega

/-- The codes: one block of 256 rows for each row block. -/
theorem array11 : (dats m hO 0 c).arrAt 11 grid0.N = (inputs m c).codeArr := by
  have e0 (t : Fin grid0.N) : (pcfg0.win (adm m hO) 11).index t 0 = (grid0.coords t 0).val := congrFun (index11 (grid0.coords t)) 0
  have e1 (t : Fin grid0.N) : (pcfg0.win (adm m hO) 11).index t 1 = 0 := congrFun (index11 (grid0.coords t)) 1
  refine (dats m hO 0 c).arrAt_eq_of_emb 11 _ (fun (t : Fin grid0.N) hf (y : S256x6912.Idx) => ?_) (fun (i : S2048x6912.Idx) => ?_)
  · have ht : t.val < 112 := N_0 ▸ t.isLt
    have h0 := coords0 t
    have hy : (y 0).val < 256 := (y 0).isLt
    have E0 : _ = (pcfg0.win (adm m hO) 11).index t 0 * 256 + (y 0).val := Pipeline.Window.rect_emb_val (pcfg0.win (adm m hO) 11) t y 0
    have E1 : _ = (pcfg0.win (adm m hO) 11).index t 1 * 6912 + (y 1).val := Pipeline.Window.rect_emb_val (pcfg0.win (adm m hO) 11) t y 1
    rw [e0] at E0
    rw [e1] at E1
    rw [after0_11]
    blk_simp
    refine (congrArg _ (eq_ix2 y)).trans ?_
    refine (codes_apply m hO c (r := t.val / 14) (by omega) (y 0) (y 1) ⟨256 * (t.val / 14) + (y 0).val, by omega⟩ rfl).trans ?_
    exact congrArg₂ (inputs m c).code (Fin.ext (E0.trans (by rw [h0]; dsimp only; omega)).symm) (Fin.ext (E1.trans (by omega)).symm)
  · have hi0 : (i 0).val < 2048 := (i 0).isLt
    have hi1 : (i 1).val < 6912 := (i 1).isLt
    have hN : 14 * ((i 0).val / 256) + 13 < grid0.N := by rw [N_0]; omega
    refine ⟨⟨14 * ((i 0).val / 256) + 13, hN⟩, (flush0_11 (adm m hO) _).mpr (by dsimp only; omega), ?_⟩
    refine (Pipeline.Window.emb_mem_blk_iff (pcfg0.win (adm m hO) 11) ⟨14 * ((i 0).val / 256) + 13, hN⟩ i).mpr fun a => ?_
    have h0 := coords0 ⟨14 * ((i 0).val / 256) + 13, hN⟩
    dsimp only at h0
    fin_cases a
    · show (pcfg0.win (adm m hO) 11).index _ 0 * 256 ≤ (i 0).val ∧ (i 0).val < (pcfg0.win (adm m hO) 11).index _ 0 * 256 + 256
      rw [e0]; omega
    · show (pcfg0.win (adm m hO) 11).index _ 1 * 6912 ≤ (i 1).val ∧ (i 1).val < (pcfg0.win (adm m hO) 11).index _ 1 * 6912 + 6912
      rw [e1]; omega

/-- The scales, in all 128 lanes. -/
theorem array12 : (dats m hO 0 c).arrAt 12 grid0.N = (inputs m c).scaleArr := by
  have e0 (t : Fin grid0.N) : (pcfg0.win (adm m hO) 12).index t 0 = (grid0.coords t 0).val := congrFun (index12 (grid0.coords t)) 0
  have e1 (t : Fin grid0.N) : (pcfg0.win (adm m hO) 12).index t 1 = 0 := congrFun (index12 (grid0.coords t)) 1
  refine (dats m hO 0 c).arrAt_eq_of_emb 12 _ (fun (t : Fin grid0.N) hf (y : S256x128.Idx) => ?_) (fun (i : S2048x128.Idx) => ?_)
  · have ht : t.val < 112 := N_0 ▸ t.isLt
    have h0 := coords0 t
    have hy : (y 0).val < 256 := (y 0).isLt
    have E0 : _ = (pcfg0.win (adm m hO) 12).index t 0 * 256 + (y 0).val := Pipeline.Window.rect_emb_val (pcfg0.win (adm m hO) 12) t y 0
    have E1 : _ = (pcfg0.win (adm m hO) 12).index t 1 * 128 + (y 1).val := Pipeline.Window.rect_emb_val (pcfg0.win (adm m hO) 12) t y 1
    rw [e0] at E0
    rw [e1] at E1
    rw [after0_12]
    blk_simp
    refine (congrArg _ (eq_ix2 y)).trans ?_
    refine (scales_apply m hO c (r := t.val / 14) (by omega) (y 0) (y 1) ⟨256 * (t.val / 14) + (y 0).val, by omega⟩ rfl).trans ?_
    exact congrArg (inputs m c).scale (Fin.ext (E0.trans (by rw [h0]; dsimp only; omega)).symm)
  · have hi0 : (i 0).val < 2048 := (i 0).isLt
    have hi1 : (i 1).val < 128 := (i 1).isLt
    have hN : 14 * ((i 0).val / 256) + 13 < grid0.N := by rw [N_0]; omega
    refine ⟨⟨14 * ((i 0).val / 256) + 13, hN⟩, (flush0_12 (adm m hO) _).mpr (by dsimp only; omega), ?_⟩
    refine (Pipeline.Window.emb_mem_blk_iff (pcfg0.win (adm m hO) 12) ⟨14 * ((i 0).val / 256) + 13, hN⟩ i).mpr fun a => ?_
    have h0 := coords0 ⟨14 * ((i 0).val / 256) + 13, hN⟩
    dsimp only at h0
    fin_cases a
    · show (pcfg0.win (adm m hO) 12).index _ 0 * 256 ≤ (i 0).val ∧ (i 0).val < (pcfg0.win (adm m hO) 12).index _ 0 * 256 + 256
      rw [e0]; omega
    · show (pcfg0.win (adm m hO) 12).index _ 1 * 128 ≤ (i 1).val ∧ (i 1).val < (pcfg0.win (adm m hO) 12).index _ 1 * 128 + 128
      rw [e1]; omega

end Cert.TextKernelIdeal.Ffn

end
-- ==== Proof.TextReference.lean ====
/- The text reference's arithmetic, entry by entry (the hidden values, a row's scale, its codes and its output row), and with it its
   three result arrays: they are the formula's. -/
module

public import proofs.«01_k».proof.Defs
public import proofs.«01_k».proof.Proof.TextSpec
public import proofs.«01_k».proof.Proof.Gen.TextReferenceIdeal.Frame
public import proofs.«01_k».proof.Proof.Gen.TextReferenceIdeal.Value

@[expose] public section

set_option maxRecDepth 16384

noncomputable section

namespace Cert.TextReferenceIdeal.Ffn

open Cert.TextReferenceIdeal Cert.TextReferenceIdeal.Gen Cert.TextReferenceIdeal.Value Cert.TextFfn
open Cert.Ffn.Inputs (scaleOf codeOf)
open Idealize.ShloMosaic Idealize.ShloMosaic.TcCoe

theorem pay4_apply (x : Vec Ideal S2048x2560 .fp8e4m3) (xs : Vec Ideal S2048x1 .f32) (w1 : Vec Ideal S1x2560x6912 .fp8e4m3) (s1 : Vec Ideal S1x1x6912 .f32)
    (w3 : Vec Ideal S1x2560x6912 .fp8e4m3) (s3 : Vec Ideal S1x1x6912 .f32) (z : Fin 2048) (j : Fin 6912) : k0_pay4 x xs w1 s1 w3 s3 (ix2 z j) =
      (∑ k, x (ix2 z k) * w1 (ix3 0 k j)) * xs (ix2 z 0) * s1 (ix3 0 0 j) *
        Ideal.logistic ((∑ k, x (ix2 z k) * w1 (ix3 0 k j)) * xs (ix2 z 0) * s1 (ix3 0 0 j)) *
        ((∑ k, x (ix2 z k) * w3 (ix3 0 k j)) * xs (ix2 z 0) * s3 (ix3 0 0 j)) := by
  pointwise [k0_pay4]

/-- A row's largest absolute value, in the one column that holds it. -/
theorem amax_apply (h : FVec Ideal S2048x6912 .f32) (z : Fin 2048) :
    shapeCast S2048x1 (multiReduction .maximumf [1] S2048 (absf h) 0xFF800000#32 reduces_S2048x6912_S2048 (.inl rfl) rfl) shapeCasts_S2048_S2048x1 (ix2 z 0) =
      Finset.univ.fold max (Ideal.ofBits FTy.f32 4286578688#32) fun j : Fin 6912 => FloatOps.absf (F := Ideal) (φ := .f32) (h (ix2 z j)) := by
  pointwise

/-- A row's scale from its largest absolute value. -/
theorem scaleOf_apply (g : FVec Ideal S2048x1 .f32) (z : Fin 2048) :
    select (cmpf .oeq g (broadcast S2048x1 (Scalar.ofBits .f32 0x00000000#32))) (broadcast S2048x1 (Scalar.ofBits .f32 0x3F800000#32))
      (divf g (broadcast S2048x1 (Scalar.ofBits .f32 0x43E00000#32))) (ix2 z 0) = scaleOf (g (ix2 z 0)) := by
  pointwise [scaleOf]

/-- A row's scale, from its hidden values. -/
theorem pay5_apply (x : Vec Ideal S2048x2560 .fp8e4m3) (xs : Vec Ideal S2048x1 .f32) (w1 : Vec Ideal S1x2560x6912 .fp8e4m3) (s1 : Vec Ideal S1x1x6912 .f32)
    (w3 : Vec Ideal S1x2560x6912 .fp8e4m3) (s3 : Vec Ideal S1x1x6912 .f32) (z : Fin 2048) :
    k0_pay5 x xs w1 s1 w3 s3 (ix2 z 0) = scaleOf (Finset.univ.fold max (Ideal.ofBits FTy.f32 4286578688#32) fun j : Fin 6912 =>
        FloatOps.absf (F := Ideal) (φ := .f32) (k0_pay4 x xs w1 s1 w3 s3 (ix2 z j))) :=
  (scaleOf_apply (shapeCast S2048x1 (multiReduction .maximumf [1] S2048 (absf (k0_pay4 x xs w1 s1 w3 s3)) 0xFF800000#32 reduces_S2048x6912_S2048 (.inl rfl) rfl)
    shapeCasts_S2048_S2048x1) z).trans (congrArg scaleOf (amax_apply (k0_pay4 x xs w1 s1 w3 s3) z))

theorem pay2_apply (g : FVec Ideal S2048x1 .f32) (z : Fin 2048) (l : Fin 128) : k0_pay2 g (ix2 z l) = g (ix2 z 0) := by
  pointwise [k0_pay2]

/-- A code from a value and its row's scale: the quotient clipped. -/
theorem codeOf_apply (h : FVec Ideal S2048x6912 .f32) (g : FVec Ideal S2048x1 .f32) (z : Fin 2048) (j : Fin 6912) :
    k0_pay1 (Scalar.ofBits .f32 0x43E00000#32) (maximumf (broadcast S2048x6912 (Scalar.ofBits .f32 0xC3E00000#32))
      (divf h (broadcastTo S2048x6912 g broadcasts_S2048x1_S2048x6912))) (ix2 z j) = codeOf (h (ix2 z j)) (g (ix2 z 0)) := by
  pointwise [k0_pay1, codeOf]

/-- A row's codes: its hidden values over its scale, clipped. -/
theorem pay1_apply (x : Vec Ideal S2048x2560 .fp8e4m3) (xs : Vec Ideal S2048x1 .f32) (w1 : Vec Ideal S1x2560x6912 .fp8e4m3) (s1 : Vec Ideal S1x1x6912 .f32)
    (w3 : Vec Ideal S1x2560x6912 .fp8e4m3) (s3 : Vec Ideal S1x1x6912 .f32) (z : Fin 2048) (j : Fin 6912) :
    k0_pay1 (Scalar.ofBits .f32 0x43E00000#32) (k0_pay6 x xs w1 s1 w3 s3) (ix2 z j) =
      codeOf (k0_pay4 x xs w1 s1 w3 s3 (ix2 z j)) (k0_pay5 x xs w1 s1 w3 s3 (ix2 z 0)) :=
  codeOf_apply (k0_pay4 x xs w1 s1 w3 s3) (k0_pay5 x xs w1 s1 w3 s3) z j

/-- Splitting 2048 rows into 8 samples of 256 keeps every entry. -/
theorem split_apply (v : FVec Ideal S2048x2560 .f32) (z : Fin 2048) (d : Fin 2560) :
    shapeCast S8x256x2560 v shapeCasts_S2048x2560_S8x256x2560 (ix3 (Inputs.sample z) ⟨z.val % 256, Nat.mod_lt _ (by decide)⟩ d) = v (ix2 z d) := by
  refine shapeCast_apply v _ _ (ix2 z d) ?_
  rw [Shape.rowMajor_val_two, Shape.rowMajor_val_three]
  show z.val * 2560 + d.val = (z.val / 256 * 256 + z.val % 256) * 2560 + d.val
  omega

/-- Joining the samples keeps every entry. -/
theorem join_apply (v : FVec Ideal S8x256x2560 .f32) (z : Fin 2048) (d : Fin 2560) :
    shapeCast S2048x2560 v shapeCasts_S8x256x2560_S2048x2560 (ix2 z d) = v (ix3 (Inputs.sample z) ⟨z.val % 256, Nat.mod_lt _ (by decide)⟩ d) := by
  refine shapeCast_apply v _ _ _ ?_
  rw [Shape.rowMajor_val_three, Shape.rowMajor_val_two]
  show (z.val / 256 * 256 + z.val % 256) * 2560 + d.val = z.val * 2560 + d.val
  omega

/-- A gate row is one sample's. -/
theorem gate_apply (g : Vec Ideal S1x8x2560 .f32) (b : Fin 8) (y : Fin 256) (d : Fin 2560) :
    broadcastTo S8x256x2560 (shapeCast S8x1x2560 (shapeCast S8x2560 g shapeCasts_S1x8x2560_S8x2560) shapeCasts_S8x2560_S8x1x2560)
      broadcasts_S8x1x2560_S8x256x2560 (ix3 b y d) = g (ix3 0 b d) := by
  pointwise

/-- The gated sum, sample by sample. -/
theorem gated_apply (u v : FVec Ideal S2048x2560 .f32) (g : Vec Ideal S1x8x2560 .f32) (z : Fin 2048) (d : Fin 2560) :
    shapeCast S2048x2560 (addf (shapeCast S8x256x2560 u shapeCasts_S2048x2560_S8x256x2560)
      (mulf (broadcastTo S8x256x2560 (shapeCast S8x1x2560 (shapeCast S8x2560 g shapeCasts_S1x8x2560_S8x2560) shapeCasts_S8x2560_S8x1x2560)
        broadcasts_S8x1x2560_S8x256x2560) (shapeCast S8x256x2560 v shapeCasts_S2048x2560_S8x256x2560)))
      shapeCasts_S8x256x2560_S2048x2560 (ix2 z d) = u (ix2 z d) + g (ix3 0 (Inputs.sample z) d) * v (ix2 z d) := by
  rw [join_apply]
  exact congrArg₂ (· + ·) (split_apply u z d) (congrArg₂ (· * ·) (gate_apply g _ _ d) (split_apply v z d))

/-- The second product with its two scales. -/
theorem down_apply (g : FVec Ideal S2048x1 .f32) (p : FVec Ideal S2048x6912 .fp8e4m3) (w2 : Vec Ideal S1x6912x2560 .fp8e4m3)
    (s2 : Vec Ideal S1x1x2560 .f32) (z : Fin 2048) (d : Fin 2560) :
    mulf (mulf (matmul dot_S2048x6912_S6912x2560_S2048x2560_1_0_0_1_n_n none (φ₂ := .fp8e4m3) p (shapeCast S6912x2560 w2 shapeCasts_S1x6912x2560_S6912x2560)
      (constant S2048x2560 .f32 0x00000000#32)) (broadcastTo S2048x2560 g broadcasts_S2048x1_S2048x2560))
      (broadcastTo S2048x2560 (shapeCast S1x2560 s2 shapeCasts_S1x1x2560_S1x2560) broadcasts_S1x2560_S2048x2560) (ix2 z d) =
      (∑ j, p (ix2 z j) * w2 (ix3 0 j d)) * g (ix2 z 0) * s2 (ix3 0 0 d) := by
  pointwise

theorem pay3_apply (g : FVec Ideal S2048x1 .f32) (b : Ideal .f32) (q : FVec Ideal S2048x6912 .f32) (w2 : Vec Ideal S1x6912x2560 .fp8e4m3)
    (s2 : Vec Ideal S1x1x2560 .f32) (u : Vec Ideal S2048x2560 .f32) (v : Vec Ideal S1x8x2560 .f32) (z : Fin 2048) (d : Fin 2560) :
    k0_pay3 g b q w2 s2 u v (ix2 z d) = u (ix2 z d) + v (ix3 0 (Inputs.sample z) d) *
      ((∑ j, k0_pay1 b q (ix2 z j) * w2 (ix3 0 j d)) * g (ix2 z 0) * s2 (ix3 0 0 d)) :=
  (gated_apply u _ v z d).trans (congrArg (fun e => u (ix2 z d) + v (ix3 0 (Inputs.sample z) d) * e) (down_apply g (k0_pay1 b q) w2 s2 z d))

section arrays

variable (I : Inputs)

/-- The loads of whole arrays, and of the scales' first lane. -/
theorem load_lane (R : Fin 2048) : View.ld I.xs r0_1 (ix2 R 0) = I.xs (ix2 R 0) := by
  pointwise

theorem load_gate (b : Fin 8) (d : Fin 2560) : View.ld I.mod r0_6 (ix3 0 b d) = I.mod (ix3 11 b d) := by
  pointwise

theorem hidden_apply (R : Fin 2048) (j : Fin 6912) :
    k0_pay4 (View.ld I.x r0_0) (View.ld I.xs r0_1) (View.ld I.w1 r0_2) (View.ld I.s1 r0_3) (View.ld I.w3 r0_2) (View.ld I.s3 r0_3) (ix2 R j) =
      I.hidden R j := by
  rw [pay4_apply, load_lane, View.ld_unit_zero (S := S2048x2560) hz0 _ I.x, View.ld_unit_zero (S := S1x2560x6912) hz2 _ I.w1,
    View.ld_unit_zero (S := S1x1x6912) hz3 _ I.s1, View.ld_unit_zero (S := S1x2560x6912) hz2 _ I.w3, View.ld_unit_zero (S := S1x1x6912) hz3 _ I.s3]
  rfl

theorem rowScale_apply (R : Fin 2048) : k0_pay7 I.x I.xs I.w1 I.s1 I.w3 I.s3 I.w2 I.s2 I.tres I.mod (ix2 R 0) = I.scale R := by
  unfold k0_pay7
  rw [pay5_apply]
  simp only [hidden_apply]
  rfl

theorem rowCodes_apply (R : Fin 2048) (j : Fin 6912) :
    k0_pay1 (Scalar.ofBits .f32 0x43E00000#32) (k0_pay8 I.x I.xs I.w1 I.s1 I.w3 I.s3 I.w2 I.s2 I.tres I.mod) (ix2 R j) = I.code R j := by
  unfold k0_pay8
  rw [pay1_apply, pay5_apply]
  simp only [hidden_apply]
  rfl

theorem out_apply (R : Fin 2048) (d : Fin 2560) : G10 I.x I.xs I.w1 I.s1 I.w3 I.s3 I.w2 I.s2 I.tres I.mod (ix2 R d) = I.out R d := by
  refine (pay3_apply _ _ _ _ _ _ _ _ _).trans ?_
  rw [rowScale_apply, load_gate]
  simp only [rowCodes_apply]
  rfl

theorem out_eq : G10 I.x I.xs I.w1 I.s1 I.w3 I.s3 I.w2 I.s2 I.tres I.mod = I.outArr := by
  funext y
  rw [eq_ix2 y]
  exact out_apply I _ _

theorem code_eq : G11 I.x I.xs I.w1 I.s1 I.w3 I.s3 I.w2 I.s2 I.tres I.mod = I.codeArr := by
  funext y
  rw [eq_ix2 y]
  exact rowCodes_apply I _ _

theorem scale_eq : G12 I.x I.xs I.w1 I.s1 I.w3 I.s3 I.w2 I.s2 I.tres I.mod = I.scaleArr := by
  funext y
  rw [eq_ix2 y]
  exact (pay2_apply _ _ _).trans (rowScale_apply I _)

end arrays

/-- The launch's arrays on device `c`. -/
def inputs (m : (ℓ : Loc nD τ sig) → Buf (Elt Ideal) ℓ) (c : Dev nD) : Inputs where
  x := m ((c : Thread nD τ).loc main_arg0)
  xs := m ((c : Thread nD τ).loc main_arg1)
  w1 := m ((c : Thread nD τ).loc main_arg2)
  s1 := m ((c : Thread nD τ).loc main_arg3)
  w3 := m ((c : Thread nD τ).loc main_arg4)
  s3 := m ((c : Thread nD τ).loc main_arg5)
  w2 := m ((c : Thread nD τ).loc main_arg6)
  s2 := m ((c : Thread nD τ).loc main_arg7)
  tres := m ((c : Thread nD τ).loc main_arg8)
  mod := m ((c : Thread nD τ).loc main_arg9)

/-- The text reference's frame. -/
theorem frame_reference : Cert.quiescent_TextReferenceIdeal := fun m ρ _ => Cert.TextReferenceIdeal.Gen.frame m ρ

end Cert.TextReferenceIdeal.Ffn

end
-- ==== Proof.TextEquation.lean ====
/- The two text launches end with the same three arrays: each program's are the formula's of its own inputs, and the inputs agree. -/
module

public import proofs.«01_k».proof.Proof.TextArrays
public import proofs.«01_k».proof.Proof.TextFrame
public import proofs.«01_k».proof.Proof.TextReference

@[expose] public section

set_option maxRecDepth 16384

noncomputable section

namespace Cert.TextKernelIdeal.Ffn

open Cert.TextKernelIdeal.Gen
open Idealize.ShloMosaic Idealize.ShloMosaic.TcCoe Idealize.SL.Sem

/-- The kernel's run: the three results are the formula's arrays. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (inputs m c).outArr
      ∧ r.2.mem ((c.tc : Thread nD τ).loc main_v1_1) = (inputs m c).codeArr
      ∧ r.2.mem ((c.tc : Thread nD τ).loc main_v1_2) = (inputs m c).scaleArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h.1 c).1 10).trans (array10 m (ok m) c), ((h.1 c).1 11).trans (array11 m (ok m) c),
    ((h.1 c).1 12).trans (array12 m (ok m) c), args_of m (ok m) h.1 c⟩) (run_main m ρ (ok m))

end Cert.TextKernelIdeal.Ffn

namespace Cert.Proof.Text

open Idealize.ShloMosaic Idealize.ShloMosaic.TcCoe Idealize.SL.Sem

/-- Over the extended reals the text kernel and its reference end with equal results: outputs, codes and scales. -/
theorem algebraic : Cert.algebraic_TextKernelIdeal_TextReferenceIdeal := by
  intro m g m' g' hp hm
  have hI : ∀ c : Dev Cert.TextKernelIdeal.nD, Cert.TextReferenceIdeal.Ffn.inputs m' c = Cert.TextKernelIdeal.Ffn.inputs m c := fun c => by
    obtain ⟨h0, h1, h2, h3, h4, h5, h6, h7, h8, h9⟩ := hm c
    unfold Cert.TextReferenceIdeal.Ffn.inputs Cert.TextKernelIdeal.Ffn.inputs
    congr 1
  refine ⟨fun c => (Cert.TextKernelIdeal.Ffn.inputs m c).outArr, fun c => (Cert.TextKernelIdeal.Ffn.inputs m c).codeArr,
    fun c => (Cert.TextKernelIdeal.Ffn.inputs m c).scaleArr, Cert.TextKernelIdeal.Ffn.run_value m g, ?_⟩
  refine (θ_run Cert.TextReferenceIdeal.defs _ _).mono (fun r h c => ?_) (Cert.TextReferenceIdeal.Value.run m' g')
  obtain ⟨h0, h1, h2, ha⟩ := h c
  exact ⟨(h0.trans (Cert.TextReferenceIdeal.Ffn.out_eq (Cert.TextReferenceIdeal.Ffn.inputs m' c))).trans (congrArg Cert.TextFfn.Inputs.outArr (hI c)),
    (h1.trans (Cert.TextReferenceIdeal.Ffn.code_eq (Cert.TextReferenceIdeal.Ffn.inputs m' c))).trans (congrArg Cert.TextFfn.Inputs.codeArr (hI c)),
    (h2.trans (Cert.TextReferenceIdeal.Ffn.scale_eq (Cert.TextReferenceIdeal.Ffn.inputs m' c))).trans (congrArg Cert.TextFfn.Inputs.scaleArr (hI c)), ha⟩

end Cert.Proof.Text

end
-- ==== Proof.OprojTile.lean ====
/- What one visit of the output projection's body makes of its blocks: the gated sum, its layer norm's codes and their scales, in
   eight groups of 32 rows. -/
module

public import proofs.«01_k».proof.Proof.Gen.OprojKernelIdeal.Frame.Runs
public import Idealize.ShloMosaic.Lib.WritesUnit
public import Idealize.ShloMosaic.Lib.ValueIdxCoords
public import Idealize.ShloMosaic.Lib.Pipeline.RowLoads

@[expose] public section

set_option maxRecDepth 16384

noncomputable section

namespace Cert.OprojKernelIdeal.Proj

open Cert.OprojKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable {sig' : RefSig} {κ : Kind} {sp : Space}

/-- What a store over a whole buffer leaves. -/
theorem read_whole {S : Shape} {e : EltTy} {Val : EltTy → Type} (v : View sig' κ sp S e) (f : v.ty.Contents Val) {off : Fin S.rank → Nat}
    (hz : off = fun _ => 0) (inb : ∀ a, off a + S.size a ≤ S.size a) (w : S.Idx → Val e) (L : List (View.Piece Val S e)) :
    v.read Val (v.writes Val f (⟨Rect.unit off S.size inb, w⟩ :: L)) = w := by
  subst hz
  funext y
  exact View.read_writes_cons_unit_of_mem v f inb w L y y rfl fun a => (Nat.zero_add _).symm

/-- A load through rectangles at equal offsets. -/
theorem ld_unit_congr {S : Shape} {e : EltTy} {Val : EltTy → Type} (X : S.Idx → Val e) {off off' size : Fin S.rank → Nat} (h : off = off')
    (inb : ∀ a, off a + size a ≤ S.size a) (inb' : ∀ a, off' a + size a ≤ S.size a) :
    View.ld X (Rect.unit off size inb) = View.ld X (Rect.unit off' size inb') := by
  subst h; rfl

theorem inb_rows (k : Fin 8) : ∀ a : Fin 2, (![32 * k.val, 0] : Fin 2 → Nat) a + S32x2560.size a ≤ S256x2560.size a := by
  revert k; decide
theorem inb_scale (k : Fin 8) : ∀ a : Fin 2, (![32 * k.val, 0] : Fin 2 → Nat) a + S32x1.size a ≤ S256x128.size a := by
  revert k; decide

/-- The group of 32 rows that row `r` of a block is in. -/
abbrev grp (r : Fin 256) : Fin 8 := ⟨r.val / 32, by omega⟩
/-- The place of row `r` in its group. -/
abbrev plc (r : Fin 256) : Fin 32 := ⟨r.val % 32, by omega⟩

section
variable (g sh sc : Vec F S1x1x2560 .f32) (x1 : Vec F S256x128 .f32) (x2 : Vec F S256x2560 .bf16) (P : Vec F S256x2560 .f32) (x5 x6 : Vec F S1x2560 .f32)

/-- Group `k` of the gated sum, from the product's rows `P`. -/
def sumRows (k : Fin 8) : FVec F S32x2560 .f32 :=
  k0_pay8 (k0_pay1 g) (View.ld x2 (Rect.unit (s := S256x2560) ![32 * k.val, 0] S32x2560.size (inb_rows k)))
    (View.ld P (Rect.unit (s := S256x2560) ![32 * k.val, 0] S32x2560.size (inb_rows k)))
    (View.ld x1 (Rect.unit (s := S256x128) ![32 * k.val, 0] S32x1.size (inb_scale k))) x5 x6

/-- Group `k` of the layer norm, scaled but not yet shifted. -/
def normRows (k : Fin 8) : FVec F S32x2560 .f32 :=
  k0_pay9 (k0_pay1 g) (k0_pay2 sc) (View.ld x2 (Rect.unit (s := S256x2560) ![32 * k.val, 0] S32x2560.size (inb_rows k)))
    (View.ld P (Rect.unit (s := S256x2560) ![32 * k.val, 0] S32x2560.size (inb_rows k)))
    (View.ld x1 (Rect.unit (s := S256x128) ![32 * k.val, 0] S32x1.size (inb_scale k))) x5 x6

/-- The block's gated sum. -/
def sumTile : Vec F S256x2560 .f32 := fun y => sumRows g x1 x2 P x5 x6 (grp (y 0)) (ix2 (n0 := 32) (n1 := 2560) (plc (y 0)) (y 1))
/-- The block's codes. -/
def codeTile : Vec F S256x2560 .fp8e4m3 := fun y =>
  k0_pay6 sh (normRows g sc x1 x2 P x5 x6 (grp (y 0))) (ix2 (n0 := 32) (n1 := 2560) (plc (y 0)) (y 1))
/-- The block's scales, repeated over the 128 lanes. -/
def scaleTile : Vec F S256x128 .f32 := fun y =>
  k0_pay7 sh (normRows g sc x1 x2 P x5 x6 (grp (y 0))) (ix2 (n0 := 32) (n1 := 128) (plc (y 0)) (y 1))

/-- The groups depend on the product's rows of the group only. -/
theorem sumRows_congr (Q : Vec F S256x2560 .f32) (k : Fin 8) (h : ∀ y : S256x2560.Idx, 32 * k.val ≤ (y 0).val → Q y = P y) :
    sumRows g x1 x2 Q x5 x6 k = sumRows g x1 x2 P x5 x6 k := by
  unfold sumRows
  congr 1
  funext j
  exact h _ (Nat.le_add_right _ _)
theorem normRows_congr (Q : Vec F S256x2560 .f32) (k : Fin 8) (h : ∀ y : S256x2560.Idx, 32 * k.val ≤ (y 0).val → Q y = P y) :
    normRows g sc x1 x2 Q x5 x6 k = normRows g sc x1 x2 P x5 x6 k := by
  unfold normRows
  congr 1
  funext j
  exact h _ (Nat.le_add_right _ _)
end

end Cert.OprojKernelIdeal.Proj

end
-- ==== Proof.OprojBody.lean ====
/- One run of the output projection's body: the product is stored whole, then eight trips of a loop, 32 rows each, read it back and
   leave the gated sum in its place, with the codes and scales of its layer norm. -/
module

public import proofs.«01_k».proof.Proof.OprojTile

@[expose] public section

set_option maxRecDepth 16384

noncomputable section

namespace Cert.OprojKernelIdeal.Proj

open Cert.OprojKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x2560 .fp8e4m3) (harg1 : arg1.IsWhole) (arg2 : Memref sig .tc .vmem S256x128 .f32) (harg2 : arg2.IsWhole) (arg3 : Memref sig .tc .vmem S256x2560 .bf16) (harg3 : arg3.IsWhole) (arg4 : Memref sig .tc .vmem S12x8x2560 .f32) (harg4 : arg4.IsWhole) (arg5 : Memref sig .tc .vmem S2560x2560 .fp8e4m3) (harg5 : arg5.IsWhole) (arg6 : Memref sig .tc .vmem S1x2560 .f32) (harg6 : arg6.IsWhole) (arg7 : Memref sig .tc .vmem S1x2560 .f32) (harg7 : arg7.IsWhole) (arg8 : Memref sig .tc .vmem S256x2560 .f32) (harg8 : arg8.IsWhole) (arg9 : Memref sig .tc .vmem S256x2560 .fp8e4m3) (harg9 : arg9.IsWhole) (arg10 : Memref sig .tc .vmem S256x128 .f32) (harg10 : arg10.IsWhole)

/-- What one trip of the loop stores. -/
theorem trip_pieces (g sh sc : Vec F S1x1x2560 .f32) (X2 : BufTy.Contents (Elt F) arg2.view.ty) (X3 : BufTy.Contents (Elt F) arg3.view.ty) (X6 : BufTy.Contents (Elt F) arg6.view.ty) (X7 : BufTy.Contents (Elt F) arg7.view.ty) (k : Fin k0_t1_loop.trips)
    (f8 : BufTy.Contents (Elt F) arg8.view.ty) (f9 : BufTy.Contents (Elt F) arg9.view.ty) (f10 : BufTy.Contents (Elt F) arg10.view.ty) :
    tripL_k0_t1 (F := F) Variants.none c none i arg1 harg1 arg2 harg2 arg3 harg3 arg4 harg4 arg5 harg5 arg6 harg6 arg7 harg7 arg8 harg8 arg9 harg9 arg10 harg10 g sh sc X2 X3 X6 X7 k f8 f9 f10
      = ([⟨Rect.unit (s := S256x2560) (k0_off4 k) S32x2560.size (k0_off4_inb k),
          k0_pay8 (k0_pay1 g) (arg3.view.readAt (Elt F) (Rect.unit (s := S256x2560) (k0_off4 k) S32x2560.size (k0_off4_inb k)).toLoadRect X3)
            (arg8.view.readAt (Elt F) (Rect.unit (s := S256x2560) (k0_off4 k) S32x2560.size (k0_off4_inb k)).toLoadRect f8)
            (arg2.view.readAt (Elt F) (Rect.unit (s := S256x128) (k0_off5 k) S32x1.size (k0_off5_inb k)).toLoadRect X2)
            (arg6.view.readAt (Elt F) (Rect.unit (s := S1x2560) ![0, 0] S1x2560.size inb_S1x2560_S1x2560_0_0).toLoadRect X6) (arg7.view.readAt (Elt F) (Rect.unit (s := S1x2560) ![0, 0] S1x2560.size inb_S1x2560_S1x2560_0_0).toLoadRect X7)⟩],
        [⟨Rect.unit (s := S256x2560) (k0_off4 k) S32x2560.size (k0_off4_inb k),
          k0_pay6 sh (k0_pay9 (k0_pay1 g) (k0_pay2 sc) (arg3.view.readAt (Elt F) (Rect.unit (s := S256x2560) (k0_off4 k) S32x2560.size (k0_off4_inb k)).toLoadRect X3)
            (arg8.view.readAt (Elt F) (Rect.unit (s := S256x2560) (k0_off4 k) S32x2560.size (k0_off4_inb k)).toLoadRect f8)
            (arg2.view.readAt (Elt F) (Rect.unit (s := S256x128) (k0_off5 k) S32x1.size (k0_off5_inb k)).toLoadRect X2)
            (arg6.view.readAt (Elt F) (Rect.unit (s := S1x2560) ![0, 0] S1x2560.size inb_S1x2560_S1x2560_0_0).toLoadRect X6) (arg7.view.readAt (Elt F) (Rect.unit (s := S1x2560) ![0, 0] S1x2560.size inb_S1x2560_S1x2560_0_0).toLoadRect X7))⟩],
        [⟨Rect.unit (s := S256x128) (k0_off6 k) S32x128.size (k0_off6_inb k),
          k0_pay7 sh (k0_pay9 (k0_pay1 g) (k0_pay2 sc) (arg3.view.readAt (Elt F) (Rect.unit (s := S256x2560) (k0_off4 k) S32x2560.size (k0_off4_inb k)).toLoadRect X3)
            (arg8.view.readAt (Elt F) (Rect.unit (s := S256x2560) (k0_off4 k) S32x2560.size (k0_off4_inb k)).toLoadRect f8)
            (arg2.view.readAt (Elt F) (Rect.unit (s := S256x128) (k0_off5 k) S32x1.size (k0_off5_inb k)).toLoadRect X2)
            (arg6.view.readAt (Elt F) (Rect.unit (s := S1x2560) ![0, 0] S1x2560.size inb_S1x2560_S1x2560_0_0).toLoadRect X6) (arg7.view.readAt (Elt F) (Rect.unit (s := S1x2560) ![0, 0] S1x2560.size inb_S1x2560_S1x2560_0_0).toLoadRect X7))⟩]) := by
  unfold tripL_k0_t1 trip_k0_t1
  rfl

section
variable (g sh sc : Vec F S1x1x2560 .f32) (x1 : Vec F S256x128 .f32) (x2 : Vec F S256x2560 .bf16) (P : Vec F S256x2560 .f32) (x5 x6 : Vec F S1x2560 .f32)
  (G8 : BufTy.Contents (Elt F) arg8.view.ty) (G9 : BufTy.Contents (Elt F) arg9.view.ty) (G10 : BufTy.Contents (Elt F) arg10.view.ty)

/-- The rows of the trips from `n` on still hold the product. -/
theorem rest_before (h8 : arg8.view.read (Elt F) G8 = P) :
    ∀ n, n ≤ k0_t1_loop.trips → ∀ y : S256x2560.Idx, 32 * n ≤ (y 0).val →
      arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1) y = P y
  | 0, _, y, _ => congrFun h8 y
  | n + 1, hn, y, hy => by
    rw [show (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 (n + 1)) = _ from pb_k0_t1_succ _ _ _ _ _ _ _ _ _ _ _ _ _ _ _ _ _ _ _ _ _ _ _ _ _ _ _ _ _ _ _ _ _ _ ⟨n, hn⟩, trip_pieces]
    simp only [List.singleton_append]
    refine (View.read_writes_cons_unit_of_not_mem _ _ _ _ _ y (k0_off4_eq ⟨n, hn⟩) 0 (Or.inr (show 32 * n + 32 ≤ (y 0).val by omega))).trans ?_
    exact rest_before h8 n (by omega) y (by omega)

/-- A trip's rows of the gated sum, at what the trips before left. -/
theorem trip_sum (h8 : arg8.view.read (Elt F) G8 = P) (n : ℕ) (hn : n < k0_t1_loop.trips) (hn' : n < 8) :
    sumRows g x1 x2 (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) x5 x6 ⟨n, hn'⟩ = sumRows g x1 x2 P x5 x6 ⟨n, hn'⟩ :=
  sumRows_congr g x1 x2 P x5 x6 _ ⟨n, hn'⟩ fun y hy => rest_before c i arg1 harg1 arg2 harg2 arg3 harg3 arg4 harg4 arg5 harg5 arg6 harg6 arg7 harg7 arg8 harg8 arg9 harg9 arg10 harg10 g sh sc x1 x2 P x5 x6 G8 G9 G10 h8 n (by omega) y hy
theorem trip_norm (h8 : arg8.view.read (Elt F) G8 = P) (n : ℕ) (hn : n < k0_t1_loop.trips) (hn' : n < 8) :
    normRows g sc x1 x2 (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) x5 x6 ⟨n, hn'⟩ = normRows g sc x1 x2 P x5 x6 ⟨n, hn'⟩ :=
  normRows_congr g sc x1 x2 P x5 x6 _ ⟨n, hn'⟩ fun y hy => rest_before c i arg1 harg1 arg2 harg2 arg3 harg3 arg4 harg4 arg5 harg5 arg6 harg6 arg7 harg7 arg8 harg8 arg9 harg9 arg10 harg10 g sh sc x1 x2 P x5 x6 G8 G9 G10 h8 n (by omega) y hy

/-- The gated sum of the rows of the trips before `n`. -/
theorem sum_before (B : BufTy.Contents (Elt F) arg8.view.ty) (h8 : arg8.view.read (Elt F) G8 = P) :
    ∀ n, n ≤ k0_t1_loop.trips → ∀ y : S256x2560.Idx, (y 0).val < 32 * n →
      arg8.view.read (Elt F) (arg8.view.writes (Elt F) B (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1) y = sumTile g x1 x2 P x5 x6 y
  | 0, _, y, hy => absurd hy (by omega)
  | n + 1, hn, y, hy => by
    rw [show (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 (n + 1)) = _ from pb_k0_t1_succ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off4_eq ⟨n, hn⟩) 0 (Or.inl h)).trans ?_
      exact sum_before B h8 n (by omega) y h
    · have q : (y 0).val / 32 = n := by omega
      have hn' : n < 8 := Nat.lt_of_lt_of_le hn k0_t1_abs.2.1
      refine (View.read_writes_cons_unit_of_mem _ _ _ _ _ y (ix2 (n0 := 32) (n1 := 2560) ⟨(y 0).val % 32, by omega⟩ (y 1)) (k0_off4_eq ⟨n, hn⟩)
        (Fin.forall_fin_two.mpr ⟨show (y 0).val = 32 * n + (y 0).val % 32 by omega, (Nat.zero_add _).symm⟩)).trans ?_
      simp only [View.readAt_eq_ld, Memref.IsWhole.read_unread]
      unfold sumTile
      rw [show grp (y 0) = ⟨n, hn'⟩ from Fin.ext q]
      exact congrFun (((show _ = sumRows g x1 x2 (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) x5 x6 ⟨n, hn'⟩ from by
        unfold sumRows
        rw [View.ld_unit_zero (by funext a; fin_cases a <;> rfl), View.ld_unit_zero (by funext a; fin_cases a <;> rfl),
          ld_unit_congr x2 (k0_off4_eq ⟨n, hn⟩) _ (inb_rows ⟨n, hn'⟩), ld_unit_congr x1 (k0_off5_eq ⟨n, hn⟩) _ (inb_scale ⟨n, hn'⟩),
          ld_unit_congr (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) (k0_off4_eq ⟨n, hn⟩) _ (inb_rows ⟨n, hn'⟩)]).trans
        (trip_sum c i arg1 harg1 arg2 harg2 arg3 harg3 arg4 harg4 arg5 harg5 arg6 harg6 arg7 harg7 arg8 harg8 arg9 harg9 arg10 harg10 g sh sc x1 x2 P x5 x6 G8 G9 G10 h8 n hn hn'))) _

/-- The codes of the rows of the trips before `n`. -/
theorem codes_before (B : BufTy.Contents (Elt F) arg9.view.ty) (h8 : arg8.view.read (Elt F) G8 = P) :
    ∀ n, n ≤ k0_t1_loop.trips → ∀ y : S256x2560.Idx, (y 0).val < 32 * n →
      arg9.view.read (Elt F) (arg9.view.writes (Elt F) B (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).2.1) y = codeTile g sh sc x1 x2 P x5 x6 y
  | 0, _, y, hy => absurd hy (by omega)
  | n + 1, hn, y, hy => by
    rw [show (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 (n + 1)) = _ from pb_k0_t1_succ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off4_eq ⟨n, hn⟩) 0 (Or.inl h)).trans ?_
      exact codes_before B h8 n (by omega) y h
    · have q : (y 0).val / 32 = n := by omega
      have hn' : n < 8 := Nat.lt_of_lt_of_le hn k0_t1_abs.2.1
      refine (View.read_writes_cons_unit_of_mem _ _ _ _ _ y (ix2 (n0 := 32) (n1 := 2560) ⟨(y 0).val % 32, by omega⟩ (y 1)) (k0_off4_eq ⟨n, hn⟩)
        (Fin.forall_fin_two.mpr ⟨show (y 0).val = 32 * n + (y 0).val % 32 by omega, (Nat.zero_add _).symm⟩)).trans ?_
      simp only [View.readAt_eq_ld, Memref.IsWhole.read_unread]
      unfold codeTile
      rw [show grp (y 0) = ⟨n, hn'⟩ from Fin.ext q]
      exact congrFun (congrArg (k0_pay6 sh) ((show _ = normRows g sc x1 x2 (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) x5 x6 ⟨n, hn'⟩ from by
        unfold normRows
        rw [View.ld_unit_zero (by funext a; fin_cases a <;> rfl), View.ld_unit_zero (by funext a; fin_cases a <;> rfl),
          ld_unit_congr x2 (k0_off4_eq ⟨n, hn⟩) _ (inb_rows ⟨n, hn'⟩), ld_unit_congr x1 (k0_off5_eq ⟨n, hn⟩) _ (inb_scale ⟨n, hn'⟩),
          ld_unit_congr (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) (k0_off4_eq ⟨n, hn⟩) _ (inb_rows ⟨n, hn'⟩)]).trans
        (trip_norm c i arg1 harg1 arg2 harg2 arg3 harg3 arg4 harg4 arg5 harg5 arg6 harg6 arg7 harg7 arg8 harg8 arg9 harg9 arg10 harg10 g sh sc x1 x2 P x5 x6 G8 G9 G10 h8 n hn hn'))) _

/-- The scales of the rows of the trips before `n`. -/
theorem scales_before (B : BufTy.Contents (Elt F) arg10.view.ty) (h8 : arg8.view.read (Elt F) G8 = P) :
    ∀ n, n ≤ k0_t1_loop.trips → ∀ y : S256x128.Idx, (y 0).val < 32 * n →
      arg10.view.read (Elt F) (arg10.view.writes (Elt F) B (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).2.2) y = scaleTile g sh sc x1 x2 P x5 x6 y
  | 0, _, y, hy => absurd hy (by omega)
  | n + 1, hn, y, hy => by
    rw [show (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 (n + 1)) = _ from pb_k0_t1_succ _ _ _ _ _ _ _ _ _ _ _ _ _ _ _ _ _ _ _ _ _ _ _ _ _ _ _ _ _ _ _ _ _ _ ⟨n, hn⟩, trip_pieces]
    simp only [List.singleton_append]
    by_cases h : (y 0).val < 32 * n
    · refine (View.read_writes_cons_unit_of_not_mem _ _ _ _ _ y (k0_off6_eq ⟨n, hn⟩) 0 (Or.inl h)).trans ?_
      exact scales_before B h8 n (by omega) y h
    · have q : (y 0).val / 32 = n := by omega
      have hn' : n < 8 := Nat.lt_of_lt_of_le hn k0_t1_abs.2.1
      refine (View.read_writes_cons_unit_of_mem _ _ _ _ _ y (ix2 (n0 := 32) (n1 := 128) ⟨(y 0).val % 32, by omega⟩ (y 1)) (k0_off6_eq ⟨n, hn⟩)
        (Fin.forall_fin_two.mpr ⟨show (y 0).val = 32 * n + (y 0).val % 32 by omega, (Nat.zero_add _).symm⟩)).trans ?_
      simp only [View.readAt_eq_ld, Memref.IsWhole.read_unread]
      unfold scaleTile
      rw [show grp (y 0) = ⟨n, hn'⟩ from Fin.ext q]
      exact congrFun (congrArg (k0_pay7 sh) ((show _ = normRows g sc x1 x2 (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) x5 x6 ⟨n, hn'⟩ from by
        unfold normRows
        rw [View.ld_unit_zero (by funext a; fin_cases a <;> rfl), View.ld_unit_zero (by funext a; fin_cases a <;> rfl),
          ld_unit_congr x2 (k0_off4_eq ⟨n, hn⟩) _ (inb_rows ⟨n, hn'⟩), ld_unit_congr x1 (k0_off5_eq ⟨n, hn⟩) _ (inb_scale ⟨n, hn'⟩),
          ld_unit_congr (arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 n).1)) (k0_off4_eq ⟨n, hn⟩) _ (inb_rows ⟨n, hn'⟩)]).trans
        (trip_norm c i arg1 harg1 arg2 harg2 arg3 harg3 arg4 harg4 arg5 harg5 arg6 harg6 arg7 harg7 arg8 harg8 arg9 harg9 arg10 harg10 g sh sc x1 x2 P x5 x6 G8 G9 G10 h8 n hn hn'))) _

/-- All the rows' gated sum after the loop. -/
theorem sum_after (B : BufTy.Contents (Elt F) arg8.view.ty) (h8 : arg8.view.read (Elt F) G8 = P) :
    arg8.view.read (Elt F) (arg8.view.writes (Elt F) B (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 k0_t1_loop.trips).1) = sumTile g x1 x2 P x5 x6 :=
  funext fun y => sum_before c i arg1 harg1 arg2 harg2 arg3 harg3 arg4 harg4 arg5 harg5 arg6 harg6 arg7 harg7 arg8 harg8 arg9 harg9 arg10 harg10 g sh sc x1 x2 P x5 x6 G8 G9 G10 B h8 _ (Nat.le_refl _) y (Nat.lt_of_lt_of_le (y 0).isLt (by decide))

/-- All the rows' codes after the loop. -/
theorem codes_after (B : BufTy.Contents (Elt F) arg9.view.ty) (h8 : arg8.view.read (Elt F) G8 = P) :
    arg9.view.read (Elt F) (arg9.view.writes (Elt F) B (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 k0_t1_loop.trips).2.1) = codeTile g sh sc x1 x2 P x5 x6 :=
  funext fun y => codes_before c i arg1 harg1 arg2 harg2 arg3 harg3 arg4 harg4 arg5 harg5 arg6 harg6 arg7 harg7 arg8 harg8 arg9 harg9 arg10 harg10 g sh sc x1 x2 P x5 x6 G8 G9 G10 B h8 _ (Nat.le_refl _) y (Nat.lt_of_lt_of_le (y 0).isLt (by decide))

/-- All the rows' scales after the loop. -/
theorem scales_after (B : BufTy.Contents (Elt F) arg10.view.ty) (h8 : arg8.view.read (Elt F) G8 = P) :
    arg10.view.read (Elt F) (arg10.view.writes (Elt F) B (pb_k0_t1 (F := F) Variants.none c none i arg1 harg1 arg2 harg2 arg3 harg3 arg4 harg4 arg5 harg5 arg6 harg6 arg7 harg7 arg8 harg8 arg9 harg9 arg10 harg10 g sh sc (harg2.unread x1) (harg3.unread x2) (harg6.unread x5) (harg7.unread x6) G8 G9 G10 k0_t1_loop.trips).2.2) = scaleTile g sh sc x1 x2 P x5 x6 :=
  funext fun y => scales_before c i arg1 harg1 arg2 harg2 arg3 harg3 arg4 harg4 arg5 harg5 arg6 harg6 arg7 harg7 arg8 harg8 arg9 harg9 arg10 harg10 g sh sc x1 x2 P x5 x6 G8 G9 G10 B h8 _ (Nat.le_refl _) y (Nat.lt_of_lt_of_le (y 0).isLt (by decide))
end

set_option maxHeartbeats 4000000 in
/-- One visit of the body. -/
theorem runBody
    (x0 : Vec F S256x2560 .fp8e4m3) (x1 : Vec F S256x128 .f32) (x2 : Vec F S256x2560 .bf16) (x3 : Vec F S12x8x2560 .f32) (x4 : Vec F S2560x2560 .fp8e4m3) (x5 : Vec F S1x2560 .f32) (x6 : Vec F S1x2560 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (sumTile (View.ld x3 (Rect.unit (s := S12x8x2560) (k0_off1 i) S1x1x2560.size (k0_off1_inb i))) x1 x2 (k0_pay3 x0 x4) x5 x6) ∗ owns (c : Thread nD τ) arg9 fullShare (codeTile (View.ld x3 (Rect.unit (s := S12x8x2560) (k0_off1 i) S1x1x2560.size (k0_off1_inb i))) (View.ld x3 (Rect.unit (s := S12x8x2560) (k0_off2 i) S1x1x2560.size (k0_off2_inb i))) (View.ld x3 (Rect.unit (s := S12x8x2560) (k0_off3 i) S1x1x2560.size (k0_off3_inb i))) x1 x2 (k0_pay3 x0 x4) x5 x6) ∗ owns (c : Thread nD τ) arg10 fullShare (scaleTile (View.ld x3 (Rect.unit (s := S12x8x2560) (k0_off1 i) S1x1x2560.size (k0_off1_inb i))) (View.ld x3 (Rect.unit (s := S12x8x2560) (k0_off2 i) S1x1x2560.size (k0_off2_inb i))) (View.ld x3 (Rect.unit (s := S12x8x2560) (k0_off3 i) S1x1x2560.size (k0_off3_inb i))) x1 x2 (k0_pay3 x0 x4) x5 x6)) -∗ K ⟨⟩))
      ⊢ wp frame (wpE (defs₀ (F := F)) Variants.none c none) E (cc0_out_projection i arg1 harg1 arg2 harg2 arg3 harg3 arg4 harg4 arg5 harg5 arg6 harg6 arg7 harg7 arg8 harg8 arg9 harg9 arg10 harg10) K := by
  simp only [cc0_out_projection_eq_skeleton]; unfold cc0_out_projection_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  have h8 : ∀ B, arg8.view.read (Elt F) (arg8.view.writes (Elt F) B (runBody.sl.H7_1 c arg1 harg1 arg5 harg5 x0 x4)) = k0_pay3 x0 x4 := fun B => (by
      sl_unfold_words
      refine (read_whole arg8.view _ (by funext a; fin_cases a <;> rfl) _ _ _).trans ?_
      simp only [View.readAt_eq_ld, Memref.IsWhole.read_unread]
      rw [View.ld_unit_zero (by funext a; fin_cases a <;> rfl), View.ld_unit_zero (by funext a; fin_cases a <;> rfl)])
  isplitl [H7]
  · iexists _; isplitr; swap; · iexact H7
    ipureintro
    rw [View.writes_append]
    simp only [View.readAt_eq_ld, Memref.IsWhole.read_unread]
    exact sum_after c i arg1 harg1 arg2 harg2 arg3 harg3 arg4 harg4 arg5 harg5 arg6 harg6 arg7 harg7 arg8 harg8 arg9 harg9 arg10 harg10 (View.ld x3 (Rect.unit (s := S12x8x2560) (k0_off1 i) S1x1x2560.size (k0_off1_inb i))) (View.ld x3 (Rect.unit (s := S12x8x2560) (k0_off2 i) S1x1x2560.size (k0_off2_inb i))) (View.ld x3 (Rect.unit (s := S12x8x2560) (k0_off3 i) S1x1x2560.size (k0_off3_inb i))) x1 x2 (k0_pay3 x0 x4) x5 x6 _ _ _ _ (h8 _)
  isplitl [H8]
  · iexists _; isplitr; swap; · iexact H8
    ipureintro
    simp only [View.readAt_eq_ld, Memref.IsWhole.read_unread]
    exact codes_after c i arg1 harg1 arg2 harg2 arg3 harg3 arg4 harg4 arg5 harg5 arg6 harg6 arg7 harg7 arg8 harg8 arg9 harg9 arg10 harg10 (View.ld x3 (Rect.unit (s := S12x8x2560) (k0_off1 i) S1x1x2560.size (k0_off1_inb i))) (View.ld x3 (Rect.unit (s := S12x8x2560) (k0_off2 i) S1x1x2560.size (k0_off2_inb i))) (View.ld x3 (Rect.unit (s := S12x8x2560) (k0_off3 i) S1x1x2560.size (k0_off3_inb i))) x1 x2 (k0_pay3 x0 x4) x5 x6 _ _ _ _ (h8 _)
  iexists _; isplitr; swap; · iexact H9
  ipureintro
  simp only [View.readAt_eq_ld, Memref.IsWhole.read_unread]
  exact scales_after c i arg1 harg1 arg2 harg2 arg3 harg3 arg4 harg4 arg5 harg5 arg6 harg6 arg7 harg7 arg8 harg8 arg9 harg9 arg10 harg10 (View.ld x3 (Rect.unit (s := S12x8x2560) (k0_off1 i) S1x1x2560.size (k0_off1_inb i))) (View.ld x3 (Rect.unit (s := S12x8x2560) (k0_off2 i) S1x1x2560.size (k0_off2_inb i))) (View.ld x3 (Rect.unit (s := S12x8x2560) (k0_off3 i) S1x1x2560.size (k0_off3_inb i))) x1 x2 (k0_pay3 x0 x4) x5 x6 _ _ _ _ (h8 _)

end Cert.OprojKernelIdeal.Proj

end
-- ==== Proof.OprojFrame.lean ====
/- The output projection's frame at any reading of the floats: the pipeline's proof data, the body at a point, and the launch. -/
module

public import proofs.«01_k».proof.Proof.OprojBody
public import Idealize.ShloMosaic.Lib.Claim

@[expose] public section

set_option maxRecDepth 16384

noncomputable section

namespace Cert.OprojKernelIdeal.Proj

open Cert.OprojKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The sample's gate, shift and scale rows at point `t`. -/
def gateAt (c : Dev nD) (t : Fin cfg0.N) : Vec F S1x1x2560 .f32 :=
  View.ld (iblk m c 3 t : Vec F S12x8x2560 .f32) (Rect.unit (s := S12x8x2560) (k0_off1 (grid0.coords t)) S1x1x2560.size (k0_off1_inb (grid0.coords t)))
def shiftAt (c : Dev nD) (t : Fin cfg0.N) : Vec F S1x1x2560 .f32 :=
  View.ld (iblk m c 3 t : Vec F S12x8x2560 .f32) (Rect.unit (s := S12x8x2560) (k0_off2 (grid0.coords t)) S1x1x2560.size (k0_off2_inb (grid0.coords t)))
def scalAt (c : Dev nD) (t : Fin cfg0.N) : Vec F S1x1x2560 .f32 :=
  View.ld (iblk m c 3 t : Vec F S12x8x2560 .f32) (Rect.unit (s := S12x8x2560) (k0_off3 (grid0.coords t)) S1x1x2560.size (k0_off3_inb (grid0.coords t)))
/-- The product of the point's codes with the matrix. -/
def prodAt (c : Dev nD) (t : Fin cfg0.N) : Vec F S256x2560 .f32 := k0_pay3 (iblk m c 0 t) (iblk m c 4 t)

/-- The point's three tiles. -/
def sumAt (c : Dev nD) (t : Fin cfg0.N) : Vec F S256x2560 .f32 :=
  sumTile (gateAt m c t) (iblk m c 1 t) (iblk m c 2 t) (prodAt m c t) (iblk m c 5 t) (iblk m c 6 t)
def codesAt (c : Dev nD) (t : Fin cfg0.N) : Vec F S256x2560 .fp8e4m3 :=
  codeTile (gateAt m c t) (shiftAt m c t) (scalAt m c t) (iblk m c 1 t) (iblk m c 2 t) (prodAt m c t) (iblk m c 5 t) (iblk m c 6 t)
def scalesAt (c : Dev nD) (t : Fin cfg0.N) : Vec F S256x128 .f32 :=
  scaleTile (gateAt m c t) (shiftAt m c t) (scalAt m c t) (iblk m c 1 t) (iblk m c 2 t) (prodAt m c t) (iblk m c 5 t) (iblk m c 6 t)

/-! ## The pipeline's proof data -/

/-- The proof data of the one pipeline on core `c`: the arrays as the region finds them; after the body at point `t` each input's buffer at
    its block and the outputs' at the three tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => sumAt m c t
    | ⟨8, _⟩ => codesAt m c t
    | ⟨9, _⟩ => scalesAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = sumAt m c t := by dsimp only [dats]
theorem after0_8 (c : Dev nD) (t : Fin cfg0.N) : (dats m 0 c).after 8 t = codesAt m c t := by dsimp only [dats]
theorem after0_9 (c : Dev nD) (t : Fin cfg0.N) : (dats m 0 c).after 9 t = scalesAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` , -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold sumAt codesAt scalesAt gateAt shiftAt scalAt prodAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runBody c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it . -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: every run ends, with the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.OprojKernelIdeal.Proj

end
-- ==== Proof.OprojFrameBits.lean ====
/- The printed output projection and its copy to be read over the extended reals are the same program (the claim offers no rewrites), so the
   frame proved of the copy for every reading of the floats is the printed program's frame at bit patterns. The two programs' definitions are
   shown equal part by part: the body, the table of bodies, the pipeline around it. -/
module

public import proofs.«01_k».proof.Defs
public import proofs.«01_k».proof.Proof.OprojFrame
public import proofs.«01_k».proof.Proof.Gen.OprojKernel

@[expose] public section

set_option maxRecDepth 16384
set_option maxHeartbeats 1000000

noncomputable section

namespace Cert.Proof.Oproj

open Idealize.ShloMosaic Idealize.SL.Sem

/-- The two bodies are one function. -/
theorem same_body (a b c) : Cert.OprojKernel.cc0_out_projection (F := Bits) a b c = Cert.OprojKernelIdeal.cc0_out_projection (F := Bits) a b c := rfl

/-- So are the two tables that run them at a grid point. -/
theorem same_defs0 : Cert.OprojKernel.defs₀ (F := Bits) = Cert.OprojKernelIdeal.defs₀ (F := Bits) := by
  unfold Cert.OprojKernel.defs₀ Cert.OprojKernelIdeal.defs₀
  refine congrArg Defs.onTc (funext fun l => funext fun a => ?_)
  obtain rfl : l = (0 : Fin 1) := Subsingleton.elim (α := Fin 1) _ _
  obtain ⟨t, s⟩ := a
  dsimp only
  rw [same_body]
  rfl

theorem same_defs : Cert.OprojKernel.defs (F := Bits) = Cert.OprojKernelIdeal.defs (F := Bits) := by
  unfold Cert.OprojKernel.defs Cert.OprojKernelIdeal.defs
  rw [same_defs0]
  rfl

theorem same_main : Cert.OprojKernel.main (F := Bits) = Cert.OprojKernelIdeal.main (F := Bits) := rfl

/-- The frame of the printed program at bit patterns. -/
theorem frame_bits : Cert.quiescent_OprojKernel := fun m ρ _ => by
  have := Cert.OprojKernelIdeal.Proj.frame (F := Bits) m ρ
  rw [same_defs, same_main]
  exact this

/-- The frame of the copy over the extended reals. -/
theorem frame_ideal : Cert.quiescent_OprojKernelIdeal := fun m ρ _ =>
  Cert.OprojKernelIdeal.Proj.frame (F := Ideal) m ρ

end Cert.Proof.Oproj

end
-- ==== Proof.OprojSpec.lean ====
/- What the image output projection's launch computes, over the extended reals: each token's projected row added through the gate to its
   residual, the layer norm of that sum with its scale and shift, and the norm's codes and scale, as plain formulas of the seven input
   arrays. Both programs' results are shown to be these. -/
module

public import proofs.«01_k».proof.Proof.Spec

@[expose] public section

set_option maxRecDepth 16384

noncomputable section

namespace Cert.Proj

open Idealize.ShloMosaic
open Cert.Ffn.Inputs (scaleOf codeOf)

/-! ## The layer norm of one row of 2560 entries -/

/-- The number 2560. -/
def width : EReal := Ideal.ofBits FTy.f32 0x45200000#32

/-- The row's mean. -/
def meanOf (r : Fin 2560 → EReal) : EReal := Ideal.div (∑ d, r d) width

/-- The row's variance: the mean of the squared distances from its mean. -/
def varOf (r : Fin 2560 → EReal) : EReal := meanOf fun d => (r d - meanOf r) * (r d - meanOf r)

/-- An entry of the norm before its shift: the distance from the mean over the square root of the variance plus a small constant, times
    one plus the entry's scale `s`. -/
def stretched (r : Fin 2560 → EReal) (s : EReal) (d : Fin 2560) : EReal :=
  Ideal.div (r d - meanOf r) (Ideal.sqrt (varOf r + Ideal.ofBits FTy.f32 0x358637BD#32)) * (1 + s)

/-- A row's largest absolute value (the maximum taken from minus infinity). -/
def largestOf (r : Fin 2560 → EReal) : EReal :=
  Finset.univ.fold max (Ideal.ofBits FTy.f32 4286578688#32) fun d : Fin 2560 => FloatOps.absf (F := Ideal) (φ := .f32) (r d)

/-! ## The launch -/

/-- The arrays that one launch reads: the attention's codes and scales, the tokens, the modulation rows, and the projection's matrix with
    a scale and a bias for each of its columns. -/
structure Inputs where
  x : Vec Ideal ⟨2, ![8192, 2560]⟩ .fp8e4m3
  xs : Vec Ideal ⟨2, ![8192, 128]⟩ .f32
  img : Vec Ideal ⟨2, ![8192, 2560]⟩ .bf16
  mod : Vec Ideal ⟨3, ![12, 8, 2560]⟩ .f32
  w : Vec Ideal ⟨2, ![2560, 2560]⟩ .fp8e4m3
  ws : Vec Ideal ⟨2, ![1, 2560]⟩ .f32
  bias : Vec Ideal ⟨2, ![1, 2560]⟩ .f32

namespace Inputs

/-- The sample that token `R` belongs to: 1024 tokens each. -/
def sample (R : Fin 8192) : Fin 8 := ⟨R.val / 1024, by omega⟩

variable (I : Inputs)

/-- The gated sum: token + gate * (codes · matrix, scaled by the row's and the column's scales, plus the bias). -/
def sum (R : Fin 8192) (d : Fin 2560) : EReal :=
  I.img (ix2 R d) + I.mod (ix3 2 (sample R) d) *
    ((∑ k : Fin 2560, I.x (ix2 R k) * I.w (ix2 k d)) * I.xs (ix2 R 0) * I.ws (ix2 0 d) + I.bias (ix2 0 d))

/-- The modulated layer norm of that sum. -/
def norm (R : Fin 8192) (d : Fin 2560) : EReal := stretched (I.sum R) (I.mod (ix3 4 (sample R) d)) d + I.mod (ix3 3 (sample R) d)

def scale (R : Fin 8192) : EReal := scaleOf (largestOf (I.norm R))

def code (R : Fin 8192) (d : Fin 2560) : EReal := codeOf (I.norm R d) (I.scale R)

/-- The three results as arrays. -/
def sumArr : Vec Ideal ⟨2, ![8192, 2560]⟩ .f32 := fun i => I.sum (i 0) (i 1)
def codeArr : Vec Ideal ⟨2, ![8192, 2560]⟩ .fp8e4m3 := fun i => I.code (i 0) (i 1)
def scaleArr : Vec Ideal ⟨2, ![8192, 128]⟩ .f32 := fun i => I.scale (i 0)

end Inputs

end Cert.Proj

end
-- ==== Proof.OprojRows.lean ====
/- The kernel's arithmetic on a group of 32 rows and on a block, entry by entry: the gated sum, its layer norm, a row's scale, its codes. -/
module

public import proofs.«01_k».proof.Proof.OprojTile
public import proofs.«01_k».proof.Proof.OprojSpec

@[expose] public section

set_option maxRecDepth 16384

noncomputable section

namespace Cert.OprojKernelIdeal.Proj

open Cert.OprojKernelIdeal.Gen Cert.Proj
open Cert.Ffn.Inputs (scaleOf codeOf)
open Idealize.ShloMosaic Idealize.ShloMosaic.TcCoe

/-! ## A group of 32 rows -/

theorem pay1_apply (g : Vec Ideal S1x1x2560 .f32) (d : Fin 2560) : k0_pay1 g (ix2 0 d) = g (ix3 0 0 d) := by
  pointwise [k0_pay1]
theorem pay2_apply (g : Vec Ideal S1x1x2560 .f32) (d : Fin 2560) : k0_pay2 g (ix2 0 d) = g (ix3 0 0 d) := by
  pointwise [k0_pay2]

theorem pay3_apply (a : Vec Ideal S256x2560 .fp8e4m3) (w : Vec Ideal S2560x2560 .fp8e4m3) (y : Fin 256) (d : Fin 2560) :
    k0_pay3 a w (ix2 y d) = ∑ k, a (ix2 y k) * w (ix2 k d) := by
  pointwise [k0_pay3]

theorem pay8_apply (g : FVec Ideal S1x2560 .f32) (a : Vec Ideal S32x2560 .bf16) (p : Vec Ideal S32x2560 .f32) (s : Vec Ideal S32x1 .f32)
    (ws b : Vec Ideal S1x2560 .f32) (z : Fin 32) (d : Fin 2560) : k0_pay8 g a p s ws b (ix2 z d) =
      a (ix2 z d) + g (ix2 0 d) * (p (ix2 z d) * s (ix2 z 0) * ws (ix2 0 d) + b (ix2 0 d)) := by
  pointwise [k0_pay8]

/-- A row's mean, in the one column that holds it. -/
theorem mean_apply (v : FVec Ideal S32x2560 .f32) (z : Fin 32) :
    divf (shapeCast S32x1 (multiReduction .add [1] S32 v 0x00000000#32 reduces_S32x2560_S32 (.inl rfl) rfl) shapeCasts_S32_S32x1)
      (broadcast S32x1 (Scalar.ofBits .f32 0x45200000#32)) (ix2 z 0) = meanOf fun d => v (ix2 z d) := by
  pointwise [meanOf, width]

/-- The distance from the mean. -/
theorem dev_apply (v : FVec Ideal S32x2560 .f32) (u : FVec Ideal S32x1 .f32) (z : Fin 32) (d : Fin 2560) :
    subf v (broadcastTo S32x2560 u broadcasts_S32x1_S32x2560) (ix2 z d) = v (ix2 z d) - u (ix2 z 0) := by
  pointwise

/-- The quotient by the root, times one plus the scale. -/
theorem stretch_apply (v : FVec Ideal S32x2560 .f32) (u : FVec Ideal S32x1 .f32) (s : FVec Ideal S1x2560 .f32) (z : Fin 32) (d : Fin 2560) :
    mulf (divf v (broadcastTo S32x2560 (sqrt (addf u (broadcast S32x1 (Scalar.ofBits .f32 0x358637BD#32)))) broadcasts_S32x1_S32x2560))
      (broadcastTo S32x2560 (addf (broadcast S1x2560 (Scalar.ofBits .f32 0x3F800000#32)) s) broadcasts_S1x2560_S32x2560) (ix2 z d) =
      Ideal.div (v (ix2 z d)) (Ideal.sqrt (u (ix2 z 0) + Ideal.ofBits FTy.f32 0x358637BD#32)) * (1 + s (ix2 0 d)) := by
  pointwise

theorem pay9_apply (g sc : FVec Ideal S1x2560 .f32) (a : Vec Ideal S32x2560 .bf16) (p : Vec Ideal S32x2560 .f32) (s : Vec Ideal S32x1 .f32)
    (ws b : Vec Ideal S1x2560 .f32) (z : Fin 32) (d : Fin 2560) : k0_pay9 g sc a p s ws b (ix2 z d) =
      stretched (fun d' => k0_pay8 g a p s ws b (ix2 z d')) (sc (ix2 0 d)) d := by
  unfold k0_pay9
  generalize k0_pay8 g a p s ws b = v
  have e (d' : Fin 2560) := (dev_apply v _ z d').trans (congrArg (v (ix2 z d') - ·) (mean_apply v z))
  refine (stretch_apply _ _ _ z d).trans ?_
  rw [e, mean_apply]
  unfold stretched varOf
  refine congrArg (fun q => Ideal.div _ (Ideal.sqrt (meanOf q + _)) * _) (funext fun d' => ?_)
  exact congrArg₂ (· * ·) (e d') (e d')

theorem pay4_apply (sh : Vec Ideal S1x1x2560 .f32) (v : FVec Ideal S32x2560 .f32) (z : Fin 32) (d : Fin 2560) :
    k0_pay4 sh v (ix2 z d) = v (ix2 z d) + sh (ix3 0 0 d) := by
  pointwise [k0_pay4]

theorem pay5_apply (sh : Vec Ideal S1x1x2560 .f32) (v : FVec Ideal S32x2560 .f32) (z : Fin 32) :
    k0_pay5 sh v (ix2 z 0) = scaleOf (largestOf fun d => k0_pay4 sh v (ix2 z d)) := by
  unfold k0_pay5
  generalize k0_pay4 sh v = u
  pointwise [scaleOf, largestOf]

theorem pay6_apply (sh : Vec Ideal S1x1x2560 .f32) (v : FVec Ideal S32x2560 .f32) (z : Fin 32) (d : Fin 2560) :
    k0_pay6 sh v (ix2 z d) = codeOf (k0_pay4 sh v (ix2 z d)) (k0_pay5 sh v (ix2 z 0)) := by
  unfold k0_pay6
  generalize k0_pay4 sh v = u
  generalize k0_pay5 sh v = w
  pointwise [codeOf]

theorem pay7_apply (sh : Vec Ideal S1x1x2560 .f32) (v : FVec Ideal S32x2560 .f32) (z : Fin 32) (l : Fin 128) :
    k0_pay7 sh v (ix2 z l) = k0_pay5 sh v (ix2 z 0) := by
  unfold k0_pay7
  generalize k0_pay5 sh v = w
  pointwise

/-! ## A block of 256 rows -/

section
variable (g sh sc : Vec Ideal S1x1x2560 .f32) (x1 : Vec Ideal S256x128 .f32) (x2 : Vec Ideal S256x2560 .bf16) (P : Vec Ideal S256x2560 .f32)
  (x5 x6 : Vec Ideal S1x2560 .f32)

theorem row_eq (y : Fin 256) : (⟨32 * (y.val / 32) + y.val % 32, by omega⟩ : Fin 256) = y := Fin.ext (by dsimp only; omega)

theorem sumRows_apply (y : Fin 256) (d : Fin 2560) : sumRows g x1 x2 P x5 x6 (grp y) (ix2 (plc y) d) =
    x2 (ix2 y d) + g (ix3 0 0 d) * (P (ix2 y d) * x1 (ix2 y 0) * x5 (ix2 0 d) + x6 (ix2 0 d)) := by
  have e := row_eq y
  unfold sumRows
  rw [pay8_apply, pay1_apply]
  refine congrArg₂ (· + ·) ?_ (congrArg (g (ix3 0 0 d) * ·) (congrArg (fun q => q * x5 (ix2 0 d) + x6 (ix2 0 d)) (congrArg₂ (· * ·) ?_ ?_))) <;>
  · pointwise
    simp only [e]

theorem sumTile_apply (y : Fin 256) (d : Fin 2560) : sumTile g x1 x2 P x5 x6 (ix2 y d) =
    x2 (ix2 y d) + g (ix3 0 0 d) * (P (ix2 y d) * x1 (ix2 y 0) * x5 (ix2 0 d) + x6 (ix2 0 d)) :=
  sumRows_apply g x1 x2 P x5 x6 y d

/-- The norm's entries in terms of the sum's. -/
theorem norm_apply (y : Fin 256) (d : Fin 2560) : k0_pay4 sh (normRows g sc x1 x2 P x5 x6 (grp y)) (ix2 (plc y) d) =
    stretched (fun d' => sumTile g x1 x2 P x5 x6 (ix2 y d')) (sc (ix3 0 0 d)) d + sh (ix3 0 0 d) := by
  rw [pay4_apply]
  refine congrArg (· + _) ?_
  unfold normRows
  rw [pay9_apply, pay2_apply]
  rfl

theorem scaleTile_apply (y : Fin 256) (l : Fin 128) : scaleTile g sh sc x1 x2 P x5 x6 (ix2 y l) = scaleOf (largestOf fun d =>
    stretched (fun d' => sumTile g x1 x2 P x5 x6 (ix2 y d')) (sc (ix3 0 0 d)) d + sh (ix3 0 0 d)) := by
  refine (pay7_apply sh (normRows g sc x1 x2 P x5 x6 (grp y)) (plc y) l).trans ?_
  rw [pay5_apply]
  exact congrArg (fun f => scaleOf (largestOf f)) (funext fun d => norm_apply g sh sc x1 x2 P x5 x6 y d)

theorem codeTile_apply (y : Fin 256) (d : Fin 2560) (l : Fin 128) : codeTile g sh sc x1 x2 P x5 x6 (ix2 y d) =
    codeOf (stretched (fun d' => sumTile g x1 x2 P x5 x6 (ix2 y d')) (sc (ix3 0 0 d)) d + sh (ix3 0 0 d))
      (scaleTile g sh sc x1 x2 P x5 x6 (ix2 y l)) := by
  refine (pay6_apply sh (normRows g sc x1 x2 P x5 x6 (grp y)) (plc y) d).trans ?_
  rw [norm_apply]
  exact congrArg (codeOf _) (pay7_apply sh (normRows g sc x1 x2 P x5 x6 (grp y)) (plc y) l).symm
end

end Cert.OprojKernelIdeal.Proj

end
-- ==== Proof.OprojBlocks.lean ====
/- What the windows' blocks of the output projection hold, entry by entry: grid point `t` reads rows `256 t` to `256 t + 255` of the codes,
   the scales and the tokens, and the whole of the other arrays. -/
module

public import proofs.«01_k».proof.Proof.OprojRows
public import proofs.«01_k».proof.Proof.OprojFrame
public import Idealize.ShloMosaic.Lib.Pipeline.ValueKit

@[expose] public section

set_option maxRecDepth 16384

noncomputable section

namespace Cert.OprojKernelIdeal.Proj

open Cert.OprojKernelIdeal.Gen Cert.Proj
open Cert.Ffn.Inputs (scaleOf codeOf)
open Idealize.ShloMosaic Idealize.ShloMosaic.TcCoe

/-! ## The index maps -/

theorem index0 (t : Fin grid0.N) : cc0_transform_0 (grid0.coords t) = ![t.val, 0] := by revert t; decide +kernel
theorem index1 (t : Fin grid0.N) : cc0_transform_1 (grid0.coords t) = ![t.val, 0] := by revert t; decide +kernel
theorem index2 (t : Fin grid0.N) : cc0_transform_2 (grid0.coords t) = ![t.val, 0] := by revert t; decide +kernel
theorem index7 (t : Fin grid0.N) : cc0_transform_7 (grid0.coords t) = ![t.val, 0] := by revert t; decide +kernel
theorem index8 (t : Fin grid0.N) : cc0_transform_8 (grid0.coords t) = ![t.val, 0] := by revert t; decide +kernel
theorem index9 (t : Fin grid0.N) : cc0_transform_9 (grid0.coords t) = ![t.val, 0] := by revert t; decide +kernel
theorem index4 (t : Fin grid0.N) : cc0_transform_4 (grid0.coords t) = ![0, 0] := by revert t; decide +kernel
theorem index5 (t : Fin grid0.N) : cc0_transform_5 (grid0.coords t) = ![0, 0] := by revert t; decide +kernel
theorem index6 (t : Fin grid0.N) : cc0_transform_6 (grid0.coords t) = ![0, 0] := by revert t; decide +kernel
theorem index3 (t : Fin grid0.N) : cc0_transform_3 (grid0.coords t) = ![0, 0, 0] := by revert t; decide +kernel

/-- The modulation rows that point `t` reads: the gate, the shift and the scale of its sample. -/
theorem off1 (t : Fin grid0.N) : k0_off1 (grid0.coords t) = ![2, t.val / 4, 0] := by revert t; decide +kernel
theorem off2 (t : Fin grid0.N) : k0_off2 (grid0.coords t) = ![3, t.val / 4, 0] := by revert t; decide +kernel
theorem off3 (t : Fin grid0.N) : k0_off3 (grid0.coords t) = ![4, t.val / 4, 0] := by revert t; decide +kernel

variable (m : (ℓ : Loc nD τ sig) → Buf (Elt Ideal) ℓ) (c : Dev nD)

/-- The arrays that the pipeline reads on device `c`. -/
def inputs : Cert.Proj.Inputs where
  x := V m c main_arg0
  xs := V m c main_arg1
  img := V m c main_arg2
  mod := V m c main_arg3
  w := V m c main_arg4
  ws := V m c main_arg5
  bias := V m c main_arg6

/-! ## The blocks -/

theorem block0 (t : Fin grid0.N) (y : Fin 256) (k : Fin 2560) (R : Fin 8192) (hR : R.val = 256 * t.val + y.val) :
    iblk m c 0 t (ix2 y k) = (inputs m c).x (ix2 R k) := by
  have e0 : (cfg0.win 0).index t 0 = t.val := congrFun (index0 t) 0
  have e1 : (cfg0.win 0).index t 1 = 0 := congrFun (index0 t) 1
  unfold iblk
  blk_ext [hR] <;> (first | erw [e0] | erw [e1]) <;> omega

theorem block1 (t : Fin grid0.N) (y : Fin 256) (k : Fin 128) (R : Fin 8192) (hR : R.val = 256 * t.val + y.val) :
    iblk m c 1 t (ix2 y k) = (inputs m c).xs (ix2 R k) := by
  have e0 : (cfg0.win 1).index t 0 = t.val := congrFun (index1 t) 0
  have e1 : (cfg0.win 1).index t 1 = 0 := congrFun (index1 t) 1
  unfold iblk
  blk_ext [hR] <;> (first | erw [e0] | erw [e1]) <;> omega

theorem block2 (t : Fin grid0.N) (y : Fin 256) (k : Fin 2560) (R : Fin 8192) (hR : R.val = 256 * t.val + y.val) :
    iblk m c 2 t (ix2 y k) = (inputs m c).img (ix2 R k) := by
  have e0 : (cfg0.win 2).index t 0 = t.val := congrFun (index2 t) 0
  have e1 : (cfg0.win 2).index t 1 = 0 := congrFun (index2 t) 1
  unfold iblk
  blk_ext [hR] <;> (first | erw [e0] | erw [e1]) <;> omega

theorem block3 (t : Fin grid0.N) (a : Fin 12) (b : Fin 8) (k : Fin 2560) : iblk m c 3 t (ix3 a b k) = (inputs m c).mod (ix3 a b k) := by
  have e0 : (cfg0.win 3).index t 0 = 0 := congrFun (index3 t) 0
  have e1 : (cfg0.win 3).index t 1 = 0 := congrFun (index3 t) 1
  have e2 : (cfg0.win 3).index t 2 = 0 := congrFun (index3 t) 2
  unfold iblk
  blk_ext [] <;> (first | erw [e0] | erw [e1] | erw [e2]) <;> omega

theorem block4 (t : Fin grid0.N) (j : Fin 2560) (k : Fin 2560) : iblk m c 4 t (ix2 j k) = (inputs m c).w (ix2 j k) := by
  have e0 : (cfg0.win 4).index t 0 = 0 := congrFun (index4 t) 0
  have e1 : (cfg0.win 4).index t 1 = 0 := congrFun (index4 t) 1
  unfold iblk
  blk_ext [] <;> (first | erw [e0] | erw [e1]) <;> omega

theorem block5 (t : Fin grid0.N) (j : Fin 1) (k : Fin 2560) : iblk m c 5 t (ix2 j k) = (inputs m c).ws (ix2 j k) := by
  have e0 : (cfg0.win 5).index t 0 = 0 := congrFun (index5 t) 0
  have e1 : (cfg0.win 5).index t 1 = 0 := congrFun (index5 t) 1
  unfold iblk
  blk_ext [] <;> (first | erw [e0] | erw [e1]) <;> omega

theorem block6 (t : Fin grid0.N) (j : Fin 1) (k : Fin 2560) : iblk m c 6 t (ix2 j k) = (inputs m c).bias (ix2 j k) := by
  have e0 : (cfg0.win 6).index t 0 = 0 := congrFun (index6 t) 0
  have e1 : (cfg0.win 6).index t 1 = 0 := congrFun (index6 t) 1
  unfold iblk
  blk_ext [] <;> (first | erw [e0] | erw [e1]) <;> omega

/-- A sample's modulation row read out of the whole array. -/
theorem ld_mod (M : Vec Ideal S12x8x2560 .f32) (off : Fin 3 → ℕ) (inb : ∀ a, off a + S1x1x2560.size a ≤ S12x8x2560.size a) (a : Fin 12) (b : Fin 8)
    (d : Fin 2560) (h : off = ![a.val, b.val, 0]) : View.ld M (Rect.unit (s := S12x8x2560) off S1x1x2560.size inb) (ix3 0 0 d) = M (ix3 a b d) := by
  subst h
  refine congrArg M (funext fun e => Fin.ext ?_)
  refine (ValueKit.rect_emb_unit_val (s := S12x8x2560) _ _ _ _ e).trans ?_
  fin_cases e
  · rfl
  · rfl
  · exact Nat.zero_add _

section
variable (t : Fin grid0.N) (d : Fin 2560) (b : Fin 8) (hb : b.val = t.val / 4)

include hb in
theorem gateAt_apply : gateAt m c t (ix3 0 0 d) = (inputs m c).mod (ix3 2 b d) :=
  (ld_mod _ _ _ 2 b d ((off1 t).trans (by rw [hb]; rfl))).trans (block3 m c t 2 b d)
include hb in
theorem shiftAt_apply : shiftAt m c t (ix3 0 0 d) = (inputs m c).mod (ix3 3 b d) :=
  (ld_mod _ _ _ 3 b d ((off2 t).trans (by rw [hb]; rfl))).trans (block3 m c t 3 b d)
include hb in
theorem scalAt_apply : scalAt m c t (ix3 0 0 d) = (inputs m c).mod (ix3 4 b d) :=
  (ld_mod _ _ _ 4 b d ((off3 t).trans (by rw [hb]; rfl))).trans (block3 m c t 4 b d)
end

/-! ## A point's three tiles are the formula's -/

section
variable (t : Fin grid0.N) (y : Fin 256) (R : Fin 8192) (hR : R.val = 256 * t.val + y.val)

include hR in
theorem prodAt_apply (d : Fin 2560) : prodAt m c t (ix2 y d) = ∑ k, (inputs m c).x (ix2 R k) * (inputs m c).w (ix2 k d) := by
  refine (pay3_apply _ _ y d).trans (Finset.sum_congr rfl fun k _ => ?_)
  exact congrArg₂ (· * ·) (block0 m c t y k R hR) (block4 m c t k d)

include hR in
theorem sumAt_apply (d : Fin 2560) : sumAt m c t (ix2 y d) = (inputs m c).sum R d := by
  have hb : (Inputs.sample R).val = t.val / 4 := by show R.val / 1024 = _; omega
  refine (sumTile_apply _ _ _ _ _ _ y d).trans ?_
  rw [gateAt_apply m c t d _ hb, prodAt_apply m c t y R hR d]
  exact congrArg₂ (· + ·) (block2 m c t y d R hR) (congrArg ((inputs m c).mod (ix3 2 (Inputs.sample R) d) * ·)
    (congrArg₂ (· + ·) (congrArg₂ (· * ·) (congrArg ((∑ k, (inputs m c).x (ix2 R k) * (inputs m c).w (ix2 k d)) * ·) (block1 m c t y 0 R hR))
      (block5 m c t 0 d)) (block6 m c t 0 d)))

include hR in
/-- The norm's entries. -/
theorem normAt_apply (d : Fin 2560) :
    stretched (fun d' => sumAt m c t (ix2 y d')) (scalAt m c t (ix3 0 0 d)) d + shiftAt m c t (ix3 0 0 d) = (inputs m c).norm R d := by
  have hb : (Inputs.sample R).val = t.val / 4 := by show R.val / 1024 = _; omega
  rw [scalAt_apply m c t d _ hb, shiftAt_apply m c t d _ hb, funext (sumAt_apply m c t y R hR)]
  rfl

include hR in
theorem scalesAt_apply (l : Fin 128) : scalesAt m c t (ix2 y l) = (inputs m c).scale R := by
  refine (scaleTile_apply _ _ _ _ _ _ _ _ y l).trans ?_
  exact congrArg (fun f => scaleOf (largestOf f)) (funext fun d => normAt_apply m c t y R hR d)

include hR in
theorem codesAt_apply (d : Fin 2560) : codesAt m c t (ix2 y d) = (inputs m c).code R d := by
  refine (codeTile_apply _ _ _ _ _ _ _ _ y d 0).trans ?_
  exact congrArg₂ codeOf (normAt_apply m c t y R hR d) (scalesAt_apply m c t y R hR 0)
end

end Cert.OprojKernelIdeal.Proj

end
-- ==== Proof.OprojArrays.lean ====
/- The output projection's three result arrays are the formula's: every block that is written back holds the formula's entries of its
   place, and the blocks fill the arrays. -/
module

public import proofs.«01_k».proof.Proof.OprojBlocks

@[expose] public section

set_option maxRecDepth 16384

noncomputable section

namespace Cert.OprojKernelIdeal.Proj

open Cert.OprojKernelIdeal.Gen
open Idealize.ShloMosaic Idealize.ShloMosaic.TcCoe

variable (m : (ℓ : Loc nD τ sig) → Buf (Elt Ideal) ℓ) (c : Dev nD)

/-- The sums: one block of 256 rows for each grid point. -/
theorem array7 : (dats m 0 c).arrAt 7 cfg0.N = (inputs m c).sumArr := by
  have e0 (t : Fin grid0.N) : (cfg0.win 7).index t 0 = t.val := congrFun (index7 t) 0
  have e1 (t : Fin grid0.N) : (cfg0.win 7).index t 1 = 0 := congrFun (index7 t) 1
  refine (dats m 0 c).arrAt_eq_of_emb 7 _ (fun (t : Fin grid0.N) hf (y : S256x2560.Idx) => ?_) (fun (i : S8192x2560.Idx) => ?_)
  · have ht : t.val < 32 := N_0 ▸ t.isLt
    have hy : (y 0).val < 256 := (y 0).isLt
    have E0 : _ = (cfg0.win 7).index t 0 * 256 + (y 0).val := Pipeline.Window.rect_emb_val (cfg0.win 7) t y 0
    have E1 : _ = (cfg0.win 7).index t 1 * 2560 + (y 1).val := Pipeline.Window.rect_emb_val (cfg0.win 7) t y 1
    rw [e0] at E0
    rw [e1] at E1
    rw [after0_7]
    blk_simp
    refine (congrArg _ (eq_ix2 y)).trans ?_
    refine (sumAt_apply m c t (y 0) ⟨256 * t.val + (y 0).val, by omega⟩ rfl (y 1)).trans ?_
    exact congrArg₂ (inputs m c).sum (Fin.ext (E0.trans (by dsimp only; omega)).symm) (Fin.ext (E1.trans (by omega)).symm)
  · have hi0 : (i 0).val < 8192 := (i 0).isLt
    have hi1 : (i 1).val < 2560 := (i 1).isLt
    have hN : (i 0).val / 256 < grid0.N := by rw [N_0]; omega
    refine ⟨⟨(i 0).val / 256, hN⟩, flush0_7 _, ?_⟩
    refine (Pipeline.Window.emb_mem_blk_iff (cfg0.win 7) ⟨(i 0).val / 256, hN⟩ i).mpr fun a => ?_
    fin_cases a
    · show (cfg0.win 7).index _ 0 * 256 ≤ (i 0).val ∧ (i 0).val < (cfg0.win 7).index _ 0 * 256 + 256
      rw [e0]; dsimp only; omega
    · show (cfg0.win 7).index _ 1 * 2560 ≤ (i 1).val ∧ (i 1).val < (cfg0.win 7).index _ 1 * 2560 + 2560
      rw [e1]; omega

/-- The codes. -/
theorem array8 : (dats m 0 c).arrAt 8 cfg0.N = (inputs m c).codeArr := by
  have e0 (t : Fin grid0.N) : (cfg0.win 8).index t 0 = t.val := congrFun (index8 t) 0
  have e1 (t : Fin grid0.N) : (cfg0.win 8).index t 1 = 0 := congrFun (index8 t) 1
  refine (dats m 0 c).arrAt_eq_of_emb 8 _ (fun (t : Fin grid0.N) hf (y : S256x2560.Idx) => ?_) (fun (i : S8192x2560.Idx) => ?_)
  · have ht : t.val < 32 := N_0 ▸ t.isLt
    have hy : (y 0).val < 256 := (y 0).isLt
    have E0 : _ = (cfg0.win 8).index t 0 * 256 + (y 0).val := Pipeline.Window.rect_emb_val (cfg0.win 8) t y 0
    have E1 : _ = (cfg0.win 8).index t 1 * 2560 + (y 1).val := Pipeline.Window.rect_emb_val (cfg0.win 8) t y 1
    rw [e0] at E0
    rw [e1] at E1
    rw [after0_8]
    blk_simp
    refine (congrArg _ (eq_ix2 y)).trans ?_
    refine (codesAt_apply m c t (y 0) ⟨256 * t.val + (y 0).val, by omega⟩ rfl (y 1)).trans ?_
    exact congrArg₂ (inputs m c).code (Fin.ext (E0.trans (by dsimp only; omega)).symm) (Fin.ext (E1.trans (by omega)).symm)
  · have hi0 : (i 0).val < 8192 := (i 0).isLt
    have hi1 : (i 1).val < 2560 := (i 1).isLt
    have hN : (i 0).val / 256 < grid0.N := by rw [N_0]; omega
    refine ⟨⟨(i 0).val / 256, hN⟩, flush0_8 _, ?_⟩
    refine (Pipeline.Window.emb_mem_blk_iff (cfg0.win 8) ⟨(i 0).val / 256, hN⟩ i).mpr fun a => ?_
    fin_cases a
    · show (cfg0.win 8).index _ 0 * 256 ≤ (i 0).val ∧ (i 0).val < (cfg0.win 8).index _ 0 * 256 + 256
      rw [e0]; dsimp only; omega
    · show (cfg0.win 8).index _ 1 * 2560 ≤ (i 1).val ∧ (i 1).val < (cfg0.win 8).index _ 1 * 2560 + 2560
      rw [e1]; omega

/-- The scales, in all 128 lanes. -/
theorem array9 : (dats m 0 c).arrAt 9 cfg0.N = (inputs m c).scaleArr := by
  have e0 (t : Fin grid0.N) : (cfg0.win 9).index t 0 = t.val := congrFun (index9 t) 0
  have e1 (t : Fin grid0.N) : (cfg0.win 9).index t 1 = 0 := congrFun (index9 t) 1
  refine (dats m 0 c).arrAt_eq_of_emb 9 _ (fun (t : Fin grid0.N) hf (y : S256x128.Idx) => ?_) (fun (i : S8192x128.Idx) => ?_)
  · have ht : t.val < 32 := N_0 ▸ t.isLt
    have hy : (y 0).val < 256 := (y 0).isLt
    have E0 : _ = (cfg0.win 9).index t 0 * 256 + (y 0).val := Pipeline.Window.rect_emb_val (cfg0.win 9) t y 0
    have E1 : _ = (cfg0.win 9).index t 1 * 128 + (y 1).val := Pipeline.Window.rect_emb_val (cfg0.win 9) t y 1
    rw [e0] at E0
    rw [e1] at E1
    rw [after0_9]
    blk_simp
    refine (congrArg _ (eq_ix2 y)).trans ?_
    refine (scalesAt_apply m c t (y 0) ⟨256 * t.val + (y 0).val, by omega⟩ rfl (y 1)).trans ?_
    exact congrArg (inputs m c).scale (Fin.ext (E0.trans (by dsimp only; omega)).symm)
  · have hi0 : (i 0).val < 8192 := (i 0).isLt
    have hi1 : (i 1).val < 128 := (i 1).isLt
    have hN : (i 0).val / 256 < grid0.N := by rw [N_0]; omega
    refine ⟨⟨(i 0).val / 256, hN⟩, flush0_9 _, ?_⟩
    refine (Pipeline.Window.emb_mem_blk_iff (cfg0.win 9) ⟨(i 0).val / 256, hN⟩ i).mpr fun a => ?_
    fin_cases a
    · show (cfg0.win 9).index _ 0 * 256 ≤ (i 0).val ∧ (i 0).val < (cfg0.win 9).index _ 0 * 256 + 256
      rw [e0]; dsimp only; omega
    · show (cfg0.win 9).index _ 1 * 128 ≤ (i 1).val ∧ (i 1).val < (cfg0.win 9).index _ 1 * 128 + 128
      rw [e1]; omega

end Cert.OprojKernelIdeal.Proj

end
-- ==== Proof.OprojReference.lean ====
/- The output projection's reference, entry by entry (the gated sum, its layer norm, a row's scale and its codes), and with it its three
   result arrays: they are the formula's. -/
module

public import proofs.«01_k».proof.Defs
public import proofs.«01_k».proof.Proof.OprojSpec
public import proofs.«01_k».proof.Proof.Gen.OprojReferenceIdeal.Frame
public import proofs.«01_k».proof.Proof.Gen.OprojReferenceIdeal.Value

@[expose] public section

set_option maxRecDepth 16384

noncomputable section

namespace Cert.OprojReferenceIdeal.Proj

open Cert.OprojReferenceIdeal Cert.OprojReferenceIdeal.Gen Cert.OprojReferenceIdeal.Value Cert.Proj
open Cert.Ffn.Inputs (scaleOf codeOf)
open Idealize.ShloMosaic Idealize.ShloMosaic.TcCoe

/-- Joining 8 samples of 1024 rows keeps every entry. -/
theorem join_apply (v : FVec Ideal S8x1024x2560 .f32) (z : Fin 8192) (d : Fin 2560) :
    shapeCast S8192x2560 v shapeCasts_S8x1024x2560_S8192x2560 (ix2 z d) = v (ix3 (Inputs.sample z) ⟨z.val % 1024, Nat.mod_lt _ (by decide)⟩ d) := by
  refine shapeCast_apply v _ _ _ ?_
  rw [Shape.rowMajor_val_three, Shape.rowMajor_val_two]
  show (z.val / 1024 * 1024 + z.val % 1024) * 2560 + d.val = z.val * 2560 + d.val
  omega

/-- A modulation row is repeated over its sample's tokens. -/
theorem spread_apply (g : Vec Ideal S1x8x2560 .f32) (b : Fin 8) (y : Fin 1024) (d : Fin 2560) :
    broadcastTo S8x1024x2560 (shapeCast S8x1x2560 (shapeCast S8x1x2560 (shapeCast S8x2560 g shapeCasts_S1x8x2560_S8x2560) shapeCasts_S8x2560_S8x1x2560)
      shapeCasts_S8x1x2560_S8x1x2560) broadcasts_S8x1x2560_S8x1024x2560 (ix3 b y d) = g (ix3 0 b d) := by
  pointwise

theorem row_apply (g : Vec Ideal S1x8x2560 .f32) (z : Fin 8192) (d : Fin 2560) :
    shapeCast S8192x2560 (broadcastTo S8x1024x2560 (shapeCast S8x1x2560 (shapeCast S8x1x2560 (shapeCast S8x2560 g shapeCasts_S1x8x2560_S8x2560)
      shapeCasts_S8x2560_S8x1x2560) shapeCasts_S8x1x2560_S8x1x2560) broadcasts_S8x1x2560_S8x1024x2560) shapeCasts_S8x1024x2560_S8192x2560 (ix2 z d) =
      g (ix3 0 (Inputs.sample z) d) :=
  (join_apply _ z d).trans (spread_apply g _ _ d)

/-- The sum with the gate rows already spread. -/
theorem gated_apply (x : Vec Ideal S8192x2560 .fp8e4m3) (w : Vec Ideal S2560x2560 .fp8e4m3) (xs : Vec Ideal S8192x1 .f32) (ws b : Vec Ideal S1x2560 .f32)
    (img : Vec Ideal S8192x2560 .bf16) (G : FVec Ideal S8192x2560 .f32) (z : Fin 8192) (d : Fin 2560) :
    addf (extf .f32 img bitsLt_bf16_f32) (mulf G (addf (mulf (mulf (matmul dot_S8192x2560_S2560x2560_S8192x2560_1_0_0_1_n_n none (φ₁ := .fp8e4m3) (φ₂ := .fp8e4m3) x w
      (constant S8192x2560 .f32 0x00000000#32)) (broadcastTo S8192x2560 xs broadcasts_S8192x1_S8192x2560))
      (broadcastTo S8192x2560 ws broadcasts_S1x2560_S8192x2560)) (broadcastTo S8192x2560 b broadcasts_S1x2560_S8192x2560))) (ix2 z d) =
      img (ix2 z d) + G (ix2 z d) * ((∑ k, x (ix2 z k) * w (ix2 k d)) * xs (ix2 z 0) * ws (ix2 0 d) + b (ix2 0 d)) := by
  pointwise

theorem pay5_apply (x : Vec Ideal S8192x2560 .fp8e4m3) (w : Vec Ideal S2560x2560 .fp8e4m3) (xs : Vec Ideal S8192x1 .f32) (ws b : Vec Ideal S1x2560 .f32)
    (img : Vec Ideal S8192x2560 .bf16) (g : Vec Ideal S1x8x2560 .f32) (z : Fin 8192) (d : Fin 2560) : k0_pay5 x w xs ws b img g (ix2 z d) =
      img (ix2 z d) + g (ix3 0 (Inputs.sample z) d) * ((∑ k, x (ix2 z k) * w (ix2 k d)) * xs (ix2 z 0) * ws (ix2 0 d) + b (ix2 0 d)) :=
  (gated_apply x w xs ws b img _ z d).trans (congrArg (fun e => img (ix2 z d) + e * _) (row_apply g z d))

/-- A row's mean, in the one column that holds it. -/
theorem mean_apply (v : FVec Ideal S8192x2560 .f32) (z : Fin 8192) :
    divf (shapeCast S8192x1 (multiReduction .add [1] S8192 v 0x00000000#32 reduces_S8192x2560_S8192 (.inl rfl) rfl) shapeCasts_S8192_S8192x1)
      (broadcast S8192x1 (Scalar.ofBits .f32 0x45200000#32)) (ix2 z 0) = meanOf fun d => v (ix2 z d) := by
  pointwise [meanOf, width]

theorem dev_apply (v : FVec Ideal S8192x2560 .f32) (u : FVec Ideal S8192x1 .f32) (z : Fin 8192) (d : Fin 2560) :
    subf v (broadcastTo S8192x2560 u broadcasts_S8192x1_S8192x2560) (ix2 z d) = v (ix2 z d) - u (ix2 z 0) := by
  pointwise

theorem pay6_apply (x : Vec Ideal S8192x2560 .fp8e4m3) (w : Vec Ideal S2560x2560 .fp8e4m3) (xs : Vec Ideal S8192x1 .f32) (ws b : Vec Ideal S1x2560 .f32)
    (img : Vec Ideal S8192x2560 .bf16) (g : Vec Ideal S1x8x2560 .f32) (z : Fin 8192) (d : Fin 2560) : k0_pay6 x w xs ws b img g (ix2 z d) =
      k0_pay5 x w xs ws b img g (ix2 z d) - meanOf fun d' => k0_pay5 x w xs ws b img g (ix2 z d') :=
  (dev_apply (k0_pay5 x w xs ws b img g) _ z d).trans (congrArg (k0_pay5 x w xs ws b img g (ix2 z d) - ·) (mean_apply (k0_pay5 x w xs ws b img g) z))

/-- A small constant added to a column. -/
theorem eps_apply (u : FVec Ideal S8192x1 .f32) (z : Fin 8192) :
    addf u (broadcast S8192x1 (Scalar.ofBits .f32 0x358637BD#32)) (ix2 z 0) = u (ix2 z 0) + Ideal.ofBits FTy.f32 0x358637BD#32 := by
  pointwise

theorem pay7_apply (x : Vec Ideal S8192x2560 .fp8e4m3) (w : Vec Ideal S2560x2560 .fp8e4m3) (xs : Vec Ideal S8192x1 .f32) (ws b : Vec Ideal S1x2560 .f32)
    (img : Vec Ideal S8192x2560 .bf16) (g : Vec Ideal S1x8x2560 .f32) (z : Fin 8192) : k0_pay7 x w xs ws b img g (ix2 z 0) =
      varOf (fun d => k0_pay5 x w xs ws b img g (ix2 z d)) + Ideal.ofBits FTy.f32 0x358637BD#32 := by
  refine (eps_apply _ z).trans (congrArg (· + Ideal.ofBits FTy.f32 0x358637BD#32) ?_)
  refine (mean_apply (mulf (k0_pay6 x w xs ws b img g) (k0_pay6 x w xs ws b img g)) z).trans ?_
  refine congrArg meanOf (funext fun d => ?_)
  exact congrArg₂ (· * ·) (pay6_apply x w xs ws b img g z d) (pay6_apply x w xs ws b img g z d)

/-- The norm with the modulation rows already spread. -/
theorem stretch_apply (v : FVec Ideal S8192x2560 .f32) (u : FVec Ideal S8192x1 .f32) (s h : FVec Ideal S8192x2560 .f32) (z : Fin 8192) (d : Fin 2560) :
    addf (mulf (divf v (broadcastTo S8192x2560 (sqrt u) broadcasts_S8192x1_S8192x2560))
      (addf (broadcast S8192x2560 (Scalar.ofBits .f32 0x3F800000#32)) s)) h (ix2 z d) =
      Ideal.div (v (ix2 z d)) (Ideal.sqrt (u (ix2 z 0))) * (1 + s (ix2 z d)) + h (ix2 z d) := by
  pointwise

theorem pay1_apply (v : FVec Ideal S8192x2560 .f32) (u : FVec Ideal S8192x1 .f32) (s h : Vec Ideal S1x8x2560 .f32) (z : Fin 8192) (d : Fin 2560) :
    k0_pay1 v u s h (ix2 z d) =
      Ideal.div (v (ix2 z d)) (Ideal.sqrt (u (ix2 z 0))) * (1 + s (ix3 0 (Inputs.sample z) d)) + h (ix3 0 (Inputs.sample z) d) :=
  (stretch_apply v u _ _ z d).trans (congrArg₂ (fun a b => Ideal.div (v (ix2 z d)) (Ideal.sqrt (u (ix2 z 0))) * (1 + a) + b) (row_apply s z d) (row_apply h z d))

/-- A row's largest absolute value, in the one column that holds it. -/
theorem amax_apply (h : FVec Ideal S8192x2560 .f32) (z : Fin 8192) :
    shapeCast S8192x1 (multiReduction .maximumf [1] S8192 (absf h) 0xFF800000#32 reduces_S8192x2560_S8192 (.inl rfl) rfl) shapeCasts_S8192_S8192x1 (ix2 z 0) =
      largestOf fun d => h (ix2 z d) := by
  pointwise [largestOf]

/-- A row's scale from its largest absolute value. -/
theorem scaleOf_apply (g : FVec Ideal S8192x1 .f32) (z : Fin 8192) :
    select (cmpf .oeq g (broadcast S8192x1 (Scalar.ofBits .f32 0x00000000#32))) (broadcast S8192x1 (Scalar.ofBits .f32 0x3F800000#32))
      (divf g (broadcast S8192x1 (Scalar.ofBits .f32 0x43E00000#32))) (ix2 z 0) = scaleOf (g (ix2 z 0)) := by
  pointwise [scaleOf]

theorem pay2_apply (v : FVec Ideal S8192x2560 .f32) (u : FVec Ideal S8192x1 .f32) (s h : Vec Ideal S1x8x2560 .f32) (z : Fin 8192) :
    k0_pay2 v u s h (ix2 z 0) = scaleOf (largestOf fun d => k0_pay1 v u s h (ix2 z d)) :=
  (scaleOf_apply (shapeCast S8192x1 (multiReduction .maximumf [1] S8192 (absf (k0_pay1 v u s h)) 0xFF800000#32 reduces_S8192x2560_S8192 (.inl rfl) rfl)
    shapeCasts_S8192_S8192x1) z).trans (congrArg scaleOf (amax_apply (k0_pay1 v u s h) z))

/-- A code from a value and its row's scale: the quotient clipped. -/
theorem codeOf_apply (h : FVec Ideal S8192x2560 .f32) (g : FVec Ideal S8192x1 .f32) (z : Fin 8192) (d : Fin 2560) :
    truncf .fp8e4m3 (minimumf (broadcast S8192x2560 (Scalar.ofBits .f32 0x43E00000#32)) (maximumf (broadcast S8192x2560 (Scalar.ofBits .f32 0xC3E00000#32))
      (divf h (broadcastTo S8192x2560 g broadcasts_S8192x1_S8192x2560)))) bitsLt_fp8e4m3_f32 (ix2 z d) = codeOf (h (ix2 z d)) (g (ix2 z 0)) := by
  pointwise [codeOf]

theorem pay3_apply (v : FVec Ideal S8192x2560 .f32) (u : FVec Ideal S8192x1 .f32) (s h : Vec Ideal S1x8x2560 .f32) (z : Fin 8192) (d : Fin 2560) :
    k0_pay3 v u s h (ix2 z d) = codeOf (k0_pay1 v u s h (ix2 z d)) (k0_pay2 v u s h (ix2 z 0)) :=
  codeOf_apply (k0_pay1 v u s h) (k0_pay2 v u s h) z d

theorem lanes_apply (g : FVec Ideal S8192x1 .f32) (z : Fin 8192) (l : Fin 128) :
    broadcastTo S8192x128 (shapeCast S8192x1 g shapeCasts_S8192x1_S8192x1) broadcasts_S8192x1_S8192x128 (ix2 z l) = g (ix2 z 0) := by
  pointwise

theorem pay4_apply (v : FVec Ideal S8192x2560 .f32) (u : FVec Ideal S8192x1 .f32) (s h : Vec Ideal S1x8x2560 .f32) (z : Fin 8192) (l : Fin 128) :
    k0_pay4 v u s h (ix2 z l) = k0_pay2 v u s h (ix2 z 0) :=
  lanes_apply (k0_pay2 v u s h) z l

section arrays

variable (I : Inputs)

/-- The loads of the scales' first lane and of the modulation rows. -/
theorem load_lane (R : Fin 8192) : View.ld I.xs r0_2 (ix2 R 0) = I.xs (ix2 R 0) := by
  pointwise
theorem load_gate (b : Fin 8) (d : Fin 2560) : View.ld I.mod r0_4 (ix3 0 b d) = I.mod (ix3 2 b d) := by
  pointwise
theorem load_scale (b : Fin 8) (d : Fin 2560) : View.ld I.mod r0_5 (ix3 0 b d) = I.mod (ix3 4 b d) := by
  pointwise
theorem load_shift (b : Fin 8) (d : Fin 2560) : View.ld I.mod r0_6 (ix3 0 b d) = I.mod (ix3 3 b d) := by
  pointwise

theorem sum_apply (R : Fin 8192) (d : Fin 2560) : k0_pay5 I.x I.w (View.ld I.xs r0_2) I.ws I.bias I.img (View.ld I.mod r0_4) (ix2 R d) = I.sum R d := by
  refine (pay5_apply _ _ _ _ _ _ _ R d).trans ?_
  rw [load_lane, load_gate]
  rfl

theorem sum_eq : G7 I.x I.xs I.img I.mod I.w I.ws I.bias = I.sumArr := by
  funext y
  rw [eq_ix2 y]
  exact sum_apply I _ _

/-- The distances from the row's mean, and the variance with its small constant, from the formula's sums. -/
theorem dist_apply (R : Fin 8192) (d : Fin 2560) :
    k0_pay8 I.x I.xs I.img I.mod I.w I.ws I.bias (ix2 R d) = I.sum R d - meanOf (I.sum R) := by
  unfold k0_pay8
  rw [View.ld_unit_zero (S := S8192x2560) hz0 _ I.x, View.ld_unit_zero (S := S2560x2560) hz4 _ I.w, View.ld_unit_zero (S := S1x2560) hz5 _ I.ws,
    View.ld_unit_zero (S := S1x2560) hz6 _ I.bias, View.ld_unit_zero (S := S8192x2560) hz2 _ I.img, pay6_apply]
  exact congrArg₂ (· - ·) (sum_apply I R d) (congrArg meanOf (funext fun d' => sum_apply I R d'))

theorem var_apply (R : Fin 8192) :
    k0_pay9 I.x I.xs I.img I.mod I.w I.ws I.bias (ix2 R 0) = varOf (I.sum R) + Ideal.ofBits FTy.f32 0x358637BD#32 := by
  unfold k0_pay9
  rw [View.ld_unit_zero (S := S8192x2560) hz0 _ I.x, View.ld_unit_zero (S := S2560x2560) hz4 _ I.w, View.ld_unit_zero (S := S1x2560) hz5 _ I.ws,
    View.ld_unit_zero (S := S1x2560) hz6 _ I.bias, View.ld_unit_zero (S := S8192x2560) hz2 _ I.img, pay7_apply]
  exact congrArg (fun f => varOf f + _) (funext fun d' => sum_apply I R d')

theorem norm_apply (R : Fin 8192) (d : Fin 2560) :
    k0_pay1 (k0_pay8 I.x I.xs I.img I.mod I.w I.ws I.bias) (k0_pay9 I.x I.xs I.img I.mod I.w I.ws I.bias) (View.ld I.mod r0_5) (View.ld I.mod r0_6) (ix2 R d) =
      I.norm R d := by
  rw [pay1_apply, dist_apply, var_apply, load_scale, load_shift]
  rfl

theorem rowScale_apply (R : Fin 8192) :
    k0_pay2 (k0_pay8 I.x I.xs I.img I.mod I.w I.ws I.bias) (k0_pay9 I.x I.xs I.img I.mod I.w I.ws I.bias) (View.ld I.mod r0_5) (View.ld I.mod r0_6) (ix2 R 0) =
      I.scale R :=
  (pay2_apply _ _ _ _ R).trans (congrArg (fun f => scaleOf (largestOf f)) (funext fun d => norm_apply I R d))

theorem code_eq : G8 I.x I.xs I.img I.mod I.w I.ws I.bias = I.codeArr := by
  funext y
  rw [eq_ix2 y]
  exact (pay3_apply _ _ _ _ _ _).trans (congrArg₂ codeOf (norm_apply I _ _) (rowScale_apply I _))

theorem scale_eq : G9 I.x I.xs I.img I.mod I.w I.ws I.bias = I.scaleArr := by
  funext y
  rw [eq_ix2 y]
  exact (pay4_apply _ _ _ _ _ _).trans (rowScale_apply I _)

end arrays

/-- The launch's arrays on device `c`. -/
def inputs (m : (ℓ : Loc nD τ sig) → Buf (Elt Ideal) ℓ) (c : Dev nD) : Inputs where
  x := m ((c : Thread nD τ).loc main_arg0)
  xs := m ((c : Thread nD τ).loc main_arg1)
  img := m ((c : Thread nD τ).loc main_arg2)
  mod := m ((c : Thread nD τ).loc main_arg3)
  w := m ((c : Thread nD τ).loc main_arg4)
  ws := m ((c : Thread nD τ).loc main_arg5)
  bias := m ((c : Thread nD τ).loc main_arg6)

/-- The reference's frame. -/
theorem frame_reference : Cert.quiescent_OprojReferenceIdeal := fun m ρ _ => Cert.OprojReferenceIdeal.Gen.frame m ρ

end Cert.OprojReferenceIdeal.Proj

end
-- ==== Proof.OprojEquation.lean ====
/- The two launches of the output projection end with the same three arrays: each program's are the formula's of its own inputs, and the
   inputs agree. -/
module

public import proofs.«01_k».proof.Proof.OprojArrays
public import proofs.«01_k».proof.Proof.OprojReference

@[expose] public section

set_option maxRecDepth 16384

noncomputable section

namespace Cert.OprojKernelIdeal.Proj

open Cert.OprojKernelIdeal.Gen
open Idealize.ShloMosaic Idealize.ShloMosaic.TcCoe Idealize.SL.Sem

/-- The kernel's run: the three results are the formula's arrays, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (inputs m c).sumArr
      ∧ r.2.mem ((c.tc : Thread nD τ).loc main_v0_1) = (inputs m c).codeArr
      ∧ r.2.mem ((c.tc : Thread nD τ).loc main_v0_2) = (inputs m c).scaleArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 7).trans (array7 m c), ((h c).1 8).trans (array8 m c), ((h c).1 9).trans (array9 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c)))⟩) (run_main m ρ)

end Cert.OprojKernelIdeal.Proj

namespace Cert.Proof.Oproj

open Idealize.ShloMosaic Idealize.ShloMosaic.TcCoe Idealize.SL.Sem

/-- Over the extended reals the output projection's kernel and its reference end with equal results: sums, codes and scales. -/
theorem algebraic : Cert.algebraic_OprojKernelIdeal_OprojReferenceIdeal := by
  intro m g m' g' hp hm
  have hI : ∀ c : Dev Cert.OprojKernelIdeal.nD, Cert.OprojReferenceIdeal.Proj.inputs m' c = Cert.OprojKernelIdeal.Proj.inputs m c := fun c => by
    obtain ⟨h0, h1, h2, h3, h4, h5, h6⟩ := hm c
    unfold Cert.OprojReferenceIdeal.Proj.inputs Cert.OprojKernelIdeal.Proj.inputs
    congr 1
  refine ⟨fun c => (Cert.OprojKernelIdeal.Proj.inputs m c).sumArr, fun c => (Cert.OprojKernelIdeal.Proj.inputs m c).codeArr,
    fun c => (Cert.OprojKernelIdeal.Proj.inputs m c).scaleArr, Cert.OprojKernelIdeal.Proj.run_value m g, ?_⟩
  refine (θ_run Cert.OprojReferenceIdeal.defs _ _).mono (fun r h c => ?_) (Cert.OprojReferenceIdeal.Value.run m' g')
  obtain ⟨h0, h1, h2, ha⟩ := h c
  exact ⟨(h0.trans (Cert.OprojReferenceIdeal.Proj.sum_eq (Cert.OprojReferenceIdeal.Proj.inputs m' c))).trans (congrArg Cert.Proj.Inputs.sumArr (hI c)),
    (h1.trans (Cert.OprojReferenceIdeal.Proj.code_eq (Cert.OprojReferenceIdeal.Proj.inputs m' c))).trans (congrArg Cert.Proj.Inputs.codeArr (hI c)),
    (h2.trans (Cert.OprojReferenceIdeal.Proj.scale_eq (Cert.OprojReferenceIdeal.Proj.inputs m' c))).trans (congrArg Cert.Proj.Inputs.scaleArr (hI c)), ha⟩

end Cert.Proof.Oproj

end
-- ==== Proof.lean ====
module

public import proofs.«01_k».proof.Defs
public import proofs.«01_k».proof.Proof.FrameBits
public import proofs.«01_k».proof.Proof.Equation
public import proofs.«01_k».proof.Proof.SharedFrameBits
public import proofs.«01_k».proof.Proof.SharedEquation
public import proofs.«01_k».proof.Proof.TextFrameBits
public import proofs.«01_k».proof.Proof.TextEquation
public import proofs.«01_k».proof.Proof.OprojFrameBits
public import proofs.«01_k».proof.Proof.OprojEquation

@[expose] public section

noncomputable section

namespace Cert.Proof

open Idealize.ShloMosaic

theorem claim : Cert.Claim := ⟨Cert.Kernel.Gen.facts, Cert.KernelIdeal.Gen.facts, Cert.ReferenceIdeal.Gen.facts,
  Cert.SharedKernel.Gen.facts, Cert.SharedKernelIdeal.Gen.facts, Cert.SharedReferenceIdeal.Gen.facts,
  Cert.TextKernel.Gen.facts, Cert.TextKernelIdeal.Gen.facts, Cert.TextReferenceIdeal.Gen.facts,
  Cert.OprojKernel.Gen.facts, Cert.OprojKernelIdeal.Gen.facts, Cert.OprojReferenceIdeal.Gen.facts, Cert.Pre_experts_exist.Gen.facts,
  frame_bits, frame_ideal, Cert.ReferenceIdeal.Ffn.frame_reference, Shared.frame_bits, Shared.frame_ideal,
  Cert.SharedReferenceIdeal.Ffn.frame_reference, Text.frame_bits, Text.frame_ideal, Cert.TextReferenceIdeal.Ffn.frame_reference,
  Oproj.frame_bits, Oproj.frame_ideal, Cert.OprojReferenceIdeal.Proj.frame_reference,
  trivial, algebraic, trivial, Shared.algebraic, trivial, Text.algebraic, trivial, Oproj.algebraic⟩

end Cert.Proof

end
